-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_1)) (v3 : (c : Dev Cert.KernelIdeal.nD) → Buf (Elt Ideal) ((c.tc : Thread Cert.KernelIdeal.nD Cert.KernelIdeal.τ).loc Cert.KernelIdeal.main_v3_2)) (v4 : (c : Dev Cert.KernelIdeal.nD) → Buf (Elt Ideal) ((c.tc : Thread Cert.KernelIdeal.nD Cert.KernelIdeal.τ).loc Cert.KernelIdeal.main_v3_3)) (v5 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_v3_2) = v3 c
          ∧ r.2.mem ((c.tc : Thread Cert.KernelIdeal.nD Cert.KernelIdeal.τ).loc Cert.KernelIdeal.main_v3_3) = v4 c
          ∧ r.2.mem ((c.tc : Thread Cert.KernelIdeal.nD Cert.KernelIdeal.τ).loc Cert.KernelIdeal.main_v3_4) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_v28_7) = v4 c
          ∧ r.2.mem ((c.tc : Thread Cert.ReferenceIdeal.nD Cert.ReferenceIdeal.τ).loc Cert.ReferenceIdeal.main_v28_8) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_v12) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v41) = v0 c
          ∧ r.2.mem ((c.tc : Thread Cert.Reference10Ideal.nD Cert.Reference10Ideal.τ).loc Cert.Reference10Ideal.main_v22) = v1 c
          ∧ r.2.mem ((c.tc : Thread Cert.Reference10Ideal.nD Cert.Reference10Ideal.τ).loc Cert.Reference10Ideal.main_v25) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v16) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v6) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v7) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v5) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hPre_finite9 : Cert.Pre_finite9.Facts) (hPre_finite10 : Cert.Pre_finite10.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
-- ==== Pre_finite10.lean ====
abbrev S9x1024x1024 : Shape := ⟨3, ![9, 1024, 1024]⟩
abbrev S9x1x1024 : Shape := ⟨3, ![9, 1, 1024]⟩
abbrev S_ : Shape := ⟨0, ![]⟩

class Facts : Prop where
  bcast_S_S9x1024x1024 : S_.BroadcastsInDim S9x1024x1024 (![] : Fin 0 → Fin S9x1024x1024.rank)
  reducesTo_S9x1024x1024_S_d0_1_2 : S9x1024x1024.ReducesTo [0, 1, 2] S_
  h_S_ : 0 < S_.numel
  bcast_S_S9x1x1024 : S_.BroadcastsInDim S9x1x1024 (![] : Fin 0 → Fin S9x1x1024.rank)
  reducesTo_S9x1x1024_S_d0_1_2 : S9x1x1024.ReducesTo [0, 1, 2] S_

variable [Facts]

def fn {F : FTy → Type} [FloatOps F] (main_arg0 : FVec F S9x1024x1024 .f32) (main_arg1 : FVec F S9x1x1024 .f32) (main_arg2 : FVec F S9x1024x1024 .f32) : IVec S_ 1 :=
  let main_v0 : FVec F S9x1024x1024 .f32 := Host.absf main_arg0
  let main_cst : FVec F S_ .f32 := constant S_ .f32 0x7F800000#32
  let main_v1 : FVec F S9x1024x1024 .f32 := broadcastInDim S9x1024x1024 ![] bcast_S_S9x1024x1024 main_cst
  let main_v2 : IVec S9x1024x1024 1 := cmpf .olt main_v0 main_v1
  let main_c : IVec S_ 1 := constantI S_ 1 1#1
  let main_v3 : IVec S_ 1 := (fun x v => Host.reduce IntOp.andi x v reducesTo_S9x1024x1024_S_d0_1_2 h_S_) main_v2 main_c
  let main_v4 : FVec F S9x1x1024 .f32 := Host.absf main_arg1
  let main_cst_0 : FVec F S_ .f32 := constant S_ .f32 0x7F800000#32
  let main_v5 : FVec F S9x1x1024 .f32 := broadcastInDim S9x1x1024 ![] bcast_S_S9x1x1024 main_cst_0
  let main_v6 : IVec S9x1x1024 1 := cmpf .olt main_v4 main_v5
  let main_c_1 : IVec S_ 1 := constantI S_ 1 1#1
  let main_v7 : IVec S_ 1 := (fun x v => Host.reduce IntOp.andi x v reducesTo_S9x1x1024_S_d0_1_2 h_S_) main_v6 main_c_1
  let main_v8 : IVec S_ 1 := andi main_v3 main_v7
  let main_v9 : FVec F S9x1024x1024 .f32 := Host.absf main_arg2
  let main_cst_2 : FVec F S_ .f32 := constant S_ .f32 0x7F800000#32
  let main_v10 : FVec F S9x1024x1024 .f32 := broadcastInDim S9x1024x1024 ![] bcast_S_S9x1024x1024 main_cst_2
  let main_v11 : IVec S9x1024x1024 1 := cmpf .olt main_v9 main_v10
  let main_c_3 : IVec S_ 1 := constantI S_ 1 1#1
  let main_v12 : IVec S_ 1 := (fun x v => Host.reduce IntOp.andi x v reducesTo_S9x1024x1024_S_d0_1_2 h_S_) main_v11 main_c_3
  let main_v13 : IVec S_ 1 := andi main_v8 main_v12
  main_v13
-- ==== Pre_finite9.lean ====
abbrev S9x1024x5632 : Shape := ⟨3, ![9, 1024, 5632]⟩
abbrev S9x1024x2816 : Shape := ⟨3, ![9, 1024, 2816]⟩
abbrev S_ : Shape := ⟨0, ![]⟩

class Facts : Prop where
  bitsLt_bf16_f32 : FTy.bits .bf16 < FTy.bits .f32
  bcast_S_S9x1024x5632 : S_.BroadcastsInDim S9x1024x5632 (![] : Fin 0 → Fin S9x1024x5632.rank)
  reducesTo_S9x1024x5632_S_d0_1_2 : S9x1024x5632.ReducesTo [0, 1, 2] S_
  h_S_ : 0 < S_.numel
  bcast_S_S9x1024x2816 : S_.BroadcastsInDim S9x1024x2816 (![] : Fin 0 → Fin S9x1024x2816.rank)
  reducesTo_S9x1024x2816_S_d0_1_2 : S9x1024x2816.ReducesTo [0, 1, 2] S_

variable [Facts]

def fn {F : FTy → Type} [FloatOps F] (main_arg0 : FVec F S9x1024x5632 .bf16) (main_arg1 : FVec F S9x1024x2816 .f32) : IVec S_ 1 :=
  let main_v0 : FVec F S9x1024x5632 .f32 := (extf .f32 · bitsLt_bf16_f32) main_arg0
  let main_v1 : FVec F S9x1024x5632 .f32 := Host.absf main_v0
  let main_cst : FVec F S_ .f32 := constant S_ .f32 0x7F800000#32
  let main_v2 : FVec F S9x1024x5632 .f32 := broadcastInDim S9x1024x5632 ![] bcast_S_S9x1024x5632 main_cst
  let main_v3 : IVec S9x1024x5632 1 := cmpf .olt main_v1 main_v2
  let main_c : IVec S_ 1 := constantI S_ 1 1#1
  let main_v4 : IVec S_ 1 := (fun x v => Host.reduce IntOp.andi x v reducesTo_S9x1024x5632_S_d0_1_2 h_S_) main_v3 main_c
  let main_v5 : FVec F S9x1024x2816 .f32 := Host.absf main_arg1
  let main_cst_0 : FVec F S_ .f32 := constant S_ .f32 0x7F800000#32
  let main_v6 : FVec F S9x1024x2816 .f32 := broadcastInDim S9x1024x2816 ![] bcast_S_S9x1024x2816 main_cst_0
  let main_v7 : IVec S9x1024x2816 1 := cmpf .olt main_v5 main_v6
  let main_c_1 : IVec S_ 1 := constantI S_ 1 1#1
  let main_v8 : IVec S_ 1 := (fun x v => Host.reduce IntOp.andi x v reducesTo_S9x1024x2816_S_d0_1_2 h_S_) main_v7 main_c_1
  let main_v9 : IVec S_ 1 := andi main_v4 main_v8
  main_v9
-- ==== Kernel.lean ====
abbrev S18432x512 : Shape := ⟨2, ![18432, 512]⟩
abbrev S512x2048 : Shape := ⟨2, ![512, 2048]⟩
abbrev S2048x512 : Shape := ⟨2, ![2048, 512]⟩
abbrev S8x1024 : Shape := ⟨2, ![8, 1024]⟩
abbrev S18432x2048 : Shape := ⟨2, ![18432, 2048]⟩
abbrev S512x512 : Shape := ⟨2, ![512, 512]⟩
abbrev S8x2048 : Shape := ⟨2, ![8, 2048]⟩
abbrev S256x512 : Shape := ⟨2, ![256, 512]⟩
abbrev S256x2048 : Shape := ⟨2, ![256, 2048]⟩

abbrev nBuf : Space → Nat
  | .hbm => 15
  | .vmem => 31
  | .smem => 0
  | _ => 0

abbrev bufTy : (tb : Table) → Fin (tcTables nBuf tb) → BufTy
  | .hbm, ⟨0, _⟩ => ⟨S18432x512, .f32⟩
  | .hbm, ⟨1, _⟩ => ⟨S512x2048, .f32⟩
  | .hbm, ⟨2, _⟩ => ⟨S2048x512, .f32⟩
  | .hbm, ⟨3, _⟩ => ⟨S8x1024, .f32⟩
  | .hbm, ⟨4, _⟩ => ⟨S8x1024, .f32⟩
  | .hbm, ⟨5, _⟩ => ⟨S18432x512, .f32⟩
  | .hbm, ⟨6, _⟩ => ⟨S512x2048, .bf16⟩
  | .hbm, ⟨7, _⟩ => ⟨S2048x512, .bf16⟩
  | .hbm, ⟨8, _⟩ => ⟨S18432x512, .f32⟩
  | .hbm, ⟨9, _⟩ => ⟨S18432x2048, .f32⟩
  | .hbm, ⟨10, _⟩ => ⟨S18432x512, .f32⟩
  | .hbm, ⟨11, _⟩ => ⟨S512x2048, .f32⟩
  | .hbm, ⟨12, _⟩ => ⟨S2048x512, .f32⟩
  | .hbm, ⟨13, _⟩ => ⟨S8x1024, .f32⟩
  | .hbm, ⟨14, _⟩ => ⟨S8x1024, .f32⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S2048x512, .bf16⟩
  | .local _ .vmem, ⟨4, _⟩ => ⟨S8x1024, .f32⟩
  | .local _ .vmem, ⟨5, _⟩ => ⟨S8x1024, .f32⟩
  | .local _ .vmem, ⟨6, _⟩ => ⟨S512x512, .f32⟩
  | .local _ .vmem, ⟨7, _⟩ => ⟨S512x512, .f32⟩
  | .local _ .vmem, ⟨8, _⟩ => ⟨S512x2048, .f32⟩
  | .local _ .vmem, ⟨9, _⟩ => ⟨S512x2048, .f32⟩
  | .local _ .vmem, ⟨10, _⟩ => ⟨S8x2048, .f32⟩
  | .local _ .vmem, ⟨11, _⟩ => ⟨S256x512, .f32⟩
  | .local _ .vmem, ⟨12, _⟩ => ⟨S256x512, .f32⟩
  | .local _ .vmem, ⟨13, _⟩ => ⟨S256x2048, .f32⟩
  | .local _ .vmem, ⟨14, _⟩ => ⟨S256x2048, .f32⟩
  | .local _ .vmem, ⟨15, _⟩ => ⟨S8x2048, .f32⟩
  | .local _ .vmem, ⟨16, _⟩ => ⟨S8x2048, .f32⟩
  | .local _ .vmem, ⟨17, _⟩ => ⟨S256x512, .f32⟩
  | .local _ .vmem, ⟨18, _⟩ => ⟨S256x512, .f32⟩
  | .local _ .vmem, ⟨19, _⟩ => ⟨S512x2048, .bf16⟩
  | .local _ .vmem, ⟨20, _⟩ => ⟨S2048x512, .bf16⟩
  | .local _ .vmem, ⟨21, _⟩ => ⟨S8x1024, .f32⟩
  | .local _ .vmem, ⟨22, _⟩ => ⟨S8x1024, .f32⟩
  | .local _ .vmem, ⟨23, _⟩ => ⟨S256x512, .f32⟩
  | .local _ .vmem, ⟨24, _⟩ => ⟨S256x512, .f32⟩
  | .local _ .vmem, ⟨25, _⟩ => ⟨S512x2048, .f32⟩
  | .local _ .vmem, ⟨26, _⟩ => ⟨S2048x512, .f32⟩
  | .local _ .vmem, ⟨27, _⟩ => ⟨S8x1024, .f32⟩
  | .local _ .vmem, ⟨28, _⟩ => ⟨S8x1024, .f32⟩
  | .local _ .vmem, ⟨29, _⟩ => ⟨S256x2048, .f32⟩
  | .local _ .vmem, ⟨30, _⟩ => ⟨S8x2048, .f32⟩
  | _, _ => ⟨S18432x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_scratch0 : Ref sig .tc := ⟨.vmem, 29, rfl⟩
abbrev cc1_scratch1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc1_sem9_0 : DmaSem sig := 24
abbrev cc1_sem10_0 : DmaSem sig := 25
abbrev cc1_sem11_0 : DmaSem sig := 26
abbrev cc1_sem12_0 : DmaSem sig := 27

abbrev nD : Nat := 1
abbrev τ : Topo := Topo.v7x

variable {F : FTy → Type} [FloatOps F]

abbrev grid0 : Pipeline.Grid := ⟨1, ![36], ![false]⟩

@[reducible] def k0_t1_loop : Scf.Loop 32 :=
  let c0_i32_13 : BitVec 32 := 0#32
  let c64_i32 : BitVec 32 := 64#32
  let v13 : BitVec 32 := Scalar.addi c0_i32_13 c64_i32
  let c1_i32 : BitVec 32 := 1#32
  ⟨c0_i32_13, v13, c1_i32⟩
def k0_mult1 (k0_t1 : Fin k0_t1_loop.trips) : BitVec 32 :=
  let c0_i32_13 : BitVec 32 := 0#32
  let c1_i32 : BitVec 32 := 1#32
  let arg9 : BitVec 32 := Scf.iv c0_i32_13 c1_i32 k0_t1
  let c8_i32 : BitVec 32 := 8#32
  let v28 : BitVec 32 := Scalar.muli arg9 c8_i32
  v28
def k0_off1 (k0_t1 : Fin k0_t1_loop.trips) : Fin 2 → Nat :=
  let c0_i32_13 : BitVec 32 := 0#32
  let c1_i32 : BitVec 32 := 1#32
  let arg9 : BitVec 32 := Scf.iv c0_i32_13 c1_i32 k0_t1
  let c8_i32 : BitVec 32 := 8#32
  let v28 : BitVec 32 := Scalar.muli arg9 c8_i32
  let v29 : BitVec 32 := v28
  let v33 : Index := Scalar.indexCast v29
  let c0_26 : Index := 0#32
  ![v33.toNat, 0]
def k0_off2 (k0_t1 : Fin k0_t1_loop.trips) : Fin 2 → Nat :=
  let c0_i32_13 : BitVec 32 := 0#32
  let c1_i32 : BitVec 32 := 1#32
  let arg9 : BitVec 32 := Scf.iv c0_i32_13 c1_i32 k0_t1
  let c8_i32 : BitVec 32 := 8#32
  let v28 : BitVec 32 := Scalar.muli arg9 c8_i32
  let v29 : BitVec 32 := v28
  let v40 : Index := Scalar.indexCast v29
  let c1024_27 : Index := 1024#32
  ![v40.toNat, 1024]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![72], ![false]⟩

@[reducible] def k1_t1_loop : Scf.Loop 32 :=
  let c0_i32_14 : BitVec 32 := 0#32
  let c31_i32 : BitVec 32 := 31#32
  let v16 : BitVec 32 := Scalar.addi c0_i32_14 c31_i32
  let c1_i32 : BitVec 32 := 1#32
  ⟨c0_i32_14, v16, c1_i32⟩
def k1_mult1 (k1_t1 : Fin k1_t1_loop.trips) : BitVec 32 :=
  let c31_i32_61 : BitVec 32 := 31#32
  let c0_i32_14 : BitVec 32 := 0#32
  let c1_i32 : BitVec 32 := 1#32
  let arg16 : BitVec 32 := Scf.iv c0_i32_14 c1_i32 k1_t1
  let v88 : BitVec 32 := Scalar.subi c31_i32_61 arg16
  let c8_i32 : BitVec 32 := 8#32
  let v89 : BitVec 32 := Scalar.muli v88 c8_i32
  v89
def k1_mult2 (k1_t1 : Fin k1_t1_loop.trips) : BitVec 32 :=
  let c31_i32_61 : BitVec 32 := 31#32
  let c0_i32_14 : BitVec 32 := 0#32
  let c1_i32 : BitVec 32 := 1#32
  let arg16 : BitVec 32 := Scf.iv c0_i32_14 c1_i32 k1_t1
  let v88 : BitVec 32 := Scalar.subi c31_i32_61 arg16
  let c1_i32_62 : BitVec 32 := 1#32
  let v91 : BitVec 32 := Scalar.subi v88 c1_i32_62
  let c8_i32_63 : BitVec 32 := 8#32
  let v92 : BitVec 32 := Scalar.muli v91 c8_i32_63
  v92
def k1_off1 (k1_t1 : Fin k1_t1_loop.trips) : Fin 2 → Nat :=
  let c31_i32_61 : BitVec 32 := 31#32
  let c0_i32_14 : BitVec 32 := 0#32
  let c1_i32 : BitVec 32 := 1#32
  let arg16 : BitVec 32 := Scf.iv c0_i32_14 c1_i32 k1_t1
  let v88 : BitVec 32 := Scalar.subi c31_i32_61 arg16
  let c1_i32_62 : BitVec 32 := 1#32
  let v91 : BitVec 32 := Scalar.subi v88 c1_i32_62
  let c8_i32_63 : BitVec 32 := 8#32
  let v92 : BitVec 32 := Scalar.muli v91 c8_i32_63
  let v93 : BitVec 32 := v92
  let v94 : Index := Scalar.indexCast v93
  let c0_64 : Index := 0#32
  ![v94.toNat, 0]
def k1_off2 (k1_t1 : Fin k1_t1_loop.trips) : Fin 2 → Nat :=
  let c31_i32_61 : BitVec 32 := 31#32
  let c0_i32_14 : BitVec 32 := 0#32
  let c1_i32 : BitVec 32 := 1#32
  let arg16 : BitVec 32 := Scf.iv c0_i32_14 c1_i32 k1_t1
  let v88 : BitVec 32 := Scalar.subi c31_i32_61 arg16
  let c1_i32_62 : BitVec 32 := 1#32
  let v91 : BitVec 32 := Scalar.subi v88 c1_i32_62
  let c8_i32_63 : BitVec 32 := 8#32
  let v92 : BitVec 32 := Scalar.muli v91 c8_i32_63
  let v93 : BitVec 32 := v92
  let v97 : Index := Scalar.indexCast v93
  let c1024_65 : Index := 1024#32
  ![v97.toNat, 1024]
def k1_off3 (k1_t1 : Fin k1_t1_loop.trips) : Fin 2 → Nat :=
  let c31_i32_61 : BitVec 32 := 31#32
  let c0_i32_14 : BitVec 32 := 0#32
  let c1_i32 : BitVec 32 := 1#32
  let arg16 : BitVec 32 := Scf.iv c0_i32_14 c1_i32 k1_t1
  let v88 : BitVec 32 := Scalar.subi c31_i32_61 arg16
  let c8_i32 : BitVec 32 := 8#32
  let v89 : BitVec 32 := Scalar.muli v88 c8_i32
  let v90 : BitVec 32 := v89
  let v100 : Index := Scalar.indexCast v90
  let c0_66 : Index := 0#32
  ![v100.toNat, 0]
def k1_off4 (k1_t1 : Fin k1_t1_loop.trips) : Fin 2 → Nat :=
  let c31_i32_61 : BitVec 32 := 31#32
  let c0_i32_14 : BitVec 32 := 0#32
  let c1_i32 : BitVec 32 := 1#32
  let arg16 : BitVec 32 := Scf.iv c0_i32_14 c1_i32 k1_t1
  let v88 : BitVec 32 := Scalar.subi c31_i32_61 arg16
  let c8_i32 : BitVec 32 := 8#32
  let v89 : BitVec 32 := Scalar.muli v88 c8_i32
  let v90 : BitVec 32 := v89
  let v106 : Index := Scalar.indexCast v90
  let c1024_67 : Index := 1024#32
  ![v106.toNat, 1024]
def cc1_transform_0 (i : grid1.Coords) : Fin 2 → Nat :=
  let arg0 : BitVec 32 := BitVec.ofNat 32 (i 0).val
  let c71_i32 : BitVec 32 := 71#32
  let v0 : BitVec 32 := Scalar.subi c71_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c71_i32 : BitVec 32 := 71#32
  let v0 : BitVec 32 := Scalar.subi c71_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c71_i32 : BitVec 32 := 71#32
  let v0 : BitVec 32 := Scalar.subi c71_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc1_transform_3 (i : grid1.Coords) : Fin 2 → Nat :=
  let arg0 : BitVec 32 := BitVec.ofNat 32 (i 0).val
  let c71_i32 : BitVec 32 := 71#32
  let v0 : BitVec 32 := Scalar.subi c71_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c71_i32 : BitVec 32 := 71#32
  let v0 : BitVec 32 := Scalar.subi c71_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S512x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S512x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S2048x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S8x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S8x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== ReferenceIdeal.lean ====
abbrev S18432x512 : Shape := ⟨2, ![18432, 512]⟩
abbrev S512x2048 : Shape := ⟨2, ![512, 2048]⟩
abbrev S2048x512 : Shape := ⟨2, ![2048, 512]⟩
abbrev S8x1024 : Shape := ⟨2, ![8, 1024]⟩
abbrev S18432x2048 : Shape := ⟨2, ![18432, 2048]⟩
abbrev S2304x8x2x1024 : Shape := ⟨4, ![2304, 8, 2, 1024]⟩
abbrev S_ : Shape := ⟨0, ![]⟩
abbrev S2304x8x1024 : Shape := ⟨3, ![2304, 8, 1024]⟩
abbrev S1x8x2x1024 : Shape := ⟨4, ![1, 8, 2, 1024]⟩
abbrev S8x2x1024 : Shape := ⟨3, ![8, 2, 1024]⟩
abbrev S8x1x1024 : Shape := ⟨3, ![8, 1, 1024]⟩
abbrev S1x8x1024 : Shape := ⟨3, ![1, 8, 1024]⟩
abbrev S2304x8x1x1024 : Shape := ⟨4, ![2304, 8, 1, 1024]⟩

abbrev nBuf : Space → Nat
  | .hbm => 163
  | .vmem => 0
  | .smem => 0
  | _ => 0

abbrev hbmTy0_0 (i : Nat) : BufTy := match i % 128 with
  | 0 => ⟨S18432x512, .f32⟩
  | 1 => ⟨S512x2048, .f32⟩
  | 2 => ⟨S2048x512, .f32⟩
  | 3 => ⟨S8x1024, .f32⟩
  | 4 => ⟨S8x1024, .f32⟩
  | 5 => ⟨S18432x512, .f32⟩
  | 6 => ⟨S18432x2048, .f32⟩
  | 7 => ⟨S2304x8x2x1024, .f32⟩
  | 8 => ⟨S_, .f32⟩
  | 9 => ⟨S8x1024, .f32⟩
  | 10 => ⟨S_, .f32⟩
  | 11 => ⟨S2304x8x1024, .f32⟩
  | 12 => ⟨S_, .f32⟩
  | 13 => ⟨S2304x8x1024, .f32⟩
  | 14 => ⟨S_, .f32⟩
  | 15 => ⟨S2304x8x1024, .f32⟩
  | 16 => ⟨S_, .f32⟩
  | 17 => ⟨S2304x8x1024, .f32⟩
  | 18 => ⟨S_, .i32⟩
  | 19 => ⟨S2304x8x2x1024, .f32⟩
  | 20 => ⟨S8x1024, .f32⟩
  | 21 => ⟨S8x1024, .f32⟩
  | 22 => ⟨S_, .i32⟩
  | 23 => ⟨S8x1024, .f32⟩
  | 24 => ⟨S8x1024, .f32⟩
  | 25 => ⟨S2304x8x1024, .f32⟩
  | 26 => ⟨S2304x8x1024, .f32⟩
  | 27 => ⟨S2304x8x1024, .f32⟩
  | 28 => ⟨S2304x8x1024, .f32⟩
  | 29 => ⟨S_, .i32⟩
  | 30 => ⟨S_, .i1⟩
  | 31 => ⟨S_, .i32⟩
  | 32 => ⟨S_, .i32⟩
  | 33 => ⟨S_, .i32⟩
  | 34 => ⟨S1x8x2x1024, .f32⟩
  | 35 => ⟨S8x2x1024, .f32⟩
  | 36 => ⟨S8x1024, .f32⟩
  | 37 => ⟨S8x1024, .f32⟩
  | 38 => ⟨S8x1024, .f32⟩
  | 39 => ⟨S8x1x1024, .f32⟩
  | 40 => ⟨S8x1024, .f32⟩
  | 41 => ⟨S8x1024, .f32⟩
  | 42 => ⟨S8x1024, .f32⟩
  | 43 => ⟨S8x1024, .f32⟩
  | 44 => ⟨S8x1024, .f32⟩
  | 45 => ⟨S8x1x1024, .f32⟩
  | 46 => ⟨S8x1024, .f32⟩
  | 47 => ⟨S8x1024, .f32⟩
  | 48 => ⟨S1x8x1024, .f32⟩
  | 49 => ⟨S_, .i32⟩
  | 50 => ⟨S_, .i32⟩
  | 51 => ⟨S2304x8x1024, .f32⟩
  | 52 => ⟨S1x8x1024, .f32⟩
  | 53 => ⟨S_, .i32⟩
  | 54 => ⟨S_, .i32⟩
  | 55 => ⟨S2304x8x1024, .f32⟩
  | 56 => ⟨S1x8x1024, .f32⟩
  | 57 => ⟨S_, .i32⟩
  | 58 => ⟨S_, .i32⟩
  | 59 => ⟨S2304x8x1024, .f32⟩
  | 60 => ⟨S1x8x1024, .f32⟩
  | 61 => ⟨S_, .i32⟩
  | 62 => ⟨S_, .i32⟩
  | 63 => ⟨S2304x8x1024, .f32⟩
  | 64 => ⟨S_, .i32⟩
  | 65 => ⟨S_, .i32⟩
  | 66 => ⟨S2304x8x1x1024, .f32⟩
  | 67 => ⟨S2304x8x1x1024, .f32⟩
  | 68 => ⟨S2304x8x2x1024, .f32⟩
  | 69 => ⟨S18432x2048, .f32⟩
  | 70 => ⟨S18432x512, .f32⟩
  | 71 => ⟨S_, .f32⟩
  | 72 => ⟨S8x1024, .f32⟩
  | 73 => ⟨S_, .f32⟩
  | 74 => ⟨S8x1024, .f32⟩
  | 75 => ⟨S512x2048, .f32⟩
  | 76 => ⟨S2048x512, .f32⟩
  | 77 => ⟨S18432x2048, .f32⟩
  | 78 => ⟨S2304x8x2x1024, .f32⟩
  | 79 => ⟨S2304x8x1x1024, .f32⟩
  | 80 => ⟨S2304x8x1024, .f32⟩
  | 81 => ⟨S2304x8x1x1024, .f32⟩
  | 82 => ⟨S2304x8x1024, .f32⟩
  | 83 => ⟨S_, .f32⟩
  | 84 => ⟨S8x1024, .f32⟩
  | 85 => ⟨S_, .f32⟩
  | 86 => ⟨S8x1024, .f32⟩
  | 87 => ⟨S_, .f32⟩
  | 88 => ⟨S8x1024, .f32⟩
  | 89 => ⟨S_, .f32⟩
  | 90 => ⟨S8x1024, .f32⟩
  | 91 => ⟨S_, .f32⟩
  | 92 => ⟨S2304x8x2x1024, .f32⟩
  | 93 => ⟨S_, .i32⟩
  | 94 => ⟨S2304x8x1024, .f32⟩
  | 95 => ⟨S2304x8x1024, .f32⟩
  | 96 => ⟨S2304x8x1024, .f32⟩
  | 97 => ⟨S2304x8x1024, .f32⟩
  | 98 => ⟨S8x1024, .f32⟩
  | 99 => ⟨S8x1024, .f32⟩
  | 100 => ⟨S_, .i32⟩
  | 101 => ⟨S8x1024, .f32⟩
  | 102 => ⟨S8x1024, .f32⟩
  | 103 => ⟨S8x1024, .f32⟩
  | 104 => ⟨S8x1024, .f32⟩
  | 105 => ⟨S2304x8x2x1024, .f32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S1x8x1024, .f32⟩
  | 115 => ⟨S8x1024, .f32⟩
  | 116 => ⟨S_, .i32⟩
  | 117 => ⟨S_, .i32⟩
  | 118 => ⟨S1x8x1024, .f32⟩
  | 119 => ⟨S8x1024, .f32⟩
  | 120 => ⟨S_, .i32⟩
  | 121 => ⟨S_, .i32⟩
  | 122 => ⟨S1x8x1024, .f32⟩
  | 123 => ⟨S8x1024, .f32⟩
  | 124 => ⟨S_, .i32⟩
  | 125 => ⟨S_, .i32⟩
  | 126 => ⟨S1x8x1024, .f32⟩
  | 127 => ⟨S8x1024, .f32⟩
  | _ => ⟨S18432x512, .f32⟩

abbrev hbmTy0_1 (i : Nat) : BufTy := match i % 128 with
  | 0 => ⟨S8x1024, .f32⟩
  | 1 => ⟨S8x1024, .f32⟩
  | 2 => ⟨S8x1x1024, .f32⟩
  | 3 => ⟨S_, .f32⟩
  | 4 => ⟨S8x2x1024, .f32⟩
  | 5 => ⟨S8x1024, .f32⟩
  | 6 => ⟨S8x1024, .f32⟩
  | 7 => ⟨S8x1024, .f32⟩
  | 8 => ⟨S8x1024, .f32⟩
  | 9 => ⟨S8x1024, .f32⟩
  | 10 => ⟨S8x1024, .f32⟩
  | 11 => ⟨S8x1x1024, .f32⟩
  | 12 => ⟨S_, .f32⟩
  | 13 => ⟨S8x2x1024, .f32⟩
  | 14 => ⟨S8x2x1024, .f32⟩
  | 15 => ⟨S8x1024, .f32⟩
  | 16 => ⟨S8x1024, .f32⟩
  | 17 => ⟨S8x1024, .f32⟩
  | 18 => ⟨S8x1024, .f32⟩
  | 19 => ⟨S8x1024, .f32⟩
  | 20 => ⟨S8x1024, .f32⟩
  | 21 => ⟨S8x1024, .f32⟩
  | 22 => ⟨S8x1024, .f32⟩
  | 23 => ⟨S8x1024, .f32⟩
  | 24 => ⟨S1x8x2x1024, .f32⟩
  | 25 => ⟨S_, .i32⟩
  | 26 => ⟨S_, .i32⟩
  | 27 => ⟨S_, .i32⟩
  | 28 => ⟨S2304x8x2x1024, .f32⟩
  | 29 => ⟨S_, .i32⟩
  | 30 => ⟨S_, .i32⟩
  | 31 => ⟨S18432x2048, .f32⟩
  | 32 => ⟨S2048x512, .f32⟩
  | 33 => ⟨S512x2048, .f32⟩
  | 34 => ⟨S18432x512, .f32⟩
  | _ => ⟨S18432x512, .f32⟩

abbrev hbmTy (i : Nat) : BufTy := match i / 128 with
  | 0 => hbmTy0_0 i
  | 1 => hbmTy0_1 i
  | _ => ⟨S18432x512, .f32⟩

abbrev bufTy : (tb : Table) → Fin (tcTables nBuf tb) → BufTy
  | .hbm, ⟨i, _⟩ => hbmTy i
  | _, _ => ⟨S18432x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_c : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_v7_4 : Ref sig .tc := ⟨.hbm, 23, rfl⟩
abbrev main_v7_5 : Ref sig .tc := ⟨.hbm, 24, rfl⟩
abbrev main_v7_6 : Ref sig .tc := ⟨.hbm, 25, rfl⟩
abbrev main_v7_7 : Ref sig .tc := ⟨.hbm, 26, rfl⟩
abbrev main_v7_8 : Ref sig .tc := ⟨.hbm, 27, rfl⟩
abbrev main_v7_9 : Ref sig .tc := ⟨.hbm, 28, rfl⟩
abbrev main_while0c_c_21 : Ref sig .tc := ⟨.hbm, 29, rfl⟩
abbrev main_while0c_v33 : Ref sig .tc := ⟨.hbm, 30, rfl⟩
abbrev main_while0b_call0_c : Ref sig .tc := ⟨.hbm, 31, rfl⟩
abbrev main_while0b_call0_c_0 : Ref sig .tc := ⟨.hbm, 32, rfl⟩
abbrev main_while0b_call0_c_1 : Ref sig .tc := ⟨.hbm, 33, rfl⟩
abbrev main_while0b_call0_v0 : Ref sig .tc := ⟨.hbm, 34, rfl⟩
abbrev main_while0b_v33 : Ref sig .tc := ⟨.hbm, 35, rfl⟩
abbrev main_while0b_v34 : Ref sig .tc := ⟨.hbm, 36, rfl⟩
abbrev main_while0b_v35 : Ref sig .tc := ⟨.hbm, 37, rfl⟩
abbrev main_while0b_v36 : Ref sig .tc := ⟨.hbm, 38, rfl⟩
abbrev main_while0b_v37 : Ref sig .tc := ⟨.hbm, 39, rfl⟩
abbrev main_while0b_v38 : Ref sig .tc := ⟨.hbm, 40, rfl⟩
abbrev main_while0b_v39 : Ref sig .tc := ⟨.hbm, 41, rfl⟩
abbrev main_while0b_v40 : Ref sig .tc := ⟨.hbm, 42, rfl⟩
abbrev main_while0b_v41 : Ref sig .tc := ⟨.hbm, 43, rfl⟩
abbrev main_while0b_v42 : Ref sig .tc := ⟨.hbm, 44, rfl⟩
abbrev main_while0b_v43 : Ref sig .tc := ⟨.hbm, 45, rfl⟩
abbrev main_while0b_v44 : Ref sig .tc := ⟨.hbm, 46, rfl⟩
abbrev main_while0b_v45 : Ref sig .tc := ⟨.hbm, 47, rfl⟩
abbrev main_while0b_call1_v0 : Ref sig .tc := ⟨.hbm, 48, rfl⟩
abbrev main_while0b_call1_c : Ref sig .tc := ⟨.hbm, 49, rfl⟩
abbrev main_while0b_call1_c_0 : Ref sig .tc := ⟨.hbm, 50, rfl⟩
abbrev main_while0b_v46 : Ref sig .tc := ⟨.hbm, 51, rfl⟩
abbrev main_while0b_call2_v0 : Ref sig .tc := ⟨.hbm, 52, rfl⟩
abbrev main_while0b_call2_c : Ref sig .tc := ⟨.hbm, 53, rfl⟩
abbrev main_while0b_call2_c_0 : Ref sig .tc := ⟨.hbm, 54, rfl⟩
abbrev main_while0b_v47 : Ref sig .tc := ⟨.hbm, 55, rfl⟩
abbrev main_while0b_call3_v0 : Ref sig .tc := ⟨.hbm, 56, rfl⟩
abbrev main_while0b_call3_c : Ref sig .tc := ⟨.hbm, 57, rfl⟩
abbrev main_while0b_call3_c_0 : Ref sig .tc := ⟨.hbm, 58, rfl⟩
abbrev main_while0b_v48 : Ref sig .tc := ⟨.hbm, 59, rfl⟩
abbrev main_while0b_call4_v0 : Ref sig .tc := ⟨.hbm, 60, rfl⟩
abbrev main_while0b_call4_c : Ref sig .tc := ⟨.hbm, 61, rfl⟩
abbrev main_while0b_call4_c_0 : Ref sig .tc := ⟨.hbm, 62, rfl⟩
abbrev main_while0b_v49 : Ref sig .tc := ⟨.hbm, 63, rfl⟩
abbrev main_while0b_c_21 : Ref sig .tc := ⟨.hbm, 64, rfl⟩
abbrev main_while0b_v50 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_cst_4 : Ref sig .tc := ⟨.hbm, 71, rfl⟩
abbrev main_v13 : Ref sig .tc := ⟨.hbm, 72, rfl⟩
abbrev main_cst_5 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_cst_6 : Ref sig .tc := ⟨.hbm, 83, rfl⟩
abbrev main_v23 : Ref sig .tc := ⟨.hbm, 84, rfl⟩
abbrev main_cst_7 : Ref sig .tc := ⟨.hbm, 85, rfl⟩
abbrev main_v24 : Ref sig .tc := ⟨.hbm, 86, rfl⟩
abbrev main_cst_8 : Ref sig .tc := ⟨.hbm, 87, rfl⟩
abbrev main_v25 : Ref sig .tc := ⟨.hbm, 88, rfl⟩
abbrev main_cst_9 : Ref sig .tc := ⟨.hbm, 89, rfl⟩
abbrev main_v26 : Ref sig .tc := ⟨.hbm, 90, rfl⟩
abbrev main_cst_10 : Ref sig .tc := ⟨.hbm, 91, rfl⟩
abbrev main_v27 : Ref sig .tc := ⟨.hbm, 92, rfl⟩
abbrev main_c_11 : Ref sig .tc := ⟨.hbm, 93, rfl⟩
abbrev main_v28_0 : Ref sig .tc := ⟨.hbm, 94, rfl⟩
abbrev main_v28_1 : Ref sig .tc := ⟨.hbm, 95, rfl⟩
abbrev main_v28_2 : Ref sig .tc := ⟨.hbm, 96, rfl⟩
abbrev main_v28_3 : Ref sig .tc := ⟨.hbm, 97, rfl⟩
abbrev main_v28_4 : Ref sig .tc := ⟨.hbm, 98, rfl⟩
abbrev main_v28_5 : Ref sig .tc := ⟨.hbm, 99, rfl⟩
abbrev main_v28_6 : Ref sig .tc := ⟨.hbm, 100, rfl⟩
abbrev main_v28_7 : Ref sig .tc := ⟨.hbm, 101, rfl⟩
abbrev main_v28_8 : Ref sig .tc := ⟨.hbm, 102, rfl⟩
abbrev main_v28_9 : Ref sig .tc := ⟨.hbm, 103, rfl⟩
abbrev main_v28_10 : Ref sig .tc := ⟨.hbm, 104, rfl⟩
abbrev main_v28_11 : Ref sig .tc := ⟨.hbm, 105, rfl⟩
abbrev main_while1c_c_23 : Ref sig .tc := ⟨.hbm, 106, rfl⟩
abbrev main_while1c_v33 : Ref sig .tc := ⟨.hbm, 107, rfl⟩
abbrev main_while1b_c_23 : Ref sig .tc := ⟨.hbm, 108, rfl⟩
abbrev main_while1b_v33 : Ref sig .tc := ⟨.hbm, 109, rfl⟩
abbrev main_while1b_c_24 : Ref sig .tc := ⟨.hbm, 110, rfl⟩
abbrev main_while1b_v34 : Ref sig .tc := ⟨.hbm, 111, rfl⟩
abbrev main_while1b_call5_c : Ref sig .tc := ⟨.hbm, 112, rfl⟩
abbrev main_while1b_call5_c_0 : Ref sig .tc := ⟨.hbm, 113, rfl⟩
abbrev main_while1b_call5_v0 : Ref sig .tc := ⟨.hbm, 114, rfl⟩
abbrev main_while1b_v35 : Ref sig .tc := ⟨.hbm, 115, rfl⟩
abbrev main_while1b_call6_c : Ref sig .tc := ⟨.hbm, 116, rfl⟩
abbrev main_while1b_call6_c_0 : Ref sig .tc := ⟨.hbm, 117, rfl⟩
abbrev main_while1b_call6_v0 : Ref sig .tc := ⟨.hbm, 118, rfl⟩
abbrev main_while1b_v36 : Ref sig .tc := ⟨.hbm, 119, rfl⟩
abbrev main_while1b_call7_c : Ref sig .tc := ⟨.hbm, 120, rfl⟩
abbrev main_while1b_call7_c_0 : Ref sig .tc := ⟨.hbm, 121, rfl⟩
abbrev main_while1b_call7_v0 : Ref sig .tc := ⟨.hbm, 122, rfl⟩
abbrev main_while1b_v37 : Ref sig .tc := ⟨.hbm, 123, rfl⟩
abbrev main_while1b_call8_c : Ref sig .tc := ⟨.hbm, 124, rfl⟩
abbrev main_while1b_call8_c_0 : Ref sig .tc := ⟨.hbm, 125, rfl⟩
abbrev main_while1b_call8_v0 : Ref sig .tc := ⟨.hbm, 126, rfl⟩
abbrev main_while1b_v38 : Ref sig .tc := ⟨.hbm, 127, rfl⟩
abbrev main_while1b_v39 : Ref sig .tc := ⟨.hbm, 128, rfl⟩
abbrev main_while1b_v40 : Ref sig .tc := ⟨.hbm, 129, rfl⟩
abbrev main_while1b_v41 : Ref sig .tc := ⟨.hbm, 130, rfl⟩
abbrev main_while1b_cst_25 : Ref sig .tc := ⟨.hbm, 131, rfl⟩
abbrev main_while1b_v42 : Ref sig .tc := ⟨.hbm, 132, rfl⟩
abbrev main_while1b_v43 : Ref sig .tc := ⟨.hbm, 133, rfl⟩
abbrev main_while1b_v44 : Ref sig .tc := ⟨.hbm, 134, rfl⟩
abbrev main_while1b_v45 : Ref sig .tc := ⟨.hbm, 135, rfl⟩
abbrev main_while1b_v46 : Ref sig .tc := ⟨.hbm, 136, rfl⟩
abbrev main_while1b_v47 : Ref sig .tc := ⟨.hbm, 137, rfl⟩
abbrev main_while1b_v48 : Ref sig .tc := ⟨.hbm, 138, rfl⟩
abbrev main_while1b_v49 : Ref sig .tc := ⟨.hbm, 139, rfl⟩
abbrev main_while1b_cst_26 : Ref sig .tc := ⟨.hbm, 140, rfl⟩
abbrev main_while1b_v50 : Ref sig .tc := ⟨.hbm, 141, rfl⟩
abbrev main_while1b_v51 : Ref sig .tc := ⟨.hbm, 142, rfl⟩
abbrev main_while1b_v52 : Ref sig .tc := ⟨.hbm, 143, rfl⟩
abbrev main_while1b_v53 : Ref sig .tc := ⟨.hbm, 144, rfl⟩
abbrev main_while1b_v54 : Ref sig .tc := ⟨.hbm, 145, rfl⟩
abbrev main_while1b_v55 : Ref sig .tc := ⟨.hbm, 146, rfl⟩
abbrev main_while1b_v56 : Ref sig .tc := ⟨.hbm, 147, rfl⟩
abbrev main_while1b_v57 : Ref sig .tc := ⟨.hbm, 148, rfl⟩
abbrev main_while1b_v58 : Ref sig .tc := ⟨.hbm, 149, rfl⟩
abbrev main_while1b_v59 : Ref sig .tc := ⟨.hbm, 150, rfl⟩
abbrev main_while1b_v60 : Ref sig .tc := ⟨.hbm, 151, rfl⟩
abbrev main_while1b_call9_v0 : Ref sig .tc := ⟨.hbm, 152, rfl⟩
abbrev main_while1b_call9_c : Ref sig .tc := ⟨.hbm, 153, rfl⟩
abbrev main_while1b_call9_c_0 : Ref sig .tc := ⟨.hbm, 154, rfl⟩
abbrev main_while1b_call9_c_1 : Ref sig .tc := ⟨.hbm, 155, rfl⟩
abbrev main_while1b_v61 : Ref sig .tc := ⟨.hbm, 156, rfl⟩
abbrev main_while1b_c_27 : Ref sig .tc := ⟨.hbm, 157, rfl⟩
abbrev main_while1b_v62 : Ref sig .tc := ⟨.hbm, 158, rfl⟩
abbrev main_v29 : Ref sig .tc := ⟨.hbm, 159, rfl⟩
abbrev main_v30 : Ref sig .tc := ⟨.hbm, 160, rfl⟩
abbrev main_v31 : Ref sig .tc := ⟨.hbm, 161, rfl⟩
abbrev main_v32 : Ref sig .tc := ⟨.hbm, 162, rfl⟩

abbrev nD : Nat := 1
abbrev τ : Topo := Topo.v7x

variable {F : FTy → Type} [FloatOps F]

abbrev main_while0_count : Scf.Loop 32 := ⟨0#32, 2304#32, 1#32⟩

abbrev main_while1_count : Scf.Loop 32 := ⟨0#32, 2304#32, 1#32⟩
-- ==== Kernel2.lean ====
abbrev S2816x1024 : Shape := ⟨2, ![2816, 1024]⟩
abbrev S9216x1024 : Shape := ⟨2, ![9216, 1024]⟩
abbrev S9216x2816 : Shape := ⟨2, ![9216, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2816x1024, .bf16⟩
  | .hbm, ⟨1, _⟩ => ⟨S9216x1024, .f32⟩
  | .hbm, ⟨2, _⟩ => ⟨S9216x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel2Ideal.lean ====
abbrev S2816x1024 : Shape := ⟨2, ![2816, 1024]⟩
abbrev S9216x1024 : Shape := ⟨2, ![9216, 1024]⟩
abbrev S9216x2816 : Shape := ⟨2, ![9216, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2816x1024, .bf16⟩
  | .hbm, ⟨1, _⟩ => ⟨S9216x1024, .f32⟩
  | .hbm, ⟨2, _⟩ => ⟨S9216x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2816x1024 : Shape := ⟨2, ![2816, 1024]⟩
abbrev S9216x1024 : Shape := ⟨2, ![9216, 1024]⟩
abbrev S_ : Shape := ⟨0, ![]⟩
abbrev S9216x2816 : Shape := ⟨2, ![9216, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S9216x1024, .f32⟩
  | .hbm, ⟨2, _⟩ => ⟨S_, .f32⟩
  | .hbm, ⟨3, _⟩ => ⟨S9216x2816, .f32⟩
  | .hbm, ⟨4, _⟩ => ⟨S2816x1024, .f32⟩
  | .hbm, ⟨5, _⟩ => ⟨S9216x1024, .f32⟩
  | .hbm, ⟨6, _⟩ => ⟨S9216x2816, .f32⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S9216x2816 : Shape := ⟨2, ![9216, 2816]⟩
abbrev S9216x1024 : Shape := ⟨2, ![9216, 1024]⟩
abbrev S2816x1024 : Shape := ⟨2, ![2816, 1024]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .f32⟩
  | .hbm, ⟨2, _⟩ => ⟨S2816x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .f32⟩
  | .local _ .vmem, ⟨3, _⟩ => ⟨S1024x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 9], ![false, false, false]⟩

def k0_cond2 (i : grid0.Coords) : BitVec 1 :=
  let arg2 : BitVec 32 := BitVec.ofNat 32 (i 2).val
  let c8_i32 : BitVec 32 := 8#32
  let v12 : BitVec 1 := Scalar.cmpi .eq arg2 c8_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel3Ideal.lean ====
abbrev S9216x2816 : Shape := ⟨2, ![9216, 2816]⟩
abbrev S9216x1024 : Shape := ⟨2, ![9216, 1024]⟩
abbrev S2816x1024 : Shape := ⟨2, ![2816, 1024]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .f32⟩
  | .hbm, ⟨2, _⟩ => ⟨S2816x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .f32⟩
  | .local _ .vmem, ⟨3, _⟩ => ⟨S1024x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 9], ![false, false, false]⟩

def k0_cond2 (i : grid0.Coords) : BitVec 1 :=
  let arg2 : BitVec 32 := BitVec.ofNat 32 (i 2).val
  let c8_i32 : BitVec 32 := 8#32
  let v12 : BitVec 1 := Scalar.cmpi .eq arg2 c8_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S9216x2816 : Shape := ⟨2, ![9216, 2816]⟩
abbrev S9216x1024 : Shape := ⟨2, ![9216, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .f32⟩
  | .hbm, ⟨2, _⟩ => ⟨S_, .bf16⟩
  | .hbm, ⟨3, _⟩ => ⟨S2816x1024, .bf16⟩
  | .hbm, ⟨4, _⟩ => ⟨S9216x2816, .f32⟩
  | .hbm, ⟨5, _⟩ => ⟨S2816x1024, .f32⟩
  | .hbm, ⟨6, _⟩ => ⟨S9216x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S1024x5632 : Shape := ⟨2, ![1024, 5632]⟩
abbrev S9216x5632 : Shape := ⟨2, ![9216, 5632]⟩
abbrev S9216x1024 : Shape := ⟨2, ![9216, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x5632, .bf16⟩
  | .hbm, ⟨1, _⟩ => ⟨S9216x5632, .bf16⟩
  | .hbm, ⟨2, _⟩ => ⟨S9216x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel4Ideal.lean ====
abbrev S1024x5632 : Shape := ⟨2, ![1024, 5632]⟩
abbrev S9216x5632 : Shape := ⟨2, ![9216, 5632]⟩
abbrev S9216x1024 : Shape := ⟨2, ![9216, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x5632, .bf16⟩
  | .hbm, ⟨1, _⟩ => ⟨S9216x5632, .bf16⟩
  | .hbm, ⟨2, _⟩ => ⟨S9216x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S1024x5632 : Shape := ⟨2, ![1024, 5632]⟩
abbrev S9216x5632 : Shape := ⟨2, ![9216, 5632]⟩
abbrev S_ : Shape := ⟨0, ![]⟩
abbrev S9216x1024 : Shape := ⟨2, ![9216, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x5632, .bf16⟩
  | .hbm, ⟨1, _⟩ => ⟨S9216x5632, .bf16⟩
  | .hbm, ⟨2, _⟩ => ⟨S_, .f32⟩
  | .hbm, ⟨3, _⟩ => ⟨S9216x1024, .f32⟩
  | .hbm, ⟨4, _⟩ => ⟨S1024x5632, .f32⟩
  | .hbm, ⟨5, _⟩ => ⟨S9216x5632, .f32⟩
  | .hbm, ⟨6, _⟩ => ⟨S9216x5632, .f32⟩
  | .hbm, ⟨7, _⟩ => ⟨S9216x1024, .f32⟩
  | _, _ => ⟨S1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S9216x1024 : Shape := ⟨2, ![9216, 1024]⟩
abbrev S9216x5632 : Shape := ⟨2, ![9216, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S9216x5632, .bf16⟩
  | .hbm, ⟨2, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .eq arg2 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel5Ideal.lean ====
abbrev S9216x1024 : Shape := ⟨2, ![9216, 1024]⟩
abbrev S9216x5632 : Shape := ⟨2, ![9216, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S9216x5632, .bf16⟩
  | .hbm, ⟨2, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .eq arg2 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S9216x1024 : Shape := ⟨2, ![9216, 1024]⟩
abbrev S9216x5632 : Shape := ⟨2, ![9216, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x5632, .bf16⟩
  | .hbm, ⟨2, _⟩ => ⟨S_, .bf16⟩
  | .hbm, ⟨3, _⟩ => ⟨S1024x5632, .bf16⟩
  | .hbm, ⟨4, _⟩ => ⟨S9216x1024, .f32⟩
  | .hbm, ⟨5, _⟩ => ⟨S1024x5632, .f32⟩
  | .hbm, ⟨6, _⟩ => ⟨S9216x5632, .f32⟩
  | .hbm, ⟨7, _⟩ => ⟨S9216x5632, .f32⟩
  | .hbm, ⟨8, _⟩ => ⟨S5632x1024, .f32⟩
  | .hbm, ⟨9, _⟩ => ⟨S1024x5632, .f32⟩
  | .hbm, ⟨10, _⟩ => ⟨S1024x5632, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S9216x2816 : Shape := ⟨2, ![9216, 2816]⟩
abbrev S2816x1024 : Shape := ⟨2, ![2816, 1024]⟩
abbrev S9216x1024 : Shape := ⟨2, ![9216, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x2816, .bf16⟩
  | .hbm, ⟨1, _⟩ => ⟨S2816x1024, .bf16⟩
  | .hbm, ⟨2, _⟩ => ⟨S9216x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel6Ideal.lean ====
abbrev S9216x2816 : Shape := ⟨2, ![9216, 2816]⟩
abbrev S2816x1024 : Shape := ⟨2, ![2816, 1024]⟩
abbrev S9216x1024 : Shape := ⟨2, ![9216, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x2816, .bf16⟩
  | .hbm, ⟨1, _⟩ => ⟨S2816x1024, .bf16⟩
  | .hbm, ⟨2, _⟩ => ⟨S9216x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S9216x2816 : Shape := ⟨2, ![9216, 2816]⟩
abbrev S2816x1024 : Shape := ⟨2, ![2816, 1024]⟩
abbrev S9216x1024 : Shape := ⟨2, ![9216, 1024]⟩

abbrev nBuf : Space → Nat
  | .hbm => 5
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S2816x1024, .bf16⟩
  | .hbm, ⟨2, _⟩ => ⟨S9216x2816, .f32⟩
  | .hbm, ⟨3, _⟩ => ⟨S2816x1024, .f32⟩
  | .hbm, ⟨4, _⟩ => ⟨S9216x1024, .f32⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S9216x1024 : Shape := ⟨2, ![9216, 1024]⟩
abbrev S1024x5632 : Shape := ⟨2, ![1024, 5632]⟩
abbrev S9216x5632 : Shape := ⟨2, ![9216, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S1024x5632, .bf16⟩
  | .hbm, ⟨2, _⟩ => ⟨S9216x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel7Ideal.lean ====
abbrev S9216x1024 : Shape := ⟨2, ![9216, 1024]⟩
abbrev S1024x5632 : Shape := ⟨2, ![1024, 5632]⟩
abbrev S9216x5632 : Shape := ⟨2, ![9216, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S1024x5632, .bf16⟩
  | .hbm, ⟨2, _⟩ => ⟨S9216x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S9216x1024 : Shape := ⟨2, ![9216, 1024]⟩
abbrev S1024x5632 : Shape := ⟨2, ![1024, 5632]⟩
abbrev S9216x5632 : Shape := ⟨2, ![9216, 5632]⟩

abbrev nBuf : Space → Nat
  | .hbm => 6
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x5632, .bf16⟩
  | .hbm, ⟨2, _⟩ => ⟨S9216x1024, .f32⟩
  | .hbm, ⟨3, _⟩ => ⟨S1024x5632, .f32⟩
  | .hbm, ⟨4, _⟩ => ⟨S9216x5632, .f32⟩
  | .hbm, ⟨5, _⟩ => ⟨S9216x5632, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S9x1024x1024 : Shape := ⟨3, ![9, 1024, 1024]⟩
abbrev S9x1x1024 : Shape := ⟨3, ![9, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S1x1024 : Shape := ⟨2, ![1, 1024]⟩
abbrev S1024 : Shape := ⟨1, ![1024]⟩

abbrev nBuf : Space → Nat
  | .hbm => 5
  | .vmem => 10
  | .smem => 0
  | _ => 0

abbrev bufTy : (tb : Table) → Fin (tcTables nBuf tb) → BufTy
  | .hbm, ⟨0, _⟩ => ⟨S9x1024x1024, .f32⟩
  | .hbm, ⟨1, _⟩ => ⟨S9x1x1024, .f32⟩
  | .hbm, ⟨2, _⟩ => ⟨S9x1024x1024, .f32⟩
  | .hbm, ⟨3, _⟩ => ⟨S9x1024x1024, .f32⟩
  | .hbm, ⟨4, _⟩ => ⟨S9x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | _, _ => ⟨S9x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference8Ideal.lean ====
abbrev S9x1024x1024 : Shape := ⟨3, ![9, 1024, 1024]⟩
abbrev S9x1x1024 : Shape := ⟨3, ![9, 1, 1024]⟩
abbrev S_ : Shape := ⟨0, ![]⟩
abbrev S9x1024 : Shape := ⟨2, ![9, 1024]⟩

abbrev nBuf : Space → Nat
  | .hbm => 20
  | .vmem => 0
  | .smem => 0
  | _ => 0

abbrev bufTy : (tb : Table) → Fin (tcTables nBuf tb) → BufTy
  | .hbm, ⟨0, _⟩ => ⟨S9x1024x1024, .f32⟩
  | .hbm, ⟨1, _⟩ => ⟨S9x1x1024, .f32⟩
  | .hbm, ⟨2, _⟩ => ⟨S9x1024x1024, .f32⟩
  | .hbm, ⟨3, _⟩ => ⟨S_, .f32⟩
  | .hbm, ⟨4, _⟩ => ⟨S9x1024x1024, .f32⟩
  | .hbm, ⟨5, _⟩ => ⟨S_, .f32⟩
  | .hbm, ⟨6, _⟩ => ⟨S9x1x1024, .f32⟩
  | .hbm, ⟨7, _⟩ => ⟨S9x1x1024, .f32⟩
  | .hbm, ⟨8, _⟩ => ⟨S9x1024x1024, .f32⟩
  | .hbm, ⟨9, _⟩ => ⟨S9x1024x1024, .f32⟩
  | .hbm, ⟨10, _⟩ => ⟨S9x1024x1024, .f32⟩
  | .hbm, ⟨11, _⟩ => ⟨S9x1024x1024, .f32⟩
  | .hbm, ⟨12, _⟩ => ⟨S9x1024x1024, .f32⟩
  | .hbm, ⟨13, _⟩ => ⟨S9x1024x1024, .f32⟩
  | .hbm, ⟨14, _⟩ => ⟨S_, .f32⟩
  | .hbm, ⟨15, _⟩ => ⟨S9x1024, .f32⟩
  | .hbm, ⟨16, _⟩ => ⟨S9x1x1024, .f32⟩
  | .hbm, ⟨17, _⟩ => ⟨S_, .f32⟩
  | .hbm, ⟨18, _⟩ => ⟨S9x1x1024, .f32⟩
  | .hbm, ⟨19, _⟩ => ⟨S9x1x1024, .f32⟩
  | _, _ => ⟨S9x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel9.lean ====
abbrev S9x1024x5632 : Shape := ⟨3, ![9, 1024, 5632]⟩
abbrev S9x1024x2816 : Shape := ⟨3, ![9, 1024, 2816]⟩
abbrev S1x128x5632 : Shape := ⟨3, ![1, 128, 5632]⟩
abbrev S1x128x2816 : Shape := ⟨3, ![1, 128, 2816]⟩
abbrev S128x2816 : Shape := ⟨2, ![128, 2816]⟩

abbrev nBuf : Space → Nat
  | .hbm => 3
  | .vmem => 6
  | .smem => 0
  | _ => 0

abbrev bufTy : (tb : Table) → Fin (tcTables nBuf tb) → BufTy
  | .hbm, ⟨0, _⟩ => ⟨S9x1024x5632, .bf16⟩
  | .hbm, ⟨1, _⟩ => ⟨S9x1024x2816, .f32⟩
  | .hbm, ⟨2, _⟩ => ⟨S9x1024x5632, .bf16⟩
  | .local _ .vmem, ⟨0, _⟩ => ⟨S1x128x5632, .bf16⟩
  | .local _ .vmem, ⟨1, _⟩ => ⟨S1x128x5632, .bf16⟩
  | .local _ .vmem, ⟨2, _⟩ => ⟨S1x128x2816, .f32⟩
  | .local _ .vmem, ⟨3, _⟩ => ⟨S1x128x2816, .f32⟩
  | .local _ .vmem, ⟨4, _⟩ => ⟨S1x128x5632, .bf16⟩
  | .local _ .vmem, ⟨5, _⟩ => ⟨S1x128x5632, .bf16⟩
  | _, _ => ⟨S9x1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S9x1024x5632 : Shape := ⟨3, ![9, 1024, 5632]⟩
abbrev S9x1024x2816 : Shape := ⟨3, ![9, 1024, 2816]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S9x1024x5632, .bf16⟩
  | .hbm, ⟨1, _⟩ => ⟨S9x1024x2816, .f32⟩
  | .hbm, ⟨2, _⟩ => ⟨S9x1024x5632, .f32⟩
  | .hbm, ⟨3, _⟩ => ⟨S9x1024x2816, .f32⟩
  | .hbm, ⟨4, _⟩ => ⟨S9x1024x2816, .f32⟩
  | .hbm, ⟨5, _⟩ => ⟨S9x1024x2816, .f32⟩
  | .hbm, ⟨6, _⟩ => ⟨S9x1024x2816, .f32⟩
  | .hbm, ⟨7, _⟩ => ⟨S_, .f32⟩
  | .hbm, ⟨8, _⟩ => ⟨S9x1024x2816, .f32⟩
  | .hbm, ⟨9, _⟩ => ⟨S9x1024x2816, .f32⟩
  | .hbm, ⟨10, _⟩ => ⟨S_, .f32⟩
  | .hbm, ⟨11, _⟩ => ⟨S9x1024x2816, .f32⟩
  | .hbm, ⟨12, _⟩ => ⟨S9x1024x2816, .f32⟩
  | .hbm, ⟨13, _⟩ => ⟨S_, .f32⟩
  | .hbm, ⟨14, _⟩ => ⟨S9x1024x2816, .f32⟩
  | .hbm, ⟨15, _⟩ => ⟨S9x1024x2816, .f32⟩
  | .hbm, ⟨16, _⟩ => ⟨S9x1024x2816, .f32⟩
  | .hbm, ⟨17, _⟩ => ⟨S9x1024x2816, .f32⟩
  | .hbm, ⟨18, _⟩ => ⟨S9x1024x2816, .f32⟩
  | .hbm, ⟨19, _⟩ => ⟨S9x1024x2816, .f32⟩
  | .hbm, ⟨20, _⟩ => ⟨S9x1024x2816, .f32⟩
  | .hbm, ⟨21, _⟩ => ⟨S9x1024x2816, .f32⟩
  | .hbm, ⟨22, _⟩ => ⟨S9x1024x2816, .f32⟩
  | .hbm, ⟨23, _⟩ => ⟨S9x1024x2816, .f32⟩
  | .hbm, ⟨24, _⟩ => ⟨S9x1024x2816, .f32⟩
  | .hbm, ⟨25, _⟩ => ⟨S9x1024x5632, .f32⟩
  | .hbm, ⟨26, _⟩ => ⟨S9x1024x5632, .bf16⟩
  | _, _ => ⟨S9x1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩

abbrev nD : Nat := 1
abbrev τ : Topo := Topo.v7x

variable {F : FTy → Type} [FloatOps F]
-- ==== Kernel10.lean ====
abbrev S9x1024x1024 : Shape := ⟨3, ![9, 1024, 1024]⟩
abbrev S9x1x1024 : Shape := ⟨3, ![9, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S1024 : Shape := ⟨1, ![1024]⟩

abbrev nBuf : Space → Nat
  | .hbm => 6
  | .vmem => 12
  | .smem => 0
  | _ => 0

abbrev bufTy : (tb : Table) → Fin (tcTables nBuf tb) → BufTy
  | .hbm, ⟨0, _⟩ => ⟨S9x1024x1024, .f32⟩
  | .hbm, ⟨1, _⟩ => ⟨S9x1x1024, .f32⟩
  | .hbm, ⟨2, _⟩ => ⟨S9x1024x1024, .f32⟩
  | .hbm, ⟨3, _⟩ => ⟨S9x1024x1024, .f32⟩
  | .hbm, ⟨4, _⟩ => ⟨S9x1x1024, .f32⟩
  | .hbm, ⟨5, _⟩ => ⟨S9x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | _, _ => ⟨S9x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![9, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference10Ideal.lean ====
abbrev S9x1024x1024 : Shape := ⟨3, ![9, 1024, 1024]⟩
abbrev S9x1x1024 : Shape := ⟨3, ![9, 1, 1024]⟩
abbrev S_ : Shape := ⟨0, ![]⟩
abbrev S9x1024 : Shape := ⟨2, ![9, 1024]⟩
abbrev S9x1024x1 : Shape := ⟨3, ![9, 1024, 1]⟩

abbrev nBuf : Space → Nat
  | .hbm => 56
  | .vmem => 0
  | .smem => 0
  | _ => 0

abbrev bufTy : (tb : Table) → Fin (tcTables nBuf tb) → BufTy
  | .hbm, ⟨0, _⟩ => ⟨S9x1024x1024, .f32⟩
  | .hbm, ⟨1, _⟩ => ⟨S9x1x1024, .f32⟩
  | .hbm, ⟨2, _⟩ => ⟨S9x1024x1024, .f32⟩
  | .hbm, ⟨3, _⟩ => ⟨S_, .f32⟩
  | .hbm, ⟨4, _⟩ => ⟨S9x1x1024, .f32⟩
  | .hbm, ⟨5, _⟩ => ⟨S9x1024x1024, .f32⟩
  | .hbm, ⟨6, _⟩ => ⟨S_, .f32⟩
  | .hbm, ⟨7, _⟩ => ⟨S9x1024, .f32⟩
  | .hbm, ⟨8, _⟩ => ⟨S9x1024x1, .f32⟩
  | .hbm, ⟨9, _⟩ => ⟨S_, .f32⟩
  | .hbm, ⟨10, _⟩ => ⟨S9x1024x1, .f32⟩
  | .hbm, ⟨11, _⟩ => ⟨S9x1024x1, .f32⟩
  | .hbm, ⟨12, _⟩ => ⟨S_, .f32⟩
  | .hbm, ⟨13, _⟩ => ⟨S9x1024x1, .f32⟩
  | .hbm, ⟨14, _⟩ => ⟨S9x1024x1, .f32⟩
  | .hbm, ⟨15, _⟩ => ⟨S9x1024x1, .f32⟩
  | .hbm, ⟨16, _⟩ => ⟨S9x1024x1, .f32⟩
  | .hbm, ⟨17, _⟩ => ⟨S_, .f32⟩
  | .hbm, ⟨18, _⟩ => ⟨S9x1024x1, .f32⟩
  | .hbm, ⟨19, _⟩ => ⟨S9x1024x1, .f32⟩
  | .hbm, ⟨20, _⟩ => ⟨S9x1024x1024, .f32⟩
  | .hbm, ⟨21, _⟩ => ⟨S9x1024x1024, .f32⟩
  | .hbm, ⟨22, _⟩ => ⟨S_, .f32⟩
  | .hbm, ⟨23, _⟩ => ⟨S9x1x1024, .f32⟩
  | .hbm, ⟨24, _⟩ => ⟨S9x1x1024, .f32⟩
  | .hbm, ⟨25, _⟩ => ⟨S9x1024x1024, .f32⟩
  | .hbm, ⟨26, _⟩ => ⟨S9x1024x1024, .f32⟩
  | .hbm, ⟨27, _⟩ => ⟨S9x1024x1024, .f32⟩
  | .hbm, ⟨28, _⟩ => ⟨S9x1024x1024, .f32⟩
  | .hbm, ⟨29, _⟩ => ⟨S9x1024x1024, .f32⟩
  | .hbm, ⟨30, _⟩ => ⟨S_, .f32⟩
  | .hbm, ⟨31, _⟩ => ⟨S9x1024, .f32⟩
  | .hbm, ⟨32, _⟩ => ⟨S9x1x1024, .f32⟩
  | .hbm, ⟨33, _⟩ => ⟨S9x1024x1024, .f32⟩
  | .hbm, ⟨34, _⟩ => ⟨S_, .f32⟩
  | .hbm, ⟨35, _⟩ => ⟨S9x1024, .f32⟩
  | .hbm, ⟨36, _⟩ => ⟨S9x1x1024, .f32⟩
  | .hbm, ⟨37, _⟩ => ⟨S9x1024x1024, .f32⟩
  | .hbm, ⟨38, _⟩ => ⟨S9x1024x1024, .f32⟩
  | .hbm, ⟨39, _⟩ => ⟨S9x1024x1024, .f32⟩
  | .hbm, ⟨40, _⟩ => ⟨S_, .f32⟩
  | .hbm, ⟨41, _⟩ => ⟨S9x1024, .f32⟩
  | .hbm, ⟨42, _⟩ => ⟨S9x1024x1, .f32⟩
  | .hbm, ⟨43, _⟩ => ⟨S9x1024x1024, .f32⟩
  | .hbm, ⟨44, _⟩ => ⟨S9x1024x1024, .f32⟩
  | .hbm, ⟨45, _⟩ => ⟨S9x1024x1, .f32⟩
  | .hbm, ⟨46, _⟩ => ⟨S_, .f32⟩
  | .hbm, ⟨47, _⟩ => ⟨S9x1024x1, .f32⟩
  | .hbm, ⟨48, _⟩ => ⟨S9x1024x1, .f32⟩
  | .hbm, ⟨49, _⟩ => ⟨S_, .f32⟩
  | .hbm, ⟨50, _⟩ => ⟨S9x1024, .f32⟩
  | .hbm, ⟨51, _⟩ => ⟨S9x1024x1024, .f32⟩
  | .hbm, ⟨52, _⟩ => ⟨S9x1024x1024, .f32⟩
  | .hbm, ⟨53, _⟩ => ⟨S9x1024x1024, .f32⟩
  | .hbm, ⟨54, _⟩ => ⟨S9x1024x1024, .f32⟩
  | .hbm, ⟨55, _⟩ => ⟨S9x1024x1024, .f32⟩
  | _, _ => ⟨S9x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel11.lean ====
abbrev S9x1024x1024 : Shape := ⟨3, ![9, 1024, 1024]⟩
abbrev S9x1x1024 : Shape := ⟨3, ![9, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S9x1024x1024, .f32⟩
  | .hbm, ⟨1, _⟩ => ⟨S9x1x1024, .f32⟩
  | .hbm, ⟨2, _⟩ => ⟨S9x1x1024, .f32⟩
  | .hbm, ⟨3, _⟩ => ⟨S9x1024x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x512x1024, .bf16⟩
  | .local _ .vmem, ⟨7, _⟩ => ⟨S1x512x1024, .bf16⟩
  | _, _ => ⟨S9x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S9x1024x1024 : Shape := ⟨3, ![9, 1024, 1024]⟩
abbrev S9x1x1024 : Shape := ⟨3, ![9, 1, 1024]⟩
abbrev S_ : Shape := ⟨0, ![]⟩
abbrev S9x1024 : Shape := ⟨2, ![9, 1024]⟩
abbrev S9x1024x1 : Shape := ⟨3, ![9, 1024, 1]⟩

abbrev nBuf : Space → Nat
  | .hbm => 24
  | .vmem => 0
  | .smem => 0
  | _ => 0

abbrev bufTy : (tb : Table) → Fin (tcTables nBuf tb) → BufTy
  | .hbm, ⟨0, _⟩ => ⟨S9x1024x1024, .f32⟩
  | .hbm, ⟨1, _⟩ => ⟨S9x1x1024, .f32⟩
  | .hbm, ⟨2, _⟩ => ⟨S9x1x1024, .f32⟩
  | .hbm, ⟨3, _⟩ => ⟨S9x1024x1024, .f32⟩
  | .hbm, ⟨4, _⟩ => ⟨S_, .f32⟩
  | .hbm, ⟨5, _⟩ => ⟨S9x1024, .f32⟩
  | .hbm, ⟨6, _⟩ => ⟨S9x1024x1, .f32⟩
  | .hbm, ⟨7, _⟩ => ⟨S_, .f32⟩
  | .hbm, ⟨8, _⟩ => ⟨S9x1024x1, .f32⟩
  | .hbm, ⟨9, _⟩ => ⟨S9x1024x1, .f32⟩
  | .hbm, ⟨10, _⟩ => ⟨S_, .f32⟩
  | .hbm, ⟨11, _⟩ => ⟨S9x1024x1, .f32⟩
  | .hbm, ⟨12, _⟩ => ⟨S9x1024x1, .f32⟩
  | .hbm, ⟨13, _⟩ => ⟨S9x1024x1, .f32⟩
  | .hbm, ⟨14, _⟩ => ⟨S9x1024x1024, .f32⟩
  | .hbm, ⟨15, _⟩ => ⟨S9x1024x1024, .f32⟩
  | .hbm, ⟨16, _⟩ => ⟨S_, .f32⟩
  | .hbm, ⟨17, _⟩ => ⟨S9x1x1024, .f32⟩
  | .hbm, ⟨18, _⟩ => ⟨S9x1x1024, .f32⟩
  | .hbm, ⟨19, _⟩ => ⟨S9x1024x1024, .f32⟩
  | .hbm, ⟨20, _⟩ => ⟨S9x1024x1024, .f32⟩
  | .hbm, ⟨21, _⟩ => ⟨S9x1024x1024, .f32⟩
  | .hbm, ⟨22, _⟩ => ⟨S9x1024x1024, .f32⟩
  | .hbm, ⟨23, _⟩ => ⟨S9x1024x1024, .bf16⟩
  | _, _ => ⟨S9x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel12.lean ====
abbrev S9x1024x1024 : Shape := ⟨3, ![9, 1024, 1024]⟩
abbrev S9x1x1024 : Shape := ⟨3, ![9, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S9x1024x1024, .f32⟩
  | .hbm, ⟨1, _⟩ => ⟨S9x1024x1024, .f32⟩
  | .hbm, ⟨2, _⟩ => ⟨S9x1x1024, .f32⟩
  | .hbm, ⟨3, _⟩ => ⟨S9x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x512x1024, .f32⟩
  | .local _ .vmem, ⟨7, _⟩ => ⟨S1x512x1024, .f32⟩
  | _, _ => ⟨S9x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S9x1024x1024 : Shape := ⟨3, ![9, 1024, 1024]⟩
abbrev S9x1x1024 : Shape := ⟨3, ![9, 1, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S9x1024x1024, .f32⟩
  | .hbm, ⟨1, _⟩ => ⟨S9x1024x1024, .f32⟩
  | .hbm, ⟨2, _⟩ => ⟨S9x1x1024, .f32⟩
  | .hbm, ⟨3, _⟩ => ⟨S_, .f32⟩
  | .hbm, ⟨4, _⟩ => ⟨S9x1x1024, .f32⟩
  | .hbm, ⟨5, _⟩ => ⟨S9x1x1024, .f32⟩
  | .hbm, ⟨6, _⟩ => ⟨S9x1024x1024, .f32⟩
  | .hbm, ⟨7, _⟩ => ⟨S9x1024x1024, .f32⟩
  | .hbm, ⟨8, _⟩ => ⟨S9x1024x1024, .f32⟩
  | _, _ => ⟨S9x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel13.lean ====
abbrev S9x1024x5632 : Shape := ⟨3, ![9, 1024, 5632]⟩
abbrev S9x1024x2816 : Shape := ⟨3, ![9, 1024, 2816]⟩
abbrev S1x128x5632 : Shape := ⟨3, ![1, 128, 5632]⟩
abbrev S1x128x2816 : Shape := ⟨3, ![1, 128, 2816]⟩
abbrev S128x2816 : Shape := ⟨2, ![128, 2816]⟩

abbrev nBuf : Space → Nat
  | .hbm => 2
  | .vmem => 4
  | .smem => 0
  | _ => 0

abbrev bufTy : (tb : Table) → Fin (tcTables nBuf tb) → BufTy
  | .hbm, ⟨0, _⟩ => ⟨S9x1024x5632, .bf16⟩
  | .hbm, ⟨1, _⟩ => ⟨S9x1024x2816, .bf16⟩
  | .local _ .vmem, ⟨0, _⟩ => ⟨S1x128x5632, .bf16⟩
  | .local _ .vmem, ⟨1, _⟩ => ⟨S1x128x5632, .bf16⟩
  | .local _ .vmem, ⟨2, _⟩ => ⟨S1x128x2816, .bf16⟩
  | .local _ .vmem, ⟨3, _⟩ => ⟨S1x128x2816, .bf16⟩
  | _, _ => ⟨S9x1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![9, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference13Ideal.lean ====
abbrev S9x1024x5632 : Shape := ⟨3, ![9, 1024, 5632]⟩
abbrev S9x1024x2816 : Shape := ⟨3, ![9, 1024, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S9x1024x5632, .bf16⟩
  | .hbm, ⟨1, _⟩ => ⟨S9x1024x5632, .f32⟩
  | .hbm, ⟨2, _⟩ => ⟨S9x1024x2816, .f32⟩
  | .hbm, ⟨3, _⟩ => ⟨S9x1024x2816, .f32⟩
  | .hbm, ⟨4, _⟩ => ⟨S9x1024x2816, .f32⟩
  | .hbm, ⟨5, _⟩ => ⟨S9x1024x2816, .f32⟩
  | .hbm, ⟨6, _⟩ => ⟨S_, .f32⟩
  | .hbm, ⟨7, _⟩ => ⟨S9x1024x2816, .f32⟩
  | .hbm, ⟨8, _⟩ => ⟨S9x1024x2816, .f32⟩
  | .hbm, ⟨9, _⟩ => ⟨S_, .f32⟩
  | .hbm, ⟨10, _⟩ => ⟨S9x1024x2816, .f32⟩
  | .hbm, ⟨11, _⟩ => ⟨S9x1024x2816, .f32⟩
  | .hbm, ⟨12, _⟩ => ⟨S9x1024x2816, .f32⟩
  | .hbm, ⟨13, _⟩ => ⟨S9x1024x2816, .f32⟩
  | .hbm, ⟨14, _⟩ => ⟨S9x1024x2816, .bf16⟩
  | _, _ => ⟨S9x1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Kernel14.lean ====
abbrev S9216x1024 : Shape := ⟨2, ![9216, 1024]⟩
abbrev S1024x3072 : Shape := ⟨2, ![1024, 3072]⟩
abbrev S9216x3072 : Shape := ⟨2, ![9216, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S1024x3072, .bf16⟩
  | .hbm, ⟨2, _⟩ => ⟨S9216x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S9216x1024 : Shape := ⟨2, ![9216, 1024]⟩
abbrev S1024x3072 : Shape := ⟨2, ![1024, 3072]⟩
abbrev S9216x3072 : Shape := ⟨2, ![9216, 3072]⟩

abbrev nBuf : Space → Nat
  | .hbm => 5
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x3072, .bf16⟩
  | .hbm, ⟨2, _⟩ => ⟨S9216x1024, .f32⟩
  | .hbm, ⟨3, _⟩ => ⟨S1024x3072, .f32⟩
  | .hbm, ⟨4, _⟩ => ⟨S9216x3072, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S1024x3072 : Shape := ⟨2, ![1024, 3072]⟩
abbrev S9216x3072 : Shape := ⟨2, ![9216, 3072]⟩
abbrev S9216x1024 : Shape := ⟨2, ![9216, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x3072, .bf16⟩
  | .hbm, ⟨1, _⟩ => ⟨S9216x3072, .f32⟩
  | .hbm, ⟨2, _⟩ => ⟨S9216x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S1024x3072 : Shape := ⟨2, ![1024, 3072]⟩
abbrev S9216x3072 : Shape := ⟨2, ![9216, 3072]⟩
abbrev S_ : Shape := ⟨0, ![]⟩
abbrev S9216x1024 : Shape := ⟨2, ![9216, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x3072, .bf16⟩
  | .hbm, ⟨1, _⟩ => ⟨S9216x3072, .f32⟩
  | .hbm, ⟨2, _⟩ => ⟨S_, .f32⟩
  | .hbm, ⟨3, _⟩ => ⟨S9216x1024, .f32⟩
  | .hbm, ⟨4, _⟩ => ⟨S1024x3072, .f32⟩
  | .hbm, ⟨5, _⟩ => ⟨S9216x3072, .f32⟩
  | .hbm, ⟨6, _⟩ => ⟨S9216x1024, .f32⟩
  | _, _ => ⟨S1024x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S9216x1024 : Shape := ⟨2, ![9216, 1024]⟩
abbrev S9216x3072 : Shape := ⟨2, ![9216, 3072]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S9216x3072, .f32⟩
  | .hbm, ⟨2, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 9], ![false, false, false]⟩

def k0_cond2 (i : grid0.Coords) : BitVec 1 :=
  let arg2 : BitVec 32 := BitVec.ofNat 32 (i 2).val
  let c8_i32 : BitVec 32 := 8#32
  let v12 : BitVec 1 := Scalar.cmpi .eq arg2 c8_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S9216x1024 : Shape := ⟨2, ![9216, 1024]⟩
abbrev S9216x3072 : Shape := ⟨2, ![9216, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x3072, .f32⟩
  | .hbm, ⟨2, _⟩ => ⟨S_, .bf16⟩
  | .hbm, ⟨3, _⟩ => ⟨S1024x3072, .bf16⟩
  | .hbm, ⟨4, _⟩ => ⟨S9216x1024, .f32⟩
  | .hbm, ⟨5, _⟩ => ⟨S1024x3072, .f32⟩
  | .hbm, ⟨6, _⟩ => ⟨S9216x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S9216x1024 : Shape := ⟨2, ![9216, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .f32⟩
  | .hbm, ⟨1, _⟩ => ⟨S1024x1024, .bf16⟩
  | .hbm, ⟨2, _⟩ => ⟨S9216x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel17Ideal.lean ====
abbrev S9216x1024 : Shape := ⟨2, ![9216, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .f32⟩
  | .hbm, ⟨1, _⟩ => ⟨S1024x1024, .bf16⟩
  | .hbm, ⟨2, _⟩ => ⟨S9216x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S9216x1024 : Shape := ⟨2, ![9216, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S1024x1024, .bf16⟩
  | .hbm, ⟨2, _⟩ => ⟨S1024x1024, .f32⟩
  | .hbm, ⟨3, _⟩ => ⟨S9216x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel18.lean ====
abbrev S1024x1024 : Shape := ⟨2, ![1024, 1024]⟩
abbrev S9216x1024 : Shape := ⟨2, ![9216, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S9216x1024, .f32⟩
  | .hbm, ⟨2, _⟩ => ⟨S9216x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel18Ideal.lean ====
abbrev S1024x1024 : Shape := ⟨2, ![1024, 1024]⟩
abbrev S9216x1024 : Shape := ⟨2, ![9216, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S9216x1024, .f32⟩
  | .hbm, ⟨2, _⟩ => ⟨S9216x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S1024x1024 : Shape := ⟨2, ![1024, 1024]⟩
abbrev S9216x1024 : Shape := ⟨2, ![9216, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S9216x1024, .f32⟩
  | .hbm, ⟨2, _⟩ => ⟨S_, .f32⟩
  | .hbm, ⟨3, _⟩ => ⟨S9216x1024, .f32⟩
  | .hbm, ⟨4, _⟩ => ⟨S1024x1024, .f32⟩
  | .hbm, ⟨5, _⟩ => ⟨S9216x1024, .f32⟩
  | .hbm, ⟨6, _⟩ => ⟨S9216x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S9216x1024 : Shape := ⟨2, ![9216, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 9], ![false, false, false]⟩

def k0_cond2 (i : grid0.Coords) : BitVec 1 :=
  let arg2 : BitVec 32 := BitVec.ofNat 32 (i 2).val
  let c8_i32 : BitVec 32 := 8#32
  let v13 : BitVec 1 := Scalar.cmpi .eq arg2 c8_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel19Ideal.lean ====
abbrev S9216x1024 : Shape := ⟨2, ![9216, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 9], ![false, false, false]⟩

def k0_cond2 (i : grid0.Coords) : BitVec 1 :=
  let arg2 : BitVec 32 := BitVec.ofNat 32 (i 2).val
  let c8_i32 : BitVec 32 := 8#32
  let v13 : BitVec 1 := Scalar.cmpi .eq arg2 c8_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S9216x1024 : Shape := ⟨2, ![9216, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S_, .bf16⟩
  | .hbm, ⟨3, _⟩ => ⟨S1024x1024, .bf16⟩
  | .hbm, ⟨4, _⟩ => ⟨S1024x1024, .f32⟩
  | .hbm, ⟨5, _⟩ => ⟨S9216x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S2816x1024 : Shape := ⟨2, ![2816, 1024]⟩
abbrev S8192x1024 : Shape := ⟨2, ![8192, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2816x1024, .bf16⟩
  | .hbm, ⟨1, _⟩ => ⟨S8192x1024, .f32⟩
  | .hbm, ⟨2, _⟩ => ⟨S8192x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S2816x1024 : Shape := ⟨2, ![2816, 1024]⟩
abbrev S8192x1024 : Shape := ⟨2, ![8192, 1024]⟩
abbrev S_ : Shape := ⟨0, ![]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S8192x1024, .f32⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x2816, .f32⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel23.lean ====
abbrev S8192x2816 : Shape := ⟨2, ![8192, 2816]⟩
abbrev S8192x1024 : Shape := ⟨2, ![8192, 1024]⟩
abbrev S2816x1024 : Shape := ⟨2, ![2816, 1024]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .f32⟩
  | .local _ .vmem, ⟨3, _⟩ => ⟨S1024x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .bf16⟩
  | .hbm, ⟨3, _⟩ => ⟨S2816x1024, .bf16⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel24.lean ====
abbrev S1024x5632 : Shape := ⟨2, ![1024, 5632]⟩
abbrev S8192x5632 : Shape := ⟨2, ![8192, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x5632, .bf16⟩
  | .hbm, ⟨1, _⟩ => ⟨S8192x5632, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S1024x5632 : Shape := ⟨2, ![1024, 5632]⟩
abbrev S8192x5632 : Shape := ⟨2, ![8192, 5632]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x5632, .bf16⟩
  | .hbm, ⟨1, _⟩ => ⟨S8192x5632, .bf16⟩
  | .hbm, ⟨2, _⟩ => ⟨S_, .f32⟩
  | .hbm, ⟨3, _⟩ => ⟨S8192x1024, .f32⟩
  | .hbm, ⟨4, _⟩ => ⟨S1024x5632, .f32⟩
  | .hbm, ⟨5, _⟩ => ⟨S8192x5632, .f32⟩
  | .hbm, ⟨6, _⟩ => ⟨S8192x5632, .f32⟩
  | .hbm, ⟨7, _⟩ => ⟨S8192x1024, .f32⟩
  | _, _ => ⟨S1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel25.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .bf16⟩
  | .hbm, ⟨3, _⟩ => ⟨S1024x5632, .bf16⟩
  | .hbm, ⟨4, _⟩ => ⟨S8192x1024, .f32⟩
  | .hbm, ⟨5, _⟩ => ⟨S1024x5632, .f32⟩
  | .hbm, ⟨6, _⟩ => ⟨S8192x5632, .f32⟩
  | .hbm, ⟨7, _⟩ => ⟨S8192x5632, .f32⟩
  | .hbm, ⟨8, _⟩ => ⟨S5632x1024, .f32⟩
  | .hbm, ⟨9, _⟩ => ⟨S1024x5632, .f32⟩
  | .hbm, ⟨10, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel26.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel27.lean ====
abbrev S1024x1024 : Shape := ⟨2, ![1024, 1024]⟩
abbrev S8192x1024 : Shape := ⟨2, ![8192, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S8192x1024, .f32⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel28.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference28Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .bf16⟩
  | .hbm, ⟨3, _⟩ => ⟨S1024x1024, .bf16⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.S5FwdLoop.lean ====
module

public import proofs.«01_k».proof.Proof.Gen.KernelIdeal.Loops
public import Idealize.ShloMosaic.Lib.VecWindow

@[expose] public section

set_option maxRecDepth 16384

noncomputable section

namespace Cert.KernelIdeal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

theorem tripR_eq (c : Dev nD) (i : grid0.Coords) (arg1 : Memref sig .tc .vmem S512x512 .f32) (harg1 : arg1.IsWhole) (arg2 : Memref sig .tc .vmem S512x2048 .bf16) (harg2 : arg2.IsWhole) (arg3 : Memref sig .tc .vmem S2048x512 .bf16) (harg3 : arg3.IsWhole) (arg4 : Memref sig .tc .vmem S8x1024 .f32) (harg4 : arg4.IsWhole) (arg5 : Memref sig .tc .vmem S8x1024 .f32) (harg5 : arg5.IsWhole) (arg6 : Memref sig .tc .vmem S512x512 .f32) (harg6 : arg6.IsWhole) (arg7 : Memref sig .tc .vmem S512x2048 .f32) (harg7 : arg7.IsWhole) (arg8 : Memref sig .tc .vmem S8x2048 .f32) (harg8 : arg8.IsWhole) (v9 v10 : Vec F S8x1024 .f32) (k : Fin k0_t1_loop.trips) (acc : Vec F S8x1024 .f32 × Vec F S8x1024 .f32) (f : BufTy.Contents (Elt F) arg7.view.ty) :
    tripR_k0_t1 (F := F) Variants.none c none i arg1 harg1 arg2 harg2 arg3 harg3 arg4 harg4 arg5 harg5 arg6 harg6 arg7 harg7 arg8 harg8 v9 v10 k acc f
      = (k0_pay4 v9 v10 acc.1 acc.2 (arg7.view.readAt (Elt F) (Rect.unit (s := S512x2048) (k0_off1 k) S8x1024.size (k0_off1_inb k)).toLoadRect f),
         k0_pay5 v9 v10 acc.1 acc.2 (arg7.view.readAt (Elt F) (Rect.unit (s := S512x2048) (k0_off2 k) S8x1024.size (k0_off2_inb k)).toLoadRect f)) := by
  unfold tripR_k0_t1 trip_k0_t1
  rfl

theorem tripL_eq (c : Dev nD) (i : grid0.Coords) (arg1 : Memref sig .tc .vmem S512x512 .f32) (harg1 : arg1.IsWhole) (arg2 : Memref sig .tc .vmem S512x2048 .bf16) (harg2 : arg2.IsWhole) (arg3 : Memref sig .tc .vmem S2048x512 .bf16) (harg3 : arg3.IsWhole) (arg4 : Memref sig .tc .vmem S8x1024 .f32) (harg4 : arg4.IsWhole) (arg5 : Memref sig .tc .vmem S8x1024 .f32) (harg5 : arg5.IsWhole) (arg6 : Memref sig .tc .vmem S512x512 .f32) (harg6 : arg6.IsWhole) (arg7 : Memref sig .tc .vmem S512x2048 .f32) (harg7 : arg7.IsWhole) (arg8 : Memref sig .tc .vmem S8x2048 .f32) (harg8 : arg8.IsWhole) (v9 v10 : Vec F S8x1024 .f32) (k : Fin k0_t1_loop.trips) (acc : Vec F S8x1024 .f32 × Vec F S8x1024 .f32) (f : BufTy.Contents (Elt F) arg7.view.ty) :
    tripL_k0_t1 (F := F) Variants.none c none i arg1 harg1 arg2 harg2 arg3 harg3 arg4 harg4 arg5 harg5 arg6 harg6 arg7 harg7 arg8 harg8 v9 v10 k acc f
      = [⟨Rect.unit (s := S512x2048) (k0_off2 k) S8x1024.size (k0_off2_inb k), (tripR_k0_t1 (F := F) Variants.none c none i arg1 harg1 arg2 harg2 arg3 harg3 arg4 harg4 arg5 harg5 arg6 harg6 arg7 harg7 arg8 harg8 v9 v10 k acc f).2⟩,
         ⟨Rect.unit (s := S512x2048) (k0_off1 k) S8x1024.size (k0_off1_inb k), (tripR_k0_t1 (F := F) Variants.none c none i arg1 harg1 arg2 harg2 arg3 harg3 arg4 harg4 arg5 harg5 arg6 harg6 arg7 harg7 arg8 harg8 v9 v10 k acc f).1⟩] := by
  rw [tripR_eq]
  unfold tripL_k0_t1 trip_k0_t1
  rfl

/-- One step of the forward scan on a block of rows: the pair of state rows and the block, of which the step's rows are
    overwritten by the new state. -/
def fwdStep (ar ai : Vec F S8x1024 .f32) (k : Fin k0_t1_loop.trips) (p : (Vec F S8x1024 .f32 × Vec F S8x1024 .f32) × Vec F S512x2048 .f32) :
    (Vec F S8x1024 .f32 × Vec F S8x1024 .f32) × Vec F S512x2048 .f32 :=
  ((k0_pay4 ar ai p.1.1 p.1.2 (VecWindow.window p.2 (k0_off1 k) S8x1024.size (k0_off1_inb k)),
    k0_pay5 ar ai p.1.1 p.1.2 (VecWindow.window p.2 (k0_off2 k) S8x1024.size (k0_off2_inb k))),
   VecWindow.put (VecWindow.put p.2 (k0_off1 k) S8x1024.size
      (k0_pay4 ar ai p.1.1 p.1.2 (VecWindow.window p.2 (k0_off1 k) S8x1024.size (k0_off1_inb k))))
    (k0_off2 k) S8x1024.size
      (k0_pay5 ar ai p.1.1 p.1.2 (VecWindow.window p.2 (k0_off2 k) S8x1024.size (k0_off2_inb k))))

/-- The first `k` steps of the forward scan. -/
def fwdIt (ar ai : Vec F S8x1024 .f32) (p : (Vec F S8x1024 .f32 × Vec F S8x1024 .f32) × Vec F S512x2048 .f32) :
    ℕ → (Vec F S8x1024 .f32 × Vec F S8x1024 .f32) × Vec F S512x2048 .f32
  | 0 => p
  | k + 1 => if h : k < k0_t1_loop.trips then fwdStep ar ai ⟨k, h⟩ (fwdIt ar ai p k) else fwdIt ar ai p k

/-- What the loop carries and leaves in the block, by values. -/
theorem st_read (c : Dev nD) (i : grid0.Coords) (arg1 : Memref sig .tc .vmem S512x512 .f32) (harg1 : arg1.IsWhole) (arg2 : Memref sig .tc .vmem S512x2048 .bf16) (harg2 : arg2.IsWhole) (arg3 : Memref sig .tc .vmem S2048x512 .bf16) (harg3 : arg3.IsWhole) (arg4 : Memref sig .tc .vmem S8x1024 .f32) (harg4 : arg4.IsWhole) (arg5 : Memref sig .tc .vmem S8x1024 .f32) (harg5 : arg5.IsWhole) (arg6 : Memref sig .tc .vmem S512x512 .f32) (harg6 : arg6.IsWhole) (arg7 : Memref sig .tc .vmem S512x2048 .f32) (harg7 : arg7.IsWhole) (arg8 : Memref sig .tc .vmem S8x2048 .f32) (harg8 : arg8.IsWhole) (v9 v10 : Vec F S8x1024 .f32)
    (G : BufTy.Contents (Elt F) arg7.view.ty) (init : Vec F S8x1024 .f32 × Vec F S8x1024 .f32) (k : ℕ) (hk : k ≤ k0_t1_loop.trips) :
    (st_k0_t1 (F := F) Variants.none c none i arg1 harg1 arg2 harg2 arg3 harg3 arg4 harg4 arg5 harg5 arg6 harg6 arg7 harg7 arg8 harg8 v9 v10 G init k).1 = (fwdIt v9 v10 (init, arg7.view.read (Elt F) G) k).1
    ∧ arg7.view.read (Elt F) (arg7.view.writes (Elt F) G (st_k0_t1 (F := F) Variants.none c none i arg1 harg1 arg2 harg2 arg3 harg3 arg4 harg4 arg5 harg5 arg6 harg6 arg7 harg7 arg8 harg8 v9 v10 G init k).2)
      = (fwdIt v9 v10 (init, arg7.view.read (Elt F) G) k).2 := by
  induction k with
  | zero => exact ⟨rfl, rfl⟩
  | succ k ih =>
    have hk' : k < k0_t1_loop.trips := hk
    obtain ⟨ih1, ih2⟩ := ih (Nat.le_of_lt hk')
    have es := st_k0_t1_succ (F := F) Variants.none c none i arg1 harg1 arg2 harg2 arg3 harg3 arg4 harg4 arg5 harg5 arg6 harg6 arg7 harg7 arg8 harg8 v9 v10 G init ⟨k, hk'⟩
    rw [show (⟨k, hk'⟩ : Fin k0_t1_loop.trips).val = k from rfl] at es
    rw [es, tripL_eq, tripR_eq]
    rw [show fwdIt v9 v10 (init, arg7.view.read (Elt F) G) (k + 1) = fwdStep v9 v10 ⟨k, hk'⟩ (fwdIt v9 v10 (init, arg7.view.read (Elt F) G) k) from dif_pos hk']
    rw [View.readAt_unit _ _ _ rfl (k0_off1_inb ⟨k, hk'⟩), View.readAt_unit _ _ _ rfl (k0_off2_inb ⟨k, hk'⟩), ih1, ih2]
    refine ⟨rfl, ?_⟩
    show arg7.view.read (Elt F) (arg7.view.writes (Elt F) G (⟨_, _⟩ :: ⟨_, _⟩ :: _)) = _
    rw [View.read_writes_cons_put _ _ _ _ _ rfl, View.read_writes_cons_put _ _ _ _ _ rfl]
    exact congrArg (fun x => VecWindow.put (VecWindow.put x _ _ _) _ _ _) ih2

end Cert.KernelIdeal.S5
end
-- ==== Proof.S5Fwd.lean ====
module

public import proofs.«01_k».proof.Proof.S5FwdLoop
public import proofs.«01_k».proof.Proof.Gen.KernelIdeal.Launch
public import proofs.«01_k».proof.Proof.Gen.KernelIdeal.Points
public import Idealize.ShloMosaic.Lib.Pipeline.FrameBody
public import Idealize.ShloMosaic.Lib.WordCmp

@[expose] public section

set_option maxRecDepth 16384

noncomputable section

namespace Cert.KernelIdeal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

abbrev first0 (i : grid0.Coords) : Prop := (Scalar.cmpi .ne (Scalar.extui (Scalar.cmpi .eq (BitVec.ofNat 32 (i 0).val) 0#32)) 0#32) = 1#1

/-- What one point of the forward scan starts from: the block of inputs through `bd`, and the state it carries. -/
def fwdInit (x0 : Vec F S512x512 .f32) (x1 : Vec F S512x2048 .bf16) (xs : Vec F S8x2048 .f32) : (Vec F S8x1024 .f32 × Vec F S8x1024 .f32) × Vec F S512x2048 .f32 :=
  ((VecWindow.window xs ![0, 0] S8x1024.size inb_S8x2048_S8x1024_0_0, VecWindow.window xs ![0, 1024] S8x1024.size inb_S8x2048_S8x1024_0_1024), k0_pay3 x0 x1)

/-- The states and the block of states one point leaves. -/
def fwdEnd (x0 : Vec F S512x512 .f32) (x1 : Vec F S512x2048 .bf16) (x3 x4 : Vec F S8x1024 .f32) (xs : Vec F S8x2048 .f32) : (Vec F S8x1024 .f32 × Vec F S8x1024 .f32) × Vec F S512x2048 .f32 :=
  fwdIt x3 x4 (fwdInit x0 x1 xs) k0_t1_loop.trips

/-- The state carried to the next point. -/
def fwdCarry (x0 : Vec F S512x512 .f32) (x1 : Vec F S512x2048 .bf16) (x3 x4 : Vec F S8x1024 .f32) (xs : Vec F S8x2048 .f32) : Vec F S8x2048 .f32 :=
  VecWindow.put (VecWindow.put xs ![0, 0] S8x1024.size (k0_pay6 (fwdEnd x0 x1 x3 x4 xs).1.1)) ![0, 1024] S8x1024.size (k0_pay7 (fwdEnd x0 x1 x3 x4 xs).1.2)

/-- The block of results one point leaves. -/
def fwdY (x0 : Vec F S512x512 .f32) (x1 : Vec F S512x2048 .bf16) (x2 : Vec F S2048x512 .bf16) (x3 x4 : Vec F S8x1024 .f32) (xs : Vec F S8x2048 .f32) : Vec F S512x512 .f32 :=
  k0_pay1 (k0_pay8 (fwdEnd x0 x1 x3 x4 xs).2) (k0_pay9 x2)

set_option maxHeartbeats 1000000 in
theorem fwd_runB (c : Dev nD) (i : grid0.Coords) (arg1 : Memref sig .tc .vmem S512x512 .f32) (harg1 : arg1.IsWhole) (arg2 : Memref sig .tc .vmem S512x2048 .bf16) (harg2 : arg2.IsWhole) (arg3 : Memref sig .tc .vmem S2048x512 .bf16) (harg3 : arg3.IsWhole) (arg4 : Memref sig .tc .vmem S8x1024 .f32) (harg4 : arg4.IsWhole) (arg5 : Memref sig .tc .vmem S8x1024 .f32) (harg5 : arg5.IsWhole) (arg6 : Memref sig .tc .vmem S512x512 .f32) (harg6 : arg6.IsWhole) (arg7 : Memref sig .tc .vmem S512x2048 .f32) (harg7 : arg7.IsWhole) (arg8 : Memref sig .tc .vmem S8x2048 .f32) (harg8 : arg8.IsWhole) (hc : ¬first0 i)
    (x0 : Vec F S512x512 .f32) (x1 : Vec F S512x2048 .bf16) (x2 : Vec F S2048x512 .bf16) (x3 x4 : Vec F S8x1024 .f32) (xs : Vec F S8x2048 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
              ∗ owns (c : Thread nD τ) arg6 fullShare (fwdY x0 x1 x2 x3 x4 xs) ∗ owns (c : Thread nD τ) arg7 fullShare (fwdEnd x0 x1 x3 x4 xs).2 ∗ owns (c : Thread nD τ) arg8 fullShare (fwdCarry x0 x1 x3 x4 xs)) -∗ K ⟨⟩))
          ⊢ wp frame (wpE (defs₀ (F := F)) Variants.none c none) E (cc0_s5_scan_fwd i arg1 harg1 arg2 harg2 arg3 harg3 arg4 harg4 arg5 harg5 arg6 harg6 arg7 harg7 arg8 harg8) K := by
    simp only [cc0_s5_scan_fwd_eq_skeleton]; unfold cc0_s5_scan_fwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%d6, %f6, %hf6, H6⟩, ⟨%fs0, %hfs0, HS0⟩, Hk⟩
    sl_exec (disch := first | sl_exact hc)
    sl_step
    have e4 := View.readAt_full arg4.view f3 inb_S8x1024_S8x1024_0_0
    have e5 := View.readAt_full arg5.view f4 inb_S8x1024_S8x1024_0_0
    have e8a := View.readAt_unit arg8.view fs0 inb_S8x2048_S8x1024_0_0 rfl inb_S8x2048_S8x1024_0_0
    have e8b := View.readAt_unit arg8.view fs0 inb_S8x2048_S8x1024_0_1024 rfl inb_S8x2048_S8x1024_0_1024
    have eG : arg7.view.read (Elt F) (arg7.view.writes (Elt F) arg7.view.junk (fwd_runB.sl.H6_1 c arg1 arg2 f0 f1)) = k0_pay3 x0 x1 := by
      unfold fwd_runB.sl.H6_1
      rw [View.read_writes_full, View.readAt_full, View.readAt_full, hf0, hf1]
    have hst := st_read c i arg1 harg1 arg2 harg2 arg3 harg3 arg4 harg4 arg5 harg5 arg6 harg6 arg7 harg7 arg8 harg8 x3 x4
      (arg7.view.writes (Elt F) arg7.view.junk (fwd_runB.sl.H6_1 c arg1 arg2 f0 f1)) (fwdInit x0 x1 xs).1 k0_t1_loop.trips le_rfl
    rw [eG] at hst
    rw [← hf3, ← hf4, ← hfs0] at hst ⊢
    iapply Hk; unfold fwd_runB.sl.r fwd_runB.sl.r_1
    isplitl [H0]
    · iexists _; isplitr [H0]; · ipureintro; exact hf0
      iexact H0
    isplitl [H1]
    · iexists _; isplitr [H1]; · ipureintro; exact hf1
      iexact H1
    isplitl [H2]
    · iexists _; isplitr [H2]; · ipureintro; exact hf2
      iexact H2
    isplitl [H3]
    · iexists _; isplitr [H3]; · ipureintro; rfl
      iexact H3
    isplitl [H4]
    · iexists _; isplitr [H4]; · ipureintro; rfl
      iexact H4
    have hinit : (View.readAt (Elt F) arg8.view (Rect.unit (s := S8x2048) ![0, 0] S8x1024.size inb_S8x2048_S8x1024_0_0).toLoadRect fs0,
        View.readAt (Elt F) arg8.view (Rect.unit (s := S8x2048) ![0, 1024] S8x1024.size inb_S8x2048_S8x1024_0_1024).toLoadRect fs0)
        = (fwdInit x0 x1 (arg8.view.read (Elt F) fs0)).1 := by rw [e8a, e8b]; rfl
    have hX := hst.2
    rw [← View.writes_append] at hX
    isplitl [H5]
    · iexists _; isplitr [H5]; swap
      · iexact H5
      ipureintro
      rw [View.read_writes_full]
      unfold fwd_runB.sl.v21
      rw [e4, e5, hinit, View.readAt_full, hf2]
      unfold View.readCov
      rw [View.readAt_full]
      exact congrArg (fun x => k0_pay1 (k0_pay8 x) (k0_pay9 x2)) hX
    isplitl [H6]
    · iexists _; isplitr [H6]; swap
      · iexact H6
      ipureintro
      rw [e4, e5, hinit]
      exact hX
    iexists _; isplitr [HS0]; swap
    · iexact HS0
    ipureintro
    rw [e4, e5, hinit, View.read_writes_cons_put _ _ _ _ _ rfl, View.read_writes_cons_put _ _ _ _ _ rfl]
    exact congrArg (fun x : Vec F S8x1024 .f32 × Vec F S8x1024 .f32 => VecWindow.put (VecWindow.put (arg8.view.read (Elt F) fs0) ![0, 0] S8x1024.size (k0_pay6 x.1)) ![0, 1024] S8x1024.size (k0_pay7 x.2)) hst.1

set_option maxHeartbeats 1000000 in
theorem fwd_runA (c : Dev nD) (i : grid0.Coords) (arg1 : Memref sig .tc .vmem S512x512 .f32) (harg1 : arg1.IsWhole) (arg2 : Memref sig .tc .vmem S512x2048 .bf16) (harg2 : arg2.IsWhole) (arg3 : Memref sig .tc .vmem S2048x512 .bf16) (harg3 : arg3.IsWhole) (arg4 : Memref sig .tc .vmem S8x1024 .f32) (harg4 : arg4.IsWhole) (arg5 : Memref sig .tc .vmem S8x1024 .f32) (harg5 : arg5.IsWhole) (arg6 : Memref sig .tc .vmem S512x512 .f32) (harg6 : arg6.IsWhole) (arg7 : Memref sig .tc .vmem S512x2048 .f32) (harg7 : arg7.IsWhole) (arg8 : Memref sig .tc .vmem S8x2048 .f32) (harg8 : arg8.IsWhole) (hc : first0 i)
    (x0 : Vec F S512x512 .f32) (x1 : Vec F S512x2048 .bf16) (x2 : Vec F S2048x512 .bf16) (x3 x4 : Vec F S8x1024 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
              ∗ owns (c : Thread nD τ) arg6 fullShare (fwdY x0 x1 x2 x3 x4 (k0_pay2 (F := F))) ∗ owns (c : Thread nD τ) arg7 fullShare (fwdEnd x0 x1 x3 x4 (k0_pay2 (F := F))).2 ∗ owns (c : Thread nD τ) arg8 fullShare (fwdCarry x0 x1 x3 x4 (k0_pay2 (F := F)))) -∗ K ⟨⟩))
          ⊢ wp frame (wpE (defs₀ (F := F)) Variants.none c none) E (cc0_s5_scan_fwd i arg1 harg1 arg2 harg2 arg3 harg3 arg4 harg4 arg5 harg5 arg6 harg6 arg7 harg7 arg8 harg8) K := by
    simp only [cc0_s5_scan_fwd_eq_skeleton]; unfold cc0_s5_scan_fwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%d6, %f6, %hf6, H6⟩, ⟨%ds0, %fs0, %hfs0, HS0⟩, Hk⟩
    sl_exec (disch := first | sl_exact hc)
    sl_step
    have e4 := View.readAt_full arg4.view f3 inb_S8x1024_S8x1024_0_0
    have e5 := View.readAt_full arg5.view f4 inb_S8x1024_S8x1024_0_0
    have e8 : arg8.view.read (Elt F) (arg8.view.writes (Elt F) arg8.view.junk (fwd_runA.sl.HS0_1 (F := F))) = k0_pay2 := by
      unfold fwd_runA.sl.HS0_1
      rw [View.read_writes_full]
    have e8a : fwd_runA.sl.v11 c arg8 = VecWindow.window (k0_pay2 (F := F)) ![0, 0] S8x1024.size inb_S8x2048_S8x1024_0_0 := by
      unfold fwd_runA.sl.v11 View.readCov
      rw [View.readAt_unit _ _ _ rfl inb_S8x2048_S8x1024_0_0, e8]
    have e8b : fwd_runA.sl.v12 c arg8 = VecWindow.window (k0_pay2 (F := F)) ![0, 1024] S8x1024.size inb_S8x2048_S8x1024_0_1024 := by
      unfold fwd_runA.sl.v12 View.readCov
      rw [View.readAt_unit _ _ _ rfl inb_S8x2048_S8x1024_0_1024, e8]
    have eG : arg7.view.read (Elt F) (arg7.view.writes (Elt F) arg7.view.junk (fwd_runA.sl.H6_1 c arg1 arg2 f0 f1)) = k0_pay3 x0 x1 := by
      unfold fwd_runA.sl.H6_1
      rw [View.read_writes_full, View.readAt_full, View.readAt_full, hf0, hf1]
    have hst := st_read c i arg1 harg1 arg2 harg2 arg3 harg3 arg4 harg4 arg5 harg5 arg6 harg6 arg7 harg7 arg8 harg8 x3 x4
      (arg7.view.writes (Elt F) arg7.view.junk (fwd_runA.sl.H6_1 c arg1 arg2 f0 f1)) (fwdInit x0 x1 (k0_pay2 (F := F))).1 k0_t1_loop.trips le_rfl
    rw [eG] at hst
    rw [← hf3, ← hf4] at hst ⊢
    iapply Hk; unfold fwd_runA.sl.r fwd_runA.sl.r_1
    isplitl [H0]
    · iexists _; isplitr [H0]; · ipureintro; exact hf0
      iexact H0
    isplitl [H1]
    · iexists _; isplitr [H1]; · ipureintro; exact hf1
      iexact H1
    isplitl [H2]
    · iexists _; isplitr [H2]; · ipureintro; exact hf2
      iexact H2
    isplitl [H3]
    · iexists _; isplitr [H3]; · ipureintro; rfl
      iexact H3
    isplitl [H4]
    · iexists _; isplitr [H4]; · ipureintro; rfl
      iexact H4
    have hinit : (fwd_runA.sl.v11 c arg8, fwd_runA.sl.v12 c arg8) = (fwdInit x0 x1 (k0_pay2 (F := F))).1 := by rw [e8a, e8b]; rfl
    have hX := hst.2
    rw [← View.writes_append] at hX
    isplitl [H5]
    · iexists _; isplitr [H5]; swap
      · iexact H5
      ipureintro
      rw [View.read_writes_full]
      unfold fwd_runA.sl.v21
      rw [e4, e5, hinit, View.readAt_full, hf2]
      unfold View.readCov
      rw [View.readAt_full]
      exact congrArg (fun x => k0_pay1 (k0_pay8 x) (k0_pay9 x2)) hX
    isplitl [H6]
    · iexists _; isplitr [H6]; swap
      · iexact H6
      ipureintro
      rw [e4, e5, hinit]
      exact hX
    iexists _; isplitr [HS0]; swap
    · iexact HS0
    ipureintro
    rw [e4, e5, hinit, View.read_writes_cons_put _ _ _ _ _ rfl, View.read_writes_cons_put _ _ _ _ _ rfl, e8]
    exact congrArg (fun x : Vec F S8x1024 .f32 × Vec F S8x1024 .f32 => VecWindow.put (VecWindow.put (k0_pay2 (F := F)) ![0, 0] S8x1024.size (k0_pay6 x.1)) ![0, 1024] S8x1024.size (k0_pay7 x.2)) hst.1

end Cert.KernelIdeal.S5
end
-- ==== Proof.S5Region0.lean ====
/-
  The forward scan's region (pipeline 0): what each of its 36 points finds and leaves, the state carried from point to
  point, and the region's record, entered from any contents of the unscoped buffers.
-/
module

public import proofs.«01_k».proof.Proof.S5Fwd
public import proofs.«01_k».proof.Proof.Gen.KernelIdeal.Regions
public import Idealize.ShloMosaic.Lib.Tactic

@[expose] public section

set_option maxRecDepth 16384

noncomputable section

namespace Cert.KernelIdeal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

local notation "𝕄" => MT nD τ sig Unit (Elt F) ℕ (UR sig nD τ) ℕ

/-- No core waits on another: no level is assigned. -/
abbrev L : GSem nD τ sig → Finset Unit := fun _ => ∅
abbrev lv : GSem nD τ sig → Unit → ℕ := fun _ _ => 0
abbrev 𝒱₀ : Variants := Variants.none

/-- A core's unscoped buffers at some contents. -/
abbrev Vals : Type := (c : Dev nD) → (b : Ref sig .tc) → Buf (Elt F) ((c : Thread nD τ).loc b)

variable (V : Vals (F := F))

/-- The block window `w` stages at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The state carried into point `n`: zero at the first. -/
def st0 (c : Dev nD) : (n : ℕ) → n ≤ cfg0.N → Vec F S8x2048 .f32
  | 0, _ => k0_pay2 (F := F)
  | n + 1, h => fwdCarry (iblk0 V c 0 ⟨n, h⟩) (iblk0 V c 1 ⟨n, h⟩) (iblk0 V c 3 ⟨n, h⟩) (iblk0 V c 4 ⟨n, h⟩) (st0 c n (Nat.le_of_lt h))

/-- The scratch that carries the state. -/
abbrev scM0 : Memref sig .tc .vmem S8x2048 .f32 := Memref.whole cc0_scratch0

/-- The other region's scoped buffers, at anything. -/
abbrev rest0 (c : Dev nD) : sProp 𝕄 :=
  Pipeline.scopedRestBut (Ix := Unit) (Name := ℕ) (U := UR sig nD τ) (Lvl := ℕ) (Val := Elt F) spec0 c [cc0_scratch0]

/-- What the region keeps between its points: the carried state (anything before the first point), the other region's buffers. -/
def Phi0 (c : Dev nD) : (n : ℕ) → n ≤ cfg0.N → sProp 𝕄
  | 0, _ => iprop((∃ d, owns (c : Thread nD τ) scM0 fullShare d) ∗ rest0 (F := F) c)
  | n + 1, h => iprop(owns (c : Thread nD τ) scM0 fullShare (st0 V c (n + 1) h) ∗ rest0 (F := F) c)

theorem Phi0_pos (c : Dev nD) (n : ℕ) (h : n ≤ cfg0.N) (hz : n ≠ 0) :
    Phi0 V c n h = iprop(owns (c : Thread nD τ) scM0 fullShare (st0 V c n h) ∗ rest0 (F := F) c) := by
  cases n with
  | zero => exact absurd rfl hz
  | succ n => rfl

theorem Phi0_zero (c : Dev nD) (n : ℕ) (h : n ≤ cfg0.N) (hz : n = 0) :
    Phi0 V c n h = iprop((∃ d, owns (c : Thread nD τ) scM0 fullShare d) ∗ rest0 (F := F) c) := by
  subst hz; rfl

theorem st0_zero (c : Dev nD) (n : ℕ) (h : n ≤ cfg0.N) (hz : n = 0) : st0 V c n h = k0_pay2 (F := F) := by subst hz; rfl

/-- The region's proof data from the contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => fwdY (iblk0 V c 0 t) (iblk0 V c 1 t) (iblk0 V c 2 t) (iblk0 V c 3 t) (iblk0 V c 4 t) (st0 V c t.val t.isLt.le)
    | ⟨6, _⟩ => (fwdEnd (iblk0 V c 0 t) (iblk0 V c 1 t) (iblk0 V c 3 t) (iblk0 V c 4 t) (st0 V c t.val t.isLt.le)).2
  Φ t := Phi0 V c t.val (Nat.le_of_lt_succ t.isLt)
  q _ := fullShare
  owed _ := 0

theorem A0_eq (c : Dev nD) (w : Fin cfg0.W) : (dat0 V c).A w = V c (Pipeline.arrRef spec0 w) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = fwdY (iblk0 V c 0 t) (iblk0 V c 1 t) (iblk0 V c 2 t) (iblk0 V c 3 t) (iblk0 V c 4 t) (st0 V c t.val t.isLt.le) := by dsimp only [dat0]
theorem after0_6 (c : Dev nD) (t : Fin cfg0.N) : (dat0 V c).after 6 t = (fwdEnd (iblk0 V c 0 t) (iblk0 V c 1 t) (iblk0 V c 3 t) (iblk0 V c 4 t) (st0 V c t.val t.isLt.le)).2 := by dsimp only [dat0]

/-! An input's staging buffer holds its block at every point. -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A0_eq]; try rfl) t d).trans
    (by unfold Dat.fetched Dat.blockOf iblk0; rw [A0_eq]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A0_eq]; try rfl) t d).trans
    (by unfold Dat.fetched Dat.blockOf iblk0; rw [A0_eq]; try rfl)

/-- The first point is the one the grid coordinate `0` marks. -/
theorem hcond0 (t : Fin cfg0.N) : first0 (grid0.coords t) ↔ t.val = 0 := by
  have ht : t.val < 36 := lt_of_lt_of_eq t.isLt (show cfg0.N = 36 from N_0)
  have e0 : (grid0.coords t 0).val = t.val / 1 % 36 := Pipeline.Grid.coords_val t 0 (by decide) rfl
  simp only [first0, e0]
  word_cmp

theorem Phi0_castSucc (c : Dev nD) (t : Fin cfg0.N) : (dat0 V c).Φ t.castSucc = Phi0 V c t.val t.isLt.le := by
  dsimp only [dat0]; exact Pipeline.Dat.Φ_castSucc (Phi0 V c) t

/-- Each point's body, from what the region keeps and the staging buffers, leaves what the proof data say. -/
theorem body0 (c : Dev nD) : BodyObligation (dat0 V c) (defs₀ (F := F)) 𝒱₀ () Set.univ := fun t => by
  rw [bigSep_W0, bigSep_W0]
  simp only [before0_0, before0_1, before0_2, before0_3, before0_4]
  rw [show (dat0 V c).Φ t.succ = iprop(owns (c : Thread nD τ) scM0 fullShare (st0 V c (t.val + 1) t.isLt) ∗ rest0 (F := F) c) from rfl,
    show (dat0 V c).owesAt () t.succ = (dat0 V c).owesAt () t.castSucc from rfl, Phi0_castSucc]
  by_cases hz : t.val = 0
  · rw [Phi0_zero V c _ _ hz]
    iintro ⟨⟨HS, Hr⟩, Ho, ⟨%d0, H0⟩, ⟨%d1, H1⟩, ⟨%d2, H2⟩, ⟨%d3, H3⟩, ⟨%d4, H4⟩, ⟨%d5, H5⟩, ⟨%d6, H6⟩⟩
    iapply (fwd_runA c (grid0.coords t) _ _ _ _ _ _ _ _ _ _ _ _ _ _ _ _ ((hcond0 t).mpr hz) (iblk0 V c 0 t) (iblk0 V c 1 t) (iblk0 V c 2 t) (iblk0 V c 3 t) (iblk0 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hr]
    · isplitl [HS]
      · have e : st0 V c (t.val + 1) t.isLt = fwdCarry (iblk0 V c 0 t) (iblk0 V c 1 t) (iblk0 V c 3 t) (iblk0 V c 4 t) (k0_pay2 (F := F)) := by
          show fwdCarry _ _ _ _ (st0 V c t.val _) = _
          rw [st0_zero V c _ _ hz]
        rw [e]; iexact HS
      · iexact Hr
    isplitl [Ho]; · iexact Ho
    isplitl [H0]; · iexact H0
    isplitl [H1]; · iexact H1
    isplitl [H2]; · iexact H2
    isplitl [H3]; · iexact H3
    isplitl [H4]; · iexact H4
    isplitl [H5]
    · rw [show (dat0 V c).after 5 t = _ from after0_5 V c t, st0_zero V c _ _ hz]; iexact H5
    · rw [show (dat0 V c).after 6 t = _ from after0_6 V c t, st0_zero V c _ _ hz]; iexact H6
  · rw [Phi0_pos V c _ _ hz]
    iintro ⟨⟨HS, Hr⟩, Ho, ⟨%d0, H0⟩, ⟨%d1, H1⟩, ⟨%d2, H2⟩, ⟨%d3, H3⟩, ⟨%d4, H4⟩, ⟨%d5, H5⟩, ⟨%d6, H6⟩⟩
    iapply (fwd_runB c (grid0.coords t) _ _ _ _ _ _ _ _ _ _ _ _ _ _ _ _ (fun h => hz ((hcond0 t).mp h)) (iblk0 V c 0 t) (iblk0 V c 1 t) (iblk0 V c 2 t) (iblk0 V c 3 t) (iblk0 V c 4 t) (st0 V c t.val t.isLt.le) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

end Cert.KernelIdeal.S5
end
-- ==== Proof.S5BwdLoop.lean ====
module

public import proofs.«01_k».proof.Proof.Gen.KernelIdeal.Loops
public import Idealize.ShloMosaic.Lib.VecWindow

@[expose] public section

set_option maxRecDepth 16384

noncomputable section

namespace Cert.KernelIdeal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

theorem bwdTripR_eq (c : Dev nD) (i : grid1.Coords) (arg1 : Memref sig .tc .vmem S256x512 .f32) (harg1 : arg1.IsWhole) (arg2 : Memref sig .tc .vmem S256x2048 .f32) (harg2 : arg2.IsWhole) (arg3 : Memref sig .tc .vmem S8x2048 .f32) (harg3 : arg3.IsWhole) (arg4 : Memref sig .tc .vmem S256x512 .f32) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S8x1024 .f32) (harg7 : arg7.IsWhole) (arg8 : Memref sig .tc .vmem S8x1024 .f32) (harg8 : arg8.IsWhole) (arg9 : Memref sig .tc .vmem S256x512 .f32) (harg9 : arg9.IsWhole) (arg10 : Memref sig .tc .vmem S512x2048 .f32) (harg10 : arg10.IsWhole) (arg11 : Memref sig .tc .vmem S2048x512 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S256x2048 .f32) (harg14 : arg14.IsWhole) (arg15 : Memref sig .tc .vmem S8x2048 .f32) (harg15 : arg15.IsWhole) (v11 v12 : Vec F S8x1024 .f32) (X2 : BufTy.Contents (Elt F) arg2.view.ty) (k : Fin k1_t1_loop.trips) (acc : Vec F S8x1024 .f32 × Vec F S8x1024 .f32 × Vec F S8x1024 .f32 × Vec F S8x1024 .f32) (f : BufTy.Contents (Elt F) arg14.view.ty) :
    tripR_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v11 v12 X2 k acc f
      = (k1_pay15 v11 v12 acc.1 acc.2.1 (arg14.view.readAt (Elt F) (Rect.unit (s := S256x2048) (k1_off3 k) S8x1024.size (k1_off3_inb k)).toLoadRect f),
         k1_pay16 v11 v12 acc.1 acc.2.1 (arg14.view.readAt (Elt F) (Rect.unit (s := S256x2048) (k1_off4 k) S8x1024.size (k1_off4_inb k)).toLoadRect f),
         k1_pay19 v11 v12 acc.1 acc.2.1 acc.2.2.1 (arg2.view.readAt (Elt F) (Rect.unit (s := S256x2048) (k1_off1 k) S8x1024.size (k1_off1_inb k)).toLoadRect X2) (arg2.view.readAt (Elt F) (Rect.unit (s := S256x2048) (k1_off2 k) S8x1024.size (k1_off2_inb k)).toLoadRect X2) (arg14.view.readAt (Elt F) (Rect.unit (s := S256x2048) (k1_off3 k) S8x1024.size (k1_off3_inb k)).toLoadRect f) (arg14.view.readAt (Elt F) (Rect.unit (s := S256x2048) (k1_off4 k) S8x1024.size (k1_off4_inb k)).toLoadRect f),
         k1_pay20 v11 v12 acc.1 acc.2.1 acc.2.2.2 (arg2.view.readAt (Elt F) (Rect.unit (s := S256x2048) (k1_off1 k) S8x1024.size (k1_off1_inb k)).toLoadRect X2) (arg2.view.readAt (Elt F) (Rect.unit (s := S256x2048) (k1_off2 k) S8x1024.size (k1_off2_inb k)).toLoadRect X2) (arg14.view.readAt (Elt F) (Rect.unit (s := S256x2048) (k1_off3 k) S8x1024.size (k1_off3_inb k)).toLoadRect f) (arg14.view.readAt (Elt F) (Rect.unit (s := S256x2048) (k1_off4 k) S8x1024.size (k1_off4_inb k)).toLoadRect f)) := by
  unfold tripR_k1_t1 trip_k1_t1
  rfl

theorem bwdTripL_eq (c : Dev nD) (i : grid1.Coords) (arg1 : Memref sig .tc .vmem S256x512 .f32) (harg1 : arg1.IsWhole) (arg2 : Memref sig .tc .vmem S256x2048 .f32) (harg2 : arg2.IsWhole) (arg3 : Memref sig .tc .vmem S8x2048 .f32) (harg3 : arg3.IsWhole) (arg4 : Memref sig .tc .vmem S256x512 .f32) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S8x1024 .f32) (harg7 : arg7.IsWhole) (arg8 : Memref sig .tc .vmem S8x1024 .f32) (harg8 : arg8.IsWhole) (arg9 : Memref sig .tc .vmem S256x512 .f32) (harg9 : arg9.IsWhole) (arg10 : Memref sig .tc .vmem S512x2048 .f32) (harg10 : arg10.IsWhole) (arg11 : Memref sig .tc .vmem S2048x512 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S256x2048 .f32) (harg14 : arg14.IsWhole) (arg15 : Memref sig .tc .vmem S8x2048 .f32) (harg15 : arg15.IsWhole) (v11 v12 : Vec F S8x1024 .f32) (X2 : BufTy.Contents (Elt F) arg2.view.ty) (k : Fin k1_t1_loop.trips) (acc : Vec F S8x1024 .f32 × Vec F S8x1024 .f32 × Vec F S8x1024 .f32 × Vec F S8x1024 .f32) (f : BufTy.Contents (Elt F) arg14.view.ty) :
    tripL_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v11 v12 X2 k acc f
      = [⟨Rect.unit (s := S256x2048) (k1_off4 k) S8x1024.size (k1_off4_inb k), k1_pay18 v11 v12 acc.1 acc.2.1 (arg14.view.readAt (Elt F) (Rect.unit (s := S256x2048) (k1_off4 k) S8x1024.size (k1_off4_inb k)).toLoadRect f)⟩,
         ⟨Rect.unit (s := S256x2048) (k1_off3 k) S8x1024.size (k1_off3_inb k), k1_pay17 v11 v12 acc.1 acc.2.1 (arg14.view.readAt (Elt F) (Rect.unit (s := S256x2048) (k1_off3 k) S8x1024.size (k1_off3_inb k)).toLoadRect f)⟩] := by
  unfold tripL_k1_t1 trip_k1_t1
  rfl

/-- One step of the backward scan on a block of rows: the pair of adjoint rows, the two running sums, and the block,
    of which the step's rows are overwritten by the new adjoint. `x` is the block of states. -/
def bwdStep (ar ai : Vec F S8x1024 .f32) (x : Vec F S256x2048 .f32) (k : Fin k1_t1_loop.trips) (p : (Vec F S8x1024 .f32 × Vec F S8x1024 .f32 × Vec F S8x1024 .f32 × Vec F S8x1024 .f32) × Vec F S256x2048 .f32) : (Vec F S8x1024 .f32 × Vec F S8x1024 .f32 × Vec F S8x1024 .f32 × Vec F S8x1024 .f32) × Vec F S256x2048 .f32 :=
  ((k1_pay15 ar ai p.1.1 p.1.2.1 (VecWindow.window p.2 (k1_off3 k) S8x1024.size (k1_off3_inb k)),
    k1_pay16 ar ai p.1.1 p.1.2.1 (VecWindow.window p.2 (k1_off4 k) S8x1024.size (k1_off4_inb k)),
    k1_pay19 ar ai p.1.1 p.1.2.1 p.1.2.2.1 (VecWindow.window x (k1_off1 k) S8x1024.size (k1_off1_inb k)) (VecWindow.window x (k1_off2 k) S8x1024.size (k1_off2_inb k)) (VecWindow.window p.2 (k1_off3 k) S8x1024.size (k1_off3_inb k)) (VecWindow.window p.2 (k1_off4 k) S8x1024.size (k1_off4_inb k)),
    k1_pay20 ar ai p.1.1 p.1.2.1 p.1.2.2.2 (VecWindow.window x (k1_off1 k) S8x1024.size (k1_off1_inb k)) (VecWindow.window x (k1_off2 k) S8x1024.size (k1_off2_inb k)) (VecWindow.window p.2 (k1_off3 k) S8x1024.size (k1_off3_inb k)) (VecWindow.window p.2 (k1_off4 k) S8x1024.size (k1_off4_inb k))),
   VecWindow.put (VecWindow.put p.2 (k1_off3 k) S8x1024.size (k1_pay17 ar ai p.1.1 p.1.2.1 (VecWindow.window p.2 (k1_off3 k) S8x1024.size (k1_off3_inb k))))
    (k1_off4 k) S8x1024.size (k1_pay18 ar ai p.1.1 p.1.2.1 (VecWindow.window p.2 (k1_off4 k) S8x1024.size (k1_off4_inb k))))

/-- The first `k` steps of the backward scan. -/
def bwdIt (ar ai : Vec F S8x1024 .f32) (x : Vec F S256x2048 .f32) (p : (Vec F S8x1024 .f32 × Vec F S8x1024 .f32 × Vec F S8x1024 .f32 × Vec F S8x1024 .f32) × Vec F S256x2048 .f32) : ℕ → (Vec F S8x1024 .f32 × Vec F S8x1024 .f32 × Vec F S8x1024 .f32 × Vec F S8x1024 .f32) × Vec F S256x2048 .f32
  | 0 => p
  | k + 1 => if h : k < k1_t1_loop.trips then bwdStep ar ai x ⟨k, h⟩ (bwdIt ar ai x p k) else bwdIt ar ai x p k

/-- What the loop carries and leaves in the block, by values. -/
theorem bwdSt_read (c : Dev nD) (i : grid1.Coords) (arg1 : Memref sig .tc .vmem S256x512 .f32) (harg1 : arg1.IsWhole) (arg2 : Memref sig .tc .vmem S256x2048 .f32) (harg2 : arg2.IsWhole) (arg3 : Memref sig .tc .vmem S8x2048 .f32) (harg3 : arg3.IsWhole) (arg4 : Memref sig .tc .vmem S256x512 .f32) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S8x1024 .f32) (harg7 : arg7.IsWhole) (arg8 : Memref sig .tc .vmem S8x1024 .f32) (harg8 : arg8.IsWhole) (arg9 : Memref sig .tc .vmem S256x512 .f32) (harg9 : arg9.IsWhole) (arg10 : Memref sig .tc .vmem S512x2048 .f32) (harg10 : arg10.IsWhole) (arg11 : Memref sig .tc .vmem S2048x512 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S256x2048 .f32) (harg14 : arg14.IsWhole) (arg15 : Memref sig .tc .vmem S8x2048 .f32) (harg15 : arg15.IsWhole) (v11 v12 : Vec F S8x1024 .f32) (X2 : BufTy.Contents (Elt F) arg2.view.ty) (G : BufTy.Contents (Elt F) arg14.view.ty) (init : Vec F S8x1024 .f32 × Vec F S8x1024 .f32 × Vec F S8x1024 .f32 × Vec F S8x1024 .f32) (k : ℕ) (hk : k ≤ k1_t1_loop.trips) :
    (st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v11 v12 X2 G init k).1 = (bwdIt v11 v12 (arg2.view.read (Elt F) X2) (init, arg14.view.read (Elt F) G) k).1
    ∧ arg14.view.read (Elt F) (arg14.view.writes (Elt F) G (st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v11 v12 X2 G init k).2)
      = (bwdIt v11 v12 (arg2.view.read (Elt F) X2) (init, arg14.view.read (Elt F) G) k).2 := by
  induction k with
  | zero => exact ⟨rfl, rfl⟩
  | succ k ih =>
    have hk' : k < k1_t1_loop.trips := hk
    obtain ⟨ih1, ih2⟩ := ih (Nat.le_of_lt hk')
    have es := st_k1_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v11 v12 X2 G init ⟨k, hk'⟩
    rw [show (⟨k, hk'⟩ : Fin k1_t1_loop.trips).val = k from rfl] at es
    rw [es, bwdTripL_eq, bwdTripR_eq]
    rw [show bwdIt v11 v12 (arg2.view.read (Elt F) X2) (init, arg14.view.read (Elt F) G) (k + 1) = bwdStep v11 v12 (arg2.view.read (Elt F) X2) ⟨k, hk'⟩ (bwdIt v11 v12 (arg2.view.read (Elt F) X2) (init, arg14.view.read (Elt F) G) k) from dif_pos hk']
    rw [View.readAt_unit arg2.view _ _ rfl (k1_off1_inb ⟨k, hk'⟩), View.readAt_unit arg2.view _ _ rfl (k1_off2_inb ⟨k, hk'⟩), View.readAt_unit arg14.view _ _ rfl (k1_off3_inb ⟨k, hk'⟩), View.readAt_unit arg14.view _ _ rfl (k1_off4_inb ⟨k, hk'⟩), ih1, ih2]
    refine ⟨rfl, ?_⟩
    show arg14.view.read (Elt F) (arg14.view.writes (Elt F) G (⟨_, _⟩ :: ⟨_, _⟩ :: _)) = _
    rw [View.read_writes_cons_put _ _ _ _ _ rfl, View.read_writes_cons_put _ _ _ _ _ rfl]
    exact congrArg (fun x => VecWindow.put (VecWindow.put x _ _ _) _ _ _) ih2

end Cert.KernelIdeal.S5
end
-- ==== Proof.S5Bwd.lean ====
module

public import proofs.«01_k».proof.Proof.S5BwdLoop
public import proofs.«01_k».proof.Proof.Gen.KernelIdeal.Launch
public import proofs.«01_k».proof.Proof.Gen.KernelIdeal.Points
public import Idealize.ShloMosaic.Lib.Pipeline.FrameBody
public import Idealize.ShloMosaic.Lib.WordCmp

@[expose] public section

set_option maxRecDepth 16384

noncomputable section

namespace Cert.KernelIdeal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

abbrev first1 (i : grid1.Coords) : Prop := (Scalar.cmpi .ne (Scalar.extui (Scalar.cmpi .eq (BitVec.ofNat 32 (i 0).val) 0#32)) 0#32) = 1#1

/-- The adjoint rows, the two running sums of the block, and the block of adjoints after the loop over all rows of the
    block but the first, from the adjoint carried in from the block after it. -/
def bwdEnd (x0 : Vec F S256x512 .f32) (x1 : Vec F S256x2048 .f32) (x5 : Vec F S2048x512 .bf16) (x6 x7 : Vec F S8x1024 .f32) (xs : Vec F S8x2048 .f32) : (Vec F S8x1024 .f32 × Vec F S8x1024 .f32 × Vec F S8x1024 .f32 × Vec F S8x1024 .f32) × Vec F S256x2048 .f32 :=
  bwdIt x6 x7 x1 (((VecWindow.window xs ![0, 0] S8x1024.size inb_S8x2048_S8x1024_0_0), (VecWindow.window xs ![0, 1024] S8x1024.size inb_S8x2048_S8x1024_0_1024), k1_pay12, k1_pay12), k1_pay11 x0 x5) k1_t1_loop.trips

/-- The block of adjoints one point leaves: the first rows are finished after the loop. -/
def bwdG (x0 : Vec F S256x512 .f32) (x1 : Vec F S256x2048 .f32) (x5 : Vec F S2048x512 .bf16) (x6 x7 : Vec F S8x1024 .f32) (xs : Vec F S8x2048 .f32) : Vec F S256x2048 .f32 :=
  VecWindow.put (VecWindow.put (bwdEnd x0 x1 x5 x6 x7 xs).2 ![0, 0] S8x1024.size (k1_pay26 x6 x7 (bwdEnd x0 x1 x5 x6 x7 xs).1.1 (bwdEnd x0 x1 x5 x6 x7 xs).1.2.1 (VecWindow.window (bwdEnd x0 x1 x5 x6 x7 xs).2 ![0, 0] S8x1024.size inb_S256x2048_S8x1024_0_0)))
    ![0, 1024] S8x1024.size (k1_pay27 x6 x7 (bwdEnd x0 x1 x5 x6 x7 xs).1.1 (bwdEnd x0 x1 x5 x6 x7 xs).1.2.1 (VecWindow.window (bwdEnd x0 x1 x5 x6 x7 xs).2 ![0, 1024] S8x1024.size inb_S256x2048_S8x1024_0_1024))

/-- The adjoint carried to the next point. -/
def bwdCarry (x0 : Vec F S256x512 .f32) (x1 : Vec F S256x2048 .f32) (x5 : Vec F S2048x512 .bf16) (x6 x7 : Vec F S8x1024 .f32) (xs : Vec F S8x2048 .f32) : Vec F S8x2048 .f32 :=
  VecWindow.put (VecWindow.put xs ![0, 0] S8x1024.size (k1_pay28 x6 x7 (bwdEnd x0 x1 x5 x6 x7 xs).1.1 (bwdEnd x0 x1 x5 x6 x7 xs).1.2.1 (VecWindow.window (bwdEnd x0 x1 x5 x6 x7 xs).2 ![0, 0] S8x1024.size inb_S256x2048_S8x1024_0_0)))
    ![0, 1024] S8x1024.size (k1_pay29 x6 x7 (bwdEnd x0 x1 x5 x6 x7 xs).1.1 (bwdEnd x0 x1 x5 x6 x7 xs).1.2.1 (VecWindow.window (bwdEnd x0 x1 x5 x6 x7 xs).2 ![0, 1024] S8x1024.size inb_S256x2048_S8x1024_0_1024))

/-- The block of gradients of the input. -/
def bwdDu (x0 : Vec F S256x512 .f32) (x1 : Vec F S256x2048 .f32) (x4 : Vec F S512x2048 .bf16) (x5 : Vec F S2048x512 .bf16) (x6 x7 : Vec F S8x1024 .f32) (xs : Vec F S8x2048 .f32) : Vec F S256x512 .f32 :=
  k1_pay2 (bwdG x0 x1 x5 x6 x7 xs) x4

/-- The sum for the gradient of the input map after the point, from the sum `o` before it. -/
def bwdDbd (x0 : Vec F S256x512 .f32) (x1 : Vec F S256x2048 .f32) (x3 : Vec F S256x512 .f32) (x5 : Vec F S2048x512 .bf16) (x6 x7 : Vec F S8x1024 .f32) (xs : Vec F S8x2048 .f32) (o : Vec F S512x2048 .f32) : Vec F S512x2048 .f32 :=
  k1_pay3 (bwdG x0 x1 x5 x6 x7 xs) o x3

/-- The sum for the gradient of the output map after the point. -/
def bwdDcd (x0 : Vec F S256x512 .f32) (x1 : Vec F S256x2048 .f32) (o : Vec F S2048x512 .f32) : Vec F S2048x512 .f32 :=
  k1_pay4 (k1_pay10 x0) o x1

/-- The sum for the gradient of the real part of the multiplier after the point. -/
def bwdDar (i : grid1.Coords) (x0 : Vec F S256x512 .f32) (x1 : Vec F S256x2048 .f32) (x2 : Vec F S8x2048 .f32) (x5 : Vec F S2048x512 .bf16) (x6 x7 : Vec F S8x1024 .f32) (xs : Vec F S8x2048 .f32) (o : Vec F S8x1024 .f32) : Vec F S8x1024 .f32 :=
  k1_pay30 x6 x7 (bwdEnd x0 x1 x5 x6 x7 xs).1.1 (bwdEnd x0 x1 x5 x6 x7 xs).1.2.1 (bwdEnd x0 x1 x5 x6 x7 xs).1.2.2.1 (k1_pay22 i (VecWindow.window x2 ![0, 0] S8x1024.size inb_S8x2048_S8x1024_0_0)) (k1_pay23 i (VecWindow.window x2 ![0, 1024] S8x1024.size inb_S8x2048_S8x1024_0_1024)) (VecWindow.window (bwdEnd x0 x1 x5 x6 x7 xs).2 ![0, 0] S8x1024.size inb_S256x2048_S8x1024_0_0) (VecWindow.window (bwdEnd x0 x1 x5 x6 x7 xs).2 ![0, 1024] S8x1024.size inb_S256x2048_S8x1024_0_1024) o

/-- The sum for the gradient of the imaginary part of the multiplier after the point. -/
def bwdDai (i : grid1.Coords) (x0 : Vec F S256x512 .f32) (x1 : Vec F S256x2048 .f32) (x2 : Vec F S8x2048 .f32) (x5 : Vec F S2048x512 .bf16) (x6 x7 : Vec F S8x1024 .f32) (xs : Vec F S8x2048 .f32) (o : Vec F S8x1024 .f32) : Vec F S8x1024 .f32 :=
  k1_pay31 x6 x7 (bwdEnd x0 x1 x5 x6 x7 xs).1.1 (bwdEnd x0 x1 x5 x6 x7 xs).1.2.1 (bwdEnd x0 x1 x5 x6 x7 xs).1.2.2.2 (k1_pay22 i (VecWindow.window x2 ![0, 0] S8x1024.size inb_S8x2048_S8x1024_0_0)) (k1_pay23 i (VecWindow.window x2 ![0, 1024] S8x1024.size inb_S8x2048_S8x1024_0_1024)) (VecWindow.window (bwdEnd x0 x1 x5 x6 x7 xs).2 ![0, 0] S8x1024.size inb_S256x2048_S8x1024_0_0) (VecWindow.window (bwdEnd x0 x1 x5 x6 x7 xs).2 ![0, 1024] S8x1024.size inb_S256x2048_S8x1024_0_1024) o

set_option maxHeartbeats 2000000 in
theorem bwd_runB (c : Dev nD) (i : grid1.Coords) (arg1 : Memref sig .tc .vmem S256x512 .f32) (harg1 : arg1.IsWhole) (arg2 : Memref sig .tc .vmem S256x2048 .f32) (harg2 : arg2.IsWhole) (arg3 : Memref sig .tc .vmem S8x2048 .f32) (harg3 : arg3.IsWhole) (arg4 : Memref sig .tc .vmem S256x512 .f32) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S8x1024 .f32) (harg7 : arg7.IsWhole) (arg8 : Memref sig .tc .vmem S8x1024 .f32) (harg8 : arg8.IsWhole) (arg9 : Memref sig .tc .vmem S256x512 .f32) (harg9 : arg9.IsWhole) (arg10 : Memref sig .tc .vmem S512x2048 .f32) (harg10 : arg10.IsWhole) (arg11 : Memref sig .tc .vmem S2048x512 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S256x2048 .f32) (harg14 : arg14.IsWhole) (arg15 : Memref sig .tc .vmem S8x2048 .f32) (harg15 : arg15.IsWhole) (hc : ¬ first1 i)
    (x0 : Vec F S256x512 .f32) (x1 : Vec F S256x2048 .f32) (x2 : Vec F S8x2048 .f32) (x3 : Vec F S256x512 .f32) (x4 : Vec F S512x2048 .bf16) (x5 : Vec F S2048x512 .bf16) (x6 : Vec F S8x1024 .f32) (x7 : Vec F S8x1024 .f32) (xs : Vec F S8x2048 .f32) (o9 : Vec F S512x2048 .f32) (o10 : Vec F S2048x512 .f32) (o11 o12 : Vec F S8x1024 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare o9 ∗ owns (c : Thread nD τ) arg11 fullShare o10 ∗ owns (c : Thread nD τ) arg12 fullShare o11 ∗ owns (c : Thread nD τ) arg13 fullShare o12 ∗ (∃ d, owns (c : Thread nD τ) arg14 fullShare d) ∗ owns (c : Thread nD τ) arg15 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (bwdDu x0 x1 x4 x5 x6 x7 xs) ∗ owns (c : Thread nD τ) arg10 fullShare (bwdDbd x0 x1 x3 x5 x6 x7 xs o9) ∗ owns (c : Thread nD τ) arg11 fullShare (bwdDcd x0 x1 o10) ∗ owns (c : Thread nD τ) arg12 fullShare (bwdDar i x0 x1 x2 x5 x6 x7 xs o11) ∗ owns (c : Thread nD τ) arg13 fullShare (bwdDai i x0 x1 x2 x5 x6 x7 xs o12) ∗ (∃ d, owns (c : Thread nD τ) arg14 fullShare d) ∗ owns (c : Thread nD τ) arg15 fullShare (bwdCarry x0 x1 x5 x6 x7 xs)) -∗ K ⟨⟩))
          ⊢ wp frame (wpE (defs₀ (F := F)) Variants.none c none) E (cc1_s5_scan_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    simp only [cc1_s5_scan_bwd_eq_skeleton]; unfold cc1_s5_scan_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, ⟨%f9, %hf9, H9⟩, ⟨%f10, %hf10, H10⟩, ⟨%f11, %hf11, H11⟩, ⟨%f12, %hf12, H12⟩, ⟨%d13, %f13, %hf13, HS0⟩, ⟨%f14, %hf14, HS1⟩, Hk⟩
    sl_exec (disch := first | sl_exact hc)
    sl_step
    subst hf0 hf1 hf2 hf3 hf4 hf5 hf6 hf7 hf9 hf10 hf11 hf12 hf14
    have e15a := View.readAt_unit arg15.view f14 inb_S8x2048_S8x1024_0_0 rfl inb_S8x2048_S8x1024_0_0
    have e15b := View.readAt_unit arg15.view f14 inb_S8x2048_S8x1024_0_1024 rfl inb_S8x2048_S8x1024_0_1024
    have e7 := View.readAt_full arg7.view f6 inb_S8x1024_S8x1024_0_0
    have e8 := View.readAt_full arg8.view f7 inb_S8x1024_S8x1024_0_0
    have eG : arg14.view.read (Elt F) (arg14.view.writes (Elt F) arg14.view.junk (bwd_runB.sl.HS0_1 c arg1 arg6 f0 f5)) = k1_pay11 (View.read (Elt F) arg1.view f0) (View.read (Elt F) arg6.view f5) := by
      unfold bwd_runB.sl.HS0_1
      rw [View.read_writes_full, View.readAt_full, View.readAt_full]
    have hst := bwdSt_read c i arg1 harg1 arg2 harg2 arg3 harg3 arg4 harg4 arg5 harg5 arg6 harg6 arg7 harg7 arg8 harg8 arg9 harg9 arg10 harg10 arg11 harg11 arg12 harg12 arg13 harg13 arg14 harg14 arg15 harg15 (View.read (Elt F) arg7.view f6) (View.read (Elt F) arg8.view f7) f1 (arg14.view.writes (Elt F) arg14.view.junk (bwd_runB.sl.HS0_1 c arg1 arg6 f0 f5)) ((VecWindow.window (View.read (Elt F) arg15.view f14) ![0, 0] S8x1024.size inb_S8x2048_S8x1024_0_0), (VecWindow.window (View.read (Elt F) arg15.view f14) ![0, 1024] S8x1024.size inb_S8x2048_S8x1024_0_1024), k1_pay12 (F := F), k1_pay12 (F := F)) k1_t1_loop.trips le_rfl
    rw [eG] at hst
    have hr0 : bwd_runB.sl.r c arg1 f0 = k1_pay10 (View.read (Elt F) arg1.view f0) := by
      unfold bwd_runB.sl.r; rw [View.readAt_full]
    have hr1 : bwd_runB.sl.r_1 c arg7 f6 = (View.read (Elt F) arg7.view f6) := e7
    have hr2 : bwd_runB.sl.r_2 c arg8 f7 = (View.read (Elt F) arg8.view f7) := e8
    have hr7 : bwd_runB.sl.r_7 c i arg3 f2 = k1_pay22 i (VecWindow.window (View.read (Elt F) arg3.view f2) ![0, 0] S8x1024.size inb_S8x2048_S8x1024_0_0) := by
      unfold bwd_runB.sl.r_7; rw [View.readAt_unit _ _ _ rfl inb_S8x2048_S8x1024_0_0]
    have hr8 : bwd_runB.sl.r_8 c i arg3 f2 = k1_pay23 i (VecWindow.window (View.read (Elt F) arg3.view f2) ![0, 1024] S8x1024.size inb_S8x2048_S8x1024_0_1024) := by
      unfold bwd_runB.sl.r_8; rw [View.readAt_unit _ _ _ rfl inb_S8x2048_S8x1024_0_1024]
    have hr3 : bwd_runB.sl.r_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 f0 f1 f5 f6 f7 f14 = (bwdEnd (View.read (Elt F) arg1.view f0) (View.read (Elt F) arg2.view f1) (View.read (Elt F) arg6.view f5) (View.read (Elt F) arg7.view f6) (View.read (Elt F) arg8.view f7) (View.read (Elt F) arg15.view f14)).1.1 := by
      unfold bwd_runB.sl.r_3; rw [e7, e8, e15a, e15b]; exact congrArg (fun p => p.1) hst.1
    have hr4 : bwd_runB.sl.r_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 f0 f1 f5 f6 f7 f14 = (bwdEnd (View.read (Elt F) arg1.view f0) (View.read (Elt F) arg2.view f1) (View.read (Elt F) arg6.view f5) (View.read (Elt F) arg7.view f6) (View.read (Elt F) arg8.view f7) (View.read (Elt F) arg15.view f14)).1.2.1 := by
      unfold bwd_runB.sl.r_4; rw [e7, e8, e15a, e15b]; exact congrArg (fun p => p.2.1) hst.1
    have hr5 : bwd_runB.sl.r_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 f0 f1 f5 f6 f7 f14 = (bwdEnd (View.read (Elt F) arg1.view f0) (View.read (Elt F) arg2.view f1) (View.read (Elt F) arg6.view f5) (View.read (Elt F) arg7.view f6) (View.read (Elt F) arg8.view f7) (View.read (Elt F) arg15.view f14)).1.2.2.1 := by
      unfold bwd_runB.sl.r_5; rw [e7, e8, e15a, e15b]; exact congrArg (fun p => p.2.2.1) hst.1
    have hr6 : bwd_runB.sl.r_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 f0 f1 f5 f6 f7 f14 = (bwdEnd (View.read (Elt F) arg1.view f0) (View.read (Elt F) arg2.view f1) (View.read (Elt F) arg6.view f5) (View.read (Elt F) arg7.view f6) (View.read (Elt F) arg8.view f7) (View.read (Elt F) arg15.view f14)).1.2.2.2 := by
      unfold bwd_runB.sl.r_6; rw [e7, e8, e15a, e15b]; exact congrArg (fun p => p.2.2.2) hst.1
    have hv29 : bwd_runB.sl.v29 c i arg1 harg1 arg2 harg2 arg3 harg3 arg4 harg4 arg5 harg5 arg6 harg6 arg7 harg7 arg8 harg8 arg9 harg9 arg10 harg10 arg11 harg11 arg12 harg12 arg13 harg13 arg14 harg14 arg15 harg15 f0 f1 f5 f6 f7 f14 = (VecWindow.window (bwdEnd (View.read (Elt F) arg1.view f0) (View.read (Elt F) arg2.view f1) (View.read (Elt F) arg6.view f5) (View.read (Elt F) arg7.view f6) (View.read (Elt F) arg8.view f7) (View.read (Elt F) arg15.view f14)).2 ![0, 0] S8x1024.size inb_S256x2048_S8x1024_0_0) := by
      unfold bwd_runB.sl.v29 View.readCov
      rw [View.readAt_unit _ _ _ rfl inb_S256x2048_S8x1024_0_0, e7, e8, e15a, e15b, View.writes_append]
      exact congrArg (fun x : Vec F S256x2048 .f32 => VecWindow.window x ![0, 0] S8x1024.size inb_S256x2048_S8x1024_0_0) hst.2
    have hv34 : bwd_runB.sl.v34 c i arg1 harg1 arg2 harg2 arg3 harg3 arg4 harg4 arg5 harg5 arg6 harg6 arg7 harg7 arg8 harg8 arg9 harg9 arg10 harg10 arg11 harg11 arg12 harg12 arg13 harg13 arg14 harg14 arg15 harg15 f0 f1 f5 f6 f7 f14 = (VecWindow.window (bwdEnd (View.read (Elt F) arg1.view f0) (View.read (Elt F) arg2.view f1) (View.read (Elt F) arg6.view f5) (View.read (Elt F) arg7.view f6) (View.read (Elt F) arg8.view f7) (View.read (Elt F) arg15.view f14)).2 ![0, 1024] S8x1024.size inb_S256x2048_S8x1024_0_1024) := by
      unfold bwd_runB.sl.v34 View.readCov
      rw [View.readAt_unit _ _ _ rfl inb_S256x2048_S8x1024_0_1024, e7, e8, e15a, e15b, View.writes_append]
      exact congrArg (fun x : Vec F S256x2048 .f32 => VecWindow.window x ![0, 1024] S8x1024.size inb_S256x2048_S8x1024_0_1024) hst.2
    have hG : arg14.view.read (Elt F) (arg14.view.writes (Elt F) arg14.view.junk (bwd_runB.sl.HS0_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 f0 f1 f5 f6 f7 f14)) = bwdG (View.read (Elt F) arg1.view f0) (View.read (Elt F) arg2.view f1) (View.read (Elt F) arg6.view f5) (View.read (Elt F) arg7.view f6) (View.read (Elt F) arg8.view f7) (View.read (Elt F) arg15.view f14) := by
      unfold bwd_runB.sl.HS0_2
      rw [View.read_writes_cons_put _ _ _ _ _ rfl, View.read_writes_cons_put _ _ _ _ _ rfl, hr1, hr2, hr3, hr4, hv29, hv34, e7, e8, e15a, e15b, View.writes_append]
      exact congrArg (fun x => VecWindow.put (VecWindow.put x _ _ _) _ _ _) hst.2
    have hv67 : bwd_runB.sl.v67 c i arg1 harg1 arg2 harg2 arg3 harg3 arg4 harg4 arg5 harg5 arg6 harg6 arg7 harg7 arg8 harg8 arg9 harg9 arg10 harg10 arg11 harg11 arg12 harg12 arg13 harg13 arg14 harg14 arg15 harg15 f0 f1 f5 f6 f7 f14 = bwdG (View.read (Elt F) arg1.view f0) (View.read (Elt F) arg2.view f1) (View.read (Elt F) arg6.view f5) (View.read (Elt F) arg7.view f6) (View.read (Elt F) arg8.view f7) (View.read (Elt F) arg15.view f14) := by
      unfold bwd_runB.sl.v67 View.readCov
      rw [View.readAt_full]
      exact hG
    iapply Hk
    isplitl [H0]
    · iexists _; isplitr [H0]; · ipureintro; rfl
      iexact H0
    isplitl [H1]
    · iexists _; isplitr [H1]; · ipureintro; rfl
      iexact H1
    isplitl [H2]
    · iexists _; isplitr [H2]; · ipureintro; rfl
      iexact H2
    isplitl [H3]
    · iexists _; isplitr [H3]; · ipureintro; rfl
      iexact H3
    isplitl [H4]
    · iexists _; isplitr [H4]; · ipureintro; rfl
      iexact H4
    isplitl [H5]
    · iexists _; isplitr [H5]; · ipureintro; rfl
      iexact H5
    isplitl [H6]
    · iexists _; isplitr [H6]; · ipureintro; rfl
      iexact H6
    isplitl [H7]
    · iexists _; isplitr [H7]; · ipureintro; rfl
      iexact H7
    isplitl [H8]
    · iexists _; isplitr [H8]; swap
      · iexact H8
      ipureintro
      rw [View.read_writes_full, hv67, View.readAt_full]
      rfl
    isplitl [H9]
    · iexists _; isplitr [H9]; swap
      · iexact H9
      ipureintro
      rw [View.read_writes_full, hv67, View.readAt_full, View.readAt_full]
      rfl
    isplitl [H10]
    · iexists _; isplitr [H10]; swap
      · iexact H10
      ipureintro
      rw [View.read_writes_full, hr0, View.readAt_full, View.readAt_full]
      rfl
    isplitl [H11]
    · iexists _; isplitr [H11]; swap
      · iexact H11
      ipureintro
      rw [View.read_writes_full, hr1, hr2, hr3, hr4, hr5, hr7, hr8, hv29, hv34, View.readAt_full]
      rfl
    isplitl [H12]
    · iexists _; isplitr [H12]; swap
      · iexact H12
      ipureintro
      unfold bwd_runB.sl.r_9
      rw [View.read_writes_full, hr1, hr2, hr3, hr4, hr6, hr7, hr8, hv29, hv34, View.readAt_full]
      rfl
    isplitl [HS0]
    · iexists _; iexists _; isplitr [HS0]; swap
      · iexact HS0
      ipureintro; rfl
    iexists _; isplitr [HS1]; swap
    · iexact HS1
    ipureintro
    rw [View.read_writes_cons_put _ _ _ _ _ rfl, View.read_writes_cons_put _ _ _ _ _ rfl, hr1, hr2, hr3, hr4, hv29, hv34]
    rfl

end Cert.KernelIdeal.S5
end
-- ==== Proof.S5BwdFirst.lean ====
module

public import proofs.«01_k».proof.Proof.S5Bwd
public import proofs.«01_k».proof.Proof.Gen.KernelIdeal.Launch
public import proofs.«01_k».proof.Proof.Gen.KernelIdeal.Points
public import Idealize.ShloMosaic.Lib.Pipeline.FrameBody
public import Idealize.ShloMosaic.Lib.WordCmp

@[expose] public section

set_option maxRecDepth 16384

noncomputable section

namespace Cert.KernelIdeal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 2000000 in
theorem bwd_runA (c : Dev nD) (i : grid1.Coords) (arg1 : Memref sig .tc .vmem S256x512 .f32) (harg1 : arg1.IsWhole) (arg2 : Memref sig .tc .vmem S256x2048 .f32) (harg2 : arg2.IsWhole) (arg3 : Memref sig .tc .vmem S8x2048 .f32) (harg3 : arg3.IsWhole) (arg4 : Memref sig .tc .vmem S256x512 .f32) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S8x1024 .f32) (harg7 : arg7.IsWhole) (arg8 : Memref sig .tc .vmem S8x1024 .f32) (harg8 : arg8.IsWhole) (arg9 : Memref sig .tc .vmem S256x512 .f32) (harg9 : arg9.IsWhole) (arg10 : Memref sig .tc .vmem S512x2048 .f32) (harg10 : arg10.IsWhole) (arg11 : Memref sig .tc .vmem S2048x512 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S256x2048 .f32) (harg14 : arg14.IsWhole) (arg15 : Memref sig .tc .vmem S8x2048 .f32) (harg15 : arg15.IsWhole) (hc : first1 i)
    (x0 : Vec F S256x512 .f32) (x1 : Vec F S256x2048 .f32) (x2 : Vec F S8x2048 .f32) (x3 : Vec F S256x512 .f32) (x4 : Vec F S512x2048 .bf16) (x5 : Vec F S2048x512 .bf16) (x6 : Vec F S8x1024 .f32) (x7 : Vec F S8x1024 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (bwdDu x0 x1 x4 x5 x6 x7 (k1_pay5 (F := F))) ∗ owns (c : Thread nD τ) arg10 fullShare (bwdDbd x0 x1 x3 x5 x6 x7 (k1_pay5 (F := F)) (k1_pay6 (F := F))) ∗ owns (c : Thread nD τ) arg11 fullShare (bwdDcd x0 x1 (k1_pay7 (F := F))) ∗ owns (c : Thread nD τ) arg12 fullShare (bwdDar i x0 x1 x2 x5 x6 x7 (k1_pay5 (F := F)) (k1_pay8 (F := F))) ∗ owns (c : Thread nD τ) arg13 fullShare (bwdDai i x0 x1 x2 x5 x6 x7 (k1_pay5 (F := F)) (k1_pay9 (F := F))) ∗ (∃ d, owns (c : Thread nD τ) arg14 fullShare d) ∗ owns (c : Thread nD τ) arg15 fullShare (bwdCarry x0 x1 x5 x6 x7 (k1_pay5 (F := F)))) -∗ K ⟨⟩))
          ⊢ wp frame (wpE (defs₀ (F := F)) Variants.none c none) E (cc1_s5_scan_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    simp only [cc1_s5_scan_bwd_eq_skeleton]; unfold cc1_s5_scan_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, HS0⟩, ⟨%d14, %f14, %hf14, HS1⟩, Hk⟩
    sl_exec (disch := first | sl_exact hc)
    sl_step
    subst hf0 hf1 hf2 hf3 hf4 hf5 hf6 hf7
    have e15 : arg15.view.read (Elt F) (arg15.view.writes (Elt F) arg15.view.junk (bwd_runA.sl.HS1_1 (F := F))) = k1_pay5 := by
      unfold bwd_runA.sl.HS1_1
      rw [View.read_writes_full]
    have e15a : bwd_runA.sl.v14 c arg15 = (VecWindow.window (k1_pay5 (F := F)) ![0, 0] S8x1024.size inb_S8x2048_S8x1024_0_0) := by
      unfold bwd_runA.sl.v14 View.readCov
      rw [View.readAt_unit _ _ _ rfl inb_S8x2048_S8x1024_0_0, e15]
    have e15b : bwd_runA.sl.v15 c arg15 = (VecWindow.window (k1_pay5 (F := F)) ![0, 1024] S8x1024.size inb_S8x2048_S8x1024_0_1024) := by
      unfold bwd_runA.sl.v15 View.readCov
      rw [View.readAt_unit _ _ _ rfl inb_S8x2048_S8x1024_0_1024, e15]
    have e7 := View.readAt_full arg7.view f6 inb_S8x1024_S8x1024_0_0
    have e8 := View.readAt_full arg8.view f7 inb_S8x1024_S8x1024_0_0
    have eG : arg14.view.read (Elt F) (arg14.view.writes (Elt F) arg14.view.junk (bwd_runA.sl.HS0_1 c arg1 arg6 f0 f5)) = k1_pay11 (View.read (Elt F) arg1.view f0) (View.read (Elt F) arg6.view f5) := by
      unfold bwd_runA.sl.HS0_1
      rw [View.read_writes_full, View.readAt_full, View.readAt_full]
    have hst := bwdSt_read c i arg1 harg1 arg2 harg2 arg3 harg3 arg4 harg4 arg5 harg5 arg6 harg6 arg7 harg7 arg8 harg8 arg9 harg9 arg10 harg10 arg11 harg11 arg12 harg12 arg13 harg13 arg14 harg14 arg15 harg15 (View.read (Elt F) arg7.view f6) (View.read (Elt F) arg8.view f7) f1 (arg14.view.writes (Elt F) arg14.view.junk (bwd_runA.sl.HS0_1 c arg1 arg6 f0 f5)) ((VecWindow.window (k1_pay5 (F := F)) ![0, 0] S8x1024.size inb_S8x2048_S8x1024_0_0), (VecWindow.window (k1_pay5 (F := F)) ![0, 1024] S8x1024.size inb_S8x2048_S8x1024_0_1024), k1_pay12 (F := F), k1_pay12 (F := F)) k1_t1_loop.trips le_rfl
    rw [eG] at hst
    have hr0 : bwd_runA.sl.r c arg1 f0 = k1_pay10 (View.read (Elt F) arg1.view f0) := by
      unfold bwd_runA.sl.r; rw [View.readAt_full]
    have hr1 : bwd_runA.sl.r_1 c arg7 f6 = (View.read (Elt F) arg7.view f6) := e7
    have hr2 : bwd_runA.sl.r_2 c arg8 f7 = (View.read (Elt F) arg8.view f7) := e8
    have hr7 : bwd_runA.sl.r_7 c i arg3 f2 = k1_pay22 i (VecWindow.window (View.read (Elt F) arg3.view f2) ![0, 0] S8x1024.size inb_S8x2048_S8x1024_0_0) := by
      unfold bwd_runA.sl.r_7; rw [View.readAt_unit _ _ _ rfl inb_S8x2048_S8x1024_0_0]
    have hr8 : bwd_runA.sl.r_8 c i arg3 f2 = k1_pay23 i (VecWindow.window (View.read (Elt F) arg3.view f2) ![0, 1024] S8x1024.size inb_S8x2048_S8x1024_0_1024) := by
      unfold bwd_runA.sl.r_8; rw [View.readAt_unit _ _ _ rfl inb_S8x2048_S8x1024_0_1024]
    have hr3 : bwd_runA.sl.r_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 f0 f1 f5 f6 f7 = (bwdEnd (View.read (Elt F) arg1.view f0) (View.read (Elt F) arg2.view f1) (View.read (Elt F) arg6.view f5) (View.read (Elt F) arg7.view f6) (View.read (Elt F) arg8.view f7) (k1_pay5 (F := F))).1.1 := by
      unfold bwd_runA.sl.r_3; rw [e7, e8, e15a, e15b]; exact congrArg (fun p => p.1) hst.1
    have hr4 : bwd_runA.sl.r_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 f0 f1 f5 f6 f7 = (bwdEnd (View.read (Elt F) arg1.view f0) (View.read (Elt F) arg2.view f1) (View.read (Elt F) arg6.view f5) (View.read (Elt F) arg7.view f6) (View.read (Elt F) arg8.view f7) (k1_pay5 (F := F))).1.2.1 := by
      unfold bwd_runA.sl.r_4; rw [e7, e8, e15a, e15b]; exact congrArg (fun p => p.2.1) hst.1
    have hr5 : bwd_runA.sl.r_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 f0 f1 f5 f6 f7 = (bwdEnd (View.read (Elt F) arg1.view f0) (View.read (Elt F) arg2.view f1) (View.read (Elt F) arg6.view f5) (View.read (Elt F) arg7.view f6) (View.read (Elt F) arg8.view f7) (k1_pay5 (F := F))).1.2.2.1 := by
      unfold bwd_runA.sl.r_5; rw [e7, e8, e15a, e15b]; exact congrArg (fun p => p.2.2.1) hst.1
    have hr6 : bwd_runA.sl.r_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 f0 f1 f5 f6 f7 = (bwdEnd (View.read (Elt F) arg1.view f0) (View.read (Elt F) arg2.view f1) (View.read (Elt F) arg6.view f5) (View.read (Elt F) arg7.view f6) (View.read (Elt F) arg8.view f7) (k1_pay5 (F := F))).1.2.2.2 := by
      unfold bwd_runA.sl.r_6; rw [e7, e8, e15a, e15b]; exact congrArg (fun p => p.2.2.2) hst.1
    have hv29 : bwd_runA.sl.v29 c i arg1 harg1 arg2 harg2 arg3 harg3 arg4 harg4 arg5 harg5 arg6 harg6 arg7 harg7 arg8 harg8 arg9 harg9 arg10 harg10 arg11 harg11 arg12 harg12 arg13 harg13 arg14 harg14 arg15 harg15 f0 f1 f5 f6 f7 = (VecWindow.window (bwdEnd (View.read (Elt F) arg1.view f0) (View.read (Elt F) arg2.view f1) (View.read (Elt F) arg6.view f5) (View.read (Elt F) arg7.view f6) (View.read (Elt F) arg8.view f7) (k1_pay5 (F := F))).2 ![0, 0] S8x1024.size inb_S256x2048_S8x1024_0_0) := by
      unfold bwd_runA.sl.v29 View.readCov
      rw [View.readAt_unit _ _ _ rfl inb_S256x2048_S8x1024_0_0, e7, e8, e15a, e15b, View.writes_append]
      exact congrArg (fun x : Vec F S256x2048 .f32 => VecWindow.window x ![0, 0] S8x1024.size inb_S256x2048_S8x1024_0_0) hst.2
    have hv34 : bwd_runA.sl.v34 c i arg1 harg1 arg2 harg2 arg3 harg3 arg4 harg4 arg5 harg5 arg6 harg6 arg7 harg7 arg8 harg8 arg9 harg9 arg10 harg10 arg11 harg11 arg12 harg12 arg13 harg13 arg14 harg14 arg15 harg15 f0 f1 f5 f6 f7 = (VecWindow.window (bwdEnd (View.read (Elt F) arg1.view f0) (View.read (Elt F) arg2.view f1) (View.read (Elt F) arg6.view f5) (View.read (Elt F) arg7.view f6) (View.read (Elt F) arg8.view f7) (k1_pay5 (F := F))).2 ![0, 1024] S8x1024.size inb_S256x2048_S8x1024_0_1024) := by
      unfold bwd_runA.sl.v34 View.readCov
      rw [View.readAt_unit _ _ _ rfl inb_S256x2048_S8x1024_0_1024, e7, e8, e15a, e15b, View.writes_append]
      exact congrArg (fun x : Vec F S256x2048 .f32 => VecWindow.window x ![0, 1024] S8x1024.size inb_S256x2048_S8x1024_0_1024) hst.2
    have hv73 : bwd_runA.sl.v73 c arg10 = k1_pay6 (F := F) := by
      unfold bwd_runA.sl.v73 View.readCov bwd_runA.sl.H9_1
      rw [View.readAt_full, View.read_writes_full]
    have hv80 : bwd_runA.sl.v80 c arg11 = k1_pay7 (F := F) := by
      unfold bwd_runA.sl.v80 View.readCov bwd_runA.sl.H10_1
      rw [View.readAt_full, View.read_writes_full]
    have hv59 : bwd_runA.sl.v59 c arg12 = k1_pay8 (F := F) := by
      unfold bwd_runA.sl.v59 View.readCov bwd_runA.sl.H11_1
      rw [View.readAt_full, View.read_writes_full]
    have hv63 : bwd_runA.sl.v63 c arg13 = k1_pay9 (F := F) := by
      unfold bwd_runA.sl.v63 View.readCov bwd_runA.sl.H12_1
      rw [View.readAt_full, View.read_writes_full]
    have hG : arg14.view.read (Elt F) (arg14.view.writes (Elt F) arg14.view.junk (bwd_runA.sl.HS0_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 f0 f1 f5 f6 f7)) = bwdG (View.read (Elt F) arg1.view f0) (View.read (Elt F) arg2.view f1) (View.read (Elt F) arg6.view f5) (View.read (Elt F) arg7.view f6) (View.read (Elt F) arg8.view f7) (k1_pay5 (F := F)) := by
      unfold bwd_runA.sl.HS0_2
      rw [View.read_writes_cons_put _ _ _ _ _ rfl, View.read_writes_cons_put _ _ _ _ _ rfl, hr1, hr2, hr3, hr4, hv29, hv34, e7, e8, e15a, e15b, View.writes_append]
      exact congrArg (fun x => VecWindow.put (VecWindow.put x _ _ _) _ _ _) hst.2
    have hv67 : bwd_runA.sl.v67 c i arg1 harg1 arg2 harg2 arg3 harg3 arg4 harg4 arg5 harg5 arg6 harg6 arg7 harg7 arg8 harg8 arg9 harg9 arg10 harg10 arg11 harg11 arg12 harg12 arg13 harg13 arg14 harg14 arg15 harg15 f0 f1 f5 f6 f7 = bwdG (View.read (Elt F) arg1.view f0) (View.read (Elt F) arg2.view f1) (View.read (Elt F) arg6.view f5) (View.read (Elt F) arg7.view f6) (View.read (Elt F) arg8.view f7) (k1_pay5 (F := F)) := by
      unfold bwd_runA.sl.v67 View.readCov
      rw [View.readAt_full]
      exact hG
    iapply Hk
    isplitl [H0]
    · iexists _; isplitr [H0]; · ipureintro; rfl
      iexact H0
    isplitl [H1]
    · iexists _; isplitr [H1]; · ipureintro; rfl
      iexact H1
    isplitl [H2]
    · iexists _; isplitr [H2]; · ipureintro; rfl
      iexact H2
    isplitl [H3]
    · iexists _; isplitr [H3]; · ipureintro; rfl
      iexact H3
    isplitl [H4]
    · iexists _; isplitr [H4]; · ipureintro; rfl
      iexact H4
    isplitl [H5]
    · iexists _; isplitr [H5]; · ipureintro; rfl
      iexact H5
    isplitl [H6]
    · iexists _; isplitr [H6]; · ipureintro; rfl
      iexact H6
    isplitl [H7]
    · iexists _; isplitr [H7]; · ipureintro; rfl
      iexact H7
    isplitl [H8]
    · iexists _; isplitr [H8]; swap
      · iexact H8
      ipureintro
      rw [View.read_writes_full, hv67, View.readAt_full]
      rfl
    isplitl [H9]
    · iexists _; isplitr [H9]; swap
      · iexact H9
      ipureintro
      rw [View.read_writes_full, hv67, hv73, View.readAt_full]
      rfl
    isplitl [H10]
    · iexists _; isplitr [H10]; swap
      · iexact H10
      ipureintro
      rw [View.read_writes_full, hr0, hv80, View.readAt_full]
      rfl
    isplitl [H11]
    · iexists _; isplitr [H11]; swap
      · iexact H11
      ipureintro
      rw [View.read_writes_full, hr1, hr2, hr3, hr4, hr5, hr7, hr8, hv29, hv34, hv59]
      rfl
    isplitl [H12]
    · iexists _; isplitr [H12]; swap
      · iexact H12
      ipureintro
      unfold bwd_runA.sl.r_9
      rw [View.read_writes_full, hr1, hr2, hr3, hr4, hr6, hr7, hr8, hv29, hv34, hv63]
      rfl
    isplitl [HS0]
    · iexists _; iexists _; isplitr [HS0]; swap
      · iexact HS0
      ipureintro; rfl
    iexists _; isplitr [HS1]; swap
    · iexact HS1
    ipureintro
    rw [View.read_writes_cons_put _ _ _ _ _ rfl, View.read_writes_cons_put _ _ _ _ _ rfl, hr1, hr2, hr3, hr4, hv29, hv34, e15]
    rfl

end Cert.KernelIdeal.S5
end
-- ==== Proof.S5Region1.lean ====
/-
  The backward scan's region (pipeline 1): what each of its 72 points finds and leaves, the adjoint carried from point to
  point, and the four gradients added up over the points.
-/
module

public import proofs.«01_k».proof.Proof.S5Region0
public import proofs.«01_k».proof.Proof.S5BwdFirst
public import proofs.«01_k».proof.Proof.Gen.KernelIdeal.Regions
public import Idealize.ShloMosaic.Lib.Tactic

@[expose] public section

set_option maxRecDepth 16384

noncomputable section

namespace Cert.KernelIdeal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

local notation "𝕄" => MT nD τ sig Unit (Elt F) ℕ (UR sig nD τ) ℕ

variable (V : Vals (F := F))

/-- The block window `w` stages at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjoint carried into point `n`: zero at the first. -/
def st1 (c : Dev nD) : (n : ℕ) → n ≤ cfg1.N → Vec F S8x2048 .f32
  | 0, _ => k1_pay5 (F := F)
  | n + 1, h => bwdCarry (iblk1 V c 0 ⟨n, h⟩) (iblk1 V c 1 ⟨n, h⟩) (iblk1 V c 5 ⟨n, h⟩) (iblk1 V c 6 ⟨n, h⟩) (iblk1 V c 7 ⟨n, h⟩) (st1 c n (Nat.le_of_lt h))

/-- The gradient of `bd` added up over the points below `n`. -/
def accBd (c : Dev nD) : (n : ℕ) → n ≤ cfg1.N → Vec F S512x2048 .f32
  | 0, _ => k1_pay6 (F := F)
  | n + 1, h => bwdDbd (iblk1 V c 0 ⟨n, h⟩) (iblk1 V c 1 ⟨n, h⟩) (iblk1 V c 3 ⟨n, h⟩) (iblk1 V c 5 ⟨n, h⟩) (iblk1 V c 6 ⟨n, h⟩) (iblk1 V c 7 ⟨n, h⟩) (st1 V c n (Nat.le_of_lt h)) (accBd c n (Nat.le_of_lt h))

/-- The gradient of `cd` added up over the points below `n`. -/
def accCd (c : Dev nD) : (n : ℕ) → n ≤ cfg1.N → Vec F S2048x512 .f32
  | 0, _ => k1_pay7 (F := F)
  | n + 1, h => bwdDcd (iblk1 V c 0 ⟨n, h⟩) (iblk1 V c 1 ⟨n, h⟩) (accCd c n (Nat.le_of_lt h))

/-- The gradient of the decay's real part added up over the points below `n`. -/
def accAr (c : Dev nD) : (n : ℕ) → n ≤ cfg1.N → Vec F S8x1024 .f32
  | 0, _ => k1_pay8 (F := F)
  | n + 1, h => bwdDar (cfg1.grid.coords ⟨n, h⟩) (iblk1 V c 0 ⟨n, h⟩) (iblk1 V c 1 ⟨n, h⟩) (iblk1 V c 2 ⟨n, h⟩) (iblk1 V c 5 ⟨n, h⟩) (iblk1 V c 6 ⟨n, h⟩) (iblk1 V c 7 ⟨n, h⟩) (st1 V c n (Nat.le_of_lt h)) (accAr c n (Nat.le_of_lt h))

/-- The gradient of the decay's imaginary part added up over the points below `n`. -/
def accAi (c : Dev nD) : (n : ℕ) → n ≤ cfg1.N → Vec F S8x1024 .f32
  | 0, _ => k1_pay9 (F := F)
  | n + 1, h => bwdDai (cfg1.grid.coords ⟨n, h⟩) (iblk1 V c 0 ⟨n, h⟩) (iblk1 V c 1 ⟨n, h⟩) (iblk1 V c 2 ⟨n, h⟩) (iblk1 V c 5 ⟨n, h⟩) (iblk1 V c 6 ⟨n, h⟩) (iblk1 V c 7 ⟨n, h⟩) (st1 V c n (Nat.le_of_lt h)) (accAi c n (Nat.le_of_lt h))

/-- The scratch that holds a block's adjoints, and the one that carries the adjoint. -/
abbrev scM1 : Memref sig .tc .vmem S256x2048 .f32 := Memref.whole cc1_scratch0
abbrev scM2 : Memref sig .tc .vmem S8x2048 .f32 := Memref.whole cc1_scratch1

/-- The other region's scoped buffers, at anything. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- What the region keeps between its points: the carried adjoint (anything before the first point), the other
    scratch and the other region's buffers at anything. -/
def Phi1 (c : Dev nD) : (n : ℕ) → n ≤ cfg1.N → sProp 𝕄
  | 0, _ => iprop((∃ d, owns (c : Thread nD τ) scM1 fullShare d) ∗ (∃ d, owns (c : Thread nD τ) scM2 fullShare d) ∗ rest1 (F := F) c)
  | n + 1, h => iprop((∃ d, owns (c : Thread nD τ) scM1 fullShare d) ∗ owns (c : Thread nD τ) scM2 fullShare (st1 V c (n + 1) h) ∗ rest1 (F := F) c)

theorem Phi1_pos (c : Dev nD) (n : ℕ) (h : n ≤ cfg1.N) (hz : n ≠ 0) :
    Phi1 V c n h = iprop((∃ d, owns (c : Thread nD τ) scM1 fullShare d) ∗ owns (c : Thread nD τ) scM2 fullShare (st1 V c n h) ∗ rest1 (F := F) c) := by
  cases n with
  | zero => exact absurd rfl hz
  | succ n => rfl

theorem Phi1_zero (c : Dev nD) (n : ℕ) (h : n ≤ cfg1.N) (hz : n = 0) :
    Phi1 V c n h = iprop((∃ d, owns (c : Thread nD τ) scM1 fullShare d) ∗ (∃ d, owns (c : Thread nD τ) scM2 fullShare d) ∗ rest1 (F := F) c) := by
  subst hz; rfl

theorem st1_zero (c : Dev nD) (n : ℕ) (h : n ≤ cfg1.N) (hz : n = 0) : st1 V c n h = k1_pay5 (F := F) := by subst hz; rfl
theorem accBd_zero (c : Dev nD) (n : ℕ) (h : n ≤ cfg1.N) (hz : n = 0) : accBd V c n h = k1_pay6 (F := F) := by subst hz; rfl
theorem accCd_zero (c : Dev nD) (n : ℕ) (h : n ≤ cfg1.N) (hz : n = 0) : accCd V c n h = k1_pay7 (F := F) := by subst hz; rfl
theorem accAr_zero (c : Dev nD) (n : ℕ) (h : n ≤ cfg1.N) (hz : n = 0) : accAr V c n h = k1_pay8 (F := F) := by subst hz; rfl
theorem accAi_zero (c : Dev nD) (n : ℕ) (h : n ≤ cfg1.N) (hz : n = 0) : accAi V c n h = k1_pay9 (F := F) := by subst hz; rfl

/-- The region's proof data from the contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => bwdDu (iblk1 V c 0 t) (iblk1 V c 1 t) (iblk1 V c 4 t) (iblk1 V c 5 t) (iblk1 V c 6 t) (iblk1 V c 7 t) (st1 V c t.val t.isLt.le)
    | ⟨9, _⟩ => accBd V c (t.val + 1) t.isLt
    | ⟨10, _⟩ => accCd V c (t.val + 1) t.isLt
    | ⟨11, _⟩ => accAr V c (t.val + 1) t.isLt
    | ⟨12, _⟩ => accAi V c (t.val + 1) t.isLt
  Φ t := Phi1 V c t.val (Nat.le_of_lt_succ t.isLt)
  q w := Pipeline.shareOf spec1 w
  owed _ := 0

theorem A1_eq (c : Dev nD) (w : Fin cfg1.W) : (dat1 V c).A w = V c (Pipeline.arrRef spec1 w) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = bwdDu (iblk1 V c 0 t) (iblk1 V c 1 t) (iblk1 V c 4 t) (iblk1 V c 5 t) (iblk1 V c 6 t) (iblk1 V c 7 t) (st1 V c t.val t.isLt.le) := by dsimp only [dat1]
theorem after1_9 (c : Dev nD) (t : Fin cfg1.N) : (dat1 V c).after 9 t = accBd V c (t.val + 1) t.isLt := by dsimp only [dat1]
theorem after1_10 (c : Dev nD) (t : Fin cfg1.N) : (dat1 V c).after 10 t = accCd V c (t.val + 1) t.isLt := by dsimp only [dat1]
theorem after1_11 (c : Dev nD) (t : Fin cfg1.N) : (dat1 V c).after 11 t = accAr V c (t.val + 1) t.isLt := by dsimp only [dat1]
theorem after1_12 (c : Dev nD) (t : Fin cfg1.N) : (dat1 V c).after 12 t = accAi V c (t.val + 1) t.isLt := by dsimp only [dat1]

/-! An input's staging buffer holds its block at every point. -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A1_eq]; try rfl) t d).trans
    (by unfold Dat.fetched Dat.blockOf iblk1; rw [A1_eq]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A1_eq]; try rfl) t d).trans
    (by unfold Dat.fetched Dat.blockOf iblk1; rw [A1_eq]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A1_eq]; try rfl) t d).trans
    (by unfold Dat.fetched Dat.blockOf iblk1; rw [A1_eq]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A1_eq]; try rfl) t d).trans
    (by unfold Dat.fetched Dat.blockOf iblk1; rw [A1_eq]; try rfl)

/-! Past the first point, the staging buffer of a gradient holds what the point before left: no point but the last
    writes it back. -/

theorem before1_9 (c : Dev nD) (t : Fin cfg1.N) (hz : t.val ≠ 0) (d) : (dat1 V c).before 9 t d = accBd V c t.val t.isLt.le := by
  have ht : t.val < 72 := lt_of_lt_of_eq t.isLt (show cfg1.N = 72 from N_1)
  have hfl : (cfg1.win 9).flush ⟨t.val - 1, Nat.lt_of_le_of_lt (Nat.sub_le _ _) t.isLt⟩ = false := by
    rw [Bool.eq_false_iff, Ne, flush1_9]
    show ¬ (t.val - 1) % 72 = 71
    omega
  rw [(dat1 V c).before_of_pos 9 t hz rfl d, hfl, if_neg Bool.false_ne_true]
  obtain ⟨n, hn⟩ := t
  cases n with
  | zero => exact absurd rfl hz
  | succ n => exact (show _ = (dat1 V c).after 9 ⟨n, Nat.lt_of_succ_lt hn⟩ from rfl).trans (after1_9 V c ⟨n, Nat.lt_of_succ_lt hn⟩)
theorem before1_10 (c : Dev nD) (t : Fin cfg1.N) (hz : t.val ≠ 0) (d) : (dat1 V c).before 10 t d = accCd V c t.val t.isLt.le := by
  have ht : t.val < 72 := lt_of_lt_of_eq t.isLt (show cfg1.N = 72 from N_1)
  have hfl : (cfg1.win 10).flush ⟨t.val - 1, Nat.lt_of_le_of_lt (Nat.sub_le _ _) t.isLt⟩ = false := by
    rw [Bool.eq_false_iff, Ne, flush1_10]
    show ¬ (t.val - 1) % 72 = 71
    omega
  rw [(dat1 V c).before_of_pos 10 t hz rfl d, hfl, if_neg Bool.false_ne_true]
  obtain ⟨n, hn⟩ := t
  cases n with
  | zero => exact absurd rfl hz
  | succ n => exact (show _ = (dat1 V c).after 10 ⟨n, Nat.lt_of_succ_lt hn⟩ from rfl).trans (after1_10 V c ⟨n, Nat.lt_of_succ_lt hn⟩)
theorem before1_11 (c : Dev nD) (t : Fin cfg1.N) (hz : t.val ≠ 0) (d) : (dat1 V c).before 11 t d = accAr V c t.val t.isLt.le := by
  have ht : t.val < 72 := lt_of_lt_of_eq t.isLt (show cfg1.N = 72 from N_1)
  have hfl : (cfg1.win 11).flush ⟨t.val - 1, Nat.lt_of_le_of_lt (Nat.sub_le _ _) t.isLt⟩ = false := by
    rw [Bool.eq_false_iff, Ne, flush1_11]
    show ¬ (t.val - 1) % 72 = 71
    omega
  rw [(dat1 V c).before_of_pos 11 t hz rfl d, hfl, if_neg Bool.false_ne_true]
  obtain ⟨n, hn⟩ := t
  cases n with
  | zero => exact absurd rfl hz
  | succ n => exact (show _ = (dat1 V c).after 11 ⟨n, Nat.lt_of_succ_lt hn⟩ from rfl).trans (after1_11 V c ⟨n, Nat.lt_of_succ_lt hn⟩)
theorem before1_12 (c : Dev nD) (t : Fin cfg1.N) (hz : t.val ≠ 0) (d) : (dat1 V c).before 12 t d = accAi V c t.val t.isLt.le := by
  have ht : t.val < 72 := lt_of_lt_of_eq t.isLt (show cfg1.N = 72 from N_1)
  have hfl : (cfg1.win 12).flush ⟨t.val - 1, Nat.lt_of_le_of_lt (Nat.sub_le _ _) t.isLt⟩ = false := by
    rw [Bool.eq_false_iff, Ne, flush1_12]
    show ¬ (t.val - 1) % 72 = 71
    omega
  rw [(dat1 V c).before_of_pos 12 t hz rfl d, hfl, if_neg Bool.false_ne_true]
  obtain ⟨n, hn⟩ := t
  cases n with
  | zero => exact absurd rfl hz
  | succ n => exact (show _ = (dat1 V c).after 12 ⟨n, Nat.lt_of_succ_lt hn⟩ from rfl).trans (after1_12 V c ⟨n, Nat.lt_of_succ_lt hn⟩)

/-- The first point is the one the grid coordinate `0` marks. -/
theorem hcond1 (t : Fin cfg1.N) : first1 (grid1.coords t) ↔ t.val = 0 := by
  have ht : t.val < 72 := lt_of_lt_of_eq t.isLt (show cfg1.N = 72 from N_1)
  have e0 : (grid1.coords t 0).val = t.val / 1 % 72 := Pipeline.Grid.coords_val t 0 (by decide) rfl
  simp only [first1, e0]
  word_cmp

theorem Phi1_castSucc (c : Dev nD) (t : Fin cfg1.N) : (dat1 V c).Φ t.castSucc = Phi1 V c t.val t.isLt.le := by
  dsimp only [dat1]; exact Pipeline.Dat.Φ_castSucc (Phi1 V c) t

/-- What a point's body must do. -/
def BodyAt1 (c : Dev nD) (t : Fin cfg1.N) : Prop :=
  iprop((dat1 V c).Φ t.castSucc ∗ (dat1 V c).owesAt () t.castSucc
      ∗ bigSep Finset.univ fun w : Fin cfg1.W => iprop(∃ d, owns (c : Thread nD τ) ((cfg1.win w).stage (cfg1.slots t w)) fullShare ((dat1 V c).before w t d)))
    ⊢ wp frame (wpE (defs₀ (F := F)) 𝒱₀ (c : Thread nD τ) none) Set.univ (defs₀ .tc cfg1.body (cfg1.bodyArgs t (cfg1.slots t))) fun _ =>
        iprop((dat1 V c).Φ t.succ ∗ (dat1 V c).owesAt () t.succ
          ∗ bigSep Finset.univ fun w : Fin cfg1.W => owns (c : Thread nD τ) ((cfg1.win w).stage (cfg1.slots t w)) fullShare ((dat1 V c).after w t))

set_option maxHeartbeats 1000000 in
theorem body1_first (c : Dev nD) (t : Fin cfg1.N) (hz : t.val = 0) : BodyAt1 V c t := by
    unfold BodyAt1
    rw [bigSep_W1, bigSep_W1]
    simp only [before1_0, before1_1, before1_2, before1_3, before1_4, before1_5, before1_6, before1_7]
    rw [show (dat1 V c).Φ t.succ = iprop((∃ d, owns (c : Thread nD τ) scM1 fullShare d) ∗ owns (c : Thread nD τ) scM2 fullShare (st1 V c (t.val + 1) t.isLt) ∗ rest1 (F := F) c) from rfl,
      show (dat1 V c).owesAt () t.succ = (dat1 V c).owesAt () t.castSucc from rfl, Phi1_castSucc]
    rw [Phi1_zero V c _ _ hz]
    iintro ⟨⟨HG, HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (bwd_runA c (grid1.coords t) _ _ _ _ _ _ _ _ _ _ _ _ _ _ _ _ _ _ _ _ _ _ _ _ _ _ _ _ _ _ ((hcond1 t).mpr hz) (iblk1 V c 0 t) (iblk1 V c 1 t) (iblk1 V c 2 t) (iblk1 V c 3 t) (iblk1 V c 4 t) (iblk1 V c 5 t) (iblk1 V c 6 t) (iblk1 V c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [HG]; · iexact HG
    isplitl [HS]; · iexact HS
    iintro ⟨H0, H1, H2, H3, H4, H5, H6, H7, H8, H9, H10, H11, H12, HG, HS⟩
    isplitl [HG HS Hr]
    · isplitl [HG]; · iexact HG
      isplitl [HS]
      · rw [show st1 V c (t.val + 1) t.isLt = bwdCarry (iblk1 V c 0 t) (iblk1 V c 1 t) (iblk1 V c 5 t) (iblk1 V c 6 t) (iblk1 V c 7 t) (st1 V c t.val t.isLt.le) from rfl, st1_zero V c _ _ hz]
        iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · rw [after1_8, st1_zero V c _ _ hz]; iexact H8
    isplitl [H9]; · rw [after1_9, show accBd V c (t.val + 1) t.isLt = bwdDbd (iblk1 V c 0 t) (iblk1 V c 1 t) (iblk1 V c 3 t) (iblk1 V c 5 t) (iblk1 V c 6 t) (iblk1 V c 7 t) (st1 V c t.val t.isLt.le) (accBd V c t.val t.isLt.le) from rfl, accBd_zero V c _ _ hz, st1_zero V c _ _ hz]; iexact H9
    isplitl [H10]; · rw [after1_10, show accCd V c (t.val + 1) t.isLt = bwdDcd (iblk1 V c 0 t) (iblk1 V c 1 t) (accCd V c t.val t.isLt.le) from rfl, accCd_zero V c _ _ hz]; iexact H10
    isplitl [H11]; · rw [after1_11, show accAr V c (t.val + 1) t.isLt = bwdDar (grid1.coords t) (iblk1 V c 0 t) (iblk1 V c 1 t) (iblk1 V c 2 t) (iblk1 V c 5 t) (iblk1 V c 6 t) (iblk1 V c 7 t) (st1 V c t.val t.isLt.le) (accAr V c t.val t.isLt.le) from rfl, accAr_zero V c _ _ hz, st1_zero V c _ _ hz]; iexact H11
    rw [after1_12, show accAi V c (t.val + 1) t.isLt = bwdDai (grid1.coords t) (iblk1 V c 0 t) (iblk1 V c 1 t) (iblk1 V c 2 t) (iblk1 V c 5 t) (iblk1 V c 6 t) (iblk1 V c 7 t) (st1 V c t.val t.isLt.le) (accAi V c t.val t.isLt.le) from rfl, accAi_zero V c _ _ hz, st1_zero V c _ _ hz]; iexact H12

set_option maxHeartbeats 1000000 in
theorem body1_next (c : Dev nD) (t : Fin cfg1.N) (hz : t.val ≠ 0) : BodyAt1 V c t := by
    unfold BodyAt1
    rw [bigSep_W1, bigSep_W1]
    simp only [before1_0, before1_1, before1_2, before1_3, before1_4, before1_5, before1_6, before1_7]
    rw [show (dat1 V c).Φ t.succ = iprop((∃ d, owns (c : Thread nD τ) scM1 fullShare d) ∗ owns (c : Thread nD τ) scM2 fullShare (st1 V c (t.val + 1) t.isLt) ∗ rest1 (F := F) c) from rfl,
      show (dat1 V c).owesAt () t.succ = (dat1 V c).owesAt () t.castSucc from rfl, Phi1_castSucc]
    rw [Phi1_pos V c _ _ hz]
    iintro ⟨⟨HG, HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    rw [before1_9 V c t hz]
    rw [before1_10 V c t hz]
    rw [before1_11 V c t hz]
    rw [before1_12 V c t hz]
    iapply (bwd_runB c (grid1.coords t) _ _ _ _ _ _ _ _ _ _ _ _ _ _ _ _ _ _ _ _ _ _ _ _ _ _ _ _ _ _ (fun h => hz ((hcond1 t).mp h)) (iblk1 V c 0 t) (iblk1 V c 1 t) (iblk1 V c 2 t) (iblk1 V c 3 t) (iblk1 V c 4 t) (iblk1 V c 5 t) (iblk1 V c 6 t) (iblk1 V c 7 t) (st1 V c t.val t.isLt.le) (accBd V c t.val t.isLt.le) (accCd V c t.val t.isLt.le) (accAr V c t.val t.isLt.le) (accAi V c t.val t.isLt.le) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexact H11
    isplitl [H12]; · iexact H12
    isplitl [HG]; · iexact HG
    isplitl [HS]; · iexact HS
    iintro ⟨H0, H1, H2, H3, H4, H5, H6, H7, H8, H9, H10, H11, H12, HG, HS⟩
    isplitl [HG HS Hr]
    · isplitl [HG]; · iexact HG
      isplitl [HS]
      · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- Each point's body, from what the region keeps and the staging buffers, leaves what the proof data say. -/
theorem body1 (c : Dev nD) : BodyObligation (dat1 V c) (defs₀ (F := F)) 𝒱₀ () Set.univ := fun t => by
  by_cases hz : t.val = 0
  · exact body1_first V c t hz
  · exact body1_next V c t hz

end Cert.KernelIdeal.S5
end
-- ==== Proof.S5Run.lean ====
/-
  The kernel's run: the two casts on the host, the forward scan's region, the backward scan's region; every fair execution
  ends, with every buffer that outlives a region at contents named here.
-/
module

public import proofs.«01_k».proof.Proof.S5Region1
public import proofs.«01_k».proof.Proof.Gen.KernelIdeal.Regions
public import Idealize.ShloMosaic.Lib.Tactic
public import Idealize.ShloMosaic.Lib.Pipeline.Kit
public import Idealize.ShloMosaic.Lib.Pipeline.FrameSuffix
public import Idealize.ShloMosaic.Lib.Pipeline.RegionsLoop

@[expose] public section

set_option maxRecDepth 16384

noncomputable section

namespace Cert.KernelIdeal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation RegionSeg Seg)
open Idealize.ShloMosaic.Rounds
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the forward region is entered with. -/
abbrev Va : Vals (F := F) := fun c b => V1 m c b

/-- A core's unscoped buffers after the forward region. -/
def Wb (c : Dev nD) : Valuation τ sig (Elt F) :=
  Pipeline.withArrays spec0 c (V1 m c) fun w => (dat0 (Va m) c).arrAt w cfg0.N

/-- What the backward region is entered with. -/
abbrev Vb : Vals (F := F) := fun c b => Wb m c b

/-- A core's unscoped buffers after the backward region. -/
def Wc (c : Dev nD) : Valuation τ sig (Elt F) :=
  Pipeline.withArrays spec1 c (Wb m c) fun w => (dat1 (Vb m) c).arrAt w cfg1.N

abbrev Vc : Vals (F := F) := fun c b => Wc m c b

/-- The regions' proof data. -/
def pdats : (p : Fin 2) → (c : Dev nD) → Dat τ (Elt F) Unit ℕ (UR sig nD τ) ℕ (cfgs p) c
  | ⟨0, _⟩ => fun c => dat0 (Va m) c
  | ⟨1, _⟩ => fun c => dat1 (Vb m) c

/-- What a core holds beside its buffers between items: nothing owed. -/
abbrev Rest (c : Dev nD) : sProp 𝕄 := iprop(∃ W, owes (c : Thread nD τ) (0 : CellTallies nD τ sig Unit) W)

theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ rest0 (F := F) c) := by
  rw [Pipeline.scopedRest_split_of_list spec0 c [cc0_scratch0] (by decide) (by decide)]
  simp only [scM0, owns_whole]
  rfl

theorem scoped1_eq (c : Dev nD) :
    (Pipeline.scopedRest (Ix := Unit) (Name := ℕ) (U := UR sig nD τ) (Lvl := ℕ) (Val := Elt F) spec1 c : sProp 𝕄)
      = iprop(((∃ d, owns (c : Thread nD τ) scM1 fullShare d) ∗ (∃ d, owns (c : Thread nD τ) scM2 fullShare d)) ∗ rest1 (F := F) c) := by
  rw [Pipeline.scopedRest_split_of_list spec1 c [cc1_scratch0, cc1_scratch1] (by decide) (by decide)]
  simp only [scM1, scM2, owns_whole]
  rfl

/-- After its last point the forward region gives its scratch back. -/
theorem Phi0_back (V : Vals (F := F)) (c : Dev nD) (n : ℕ) (h : n ≤ cfg0.N) :
    Phi0 V c n h ⊢ (Pipeline.scopedRest (Ix := Unit) (Name := ℕ) (U := UR sig nD τ) (Lvl := ℕ) (Val := Elt F) spec0 c : sProp 𝕄) := by
  rw [scoped0_eq]
  cases n with
  | zero => exact .rfl
  | succ n =>
    show iprop(owns (c : Thread nD τ) scM0 fullShare (st0 V c (n + 1) h) ∗ rest0 (F := F) c) ⊢ _
    generalize st0 V c (n + 1) h = v
    generalize rest0 (F := F) c = R
    iintro ⟨Hs, Hr⟩
    isplitl [Hs]; · iexists v; iexact Hs
    iexact Hr

/-- After its last point the backward region gives its scratches back. -/
theorem Phi1_back (V : Vals (F := F)) (c : Dev nD) (n : ℕ) (h : n ≤ cfg1.N) :
    Phi1 V c n h ⊢ (Pipeline.scopedRest (Ix := Unit) (Name := ℕ) (U := UR sig nD τ) (Lvl := ℕ) (Val := Elt F) spec1 c : sProp 𝕄) := by
  rw [scoped1_eq]
  cases n with
  | zero =>
    show iprop((∃ d, owns (c : Thread nD τ) scM1 fullShare d) ∗ (∃ d, owns (c : Thread nD τ) scM2 fullShare d) ∗ rest1 (F := F) c) ⊢ _
    generalize rest1 (F := F) c = R
    iintro ⟨Hg, Hs, Hr⟩
    isplitl [Hg Hs]
    · isplitl [Hg]; · iexact Hg
      iexact Hs
    iexact Hr
  | succ n =>
    show iprop((∃ d, owns (c : Thread nD τ) scM1 fullShare d) ∗ owns (c : Thread nD τ) scM2 fullShare (st1 V c (n + 1) h) ∗ rest1 (F := F) c) ⊢ _
    generalize st1 V c (n + 1) h = v
    generalize rest1 (F := F) c = R
    iintro ⟨Hg, Hs, Hr⟩
    isplitl [Hg Hs]
    · isplitl [Hg]; · iexact Hg
      iexists v; iexact Hs
    iexact Hr

/-- Before the first point each region takes its scratches at anything. -/
theorem Phi0_take (V : Vals (F := F)) (c : Dev nD) :
    (Pipeline.scopedRest (Ix := Unit) (Name := ℕ) (U := UR sig nD τ) (Lvl := ℕ) (Val := Elt F) spec0 c : sProp 𝕄) ⊢ Phi0 V c 0 (Nat.zero_le _) := by
  rw [scoped0_eq]; exact .rfl

theorem Phi1_take (V : Vals (F := F)) (c : Dev nD) :
    (Pipeline.scopedRest (Ix := Unit) (Name := ℕ) (U := UR sig nD τ) (Lvl := ℕ) (Val := Elt F) spec1 c : sProp 𝕄) ⊢ Phi1 V c 0 (Nat.zero_le _) := by
  rw [scoped1_eq]
  show _ ⊢ iprop((∃ d, owns (c : Thread nD τ) scM1 fullShare d) ∗ (∃ d, owns (c : Thread nD τ) scM2 fullShare d) ∗ rest1 (F := F) c)
  generalize rest1 (F := F) c = R
  iintro ⟨⟨Hg, Hs⟩, Hr⟩
  isplitl [Hg]; · iexact Hg
  isplitl [Hs]; · iexact Hs
  iexact Hr

set_option backward.isDefEq.respectTransparency.types false in
/-- The forward region, entered from the buffers the host lines leave. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body0 (Va m) c).loose
  hwaits := Pipeline.hwaits_of_owed_zero _ _ _ _ L lv 0 fun _ _ => rfl
  pre c := iprop(unscopedBufs c (Va m c) ∗ Rest (F := F) c)
  post c := iprop(unscopedBufs c (Vb m c) ∗ Rest (F := F) c)
  X _ := BI.emp
  Y _ := BI.emp
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Phi0 (Va m) c 0 (Nat.zero_le _) from rfl]
    have e := Phi0_take (Va m) c
    generalize Phi0 (Va m) c 0 (Nat.zero_le _) = Q at e ⊢
    iintro ⟨-, -, Hr⟩
    iapply e; iexact Hr
  hout c := by
    rw [Pipeline.ownSems0_none]
    have e := Phi0_back (Va m) c cfg0.N le_rfl
    rw [show (pdats m 0 c).Φ (Fin.last _) = Phi0 (Va m) c cfg0.N le_rfl from rfl]
    generalize Phi0 (Va m) c cfg0.N le_rfl = Q at e ⊢
    iintro HQ
    isplitr; · iempintro
    isplitr; · iempintro
    iapply e; iexact HQ
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (Va m c) (Vb m c) ((pdats m 0 c).arrAt · cfg0.N)
      (fun w => (Pipeline.withArrays_arr spec0 launch0.win.arr_inj c (V1 m c) (fun w => (dat0 (Va m) c).arrAt w cfg0.N) w).symm)
      (fun b hb => Pipeline.withArrays_of_ne spec0 c (V1 m c) _ b fun w e => hb (Finset.mem_image.mpr ⟨w, Finset.mem_univ _, e⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The backward region, entered from the buffers the forward region leaves. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body1 (Vb m) c).loose
  hwaits := Pipeline.hwaits_of_owed_zero _ _ _ _ L lv 1 fun _ _ => rfl
  pre c := iprop(unscopedBufs c (Vb m c) ∗ Rest (F := F) c)
  post c := iprop(unscopedBufs c (Vc m c) ∗ Rest (F := F) c)
  X _ := BI.emp
  Y _ := BI.emp
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs_shared (p := 1) (pcfgs (F := F)) adm (pdats m) winFacts₀1 sharedIn1 arr_whole1 c
      (fun _ _ => rfl) (Vb m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Phi1 (Vb m) c 0 (Nat.zero_le _) from rfl]
    have e := Phi1_take (Vb m) c
    generalize Phi1 (Vb m) c 0 (Nat.zero_le _) = Q at e ⊢
    iintro ⟨-, -, Hr⟩
    iapply e; iexact Hr
  hout c := by
    rw [Pipeline.ownSems0_none]
    have e := Phi1_back (Vb m) c cfg1.N le_rfl
    rw [show (pdats m 1 c).Φ (Fin.last _) = Phi1 (Vb m) c cfg1.N le_rfl from rfl]
    generalize Phi1 (Vb m) c cfg1.N le_rfl = Q at e ⊢
    iintro HQ
    isplitr; · iempintro
    isplitr; · iempintro
    iapply e; iexact HQ
  hexit c := by
    have hjoin := Pipeline.unscopedBufs_of_arrays_shared (p := 1) (pcfgs (F := F)) adm (Ix := Unit) (Name := ℕ) (U := UR sig nD τ) (Lvl := ℕ) winFacts₀1 sharedIn1 arr_whole1 c
      (pdats m) (fun _ _ => rfl) (Vb m c) (Vc m c) ((pdats m 1 c).arrAt · cfg1.N)
      (fun w => ((dat1 (Vb m) c).withArrays_arrAt sharedIn1 (Wb m c) (fun _ => rfl) w).symm)
      (fun b hb => Pipeline.withArrays_of_ne spec1 c (Wb m c) _ b fun w e => hb (Finset.mem_image.mpr ⟨w, Finset.mem_univ _, e⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The launch's ghost resource. -/
def u₀ : UR sig nD τ := initOf (Pipeline.cells cfgs cellOf_inj) (Pipeline.launchToks cfgs cellOf_inj)

set_option backward.isDefEq.respectTransparency.types false in
/-- For any float values, from any memory with zero counters: every fair execution of @main ends, every unscoped buffer
    at `Wc` and every counter at zero. -/
theorem run_main : θ_run defs (onTc (τ := τ) (main (F := F))) ⟨m, fun _ => 0, ρ⟩ (fun r =>
    (∀ c : Dev nD, ∀ b : Ref sig .tc, b.isScoped = false → r.2.mem ((c : Thread nD τ).loc b) = Wc m c b) ∧ r.2.sem = fun _ => 0) := by
  refine Pipeline.θ_run_regions_kit_dev_sems (pcfgs (F := F)) adm (pdats m) () cellOf_inj emb₁ defs₀ 𝒱₀ L lv m ρ main
    (segs m 𝒱₀ L lv (fun _ c => Rest (F := F) c) () (pdats m) (reg0 m) (reg1 m))
    (fun c Q => by
      rewrite [main_chain c, Seg.run_eq_chain,
        show (segs m 𝒱₀ L lv (fun _ c => Rest (F := F) c) () (pdats m) (reg0 m) (reg1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) 0 (fun _ _ => rfl) (fun _ => iprop(emp)) u₀
    (by
      iintro Hu; imodintro
      isplitl [Hu]; · iapply (show (ownU u₀ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest (F := F) c))
    (Tₙ := fun c => StableHlo.held (c : Thread nD τ) (Pipeline.ucRefs τ sig) (Wc m c))
    (hch := fun c => ⟨.rfl, sep_mono (Entails.of_eq (Pipeline.unscopedBufs_held (Ix := Unit) (Name := ℕ) (U := UR sig nD τ) (Lvl := ℕ) c (V1 m c)).symm) .rfl, .rfl,
      sep_mono (Entails.of_eq (Pipeline.unscopedBufs_held (Ix := Unit) (Name := ℕ) (U := UR sig nD τ) (Lvl := ℕ) c (Wc m c))) .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => ∀ b : Ref sig .tc, b.isScoped = false → s.mem ((c : Thread nD τ).loc b) = Wc m c b)
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (Wc m c) s') $$ [Hh HSI]
  · isplitl [Hh] <;> iassumption
  icases Hr with ⟨%h, HSI⟩
  imodintro
  isplitr
  · ipureintro
    exact fun b hb => h (Proc.devRef .tc b) (Finset.mem_filter.mpr ⟨StableHlo.devRef_mem_tcRefs b, by show ¬ (b.isScoped = true); rw [hb]; exact Bool.false_ne_true⟩)
  iexact HSI

end Cert.KernelIdeal.S5
end
-- ==== Proof.S5Frame.lean ====
/-
  The kernel's two frames and its idealization, from the run: no region and no host line writes an argument.
-/
module

public import proofs.«01_k».proof.Defs
public import proofs.«01_k».proof.Proof.S5Run
public import proofs.«01_k».proof.Proof.Gen.Kernel

@[expose] public section

set_option maxRecDepth 16384

noncomputable section

namespace Cert.KernelIdeal.S5

open Idealize.ShloMosaic Idealize.ShloMosaic.TcCoe
open Idealize.SL Idealize.SL.Sem
open Cert.KernelIdeal.Gen

variable {F : FTy → Type} [FloatOps F]

variable (m : (ℓ : Loc nD τ sig) → Buf (Elt F) ℓ) (ρ : Dev nD → PrngReg)

/-- The forward region changes its two results alone. -/
theorem Wb_of (c : Dev nD) (b : Ref sig .tc) (h : b ∉ ([main_v2_0, main_v2_1] : List (Ref sig .tc))) : Wb m c b = V1 m c b := by
  by_cases hw : ∃ w, Pipeline.arrRef spec0 w = b
  · obtain ⟨w, rfl⟩ := hw
    have ho : (cfg0.win w).isOut = false := by revert w; decide
    exact (Pipeline.withArrays_arr spec0 launch0.win.arr_inj c (V1 m c) (fun w => (dat0 (Va m) c).arrAt w cfg0.N) w).trans ((dat0 (Va m) c).arrAt_in w ho _)
  · exact Pipeline.withArrays_of_ne spec0 c (V1 m c) _ b fun w e => hw ⟨w, e⟩

/-- The backward region changes its five results alone. -/
theorem Wc_of (c : Dev nD) (b : Ref sig .tc) (h : b ∉ ([main_v3_0, main_v3_1, main_v3_2, main_v3_3, main_v3_4] : List (Ref sig .tc))) : Wc m c b = Wb m c b := by
  by_cases hw : ∃ w, Pipeline.arrRef spec1 w = b
  · obtain ⟨w, rfl⟩ := hw
    have ho : (cfg1.win w).isOut = false := by revert w; decide
    exact ((dat1 (Vb m) c).withArrays_arrAt sharedIn1 (Wb m c) (fun _ => rfl) w).trans ((dat1 (Vb m) c).arrAt_in w ho _)
  · exact Pipeline.withArrays_of_ne spec1 c (Wb m c) _ b fun w e => hw ⟨w, e⟩

/-- A buffer nothing writes ends as launched. -/
theorem Wc_arg (c : Dev nD) (b : Ref sig .tc) (h : b ∉ ([main_v0, main_v1, main_v2_0, main_v2_1, main_v3_0, main_v3_1, main_v3_2, main_v3_3, main_v3_4] : List (Ref sig .tc))) :
    Wc m c b = m ((c : Thread nD τ).loc b) := by
  simp only [List.mem_cons, List.not_mem_nil, or_false, not_or] at h
  rw [Wc_of m c b (by simp [h]), Wb_of m c b (by simp [h]), V1_of m c b (by simp [h])]

/-- Every fair execution ends with the arguments as launched and every counter at zero. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(h.1 c main_arg0 (by decide)).trans (Wc_arg m c _ (by decide)), (h.1 c main_arg1 (by decide)).trans (Wc_arg m c _ (by decide)),
      (h.1 c main_arg2 (by decide)).trans (Wc_arg m c _ (by decide)), (h.1 c main_arg3 (by decide)).trans (Wc_arg m c _ (by decide)),
      (h.1 c main_arg4 (by decide)).trans (Wc_arg m c _ (by decide)), (h.1 c main_arg5 (by decide)).trans (Wc_arg m c _ (by decide))⟩, h.2⟩)
    (run_main m ρ)

end Cert.KernelIdeal.S5

namespace Cert.Proof

open Idealize.ShloMosaic Idealize.ShloMosaic.TcCoe
open Idealize.SL Idealize.SL.Sem

theorem frame_kernelIdeal : Cert.quiescent_KernelIdeal := fun m ρ _ => Cert.KernelIdeal.S5.run_args m ρ

set_option maxHeartbeats 1000000 in
/-- The bodies of the two printed texts are the same programs, label by label. -/
theorem bodies_eq : @Cert.Kernel.defs₀ Bits _ _ = @Cert.KernelIdeal.defs₀ Bits _ _ := by
  unfold Cert.Kernel.defs₀ Cert.KernelIdeal.defs₀
  refine congrArg Defs.onTc ?_
  funext l
  match l with
  | 0 => rfl
  | 1 => rfl

theorem defs_eq : @Cert.Kernel.defs Bits _ _ = @Cert.KernelIdeal.defs Bits _ _ := by
  unfold Cert.Kernel.defs Cert.KernelIdeal.defs
  exact congrArg (Pipeline.defs (Cert.KernelIdeal.pcfgs (F := Bits))) bodies_eq

/-- The kernel as printed: the same program, read at the machine's float bits. -/
theorem frame_kernel : Cert.quiescent_Kernel := by
  intro m ρ _
  have h := Cert.KernelIdeal.S5.run_args (F := Bits) m ρ
  rw [← defs_eq] at h
  exact h

theorem preserves : Cert.preserves_Kernel_KernelIdeal := trivial

end Cert.Proof
end
-- ==== Proof.S5Model.lean ====
/-
  The S5 recurrence and its gradient, lane by lane, on extended reals: 8 batch rows by 1024 complex states, 2304 steps
  over rows stored step-major (row `8 t + b`), the real parts in columns 0 to 1023 and the imaginary parts in columns
  1024 to 2047.
-/
module

public import Idealize.ShloMosaic.Lib.Pointwise

@[expose] public section

noncomputable section

open scoped BigOperators

namespace Cert.S5Model

open Idealize.ShloMosaic in
/-- An array of two axes by its coordinates. -/
def of2 {a b : ℕ} (x : Vec Ideal ⟨2, ![a, b]⟩ .f32) (i : Fin a) (j : Fin b) : EReal := x (ix2 i j)
open Idealize.ShloMosaic in
/-- An array of two axes from its entries. -/
def to2 {a b : ℕ} (f : Fin a → Fin b → EReal) : Vec Ideal ⟨2, ![a, b]⟩ .f32 := fun i => f (i 0) (i 1)

/-- The state after `t` steps of one lane: `x ← a x + v`, from zero, real and imaginary part. -/
def state (ar ai : EReal) (vr vi : ℕ → EReal) : ℕ → EReal × EReal
  | 0 => (0, 0)
  | t + 1 => (ar * (state ar ai vr vi t).1 - ai * (state ar ai vr vi t).2 + vr t, ar * (state ar ai vr vi t).2 + ai * (state ar ai vr vi t).1 + vi t)

/-- The gradient of the state after `n` steps back from the end of one lane: `g ← conj(a) g + dx`, from zero; step `n`
    takes row `2303 - n`. -/
def adj (ar ai : EReal) (gr gi : ℕ → EReal) : ℕ → EReal × EReal
  | 0 => (0, 0)
  | n + 1 => (ar * (adj ar ai gr gi n).1 + ai * (adj ar ai gr gi n).2 + gr (2303 - n), ar * (adj ar ai gr gi n).2 - ai * (adj ar ai gr gi n).1 + gi (2303 - n))

variable (u dy : Fin 18432 → Fin 512 → EReal) (bd : Fin 512 → Fin 2048 → EReal) (cd : Fin 2048 → Fin 512 → EReal) (ar ai : Fin 8 → Fin 1024 → EReal)

/-- The driven rows `u · bd`. -/
def drive (r c : ℕ) : EReal := if h : r < 18432 ∧ c < 2048 then ∑ k, u ⟨r, h.1⟩ k * bd k ⟨c, h.2⟩ else 0
/-- The gradient of the states as the output sees them, `dy · cdᵀ`. -/
def grad (r c : ℕ) : EReal := if h : r < 18432 ∧ c < 2048 then ∑ d, dy ⟨r, h.1⟩ d * cd ⟨c, h.2⟩ d else 0

theorem drive_eq (r : Fin 18432) (c : Fin 2048) : drive u bd r.val c.val = ∑ k, u r k * bd k c := by
  unfold drive
  rw [dif_pos ⟨r.isLt, c.isLt⟩]
theorem grad_eq (r : Fin 18432) (c : Fin 2048) : grad dy cd r.val c.val = ∑ d, dy r d * cd c d := by
  unfold grad
  rw [dif_pos ⟨r.isLt, c.isLt⟩]

/-- Lane `(b, j)`'s state after `t` steps. -/
def st (b : Fin 8) (j : Fin 1024) : ℕ → EReal × EReal :=
  state (ar b j) (ai b j) (fun t => drive u bd (8 * t + b.val) j.val) (fun t => drive u bd (8 * t + b.val) (1024 + j.val))
/-- Lane `(b, j)`'s state gradient after `n` steps back. -/
def ad (b : Fin 8) (j : Fin 1024) : ℕ → EReal × EReal :=
  adj (ar b j) (ai b j) (fun t => grad dy cd (8 * t + b.val) j.val) (fun t => grad dy cd (8 * t + b.val) (1024 + j.val))

/-- Component `c / 1024` of a pair. -/
def comp (c : ℕ) (z : EReal × EReal) : EReal := if c < 1024 then z.1 else z.2

/-- The lane of a row and the state number of a column. -/
def laneOf (r : ℕ) : Fin 8 := ⟨r % 8, Nat.mod_lt _ (by decide)⟩
@[inherit_doc laneOf]
def colOf (c : ℕ) : Fin 1024 := ⟨c % 1024, Nat.mod_lt _ (by decide)⟩

/-- All states: row `8 t + b` is the state after `t + 1` steps. -/
def X (r : Fin 18432) (c : Fin 2048) : EReal := comp c.val (st u bd ar ai (laneOf r.val) (colOf c.val) (r.val / 8 + 1))
/-- All state gradients: row `8 t + b` is taken `2304 - t` steps back from the end. -/
def A (r : Fin 18432) (c : Fin 2048) : EReal := comp c.val (ad dy cd ar ai (laneOf r.val) (colOf c.val) (2304 - r.val / 8))

/-- The output, and the gradients of the inputs, of both weights and of both transition components. -/
def y (r : Fin 18432) (d : Fin 512) : EReal := ∑ c, X u bd ar ai r c * cd c d
@[inherit_doc y]
def du (r : Fin 18432) (k : Fin 512) : EReal := ∑ c, A dy cd ar ai r c * bd k c
@[inherit_doc y]
def dbd (k : Fin 512) (c : Fin 2048) : EReal := ∑ r, u r k * A dy cd ar ai r c
@[inherit_doc y]
def dcd (c : Fin 2048) (d : Fin 512) : EReal := ∑ r, X u bd ar ai r c * dy r d
@[inherit_doc y]
def dar (b : Fin 8) (j : Fin 1024) : EReal := ∑ n ∈ Finset.range 2304,
  ((ad dy cd ar ai b j (n + 1)).1 * (st u bd ar ai b j (2303 - n)).1 + (ad dy cd ar ai b j (n + 1)).2 * (st u bd ar ai b j (2303 - n)).2)
@[inherit_doc y]
def dai (b : Fin 8) (j : Fin 1024) : EReal := ∑ n ∈ Finset.range 2304,
  ((ad dy cd ar ai b j (n + 1)).2 * (st u bd ar ai b j (2303 - n)).1 - (ad dy cd ar ai b j (n + 1)).1 * (st u bd ar ai b j (2303 - n)).2)

end Cert.S5Model
-- ==== Proof.S5KerBlocks.lean ====
/-
  Rows of lanes in a block of states: eight rows by 2048 columns are two windows of 8 by 1024, the real and the
  imaginary parts; reading and overwriting them, entry by entry.
-/
module

public import proofs.«01_k».proof.Proof.S5Model
public import proofs.«01_k».proof.Proof.Gen.KernelIdeal.Skeleton
public import Idealize.ShloMosaic.Lib.VecWindow

@[expose] public section

set_option maxRecDepth 16384

noncomputable section

namespace Cert.KernelIdeal.S5

open Idealize.ShloMosaic
open Cert.KernelIdeal Cert.KernelIdeal.Gen Cert.S5Model

theorem comp_lo {c : ℕ} (h : c < 1024) (z : EReal × EReal) : comp c z = z.1 := if_pos h
theorem comp_hi {c : ℕ} (h : ¬c < 1024) (z : EReal × EReal) : comp c z = z.2 := if_neg h

/-- A window of lanes. -/
theorem window_lanes {R : ℕ} (x : Vec Ideal ⟨2, ![R, 2048]⟩ .f32) (off : Fin 2 → ℕ) (q p : ℕ) (hoff : off = ![q, p])
    (inb : ∀ a, off a + S8x1024.size a ≤ (⟨2, ![R, 2048]⟩ : Shape).size a) (b : Fin 8) (j : Fin 1024) (r : Fin R) (c : Fin 2048)
    (hr : r.val = q + b.val) (hc : c.val = p + j.val) :
    of2 (VecWindow.window x off S8x1024.size inb : Vec Ideal S8x1024 .f32) b j = of2 x r c := by
  subst hoff
  unfold of2 VecWindow.window
  refine congrArg x (funext fun a => Fin.ext ?_)
  match a with
  | ⟨0, _⟩ => show q + 1 * b.val = r.val; omega
  | ⟨1, _⟩ => show p + 1 * j.val = c.val; omega

/-- One row of lanes overwritten, both parts. -/
theorem put_lanes {R : ℕ} (x : Vec Ideal ⟨2, ![R, 2048]⟩ .f32) (o1 o2 : Fin 2 → ℕ) (k : ℕ) (h1 : o1 = ![8 * k, 0]) (h2 : o2 = ![8 * k, 1024])
    (w1 w2 : Vec Ideal S8x1024 .f32) (r : Fin R) (c : Fin 2048) :
    of2 (VecWindow.put (s := ⟨2, ![R, 2048]⟩) (VecWindow.put (s := ⟨2, ![R, 2048]⟩) x o1 S8x1024.size w1) o2 S8x1024.size w2 : Vec Ideal ⟨2, ![R, 2048]⟩ .f32) r c
      = if r.val / 8 = k then comp c.val (of2 w1 (laneOf r.val) (colOf c.val), of2 w2 (laneOf r.val) (colOf c.val)) else of2 x r c := by
  subst h1 h2
  have hc := c.isLt
  unfold of2 VecWindow.put
  by_cases hk : r.val / 8 = k
  · rw [if_pos hk]
    by_cases hl : c.val < 1024
    · rw [comp_lo hl, dif_neg (fun h => absurd (h 1).1 (by show ¬(1024 ≤ c.val); omega)), dif_pos (fun a => match a with
        | ⟨0, _⟩ => by show 8 * k ≤ r.val ∧ r.val < 8 * k + 8; omega
        | ⟨1, _⟩ => by show 0 ≤ c.val ∧ c.val < 0 + 1024; omega)]
      refine congrArg w1 (funext fun a => Fin.ext ?_)
      match a with
      | ⟨0, _⟩ => show r.val - 8 * k = r.val % 8; omega
      | ⟨1, _⟩ => show c.val - 0 = c.val % 1024; omega
    · rw [comp_hi hl, dif_pos (fun a => match a with
        | ⟨0, _⟩ => by show 8 * k ≤ r.val ∧ r.val < 8 * k + 8; omega
        | ⟨1, _⟩ => by show 1024 ≤ c.val ∧ c.val < 1024 + 1024; omega)]
      refine congrArg w2 (funext fun a => Fin.ext ?_)
      match a with
      | ⟨0, _⟩ => show r.val - 8 * k = r.val % 8; omega
      | ⟨1, _⟩ => show c.val - 1024 = c.val % 1024; omega
  · rw [if_neg hk, dif_neg (fun h => absurd (h 0) (by show ¬(8 * k ≤ r.val ∧ r.val < 8 * k + 8); omega)),
      dif_neg (fun h => absurd (h 0) (by show ¬(8 * k ≤ r.val ∧ r.val < 8 * k + 8); omega))]

end Cert.KernelIdeal.S5
end
-- ==== Proof.S5KerBwd.lean ====
/-
  The backward scan by values: one point's block is 32 steps of the gradient's recurrence, taken from the block's last
  rows to its first, from the gradient the block after it left.
-/
module

public import proofs.«01_k».proof.Proof.S5KerBlocks
public import proofs.«01_k».proof.Proof.S5Bwd

@[expose] public section

set_option maxRecDepth 16384

noncomputable section

open scoped BigOperators

namespace Cert.KernelIdeal.S5

open Idealize.ShloMosaic Idealize.ShloMosaic.TcCoe
open Cert.KernelIdeal Cert.KernelIdeal.Gen Cert.S5Model

variable (u dy : Fin 18432 → Fin 512 → EReal) (bd : Fin 512 → Fin 2048 → EReal) (cd : Fin 2048 → Fin 512 → EReal) (ar ai : Fin 8 → Fin 1024 → EReal)

theorem trips1 : k1_t1_loop.trips = 31 := by decide +kernel

/-- Step `n`'s part of the gradients of the two transition components. -/
def partR (b : Fin 8) (j : Fin 1024) (n : ℕ) : EReal :=
  (ad dy cd ar ai b j (n + 1)).1 * (st u bd ar ai b j (2303 - n)).1 + (ad dy cd ar ai b j (n + 1)).2 * (st u bd ar ai b j (2303 - n)).2
@[inherit_doc partR]
def partI (b : Fin 8) (j : Fin 1024) (n : ℕ) : EReal :=
  (ad dy cd ar ai b j (n + 1)).2 * (st u bd ar ai b j (2303 - n)).1 - (ad dy cd ar ai b j (n + 1)).1 * (st u bd ar ai b j (2303 - n)).2

/-! ## The payloads -/

theorem pay11_eq (x0 : Vec Ideal S256x512 .f32) (x5 : Vec Ideal S2048x512 .bf16) (t : ℕ) (ht : t < 72)
    (h0 : ∀ (r : Fin 256) k, of2 x0 r k = dy ⟨256 * (71 - t) + r.val, by omega⟩ k) (h5 : ∀ c d, of2 x5 c d = cd c d) (r : Fin 256) (c : Fin 2048) :
    of2 (k1_pay11 x0 x5) r c = grad dy cd (256 * (71 - t) + r.val) c.val := by
  refine Eq.trans ?_ (grad_eq dy cd ⟨256 * (71 - t) + r.val, by omega⟩ c).symm
  refine Eq.trans ?_ (Finset.sum_congr rfl fun k _ => congrArg₂ (· * ·) (h0 r k) (h5 c k))
  unfold of2 k1_pay11 k1_pay10
  pointwise

theorem pay15_eq (x6 x7 p q g : Vec Ideal S8x1024 .f32) (b : Fin 8) (j : Fin 1024) :
    of2 (k1_pay15 x6 x7 p q g) b j = of2 g b j + of2 x6 b j * of2 p b j + of2 x7 b j * of2 q b j := by
  unfold of2 k1_pay15
  pointwise
theorem pay16_eq (x6 x7 p q g : Vec Ideal S8x1024 .f32) (b : Fin 8) (j : Fin 1024) :
    of2 (k1_pay16 x6 x7 p q g) b j = of2 g b j - of2 x7 b j * of2 p b j + of2 x6 b j * of2 q b j := by
  unfold of2 k1_pay16
  pointwise
theorem pay17_eq (x6 x7 p q g : Vec Ideal S8x1024 .f32) (b : Fin 8) (j : Fin 1024) : of2 (k1_pay17 x6 x7 p q g) b j = of2 (k1_pay15 x6 x7 p q g) b j := by
  unfold of2 k1_pay17
  pointwise
theorem pay18_eq (x6 x7 p q g : Vec Ideal S8x1024 .f32) (b : Fin 8) (j : Fin 1024) : of2 (k1_pay18 x6 x7 p q g) b j = of2 (k1_pay16 x6 x7 p q g) b j := by
  unfold of2 k1_pay18
  pointwise
theorem pay19_eq (x6 x7 p q s xr xi g h : Vec Ideal S8x1024 .f32) (b : Fin 8) (j : Fin 1024) :
    of2 (k1_pay19 x6 x7 p q s xr xi g h) b j = of2 s b j + of2 (k1_pay15 x6 x7 p q g) b j * of2 xr b j + of2 (k1_pay16 x6 x7 p q h) b j * of2 xi b j := by
  unfold of2 k1_pay19 k1_pay13 k1_pay14
  pointwise
theorem pay20_eq (x6 x7 p q s xr xi g h : Vec Ideal S8x1024 .f32) (b : Fin 8) (j : Fin 1024) :
    of2 (k1_pay20 x6 x7 p q s xr xi g h) b j = of2 s b j + of2 (k1_pay16 x6 x7 p q h) b j * of2 xr b j - of2 (k1_pay15 x6 x7 p q g) b j * of2 xi b j := by
  unfold of2 k1_pay20 k1_pay13 k1_pay14
  pointwise
theorem pay26_eq (x6 x7 p q g : Vec Ideal S8x1024 .f32) (b : Fin 8) (j : Fin 1024) : of2 (k1_pay26 x6 x7 p q g) b j = of2 (k1_pay15 x6 x7 p q g) b j := by
  unfold of2 k1_pay26 k1_pay24 k1_pay15
  pointwise
theorem pay27_eq (x6 x7 p q g : Vec Ideal S8x1024 .f32) (b : Fin 8) (j : Fin 1024) : of2 (k1_pay27 x6 x7 p q g) b j = of2 (k1_pay16 x6 x7 p q g) b j := by
  unfold of2 k1_pay27 k1_pay25 k1_pay16
  pointwise
theorem pay28_eq (x6 x7 p q g : Vec Ideal S8x1024 .f32) (b : Fin 8) (j : Fin 1024) : of2 (k1_pay28 x6 x7 p q g) b j = of2 (k1_pay15 x6 x7 p q g) b j := by
  unfold of2 k1_pay28 k1_pay24 k1_pay15
  pointwise
theorem pay29_eq (x6 x7 p q g : Vec Ideal S8x1024 .f32) (b : Fin 8) (j : Fin 1024) : of2 (k1_pay29 x6 x7 p q g) b j = of2 (k1_pay16 x6 x7 p q g) b j := by
  unfold of2 k1_pay29 k1_pay25 k1_pay16
  pointwise
theorem pay30_eq (x6 x7 p q s xr xi g h o : Vec Ideal S8x1024 .f32) (b : Fin 8) (j : Fin 1024) :
    of2 (k1_pay30 x6 x7 p q s xr xi g h o) b j
      = of2 o b j + (of2 s b j + of2 (k1_pay15 x6 x7 p q g) b j * of2 xr b j + of2 (k1_pay16 x6 x7 p q h) b j * of2 xi b j) := by
  unfold of2 k1_pay30 k1_pay24 k1_pay25 k1_pay15 k1_pay16
  pointwise
theorem pay31_eq (x6 x7 p q s xr xi g h o : Vec Ideal S8x1024 .f32) (b : Fin 8) (j : Fin 1024) :
    of2 (k1_pay31 x6 x7 p q s xr xi g h o) b j
      = of2 o b j + (of2 s b j + of2 (k1_pay16 x6 x7 p q h) b j * of2 xr b j - of2 (k1_pay15 x6 x7 p q g) b j * of2 xi b j) := by
  unfold of2 k1_pay31 k1_pay24 k1_pay25 k1_pay15 k1_pay16
  pointwise
theorem pay12_eq (b : Fin 8) (j : Fin 1024) : of2 (k1_pay12 (F := Ideal)) b j = 0 := by
  unfold of2 k1_pay12
  pointwise
theorem zero5 (b : Fin 8) (c : Fin 2048) : of2 (k1_pay5 (F := Ideal)) b c = 0 := by
  unfold of2 k1_pay5
  pointwise

/-! ## The loop -/

/-- After `n` steps of block `t`: the gradient, the two sums of the block, the block's rows done, the rows to come. -/
structure BackAt (t n : ℕ) (p : (Vec Ideal S8x1024 .f32 × Vec Ideal S8x1024 .f32 × Vec Ideal S8x1024 .f32 × Vec Ideal S8x1024 .f32) × Vec Ideal S256x2048 .f32) : Prop where
  re : ∀ b j, of2 p.1.1 b j = (ad dy cd ar ai b j (32 * t + n)).1
  im : ∀ b j, of2 p.1.2.1 b j = (ad dy cd ar ai b j (32 * t + n)).2
  sumRe : ∀ b j, of2 p.1.2.2.1 b j = ∑ i ∈ Finset.range n, partR u dy bd cd ar ai b j (32 * t + i)
  sumIm : ∀ b j, of2 p.1.2.2.2 b j = ∑ i ∈ Finset.range n, partI u dy bd cd ar ai b j (32 * t + i)
  rows : ∀ (r : Fin 256) (c : Fin 2048), of2 p.2 r c
    = if 31 - r.val / 8 < n then comp c.val (ad dy cd ar ai (laneOf r.val) (colOf c.val) (32 * t + (31 - r.val / 8) + 1)) else grad dy cd (256 * (71 - t) + r.val) c.val

variable {u dy bd cd ar ai}

/-- The gradient one step on, from the rows the block holds for it. -/
theorem BackAt.reNext {t n : ℕ} (ht : t < 72) (hn : n < 32) {p : (Vec Ideal S8x1024 .f32 × Vec Ideal S8x1024 .f32 × Vec Ideal S8x1024 .f32 × Vec Ideal S8x1024 .f32) × Vec Ideal S256x2048 .f32}
    (H : BackAt u dy bd cd ar ai t n p) (x6 x7 : Vec Ideal S8x1024 .f32) (h6 : ∀ b j, of2 x6 b j = ar b j) (h7 : ∀ b j, of2 x7 b j = ai b j)
    (off : Fin 2 → ℕ) (hoff : off = ![8 * (31 - n), 0]) (inb : ∀ a, off a + S8x1024.size a ≤ S256x2048.size a) (b : Fin 8) (j : Fin 1024) :
    of2 (k1_pay15 x6 x7 p.1.1 p.1.2.1 (VecWindow.window p.2 off S8x1024.size inb)) b j = (ad dy cd ar ai b j (32 * t + n + 1)).1 := by
  rw [pay15_eq, h6, h7, H.re, H.im, window_lanes p.2 _ _ _ hoff _ b j ⟨8 * (31 - n) + b.val, by omega⟩ ⟨j.val, by omega⟩ rfl (by simp), H.rows,
    if_neg (by show ¬31 - (8 * (31 - n) + b.val) / 8 < n; omega)]
  show _ = _ + grad dy cd (8 * (2303 - (32 * t + n)) + b.val) j.val
  rw [show 256 * (71 - t) + (8 * (31 - n) + b.val) = 8 * (2303 - (32 * t + n)) + b.val by omega, add_assoc, add_comm]
  rfl
@[inherit_doc BackAt.reNext]
theorem BackAt.imNext {t n : ℕ} (ht : t < 72) (hn : n < 32) {p : (Vec Ideal S8x1024 .f32 × Vec Ideal S8x1024 .f32 × Vec Ideal S8x1024 .f32 × Vec Ideal S8x1024 .f32) × Vec Ideal S256x2048 .f32}
    (H : BackAt u dy bd cd ar ai t n p) (x6 x7 : Vec Ideal S8x1024 .f32) (h6 : ∀ b j, of2 x6 b j = ar b j) (h7 : ∀ b j, of2 x7 b j = ai b j)
    (off : Fin 2 → ℕ) (hoff : off = ![8 * (31 - n), 1024]) (inb : ∀ a, off a + S8x1024.size a ≤ S256x2048.size a) (b : Fin 8) (j : Fin 1024) :
    of2 (k1_pay16 x6 x7 p.1.1 p.1.2.1 (VecWindow.window p.2 off S8x1024.size inb)) b j = (ad dy cd ar ai b j (32 * t + n + 1)).2 := by
  rw [pay16_eq, h6, h7, H.re, H.im, window_lanes p.2 _ _ _ hoff _ b j ⟨8 * (31 - n) + b.val, by omega⟩ ⟨1024 + j.val, by omega⟩ rfl rfl, H.rows,
    if_neg (by show ¬31 - (8 * (31 - n) + b.val) / 8 < n; omega)]
  show _ = _ + grad dy cd (8 * (2303 - (32 * t + n)) + b.val) (1024 + j.val)
  rw [show 256 * (71 - t) + (8 * (31 - n) + b.val) = 8 * (2303 - (32 * t + n)) + b.val by omega, sub_eq_add_neg, add_assoc, add_comm, add_comm (-_) (_ * _), ← sub_eq_add_neg]
  rfl

/-- Rows of the states seen by block `t`. -/
def StatesAt (u : Fin 18432 → Fin 512 → EReal) (bd : Fin 512 → Fin 2048 → EReal) (ar ai : Fin 8 → Fin 1024 → EReal) (t : ℕ) (x : Vec Ideal S256x2048 .f32) : Prop :=
  ∀ (r : Fin 256) (c : Fin 2048), of2 x r c = comp c.val (st u bd ar ai (laneOf r.val) (colOf c.val) (32 * (71 - t) + r.val / 8 + 1))

theorem StatesAt.re {t : ℕ} {x : Vec Ideal S256x2048 .f32} (H : StatesAt u bd ar ai t x) {n : ℕ} (ht : t < 72) (hn : n < 31)
    (off : Fin 2 → ℕ) (hoff : off = ![240 - 8 * n, 0]) (inb : ∀ a, off a + S8x1024.size a ≤ S256x2048.size a) (b : Fin 8) (j : Fin 1024) :
    of2 (VecWindow.window x off S8x1024.size inb : Vec Ideal S8x1024 .f32) b j = (st u bd ar ai b j (2303 - (32 * t + n))).1 := by
  have hj := j.isLt
  rw [window_lanes x _ _ _ hoff _ b j ⟨240 - 8 * n + b.val, by omega⟩ ⟨j.val, by omega⟩ rfl (by simp), H, comp_lo (by show j.val < 1024; omega),
    show laneOf (240 - 8 * n + b.val) = b from Fin.ext (by show (240 - 8 * n + b.val) % 8 = b.val; omega),
    show colOf j.val = j from Fin.ext (Nat.mod_eq_of_lt hj)]
  rw [show 32 * (71 - t) + (240 - 8 * n + b.val) / 8 + 1 = 2303 - (32 * t + n) by omega]
theorem StatesAt.im {t : ℕ} {x : Vec Ideal S256x2048 .f32} (H : StatesAt u bd ar ai t x) {n : ℕ} (ht : t < 72) (hn : n < 31)
    (off : Fin 2 → ℕ) (hoff : off = ![240 - 8 * n, 1024]) (inb : ∀ a, off a + S8x1024.size a ≤ S256x2048.size a) (b : Fin 8) (j : Fin 1024) :
    of2 (VecWindow.window x off S8x1024.size inb : Vec Ideal S8x1024 .f32) b j = (st u bd ar ai b j (2303 - (32 * t + n))).2 := by
  have hj := j.isLt
  rw [window_lanes x _ _ _ hoff _ b j ⟨240 - 8 * n + b.val, by omega⟩ ⟨1024 + j.val, by omega⟩ rfl rfl, H, comp_hi (by show ¬1024 + j.val < 1024; omega),
    show laneOf (240 - 8 * n + b.val) = b from Fin.ext (by show (240 - 8 * n + b.val) % 8 = b.val; omega),
    show colOf (1024 + j.val) = j from Fin.ext (by show (1024 + j.val) % 1024 = j.val; omega)]
  rw [show 32 * (71 - t) + (240 - 8 * n + b.val) / 8 + 1 = 2303 - (32 * t + n) by omega]

/-- One row of gradients written: the rows done are one more. -/
theorem BackAt.rowsNext {t n : ℕ} (hn : n < 32) {p : (Vec Ideal S8x1024 .f32 × Vec Ideal S8x1024 .f32 × Vec Ideal S8x1024 .f32 × Vec Ideal S8x1024 .f32) × Vec Ideal S256x2048 .f32}
    (H : BackAt u dy bd cd ar ai t n p) (o1 o2 : Fin 2 → ℕ) (h1 : o1 = ![8 * (31 - n), 0]) (h2 : o2 = ![8 * (31 - n), 1024]) (w1 w2 : Vec Ideal S8x1024 .f32)
    (e1 : ∀ b j, of2 w1 b j = (ad dy cd ar ai b j (32 * t + n + 1)).1) (e2 : ∀ b j, of2 w2 b j = (ad dy cd ar ai b j (32 * t + n + 1)).2) (r : Fin 256) (c : Fin 2048) :
    of2 (VecWindow.put (s := S256x2048) (VecWindow.put (s := S256x2048) p.2 o1 S8x1024.size w1) o2 S8x1024.size w2 : Vec Ideal S256x2048 .f32) r c
      = if 31 - r.val / 8 < n + 1 then comp c.val (ad dy cd ar ai (laneOf r.val) (colOf c.val) (32 * t + (31 - r.val / 8) + 1)) else grad dy cd (256 * (71 - t) + r.val) c.val := by
  refine (put_lanes p.2 _ _ (31 - n) h1 h2 _ _ r c).trans ?_
  have hr := r.isLt
  rw [e1, e2, H.rows]
  by_cases hk : r.val / 8 = 31 - n
  · rw [if_pos hk, if_pos (by omega), hk, show 31 - (31 - n) = n by omega]
  · rw [if_neg hk]
    by_cases hl : 31 - r.val / 8 < n
    · rw [if_pos hl, if_pos (by omega)]
    · rw [if_neg hl, if_neg (by omega)]

theorem BackAt.step {t : ℕ} (ht : t < 72) {n : Fin k1_t1_loop.trips} {p : (Vec Ideal S8x1024 .f32 × Vec Ideal S8x1024 .f32 × Vec Ideal S8x1024 .f32 × Vec Ideal S8x1024 .f32) × Vec Ideal S256x2048 .f32}
    (H : BackAt u dy bd cd ar ai t n.val p) (x6 x7 : Vec Ideal S8x1024 .f32) (h6 : ∀ b j, of2 x6 b j = ar b j) (h7 : ∀ b j, of2 x7 b j = ai b j)
    (x : Vec Ideal S256x2048 .f32) (hx : StatesAt u bd ar ai t x) :
    BackAt u dy bd cd ar ai t (n.val + 1) (bwdStep x6 x7 x n p) := by
  have hn : n.val < 31 := lt_of_lt_of_eq n.isLt trips1
  have o3 : k1_off3 n = ![8 * (31 - n.val), 0] := (k1_off3_eq n).trans (by rw [show 248 - 8 * n.val = 8 * (31 - n.val) by omega])
  have o4 : k1_off4 n = ![8 * (31 - n.val), 1024] := (k1_off4_eq n).trans (by rw [show 248 - 8 * n.val = 8 * (31 - n.val) by omega])
  have er := H.reNext ht (by omega) x6 x7 h6 h7 _ o3 (k1_off3_inb n)
  have ei := H.imNext ht (by omega) x6 x7 h6 h7 _ o4 (k1_off4_inb n)
  refine ⟨er, ei, fun b j => ?_, fun b j => ?_, fun r c => ?_⟩
  · refine (pay19_eq _ _ _ _ _ _ _ _ _ b j).trans ?_
    rw [er, ei, H.sumRe, hx.re ht hn _ (k1_off1_eq n), hx.im ht hn _ (k1_off2_eq n), Finset.sum_range_succ, add_assoc]
    rfl
  · refine (pay20_eq _ _ _ _ _ _ _ _ _ b j).trans ?_
    rw [er, ei, H.sumIm, hx.re ht hn _ (k1_off1_eq n), hx.im ht hn _ (k1_off2_eq n), Finset.sum_range_succ, sub_eq_add_neg, add_assoc, ← sub_eq_add_neg]
    rfl
  · exact H.rowsNext (by omega) _ _ o3 o4 _ _ (fun b j => (pay17_eq _ _ _ _ _ b j).trans (er b j)) (fun b j => (pay18_eq _ _ _ _ _ b j).trans (ei b j)) r c

theorem BackAt.steps {t : ℕ} (ht : t < 72) {p : (Vec Ideal S8x1024 .f32 × Vec Ideal S8x1024 .f32 × Vec Ideal S8x1024 .f32 × Vec Ideal S8x1024 .f32) × Vec Ideal S256x2048 .f32}
    (H : BackAt u dy bd cd ar ai t 0 p) (x6 x7 : Vec Ideal S8x1024 .f32) (h6 : ∀ b j, of2 x6 b j = ar b j) (h7 : ∀ b j, of2 x7 b j = ai b j)
    (x : Vec Ideal S256x2048 .f32) (hx : StatesAt u bd ar ai t x) :
    ∀ n, n ≤ k1_t1_loop.trips → BackAt u dy bd cd ar ai t n (bwdIt x6 x7 x p n)
  | 0, _ => H
  | n + 1, h => by
    rw [show bwdIt x6 x7 x p (n + 1) = bwdStep x6 x7 x ⟨n, h⟩ (bwdIt x6 x7 x p n) from dif_pos h]
    exact BackAt.step ht (n := ⟨n, h⟩) (BackAt.steps ht H x6 x7 h6 h7 x hx n (Nat.le_of_lt h)) x6 x7 h6 h7 x hx

/-! ## One point -/

/-- The gradient carried into point `t`. -/
def BackCarried (dy : Fin 18432 → Fin 512 → EReal) (cd : Fin 2048 → Fin 512 → EReal) (ar ai : Fin 8 → Fin 1024 → EReal) (t : ℕ) (xs : Vec Ideal S8x2048 .f32) : Prop :=
  ∀ (b : Fin 8) (c : Fin 2048), of2 xs b c = comp c.val (ad dy cd ar ai b (colOf c.val) (32 * t))

theorem backCarried_zero : BackCarried dy cd ar ai 0 (k1_pay5 (F := Ideal)) := fun b c => by
  rw [zero5]
  show 0 = comp c.val ((0 : EReal), (0 : EReal))
  unfold comp
  split <;> rfl

/-- What point `t` of the backward scan is given. -/
structure Given (u dy : Fin 18432 → Fin 512 → EReal) (bd : Fin 512 → Fin 2048 → EReal) (cd : Fin 2048 → Fin 512 → EReal) (ar ai : Fin 8 → Fin 1024 → EReal) (t : ℕ)
    (x0 : Vec Ideal S256x512 .f32) (x1 : Vec Ideal S256x2048 .f32) (x5 : Vec Ideal S2048x512 .bf16) (x6 x7 : Vec Ideal S8x1024 .f32) (xs : Vec Ideal S8x2048 .f32) : Prop where
  ht : t < 72
  hdy : ∀ (r : Fin 256) k, of2 x0 r k = dy ⟨256 * (71 - t) + r.val, by omega⟩ k
  hx : StatesAt u bd ar ai t x1
  hcd : ∀ c d, of2 x5 c d = cd c d
  har : ∀ b j, of2 x6 b j = ar b j
  hai : ∀ b j, of2 x7 b j = ai b j
  hg : BackCarried dy cd ar ai t xs

section
variable {t : ℕ} {x0 : Vec Ideal S256x512 .f32} {x1 : Vec Ideal S256x2048 .f32} {x5 : Vec Ideal S2048x512 .bf16} {x6 x7 : Vec Ideal S8x1024 .f32} {xs : Vec Ideal S8x2048 .f32}
  (G : Given u dy bd cd ar ai t x0 x1 x5 x6 x7 xs)
include G

theorem Given.loop : BackAt u dy bd cd ar ai t 31 (bwdEnd x0 x1 x5 x6 x7 xs) := by
  have H := BackAt.steps (u := u) (dy := dy) (bd := bd) (cd := cd) (ar := ar) (ai := ai) G.ht
    (p := (((VecWindow.window xs ![0, 0] S8x1024.size inb_S8x2048_S8x1024_0_0), (VecWindow.window xs ![0, 1024] S8x1024.size inb_S8x2048_S8x1024_0_1024), k1_pay12 (F := Ideal), k1_pay12 (F := Ideal)), k1_pay11 x0 x5))
    ⟨fun b j => ?_, fun b j => ?_, fun b j => (pay12_eq b j).trans (Finset.sum_range_zero _).symm, fun b j => (pay12_eq b j).trans (Finset.sum_range_zero _).symm, fun r c => ?_⟩ x6 x7 G.har G.hai x1 G.hx _ le_rfl
  · have e : bwdEnd x0 x1 x5 x6 x7 xs = bwdIt x6 x7 x1 _ k1_t1_loop.trips := rfl
    rw [e]
    rw [trips1] at H ⊢
    exact H
  · have hj := j.isLt
    refine (window_lanes xs _ 0 0 rfl _ b j b ⟨j.val, by omega⟩ (by simp) (by simp)).trans ?_
    rw [G.hg, comp_lo (by show j.val < 1024; omega), show colOf j.val = j from Fin.ext (Nat.mod_eq_of_lt hj)]
    rfl
  · have hj := j.isLt
    refine (window_lanes xs _ 0 1024 rfl _ b j b ⟨1024 + j.val, by omega⟩ (by simp) rfl).trans ?_
    rw [G.hg, comp_hi (by show ¬1024 + j.val < 1024; omega), show colOf (1024 + j.val) = j from Fin.ext (by show (1024 + j.val) % 1024 = j.val; omega)]
    rfl
  · rw [if_neg (Nat.not_lt_zero _)]
    exact pay11_eq dy cd x0 x5 t G.ht G.hdy G.hcd r c

/-- The first rows' gradients, after the loop. -/
theorem Given.firstRe (b : Fin 8) (j : Fin 1024) :
    of2 (k1_pay15 x6 x7 (bwdEnd x0 x1 x5 x6 x7 xs).1.1 (bwdEnd x0 x1 x5 x6 x7 xs).1.2.1 (VecWindow.window (bwdEnd x0 x1 x5 x6 x7 xs).2 ![0, 0] S8x1024.size inb_S256x2048_S8x1024_0_0)) b j
      = (ad dy cd ar ai b j (32 * t + 31 + 1)).1 := G.loop.reNext G.ht (by omega) x6 x7 G.har G.hai _ rfl _ b j
theorem Given.firstIm (b : Fin 8) (j : Fin 1024) :
    of2 (k1_pay16 x6 x7 (bwdEnd x0 x1 x5 x6 x7 xs).1.1 (bwdEnd x0 x1 x5 x6 x7 xs).1.2.1 (VecWindow.window (bwdEnd x0 x1 x5 x6 x7 xs).2 ![0, 1024] S8x1024.size inb_S256x2048_S8x1024_0_1024)) b j
      = (ad dy cd ar ai b j (32 * t + 31 + 1)).2 := G.loop.imNext G.ht (by omega) x6 x7 G.har G.hai _ rfl _ b j

/-- The gradients of the states one point leaves are rows `256 (71 - t)` on of all of them. -/
theorem Given.rows (r : Fin 256) (c : Fin 2048) :
    of2 (bwdG x0 x1 x5 x6 x7 xs) r c = A dy cd ar ai ⟨256 * (71 - t) + r.val, by have := G.ht; omega⟩ c := by
  have ht := G.ht
  have hr := r.isLt
  refine (G.loop.rowsNext (by omega) _ _ rfl rfl _ _ (fun b j => (pay26_eq _ _ _ _ _ b j).trans (G.firstRe b j)) (fun b j => (pay27_eq _ _ _ _ _ b j).trans (G.firstIm b j)) r c).trans ?_
  rw [if_pos (by omega)]
  unfold A
  rw [show laneOf (256 * (71 - t) + r.val) = laneOf r.val from Fin.ext (by show (256 * (71 - t) + r.val) % 8 = r.val % 8; omega),
    show 2304 - (256 * (71 - t) + r.val) / 8 = 32 * t + (31 - r.val / 8) + 1 by omega]

theorem Given.carried : BackCarried dy cd ar ai (t + 1) (bwdCarry x0 x1 x5 x6 x7 xs) := fun b c => by
  have hb := b.isLt
  unfold bwdCarry
  refine (put_lanes xs _ _ 0 rfl rfl _ _ b c).trans ?_
  rw [if_pos (by omega), pay28_eq, pay29_eq, G.firstRe, G.firstIm, show laneOf b.val = b from Fin.ext (Nat.mod_eq_of_lt hb), show 32 * (t + 1) = 32 * t + 31 + 1 by omega]

theorem Given.du (x4 : Vec Ideal S512x2048 .bf16) (h4 : ∀ k c, of2 x4 k c = bd k c) (r : Fin 256) (k : Fin 512) :
    of2 (bwdDu x0 x1 x4 x5 x6 x7 xs) r k = S5Model.du dy bd cd ar ai ⟨256 * (71 - t) + r.val, by have := G.ht; omega⟩ k := by
  unfold S5Model.du
  refine Eq.trans ?_ (Finset.sum_congr rfl fun c _ => congrArg₂ (· * ·) (G.rows r c) (h4 k c))
  unfold of2 bwdDu k1_pay2 k1_pay1
  pointwise

theorem Given.dbd (x3 : Vec Ideal S256x512 .f32) (h3 : ∀ (r : Fin 256) k, of2 x3 r k = u ⟨256 * (71 - t) + r.val, by have := G.ht; omega⟩ k) (o : Vec Ideal S512x2048 .f32) (k : Fin 512) (c : Fin 2048) :
    of2 (bwdDbd x0 x1 x3 x5 x6 x7 xs o) k c
      = of2 o k c + ∑ r : Fin 256, u ⟨256 * (71 - t) + r.val, by have := G.ht; omega⟩ k * A dy cd ar ai ⟨256 * (71 - t) + r.val, by have := G.ht; omega⟩ c := by
  refine Eq.trans ?_ (congrArg (of2 o k c + ·) (Finset.sum_congr rfl fun r _ => congrArg₂ (· * ·) (h3 r k) (G.rows r c)))
  unfold of2 bwdDbd k1_pay3 k1_pay1
  pointwise

theorem Given.dcd (o : Vec Ideal S2048x512 .f32) (c : Fin 2048) (d : Fin 512) :
    of2 (bwdDcd x0 x1 o) c d
      = of2 o c d + ∑ r : Fin 256, X u bd ar ai ⟨256 * (71 - t) + r.val, by have := G.ht; omega⟩ c * dy ⟨256 * (71 - t) + r.val, by have := G.ht; omega⟩ d := by
  have ht := G.ht
  refine Eq.trans ?_ (congrArg (of2 o c d + ·) (Finset.sum_congr rfl fun r _ => congrArg₂ (· * ·) ((G.hx r c).trans ?_) (G.hdy r d)))
  · unfold of2 bwdDcd k1_pay4 k1_pay10
    pointwise
  · unfold X
    rw [show laneOf (256 * (71 - t) + r.val) = laneOf r.val from Fin.ext (by show (256 * (71 - t) + r.val) % 8 = r.val % 8; omega),
      show (256 * (71 - t) + r.val) / 8 + 1 = 32 * (71 - t) + r.val / 8 + 1 by omega]

theorem Given.dar (i : grid1.Coords) (x2 : Vec Ideal S8x2048 .f32)
    (h2r : ∀ b j, of2 (k1_pay22 i (VecWindow.window x2 ![0, 0] S8x1024.size inb_S8x2048_S8x1024_0_0)) b j = (st u bd ar ai b j (32 * (71 - t))).1)
    (h2i : ∀ b j, of2 (k1_pay23 i (VecWindow.window x2 ![0, 1024] S8x1024.size inb_S8x2048_S8x1024_0_1024)) b j = (st u bd ar ai b j (32 * (71 - t))).2)
    (o : Vec Ideal S8x1024 .f32) (b : Fin 8) (j : Fin 1024) :
    of2 (bwdDar i x0 x1 x2 x5 x6 x7 xs o) b j = of2 o b j + ∑ n ∈ Finset.range 32, partR u dy bd cd ar ai b j (32 * t + n) := by
  have ht := G.ht
  unfold bwdDar
  rw [pay30_eq, G.firstRe, G.firstIm, G.loop.sumRe, h2r, h2i, Finset.sum_range_succ _ 31, add_assoc (∑ i ∈ _, _)]
  unfold partR
  rw [show 2303 - (32 * t + 31) = 32 * (71 - t) by omega]

theorem Given.dai (i : grid1.Coords) (x2 : Vec Ideal S8x2048 .f32)
    (h2r : ∀ b j, of2 (k1_pay22 i (VecWindow.window x2 ![0, 0] S8x1024.size inb_S8x2048_S8x1024_0_0)) b j = (st u bd ar ai b j (32 * (71 - t))).1)
    (h2i : ∀ b j, of2 (k1_pay23 i (VecWindow.window x2 ![0, 1024] S8x1024.size inb_S8x2048_S8x1024_0_1024)) b j = (st u bd ar ai b j (32 * (71 - t))).2)
    (o : Vec Ideal S8x1024 .f32) (b : Fin 8) (j : Fin 1024) :
    of2 (bwdDai i x0 x1 x2 x5 x6 x7 xs o) b j = of2 o b j + ∑ n ∈ Finset.range 32, partI u dy bd cd ar ai b j (32 * t + n) := by
  have ht := G.ht
  unfold bwdDai
  rw [pay31_eq, G.firstRe, G.firstIm, G.loop.sumIm, h2r, h2i, Finset.sum_range_succ _ 31, sub_eq_add_neg, add_assoc (∑ i ∈ _, _), ← sub_eq_add_neg]
  unfold partI
  rw [show 2303 - (32 * t + 31) = 32 * (71 - t) by omega]

end

end Cert.KernelIdeal.S5
end
-- ==== Proof.S5KerFwd.lean ====
/-
  The forward scan by values: one point's block is 64 steps of the recurrence, from the state the block before it left.
-/
module

public import proofs.«01_k».proof.Proof.S5KerBlocks
public import proofs.«01_k».proof.Proof.S5Fwd

@[expose] public section

set_option maxRecDepth 16384

noncomputable section

namespace Cert.KernelIdeal.S5

open Idealize.ShloMosaic Idealize.ShloMosaic.TcCoe
open Cert.KernelIdeal Cert.KernelIdeal.Gen Cert.S5Model

variable (u : Fin 18432 → Fin 512 → EReal) (bd : Fin 512 → Fin 2048 → EReal) (ar ai : Fin 8 → Fin 1024 → EReal)

theorem trips0 : k0_t1_loop.trips = 64 := by decide +kernel

theorem pay3_eq (x0 : Vec Ideal S512x512 .f32) (x1 : Vec Ideal S512x2048 .bf16) (t : ℕ) (ht : t < 36)
    (h0 : ∀ (r : Fin 512) k, of2 x0 r k = u ⟨512 * t + r.val, by omega⟩ k) (h1 : ∀ k c, of2 x1 k c = bd k c) (r : Fin 512) (c : Fin 2048) :
    of2 (k0_pay3 x0 x1) r c = drive u bd (512 * t + r.val) c.val := by
  refine Eq.trans ?_ (drive_eq u bd ⟨512 * t + r.val, by omega⟩ c).symm
  refine Eq.trans ?_ (Finset.sum_congr rfl fun k _ => congrArg₂ (· * ·) (h0 r k) (h1 k c))
  unfold of2 k0_pay3
  pointwise

theorem pay4_eq (ar ai xr xi v : Vec Ideal S8x1024 .f32) (b : Fin 8) (j : Fin 1024) :
    of2 (k0_pay4 ar ai xr xi v) b j = of2 ar b j * of2 xr b j - of2 ai b j * of2 xi b j + of2 v b j := by
  unfold of2 k0_pay4
  pointwise
theorem pay5_eq (ar ai xr xi v : Vec Ideal S8x1024 .f32) (b : Fin 8) (j : Fin 1024) :
    of2 (k0_pay5 ar ai xr xi v) b j = of2 ar b j * of2 xi b j + of2 ai b j * of2 xr b j + of2 v b j := by
  unfold of2 k0_pay5
  pointwise
theorem pay6_eq (x : Vec Ideal S8x1024 .f32) (b : Fin 8) (j : Fin 1024) : of2 (k0_pay6 x) b j = of2 x b j := by
  unfold of2 k0_pay6
  pointwise
theorem pay7_eq (x : Vec Ideal S8x1024 .f32) (b : Fin 8) (j : Fin 1024) : of2 (k0_pay7 x) b j = of2 x b j := by
  unfold of2 k0_pay7
  pointwise
theorem pay2_eq (b : Fin 8) (c : Fin 2048) : of2 (k0_pay2 (F := Ideal)) b c = 0 := by
  unfold of2 k0_pay2
  pointwise

/-- After `n` steps of block `t`: the state, the block's rows done, the block's rows to come. -/
structure StepsAt (t n : ℕ) (p : (Vec Ideal S8x1024 .f32 × Vec Ideal S8x1024 .f32) × Vec Ideal S512x2048 .f32) : Prop where
  re : ∀ b j, of2 p.1.1 b j = (st u bd ar ai b j (64 * t + n)).1
  im : ∀ b j, of2 p.1.2 b j = (st u bd ar ai b j (64 * t + n)).2
  rows : ∀ (r : Fin 512) (c : Fin 2048), of2 p.2 r c
    = if r.val / 8 < n then comp c.val (st u bd ar ai (laneOf r.val) (colOf c.val) (64 * t + r.val / 8 + 1)) else drive u bd (512 * t + r.val) c.val

variable {u bd ar ai}

theorem StepsAt.step {t : ℕ} {n : Fin k0_t1_loop.trips} {p : (Vec Ideal S8x1024 .f32 × Vec Ideal S8x1024 .f32) × Vec Ideal S512x2048 .f32}
    (H : StepsAt u bd ar ai t n.val p) (x3 x4 : Vec Ideal S8x1024 .f32) (h3 : ∀ b j, of2 x3 b j = ar b j) (h4 : ∀ b j, of2 x4 b j = ai b j) :
    StepsAt u bd ar ai t (n.val + 1) (fwdStep x3 x4 n p) := by
  have hn : n.val < 64 := lt_of_lt_of_eq n.isLt trips0
  have er : ∀ b j, of2 (k0_pay4 x3 x4 p.1.1 p.1.2 (VecWindow.window p.2 (k0_off1 n) S8x1024.size (k0_off1_inb n))) b j = (st u bd ar ai b j (64 * t + n.val + 1)).1 := fun b j => by
    rw [pay4_eq, h3, h4, H.re, H.im, window_lanes p.2 _ _ _ (k0_off1_eq n) _ b j ⟨8 * n.val + b.val, by omega⟩ ⟨j.val, by omega⟩ rfl (by simp), H.rows,
      if_neg (by show ¬(8 * n.val + b.val) / 8 < n.val; omega)]
    show _ = _ + drive u bd (8 * (64 * t + n.val) + b.val) j.val
    rw [show 512 * t + (8 * n.val + b.val) = 8 * (64 * t + n.val) + b.val by omega]
    rfl
  have ei : ∀ b j, of2 (k0_pay5 x3 x4 p.1.1 p.1.2 (VecWindow.window p.2 (k0_off2 n) S8x1024.size (k0_off2_inb n))) b j = (st u bd ar ai b j (64 * t + n.val + 1)).2 := fun b j => by
    rw [pay5_eq, h3, h4, H.re, H.im, window_lanes p.2 _ _ _ (k0_off2_eq n) _ b j ⟨8 * n.val + b.val, by omega⟩ ⟨1024 + j.val, by omega⟩ rfl rfl, H.rows,
      if_neg (by show ¬(8 * n.val + b.val) / 8 < n.val; omega)]
    show _ = _ + drive u bd (8 * (64 * t + n.val) + b.val) (1024 + j.val)
    rw [show 512 * t + (8 * n.val + b.val) = 8 * (64 * t + n.val) + b.val by omega]
    rfl
  refine ⟨er, ei, fun r c => ?_⟩
  unfold fwdStep
  refine (put_lanes p.2 _ _ n.val (k0_off1_eq n) (k0_off2_eq n) _ _ r c).trans ?_
  rw [er, ei, H.rows]
  by_cases hk : r.val / 8 = n.val
  · rw [if_pos hk, if_pos (by omega), hk]
  · rw [if_neg hk]
    by_cases hl : r.val / 8 < n.val
    · rw [if_pos hl, if_pos (by omega)]
    · rw [if_neg hl, if_neg (by omega)]

theorem StepsAt.steps {t : ℕ} {p : (Vec Ideal S8x1024 .f32 × Vec Ideal S8x1024 .f32) × Vec Ideal S512x2048 .f32}
    (H : StepsAt u bd ar ai t 0 p) (x3 x4 : Vec Ideal S8x1024 .f32) (h3 : ∀ b j, of2 x3 b j = ar b j) (h4 : ∀ b j, of2 x4 b j = ai b j) :
    ∀ n, n ≤ k0_t1_loop.trips → StepsAt u bd ar ai t n (fwdIt x3 x4 p n)
  | 0, _ => H
  | n + 1, h => by
    rw [show fwdIt x3 x4 p (n + 1) = fwdStep x3 x4 ⟨n, h⟩ (fwdIt x3 x4 p n) from dif_pos h]
    exact StepsAt.step (n := ⟨n, h⟩) (StepsAt.steps H x3 x4 h3 h4 n (Nat.le_of_lt h)) x3 x4 h3 h4

/-- The state carried into block `t`. -/
def CarriedAt (u : Fin 18432 → Fin 512 → EReal) (bd : Fin 512 → Fin 2048 → EReal) (ar ai : Fin 8 → Fin 1024 → EReal) (t : ℕ) (xs : Vec Ideal S8x2048 .f32) : Prop :=
  ∀ (b : Fin 8) (c : Fin 2048), of2 xs b c = comp c.val (st u bd ar ai b (colOf c.val) (64 * t))

theorem carried_zero : CarriedAt u bd ar ai 0 (k0_pay2 (F := Ideal)) := fun b c => by
  rw [pay2_eq]
  show 0 = comp c.val ((0 : EReal), (0 : EReal))
  unfold comp
  split <;> rfl

/-- One point's loop, whole. -/
theorem block_end (t : ℕ) (ht : t < 36) (x0 : Vec Ideal S512x512 .f32) (x1 : Vec Ideal S512x2048 .bf16) (x3 x4 : Vec Ideal S8x1024 .f32) (xs : Vec Ideal S8x2048 .f32)
    (h0 : ∀ (r : Fin 512) k, of2 x0 r k = u ⟨512 * t + r.val, by omega⟩ k) (h1 : ∀ k c, of2 x1 k c = bd k c)
    (h3 : ∀ b j, of2 x3 b j = ar b j) (h4 : ∀ b j, of2 x4 b j = ai b j) (hs : CarriedAt u bd ar ai t xs) :
    StepsAt u bd ar ai t 64 (fwdEnd x0 x1 x3 x4 xs) := by
  have H := StepsAt.steps (u := u) (bd := bd) (ar := ar) (ai := ai) (t := t) (p := fwdInit x0 x1 xs) ⟨fun b j => ?_, fun b j => ?_, fun r c => ?_⟩ x3 x4 h3 h4 _ le_rfl
  · rw [trips0] at H
    unfold fwdEnd
    rw [trips0]
    exact H
  · refine (window_lanes xs _ 0 0 rfl _ b j b ⟨j.val, by omega⟩ (by simp) (by simp)).trans ?_
    have hj := j.isLt
    rw [hs, comp_lo (by show j.val < 1024; omega), show colOf j.val = j from Fin.ext (Nat.mod_eq_of_lt hj)]
    rfl
  · have hj := j.isLt
    refine (window_lanes xs _ 0 1024 rfl _ b j b ⟨1024 + j.val, by omega⟩ (by simp) rfl).trans ?_
    rw [hs, comp_hi (by show ¬1024 + j.val < 1024; omega), show colOf (1024 + j.val) = j from Fin.ext (by show (1024 + j.val) % 1024 = j.val; omega)]
    rfl
  · rw [if_neg (Nat.not_lt_zero _)]
    exact pay3_eq u bd x0 x1 t ht h0 h1 r c

/-- The states one point leaves are rows `512 t` on of all states. -/
theorem block_states {t : ℕ} (ht : t < 36) {p : (Vec Ideal S8x1024 .f32 × Vec Ideal S8x1024 .f32) × Vec Ideal S512x2048 .f32} (H : StepsAt u bd ar ai t 64 p)
    (r : Fin 512) (c : Fin 2048) : of2 p.2 r c = X u bd ar ai ⟨512 * t + r.val, by omega⟩ c := by
  rw [H.rows, if_pos (by omega)]
  unfold X
  rw [show laneOf (512 * t + r.val) = laneOf r.val from Fin.ext (by show (512 * t + r.val) % 8 = r.val % 8; omega),
    show (512 * t + r.val) / 8 + 1 = 64 * t + r.val / 8 + 1 by omega]

/-- The carried state, one block on. -/
theorem carried_next (t : ℕ) (ht : t < 36) (x0 : Vec Ideal S512x512 .f32) (x1 : Vec Ideal S512x2048 .bf16) (x3 x4 : Vec Ideal S8x1024 .f32) (xs : Vec Ideal S8x2048 .f32)
    (h0 : ∀ (r : Fin 512) k, of2 x0 r k = u ⟨512 * t + r.val, by omega⟩ k) (h1 : ∀ k c, of2 x1 k c = bd k c)
    (h3 : ∀ b j, of2 x3 b j = ar b j) (h4 : ∀ b j, of2 x4 b j = ai b j) (hs : CarriedAt u bd ar ai t xs) :
    CarriedAt u bd ar ai (t + 1) (fwdCarry x0 x1 x3 x4 xs) := fun b c => by
  have H := block_end t ht x0 x1 x3 x4 xs h0 h1 h3 h4 hs
  unfold fwdCarry
  have hb := b.isLt
  refine (put_lanes xs _ _ 0 rfl rfl _ _ b c).trans ?_
  rw [if_pos (by omega), pay6_eq, pay7_eq, H.re, H.im, show laneOf b.val = b from Fin.ext (Nat.mod_eq_of_lt hb), show 64 * (t + 1) = 64 * t + 64 by omega]

/-- The results of one point. -/
theorem fwdY_eq (t : ℕ) (ht : t < 36) (x0 : Vec Ideal S512x512 .f32) (x1 : Vec Ideal S512x2048 .bf16) (x2 : Vec Ideal S2048x512 .bf16) (x3 x4 : Vec Ideal S8x1024 .f32) (xs : Vec Ideal S8x2048 .f32)
    (cd : Fin 2048 → Fin 512 → EReal)
    (h0 : ∀ (r : Fin 512) k, of2 x0 r k = u ⟨512 * t + r.val, by omega⟩ k) (h1 : ∀ k c, of2 x1 k c = bd k c) (h2 : ∀ c d, of2 x2 c d = cd c d)
    (h3 : ∀ b j, of2 x3 b j = ar b j) (h4 : ∀ b j, of2 x4 b j = ai b j) (hs : CarriedAt u bd ar ai t xs) (r : Fin 512) (d : Fin 512) :
    of2 (fwdY x0 x1 x2 x3 x4 xs) r d = y u bd cd ar ai ⟨512 * t + r.val, by omega⟩ d := by
  have H := block_end t ht x0 x1 x3 x4 xs h0 h1 h3 h4 hs
  unfold y
  refine Eq.trans ?_ (Finset.sum_congr rfl fun c _ => congrArg₂ (· * ·) (block_states ht H r c) (h2 c d))
  unfold of2 fwdY k0_pay1 k0_pay8 k0_pay9
  pointwise

end Cert.KernelIdeal.S5
end
-- ==== Proof.S5KerOut0.lean ====
/-
  The forward scan's two results: the output and all states, from the launched arguments.
-/
module

public import proofs.«01_k».proof.Proof.S5KerFwd
public import proofs.«01_k».proof.Proof.S5Frame
public import Idealize.ShloMosaic.Lib.Pipeline.ValueKit.Geometry
public import Idealize.ShloMosaic.Lib.StableHlo.RunClose

@[expose] public section

set_option maxRecDepth 16384

noncomputable section

namespace Cert.KernelIdeal.S5

open Idealize.ShloMosaic Idealize.ShloMosaic.TcCoe
open Cert.KernelIdeal Cert.KernelIdeal.Gen Cert.S5Model

/-- An index of an array of two axes is its coordinates. -/
theorem idx2 {a b : ℕ} (y : (⟨2, ![a, b]⟩ : Shape).Idx) : y = ix2 (y 0) (y 1) :=
  funext fun i => match i with
    | ⟨0, _⟩ => rfl
    | ⟨1, _⟩ => rfl

/-! ## The blocks of the forward region's inputs -/

section
variable (V : Vals (F := Ideal)) (c : Dev nD)

theorem index0 : ∀ t : Fin cfg0.N, (win0_0.index t (0 : Fin 2) = t.val ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

theorem lt36 (t : Fin cfg0.N) : t.val < 36 := lt_of_lt_of_eq t.isLt (show cfg0.N = 36 from N_0)

theorem blk0_0 (t : Fin cfg0.N) (r k : Fin 512) : of2 (a := 512) (b := 512) (iblk0 V c 0 t) r k = of2 (a := 18432) (b := 512) (V c main_arg0) ⟨512 * t.val + r.val, by have := lt36 t; omega⟩ k := by
  obtain ⟨e0, e1⟩ := (index0 t).1
  unfold of2
  show V c main_arg0 (((cfg0.win 0).blk t).view.emb (ix2 r k)) = _
  refine congrArg (V c main_arg0) (funext fun a => Fin.ext ?_)
  match a with
  | ⟨0, _⟩ => show win0_0.index t (0 : Fin 2) * 512 + 1 * r.val = 512 * t.val + r.val; rw [e0]; omega
  | ⟨1, _⟩ => show win0_0.index t (1 : Fin 2) * 512 + 1 * k.val = k.val; rw [e1]; omega
theorem blk0_1 (t : Fin cfg0.N) : iblk0 V c 1 t = V c main_v0 := by
  obtain ⟨e0, e1⟩ := (index0 t).2.1
  funext y
  show V c main_v0 (((cfg0.win 1).blk t).view.emb y) = _
  refine congrArg (V c main_v0) (funext fun a => Fin.ext ?_)
  match a with
  | ⟨0, _⟩ => show win0_1.index t (0 : Fin 2) * 512 + 1 * (y 0).val = (y 0).val; rw [e0]; omega
  | ⟨1, _⟩ => show win0_1.index t (1 : Fin 2) * 2048 + 1 * (y 1).val = (y 1).val; rw [e1]; omega
theorem blk0_2 (t : Fin cfg0.N) : iblk0 V c 2 t = V c main_v1 := by
  obtain ⟨e0, e1⟩ := (index0 t).2.2.1
  funext y
  show V c main_v1 (((cfg0.win 2).blk t).view.emb y) = _
  refine congrArg (V c main_v1) (funext fun a => Fin.ext ?_)
  match a with
  | ⟨0, _⟩ => show win0_2.index t (0 : Fin 2) * 2048 + 1 * (y 0).val = (y 0).val; rw [e0]; omega
  | ⟨1, _⟩ => show win0_2.index t (1 : Fin 2) * 512 + 1 * (y 1).val = (y 1).val; rw [e1]; omega
theorem blk0_3 (t : Fin cfg0.N) : iblk0 V c 3 t = V c main_arg3 := by
  obtain ⟨e0, e1⟩ := (index0 t).2.2.2.1
  funext y
  show V c main_arg3 (((cfg0.win 3).blk t).view.emb y) = _
  refine congrArg (V c main_arg3) (funext fun a => Fin.ext ?_)
  match a with
  | ⟨0, _⟩ => show win0_3.index t (0 : Fin 2) * 8 + 1 * (y 0).val = (y 0).val; rw [e0]; omega
  | ⟨1, _⟩ => show win0_3.index t (1 : Fin 2) * 1024 + 1 * (y 1).val = (y 1).val; rw [e1]; omega
theorem blk0_4 (t : Fin cfg0.N) : iblk0 V c 4 t = V c main_arg4 := by
  obtain ⟨e0, e1⟩ := (index0 t).2.2.2.2.1
  funext y
  show V c main_arg4 (((cfg0.win 4).blk t).view.emb y) = _
  refine congrArg (V c main_arg4) (funext fun a => Fin.ext ?_)
  match a with
  | ⟨0, _⟩ => show win0_4.index t (0 : Fin 2) * 8 + 1 * (y 0).val = (y 0).val; rw [e0]; omega
  | ⟨1, _⟩ => show win0_4.index t (1 : Fin 2) * 1024 + 1 * (y 1).val = (y 1).val; rw [e1]; omega
end

/-! ## From the launch -/

variable (m : (ℓ : Loc nD τ sig) → Buf (Elt Ideal) ℓ) (c : Dev nD)

/-- The launched arguments, by coordinates. -/
abbrev ku : Fin 18432 → Fin 512 → EReal := of2 (m ((c.tc : Thread nD τ).loc main_arg0))
@[inherit_doc ku] abbrev kbd : Fin 512 → Fin 2048 → EReal := of2 (m ((c.tc : Thread nD τ).loc main_arg1))
@[inherit_doc ku] abbrev kcd : Fin 2048 → Fin 512 → EReal := of2 (m ((c.tc : Thread nD τ).loc main_arg2))
@[inherit_doc ku] abbrev kar : Fin 8 → Fin 1024 → EReal := of2 (m ((c.tc : Thread nD τ).loc main_arg3))
@[inherit_doc ku] abbrev kai : Fin 8 → Fin 1024 → EReal := of2 (m ((c.tc : Thread nD τ).loc main_arg4))
@[inherit_doc ku] abbrev kdy : Fin 18432 → Fin 512 → EReal := of2 (m ((c.tc : Thread nD τ).loc main_arg5))

/-- The host's two casts change nothing. -/
theorem V1_bd : V1 m c main_v0 = m ((c.tc : Thread nD τ).loc main_arg1) := by
  show StableHlo.after hostOps0 (V0 m c) (Proc.devRef .tc main_v0) = _
  after_results_simp_entrywise
  rfl
theorem V1_cd : V1 m c main_v1 = m ((c.tc : Thread nD τ).loc main_arg2) := by
  show StableHlo.after hostOps0 (V0 m c) (Proc.devRef .tc main_v1) = _
  after_results_simp_entrywise
  rfl
theorem V1_arg (b : Ref sig .tc) (h : b ∉ hostOps0_W) : V1 m c b = m ((c.tc : Thread nD τ).loc b) := V1_of m c b h

theorem in0_0 (t : Fin cfg0.N) (r k : Fin 512) : of2 (a := 512) (b := 512) (iblk0 (Va m) c 0 t) r k = ku m c ⟨512 * t.val + r.val, by have := lt36 t; omega⟩ k :=
  (blk0_0 (Va m) c t r k).trans (by rw [show Va m c main_arg0 = _ from V1_arg m c main_arg0 (by decide)])
theorem in0_1 (t : Fin cfg0.N) (k : Fin 512) (j : Fin 2048) : of2 (a := 512) (b := 2048) (iblk0 (Va m) c 1 t) k j = kbd m c k j := by
  rw [blk0_1]; exact congrArg (fun x => of2 (a := 512) (b := 2048) x k j) (V1_bd m c)
theorem in0_2 (t : Fin cfg0.N) (k : Fin 2048) (j : Fin 512) : of2 (a := 2048) (b := 512) (iblk0 (Va m) c 2 t) k j = kcd m c k j := by
  rw [blk0_2]; exact congrArg (fun x => of2 (a := 2048) (b := 512) x k j) (V1_cd m c)
theorem in0_3 (t : Fin cfg0.N) (k : Fin 8) (j : Fin 1024) : of2 (a := 8) (b := 1024) (iblk0 (Va m) c 3 t) k j = kar m c k j := by
  rw [blk0_3]; exact congrArg (fun x => of2 (a := 8) (b := 1024) x k j) (V1_arg m c main_arg3 (by decide))
theorem in0_4 (t : Fin cfg0.N) (k : Fin 8) (j : Fin 1024) : of2 (a := 8) (b := 1024) (iblk0 (Va m) c 4 t) k j = kai m c k j := by
  rw [blk0_4]; exact congrArg (fun x => of2 (a := 8) (b := 1024) x k j) (V1_arg m c main_arg4 (by decide))

/-- The state carried into each point. -/
theorem carried0 : ∀ (n : ℕ) (h : n ≤ cfg0.N), CarriedAt (ku m c) (kbd m c) (kar m c) (kai m c) n (st0 (Va m) c n h)
  | 0, _ => carried_zero
  | n + 1, h => carried_next n (lt36 ⟨n, h⟩) _ _ _ _ _ (in0_0 m c ⟨n, h⟩) (in0_1 m c ⟨n, h⟩) (in0_3 m c ⟨n, h⟩) (in0_4 m c ⟨n, h⟩) (carried0 n (Nat.le_of_lt h))

/-- All states. -/
theorem out_x : (dat0 (Va m) c).arrAt 6 cfg0.N = to2 (X (ku m c) (kbd m c) (kar m c) (kai m c)) := by
  refine (dat0 (Va m) c).arrAt_eq_of_covers 6 _ (by decide +kernel) fun t _ y => ?_
  have ht := lt36 t
  obtain ⟨e0, e1⟩ := (index0 t).2.2.2.2.2.2
  show (dat0 (Va m) c).after 6 t y = to2 (X (ku m c) (kbd m c) (kar m c) (kai m c)) (((cfg0.win 6).blk t).view.emb y)
  rw [after0_6]
  have hy1 : (y 1).val < 2048 := (y 1).isLt
  have H := block_states ht (block_end t.val ht _ _ _ _ _ (in0_0 m c t) (in0_1 m c t) (in0_3 m c t) (in0_4 m c t) (carried0 m c t.val t.isLt.le)) (y 0) (y 1)
  refine (congrArg (fwdEnd _ _ _ _ _).2 (idx2 y)).trans (H.trans ?_)
  unfold to2
  congr 1 <;> refine Fin.ext ?_
  · show 512 * t.val + (y 0).val = win0_6.index t (0 : Fin 2) * 512 + 1 * (y 0).val; rw [e0]; omega
  · show (y 1).val = win0_6.index t (1 : Fin 2) * 2048 + 1 * (y 1).val; rw [e1]; omega

/-- The output. -/
theorem out_y : (dat0 (Va m) c).arrAt 5 cfg0.N = to2 (y (ku m c) (kbd m c) (kcd m c) (kar m c) (kai m c)) := by
  refine (dat0 (Va m) c).arrAt_eq_of_covers 5 _ (by decide +kernel) fun t _ y => ?_
  have ht := lt36 t
  obtain ⟨e0, e1⟩ := (index0 t).2.2.2.2.2.1
  show (dat0 (Va m) c).after 5 t y = to2 (S5Model.y (ku m c) (kbd m c) (kcd m c) (kar m c) (kai m c)) (((cfg0.win 5).blk t).view.emb y)
  rw [after0_5]
  have H := fwdY_eq t.val ht _ _ _ _ _ _ (kcd m c) (in0_0 m c t) (in0_1 m c t) (in0_2 m c t) (in0_3 m c t) (in0_4 m c t) (carried0 m c t.val t.isLt.le) (y 0) (y 1)
  refine (congrArg (fwdY _ _ _ _ _ _) (idx2 y)).trans (H.trans ?_)
  unfold to2
  congr 1 <;> refine Fin.ext ?_
  · show 512 * t.val + (y 0).val = win0_5.index t (0 : Fin 2) * 512 + 1 * (y 0).val; rw [e0]; omega
  · show (y 1).val = win0_5.index t (1 : Fin 2) * 512 + 1 * (y 1).val; rw [e1]; omega

/-- What the backward region finds in the forward's two results. -/
theorem Wb_x : Wb m c main_v2_1 = to2 (X (ku m c) (kbd m c) (kar m c) (kai m c)) :=
  (Pipeline.withArrays_arr spec0 launch0.win.arr_inj c (V1 m c) (fun w => (dat0 (Va m) c).arrAt w cfg0.N) 6).trans (out_x m c)
theorem Wb_y : Wb m c main_v2_0 = to2 (y (ku m c) (kbd m c) (kcd m c) (kar m c) (kai m c)) :=
  (Pipeline.withArrays_arr spec0 launch0.win.arr_inj c (V1 m c) (fun w => (dat0 (Va m) c).arrAt w cfg0.N) 5).trans (out_y m c)

end Cert.KernelIdeal.S5
end
-- ==== Proof.S5KerOut1.lean ====
/-
  The backward scan's five results, from the launched arguments and the states the forward scan left.
-/
module

public import proofs.«01_k».proof.Proof.S5KerBwd
public import proofs.«01_k».proof.Proof.S5KerOut0
public import Idealize.ShloMosaic.Lib.KernelVsHost

@[expose] public section

set_option maxRecDepth 16384

noncomputable section

open scoped BigOperators

namespace Cert.KernelIdeal.S5

open Idealize.ShloMosaic Idealize.ShloMosaic.TcCoe
open Cert.KernelIdeal Cert.KernelIdeal.Gen Cert.S5Model

/-! ## A sum over all rows, block by block from the last -/

/-- The part of a sum over all rows that block `t` from the end holds. -/
def blockSum (g : Fin 18432 → EReal) (t : ℕ) : EReal := ∑ q : Fin 256, g ⟨256 * (71 - t) + q.val, by omega⟩

/-- A family on the rows, zero past the last. -/
def past (g : Fin 18432 → EReal) (r : ℕ) : EReal := if h : r < 18432 then g ⟨r, h⟩ else 0

theorem blockSum_eq (g : Fin 18432 → EReal) (t : ℕ) : blockSum g t = ∑ q ∈ Finset.range 256, past g (256 * (71 - t) + q) := by
  rw [Finset.sum_range]
  refine Finset.sum_congr rfl fun q _ => ?_
  unfold past
  rw [dif_pos (by omega)]

theorem sum_upTo (f : ℕ → EReal) (n : ℕ) : ∑ t ∈ Finset.range n, ∑ q ∈ Finset.range 256, f (256 * t + q) = ∑ r ∈ Finset.range (256 * n), f r := by
  induction n with
  | zero => rfl
  | succ n ih => rw [Finset.sum_range_succ, ih, show 256 * (n + 1) = 256 * n + 256 by omega, Finset.sum_range_add]

theorem sum_blocks (g : Fin 18432 → EReal) : ∑ t ∈ Finset.range 72, blockSum g t = ∑ r, g r := by
  have h := (Finset.sum_range_reflect (fun t => ∑ q ∈ Finset.range 256, past g (256 * t + q)) 72).trans (sum_upTo (past g) 72)
  refine (Finset.sum_congr rfl fun t _ => blockSum_eq g t).trans (h.trans ?_)
  rw [show 256 * 72 = 18432 by decide, Finset.sum_range]
  refine Finset.sum_congr rfl fun r _ => ?_
  unfold past
  rw [dif_pos r.isLt]

/-! ## The blocks of the backward region's inputs -/

theorem index1 : ∀ t : Fin cfg1.N, (win1_0.index t (0 : Fin 2) = 71 - t.val ∧ win1_0.index t (1 : Fin 2) = 0) ∧ (win1_1.index t (0 : Fin 2) = 71 - t.val ∧ win1_1.index t (1 : Fin 2) = 0)
    ∧ (win1_2.index t (0 : Fin 2) = (71 - t.val) * 32 - 1 ∧ win1_2.index t (1 : Fin 2) = 0) ∧ (win1_3.index t (0 : Fin 2) = 71 - t.val ∧ win1_3.index t (1 : Fin 2) = 0)
    ∧ (win1_8.index t (0 : Fin 2) = 71 - t.val ∧ win1_8.index t (1 : Fin 2) = 0) :=
  (by decide +kernel : ∀ t : Fin grid1.N, _)
theorem index1_whole : ∀ t : Fin cfg1.N, (∀ a, win1_4.index t a = 0) ∧ (∀ a, win1_5.index t a = 0) ∧ (∀ a, win1_6.index t a = 0) ∧ (∀ a, win1_7.index t a = 0)
    ∧ (∀ a, win1_9.index t a = 0) ∧ (∀ a, win1_10.index t a = 0) ∧ (∀ a, win1_11.index t a = 0) ∧ (∀ a, win1_12.index t a = 0) :=
  (by decide +kernel : ∀ t : Fin grid1.N, _)
/-- The sums are written back after the last point alone. -/
theorem last1 : ∀ t : Fin cfg1.N, (win1_9.flush t = true → t.val = 71) ∧ (win1_10.flush t = true → t.val = 71) ∧ (win1_11.flush t = true → t.val = 71) ∧ (win1_12.flush t = true → t.val = 71) :=
  (by decide +kernel : ∀ t : Fin grid1.N, _)

theorem lt72 (t : Fin cfg1.N) : t.val < 72 := lt_of_lt_of_eq t.isLt (show cfg1.N = 72 from N_1)

section
variable (V : Vals (F := Ideal)) (c : Dev nD) (t : Fin cfg1.N)

theorem blk1_0 (r : Fin 256) (k : Fin 512) : of2 (a := 256) (b := 512) (iblk1 V c 0 t) r k = of2 (a := 18432) (b := 512) (V c main_arg5) ⟨256 * (71 - t.val) + r.val, by omega⟩ k := by
  obtain ⟨e0, e1⟩ := (index1 t).1
  unfold of2
  show V c main_arg5 (((cfg1.win 0).blk t).view.emb (ix2 r k)) = _
  refine congrArg (V c main_arg5) (funext fun a => Fin.ext ?_)
  match a with
  | ⟨0, _⟩ => show win1_0.index t (0 : Fin 2) * 256 + 1 * r.val = 256 * (71 - t.val) + r.val; rw [e0]; omega
  | ⟨1, _⟩ => show win1_0.index t (1 : Fin 2) * 512 + 1 * k.val = k.val; rw [e1]; omega
theorem blk1_1 (r : Fin 256) (k : Fin 2048) : of2 (a := 256) (b := 2048) (iblk1 V c 1 t) r k = of2 (a := 18432) (b := 2048) (V c main_v2_1) ⟨256 * (71 - t.val) + r.val, by omega⟩ k := by
  obtain ⟨e0, e1⟩ := (index1 t).2.1
  unfold of2
  show V c main_v2_1 (((cfg1.win 1).blk t).view.emb (ix2 r k)) = _
  refine congrArg (V c main_v2_1) (funext fun a => Fin.ext ?_)
  match a with
  | ⟨0, _⟩ => show win1_1.index t (0 : Fin 2) * 256 + 1 * r.val = 256 * (71 - t.val) + r.val; rw [e0]; omega
  | ⟨1, _⟩ => show win1_1.index t (1 : Fin 2) * 2048 + 1 * k.val = k.val; rw [e1]; omega
theorem blk1_2 (r : Fin 8) (k : Fin 2048) : of2 (a := 8) (b := 2048) (iblk1 V c 2 t) r k = of2 (a := 18432) (b := 2048) (V c main_v2_1) ⟨8 * ((71 - t.val) * 32 - 1) + r.val, by omega⟩ k := by
  obtain ⟨e0, e1⟩ := (index1 t).2.2.1
  unfold of2
  show V c main_v2_1 (((cfg1.win 2).blk t).view.emb (ix2 r k)) = _
  refine congrArg (V c main_v2_1) (funext fun a => Fin.ext ?_)
  match a with
  | ⟨0, _⟩ => show win1_2.index t (0 : Fin 2) * 8 + 1 * r.val = 8 * ((71 - t.val) * 32 - 1) + r.val; rw [e0]; omega
  | ⟨1, _⟩ => show win1_2.index t (1 : Fin 2) * 2048 + 1 * k.val = k.val; rw [e1]; omega
theorem blk1_3 (r : Fin 256) (k : Fin 512) : of2 (a := 256) (b := 512) (iblk1 V c 3 t) r k = of2 (a := 18432) (b := 512) (V c main_arg0) ⟨256 * (71 - t.val) + r.val, by omega⟩ k := by
  obtain ⟨e0, e1⟩ := (index1 t).2.2.2.1
  unfold of2
  show V c main_arg0 (((cfg1.win 3).blk t).view.emb (ix2 r k)) = _
  refine congrArg (V c main_arg0) (funext fun a => Fin.ext ?_)
  match a with
  | ⟨0, _⟩ => show win1_3.index t (0 : Fin 2) * 256 + 1 * r.val = 256 * (71 - t.val) + r.val; rw [e0]; omega
  | ⟨1, _⟩ => show win1_3.index t (1 : Fin 2) * 512 + 1 * k.val = k.val; rw [e1]; omega
theorem blk1_4 : iblk1 V c 4 t = V c main_v0 := by
  have e := (index1_whole t).1
  funext y
  show V c main_v0 (((cfg1.win 4).blk t).view.emb y) = _
  refine congrArg (V c main_v0) (funext fun a => Fin.ext ?_)
  show win1_4.index t a * _ + 1 * (y a).val = (y a).val
  rw [e]; omega
theorem blk1_5 : iblk1 V c 5 t = V c main_v1 := by
  have e := (index1_whole t).2.1
  funext y
  show V c main_v1 (((cfg1.win 5).blk t).view.emb y) = _
  refine congrArg (V c main_v1) (funext fun a => Fin.ext ?_)
  show win1_5.index t a * _ + 1 * (y a).val = (y a).val
  rw [e]; omega
theorem blk1_6 : iblk1 V c 6 t = V c main_arg3 := by
  have e := (index1_whole t).2.2.1
  funext y
  show V c main_arg3 (((cfg1.win 6).blk t).view.emb y) = _
  refine congrArg (V c main_arg3) (funext fun a => Fin.ext ?_)
  show win1_6.index t a * _ + 1 * (y a).val = (y a).val
  rw [e]; omega
theorem blk1_7 : iblk1 V c 7 t = V c main_arg4 := by
  have e := (index1_whole t).2.2.2.1
  funext y
  show V c main_arg4 (((cfg1.win 7).blk t).view.emb y) = _
  refine congrArg (V c main_arg4) (funext fun a => Fin.ext ?_)
  show win1_7.index t a * _ + 1 * (y a).val = (y a).val
  rw [e]; omega
end

/-! ## From the launch -/

variable (m : (ℓ : Loc nD τ sig) → Buf (Elt Ideal) ℓ) (c : Dev nD)

theorem Wb_arg (b : Ref sig .tc) (h : b ∉ ([main_v0, main_v1, main_v2_0, main_v2_1] : List (Ref sig .tc))) : Wb m c b = m ((c.tc : Thread nD τ).loc b) := by
  simp only [List.mem_cons, List.not_mem_nil, or_false, not_or] at h
  rw [Wb_of m c b (by simp [h]), V1_arg m c b (by simp [h])]

theorem in1_0 (t : Fin cfg1.N) (r : Fin 256) (k : Fin 512) : of2 (a := 256) (b := 512) (iblk1 (Vb m) c 0 t) r k = kdy m c ⟨256 * (71 - t.val) + r.val, by omega⟩ k :=
  (blk1_0 (Vb m) c t r k).trans (congrArg (fun x => of2 (a := 18432) (b := 512) x ⟨256 * (71 - t.val) + r.val, by omega⟩ k) (Wb_arg m c main_arg5 (by decide)))
theorem in1_1 (t : Fin cfg1.N) (r : Fin 256) (k : Fin 2048) : of2 (a := 256) (b := 2048) (iblk1 (Vb m) c 1 t) r k = X (ku m c) (kbd m c) (kar m c) (kai m c) ⟨256 * (71 - t.val) + r.val, by omega⟩ k :=
  (blk1_1 (Vb m) c t r k).trans (congrArg (fun x => of2 (a := 18432) (b := 2048) x ⟨256 * (71 - t.val) + r.val, by omega⟩ k) (Wb_x m c))
theorem in1_2 (t : Fin cfg1.N) (r : Fin 8) (k : Fin 2048) : of2 (a := 8) (b := 2048) (iblk1 (Vb m) c 2 t) r k = X (ku m c) (kbd m c) (kar m c) (kai m c) ⟨8 * ((71 - t.val) * 32 - 1) + r.val, by omega⟩ k :=
  (blk1_2 (Vb m) c t r k).trans (congrArg (fun x => of2 (a := 18432) (b := 2048) x ⟨8 * ((71 - t.val) * 32 - 1) + r.val, by omega⟩ k) (Wb_x m c))
theorem in1_3 (t : Fin cfg1.N) (r : Fin 256) (k : Fin 512) : of2 (a := 256) (b := 512) (iblk1 (Vb m) c 3 t) r k = ku m c ⟨256 * (71 - t.val) + r.val, by omega⟩ k :=
  (blk1_3 (Vb m) c t r k).trans (congrArg (fun x => of2 (a := 18432) (b := 512) x ⟨256 * (71 - t.val) + r.val, by omega⟩ k) (Wb_arg m c main_arg0 (by decide)))
theorem in1_4 (t : Fin cfg1.N) (k : Fin 512) (j : Fin 2048) : of2 (a := 512) (b := 2048) (iblk1 (Vb m) c 4 t) k j = kbd m c k j := by
  rw [blk1_4]; exact congrArg (fun x => of2 (a := 512) (b := 2048) x k j) ((Wb_of m c main_v0 (by decide)).trans (V1_bd m c))
theorem in1_5 (t : Fin cfg1.N) (k : Fin 2048) (j : Fin 512) : of2 (a := 2048) (b := 512) (iblk1 (Vb m) c 5 t) k j = kcd m c k j := by
  rw [blk1_5]; exact congrArg (fun x => of2 (a := 2048) (b := 512) x k j) ((Wb_of m c main_v1 (by decide)).trans (V1_cd m c))
theorem in1_6 (t : Fin cfg1.N) (k : Fin 8) (j : Fin 1024) : of2 (a := 8) (b := 1024) (iblk1 (Vb m) c 6 t) k j = kar m c k j := by
  rw [blk1_6]; exact congrArg (fun x => of2 (a := 8) (b := 1024) x k j) (Wb_arg m c main_arg3 (by decide))
theorem in1_7 (t : Fin cfg1.N) (k : Fin 8) (j : Fin 1024) : of2 (a := 8) (b := 1024) (iblk1 (Vb m) c 7 t) k j = kai m c k j := by
  rw [blk1_7]; exact congrArg (fun x => of2 (a := 8) (b := 1024) x k j) (Wb_arg m c main_arg4 (by decide))

theorem states1 (t : Fin cfg1.N) : StatesAt (ku m c) (kbd m c) (kar m c) (kai m c) t.val (iblk1 (Vb m) c 1 t) := fun r k => by
  refine (in1_1 m c t r k).trans ?_
  have ht := lt72 t
  unfold X
  rw [show laneOf (256 * (71 - t.val) + r.val) = laneOf r.val from Fin.ext (by show (256 * (71 - t.val) + r.val) % 8 = r.val % 8; omega),
    show (256 * (71 - t.val) + r.val) / 8 + 1 = 32 * (71 - t.val) + r.val / 8 + 1 by omega]

/-- What each point of the backward scan is given. -/
theorem given : ∀ (n : ℕ) (h : n < cfg1.N), Given (ku m c) (kdy m c) (kbd m c) (kcd m c) (kar m c) (kai m c) n (iblk1 (Vb m) c 0 ⟨n, h⟩) (iblk1 (Vb m) c 1 ⟨n, h⟩)
    (iblk1 (Vb m) c 5 ⟨n, h⟩) (iblk1 (Vb m) c 6 ⟨n, h⟩) (iblk1 (Vb m) c 7 ⟨n, h⟩) (st1 (Vb m) c n h.le)
  | 0, h => ⟨lt72 ⟨0, h⟩, in1_0 m c ⟨0, h⟩, states1 m c ⟨0, h⟩, in1_5 m c ⟨0, h⟩, in1_6 m c ⟨0, h⟩, in1_7 m c ⟨0, h⟩, backCarried_zero⟩
  | n + 1, h => ⟨lt72 ⟨n + 1, h⟩, in1_0 m c ⟨n + 1, h⟩, states1 m c ⟨n + 1, h⟩, in1_5 m c ⟨n + 1, h⟩, in1_6 m c ⟨n + 1, h⟩, in1_7 m c ⟨n + 1, h⟩,
      (given n (Nat.lt_of_succ_lt h)).carried⟩

/-! ## The rows before the block -/

/-- One where there are rows before the block, zero at the first block. -/
theorem before_flag (t : Fin cfg1.N) : k1_pay21 (F := Ideal) (cfg1.grid.coords t) = if t.val < 71 then 1 else 0 := by
  have ht := lt72 t
  have e0 : (grid1.coords t 0).val = t.val / 1 % 72 := Pipeline.Grid.coords_val t 0 (by decide) rfl
  have e : (grid1.coords t 0).val = t.val := by rw [e0]; omega
  show Scalar.sitofp .f32 (Scalar.extui (Scalar.cmpi .slt (BitVec.ofNat 32 (grid1.coords t 0).val) 71#32)) = _
  rw [e, (by decide : ∀ n : Fin 72, (Scalar.extui (Scalar.cmpi .slt (BitVec.ofNat 32 n.val) 71#32) : BitVec 32) = if n.val < 71 then 1#32 else 0#32) ⟨t.val, ht⟩]
  show Scalar.sitofp .f32 (if t.val < 71 then 1#32 else 0#32) = _
  split
  · show ((((1#32 : BitVec 32).toInt : ℤ) : ℝ) : EReal) = 1
    simp
  · exact sitofp_zero

theorem flagRe (i : grid1.Coords) (x : Vec Ideal S8x1024 .f32) (b : Fin 8) (j : Fin 1024) : of2 (k1_pay22 i x) b j = of2 x b j * k1_pay21 (F := Ideal) i := by
  unfold of2 k1_pay22
  pointwise
theorem flagIm (i : grid1.Coords) (x : Vec Ideal S8x1024 .f32) (b : Fin 8) (j : Fin 1024) : of2 (k1_pay23 i x) b j = of2 x b j * k1_pay21 (F := Ideal) i := by
  unfold of2 k1_pay23
  pointwise

/-- The state before the block's first rows. -/
theorem before_re (t : Fin cfg1.N) (b : Fin 8) (j : Fin 1024) :
    of2 (k1_pay22 (cfg1.grid.coords t) (VecWindow.window (iblk1 (Vb m) c 2 t) ![0, 0] S8x1024.size inb_S8x2048_S8x1024_0_0)) b j
      = (st (ku m c) (kbd m c) (kar m c) (kai m c) b j (32 * (71 - t.val))).1 := by
  have ht := lt72 t
  have hj := j.isLt
  have hb := b.isLt
  rw [flagRe, before_flag, window_lanes (R := 8) (iblk1 (Vb m) c 2 t) _ 0 0 rfl _ b j b ⟨j.val, by omega⟩ (by simp) (by simp), in1_2]
  by_cases h : t.val < 71
  · rw [if_pos h, mul_one]
    unfold X
    rw [comp_lo (by show j.val < 1024; omega), show colOf j.val = j from Fin.ext (Nat.mod_eq_of_lt hj),
      show laneOf (8 * ((71 - t.val) * 32 - 1) + b.val) = b from Fin.ext (by show (8 * ((71 - t.val) * 32 - 1) + b.val) % 8 = b.val; omega),
      show (8 * ((71 - t.val) * 32 - 1) + b.val) / 8 + 1 = 32 * (71 - t.val) by omega]
  · rw [if_neg h, mul_zero, show 32 * (71 - t.val) = 0 by omega]
    rfl
theorem before_im (t : Fin cfg1.N) (b : Fin 8) (j : Fin 1024) :
    of2 (k1_pay23 (cfg1.grid.coords t) (VecWindow.window (iblk1 (Vb m) c 2 t) ![0, 1024] S8x1024.size inb_S8x2048_S8x1024_0_1024)) b j
      = (st (ku m c) (kbd m c) (kar m c) (kai m c) b j (32 * (71 - t.val))).2 := by
  have ht := lt72 t
  have hj := j.isLt
  have hb := b.isLt
  rw [flagIm, before_flag, window_lanes (R := 8) (iblk1 (Vb m) c 2 t) _ 0 1024 rfl _ b j b ⟨1024 + j.val, by omega⟩ (by simp) rfl, in1_2]
  by_cases h : t.val < 71
  · rw [if_pos h, mul_one]
    unfold X
    rw [comp_hi (by show ¬1024 + j.val < 1024; omega), show colOf (1024 + j.val) = j from Fin.ext (by show (1024 + j.val) % 1024 = j.val; omega),
      show laneOf (8 * ((71 - t.val) * 32 - 1) + b.val) = b from Fin.ext (by show (8 * ((71 - t.val) * 32 - 1) + b.val) % 8 = b.val; omega),
      show (8 * ((71 - t.val) * 32 - 1) + b.val) / 8 + 1 = 32 * (71 - t.val) by omega]
  · rw [if_neg h, mul_zero, show 32 * (71 - t.val) = 0 by omega]
    rfl

/-! ## The sums -/

theorem zero6 (k : Fin 512) (j : Fin 2048) : of2 (k1_pay6 (F := Ideal)) k j = 0 := by
  unfold of2 k1_pay6
  pointwise
theorem zero7 (k : Fin 2048) (j : Fin 512) : of2 (k1_pay7 (F := Ideal)) k j = 0 := by
  unfold of2 k1_pay7
  pointwise
theorem zero8 (b : Fin 8) (j : Fin 1024) : of2 (k1_pay8 (F := Ideal)) b j = 0 := by
  unfold of2 k1_pay8
  pointwise
theorem zero9 (b : Fin 8) (j : Fin 1024) : of2 (k1_pay9 (F := Ideal)) b j = 0 := by
  unfold of2 k1_pay9
  pointwise

theorem accBd_eq (k : Fin 512) (j : Fin 2048) : ∀ (n : ℕ) (h : n ≤ cfg1.N), of2 (accBd (Vb m) c n h) k j
    = ∑ t ∈ Finset.range n, blockSum (fun r => ku m c r k * A (kdy m c) (kcd m c) (kar m c) (kai m c) r j) t
  | 0, _ => zero6 k j
  | n + 1, h => by
    rw [Finset.sum_range_succ, ← accBd_eq k j n (Nat.le_of_lt h)]
    exact (given m c n h).dbd _ (in1_3 m c ⟨n, h⟩) _ k j
theorem accCd_eq (k : Fin 2048) (j : Fin 512) : ∀ (n : ℕ) (h : n ≤ cfg1.N), of2 (accCd (Vb m) c n h) k j
    = ∑ t ∈ Finset.range n, blockSum (fun r => X (ku m c) (kbd m c) (kar m c) (kai m c) r k * kdy m c r j) t
  | 0, _ => zero7 k j
  | n + 1, h => by
    rw [Finset.sum_range_succ, ← accCd_eq k j n (Nat.le_of_lt h)]
    exact (given m c n h).dcd _ k j
theorem accAr_eq (b : Fin 8) (j : Fin 1024) : ∀ (n : ℕ) (h : n ≤ cfg1.N), of2 (accAr (Vb m) c n h) b j
    = ∑ i ∈ Finset.range (32 * n), partR (ku m c) (kdy m c) (kbd m c) (kcd m c) (kar m c) (kai m c) b j i
  | 0, _ => zero8 b j
  | n + 1, h => by
    rw [show 32 * (n + 1) = 32 * n + 32 by omega, Finset.sum_range_add, ← accAr_eq b j n (Nat.le_of_lt h)]
    exact (given m c n h).dar _ _ (before_re m c ⟨n, h⟩) (before_im m c ⟨n, h⟩) _ b j
theorem accAi_eq (b : Fin 8) (j : Fin 1024) : ∀ (n : ℕ) (h : n ≤ cfg1.N), of2 (accAi (Vb m) c n h) b j
    = ∑ i ∈ Finset.range (32 * n), partI (ku m c) (kdy m c) (kbd m c) (kcd m c) (kar m c) (kai m c) b j i
  | 0, _ => zero9 b j
  | n + 1, h => by
    rw [show 32 * (n + 1) = 32 * n + 32 by omega, Finset.sum_range_add, ← accAi_eq b j n (Nat.le_of_lt h)]
    exact (given m c n h).dai _ _ (before_re m c ⟨n, h⟩) (before_im m c ⟨n, h⟩) _ b j

/-! ## The five results -/

/-- The gradient of the input. -/
theorem out_du : (dat1 (Vb m) c).arrAt 8 cfg1.N = to2 (du (kdy m c) (kbd m c) (kcd m c) (kar m c) (kai m c)) := by
  refine (dat1 (Vb m) c).arrAt_eq_of_covers 8 _ (by decide +kernel) fun t _ y => ?_
  obtain ⟨e0, e1⟩ := (index1 t).2.2.2.2
  show (dat1 (Vb m) c).after 8 t y = to2 (du (kdy m c) (kbd m c) (kcd m c) (kar m c) (kai m c)) (((cfg1.win 8).blk t).view.emb y)
  rw [after1_8]
  have H := (given m c t.val t.isLt).du _ (in1_4 m c t) (y 0) (y 1)
  refine (congrArg (bwdDu _ _ _ _ _ _ _) (idx2 y)).trans (H.trans ?_)
  unfold to2
  congr 1 <;> refine Fin.ext ?_
  · show 256 * (71 - t.val) + (y 0).val = win1_8.index t (0 : Fin 2) * 256 + 1 * (y 0).val; rw [e0]; omega
  · show (y 1).val = win1_8.index t (1 : Fin 2) * 512 + 1 * (y 1).val; rw [e1]; omega

/-- The gradient of the input map. -/
theorem out_dbd : (dat1 (Vb m) c).arrAt 9 cfg1.N = to2 (dbd (ku m c) (kdy m c) (kcd m c) (kar m c) (kai m c)) := by
  refine (dat1 (Vb m) c).arrAt_eq_of_covers 9 _ (by decide +kernel) fun t hf y => ?_
  have e := (index1_whole t).2.2.2.2.1
  show (dat1 (Vb m) c).after 9 t y = to2 (dbd (ku m c) (kdy m c) (kcd m c) (kar m c) (kai m c)) (((cfg1.win 9).blk t).view.emb y)
  rw [show ((cfg1.win 9).blk t).view.emb y = y from funext fun a => Fin.ext (by show win1_9.index t a * _ + 1 * (y a).val = (y a).val; rw [e]; omega), after1_9]
  have hN : t.val + 1 = 72 := by rw [(last1 t).1 hf]
  refine (congrArg (accBd _ _ _ _) (idx2 y)).trans ((accBd_eq m c (y 0) (y 1) (t.val + 1) t.isLt).trans ?_)
  rw [hN, sum_blocks]
  rfl

/-- The gradient of the output map. -/
theorem out_dcd : (dat1 (Vb m) c).arrAt 10 cfg1.N = to2 (dcd (ku m c) (kdy m c) (kbd m c) (kar m c) (kai m c)) := by
  refine (dat1 (Vb m) c).arrAt_eq_of_covers 10 _ (by decide +kernel) fun t hf y => ?_
  have e := (index1_whole t).2.2.2.2.2.1
  show (dat1 (Vb m) c).after 10 t y = to2 (dcd (ku m c) (kdy m c) (kbd m c) (kar m c) (kai m c)) (((cfg1.win 10).blk t).view.emb y)
  rw [show ((cfg1.win 10).blk t).view.emb y = y from funext fun a => Fin.ext (by show win1_10.index t a * _ + 1 * (y a).val = (y a).val; rw [e]; omega), after1_10]
  have hN : t.val + 1 = 72 := by rw [(last1 t).2.1 hf]
  refine (congrArg (accCd _ _ _ _) (idx2 y)).trans ((accCd_eq m c (y 0) (y 1) (t.val + 1) t.isLt).trans ?_)
  rw [hN, sum_blocks]
  rfl

/-- The gradient of the transition's real part. -/
theorem out_dar : (dat1 (Vb m) c).arrAt 11 cfg1.N = to2 (dar (ku m c) (kdy m c) (kbd m c) (kcd m c) (kar m c) (kai m c)) := by
  refine (dat1 (Vb m) c).arrAt_eq_of_covers 11 _ (by decide +kernel) fun t hf y => ?_
  have e := (index1_whole t).2.2.2.2.2.2.1
  show (dat1 (Vb m) c).after 11 t y = to2 (dar (ku m c) (kdy m c) (kbd m c) (kcd m c) (kar m c) (kai m c)) (((cfg1.win 11).blk t).view.emb y)
  rw [show ((cfg1.win 11).blk t).view.emb y = y from funext fun a => Fin.ext (by show win1_11.index t a * _ + 1 * (y a).val = (y a).val; rw [e]; omega), after1_11]
  have hN : 32 * (t.val + 1) = 2304 := by rw [(last1 t).2.2.1 hf]
  refine (congrArg (accAr _ _ _ _) (idx2 y)).trans ((accAr_eq m c (y 0) (y 1) (t.val + 1) t.isLt).trans ?_)
  rw [hN]
  rfl

/-- The gradient of the transition's imaginary part. -/
theorem out_dai : (dat1 (Vb m) c).arrAt 12 cfg1.N = to2 (dai (ku m c) (kdy m c) (kbd m c) (kcd m c) (kar m c) (kai m c)) := by
  refine (dat1 (Vb m) c).arrAt_eq_of_covers 12 _ (by decide +kernel) fun t hf y => ?_
  have e := (index1_whole t).2.2.2.2.2.2.2
  show (dat1 (Vb m) c).after 12 t y = to2 (dai (ku m c) (kdy m c) (kbd m c) (kcd m c) (kar m c) (kai m c)) (((cfg1.win 12).blk t).view.emb y)
  rw [show ((cfg1.win 12).blk t).view.emb y = y from funext fun a => Fin.ext (by show win1_12.index t a * _ + 1 * (y a).val = (y a).val; rw [e]; omega), after1_12]
  have hN : 32 * (t.val + 1) = 2304 := by rw [(last1 t).2.2.2 hf]
  refine (congrArg (accAi _ _ _ _) (idx2 y)).trans ((accAi_eq m c (y 0) (y 1) (t.val + 1) t.isLt).trans ?_)
  rw [hN]
  rfl

/-- The results where the run leaves them. -/
theorem Wc_out (w : Fin cfg1.W) : Wc m c (Pipeline.arrRef spec1 w) = (dat1 (Vb m) c).arrAt w cfg1.N :=
  (dat1 (Vb m) c).withArrays_arrAt sharedIn1 (Wb m c) (fun _ => rfl) w
theorem Wc_y : Wc m c main_v2_0 = to2 (y (ku m c) (kbd m c) (kcd m c) (kar m c) (kai m c)) := (Wc_of m c main_v2_0 (by decide)).trans (Wb_y m c)

end Cert.KernelIdeal.S5
end
-- ==== Proof.S5RefOps.lean ====
/-
  The reference of the S5 recurrence as lists of host operations: what runs before, between and after its two loops,
  and one trip of each loop's body.
-/
module

public import proofs.«01_k».proof.Defs
public import proofs.«01_k».proof.Proof.Gen.ReferenceIdeal
public import Idealize.ShloMosaic.Lib.StableHlo.RunLoop
public import Idealize.ShloMosaic.Lib.StableHlo.RunRead

@[expose] public section

set_option maxRecDepth 16384

noncomputable section

open Idealize.ShloMosaic Idealize.ShloMosaic.TcCoe Idealize.SL.Sem
open Idealize.ShloMosaic.StableHlo

namespace Cert.ReferenceIdeal.S5

open Cert.ReferenceIdeal Cert.ReferenceIdeal.Gen

variable {F : FTy → Type} [FloatOps F]

/-- The operations before the first loop: the driven rows, the zero states and stacks, and the values carried in. -/
abbrev pre0 : List (HloOp τ sig (Elt F)) :=
  [ StableHlo.binary main_arg0 main_arg1 main_v0 ((fun l r => Host.dotGeneral dot_S18432x512_S512x2048_S18432x2048_1_0_0_1_n_n none l r) : (⟨S18432x512, .f32⟩ : BufTy).Contents (Elt F) → (⟨S512x2048, .f32⟩ : BufTy).Contents (Elt F) → (⟨S18432x2048, .f32⟩ : BufTy).Contents (Elt F)),
    StableHlo.reshape main_v0 main_v1 (rfl : (.f32 : EltTy) = .f32) shapeCasts_S18432x2048_S2304x8x2x1024,
    StableHlo.nullary main_cst (constant S_ .f32 0x00000000#32),
    StableHlo.unary main_cst main_v2 (broadcastInDim S8x1024 ![] bcast_S_S8x1024 : (⟨S_, .f32⟩ : BufTy).Contents (Elt F) → (⟨S8x1024, .f32⟩ : BufTy).Contents (Elt F)),
    StableHlo.nullary main_cst_0 (constant S_ .f32 0x00000000#32),
    StableHlo.unary main_cst_0 main_v3 (broadcastInDim S2304x8x1024 ![] bcast_S_S2304x8x1024 : (⟨S_, .f32⟩ : BufTy).Contents (Elt F) → (⟨S2304x8x1024, .f32⟩ : BufTy).Contents (Elt F)),
    StableHlo.nullary main_cst_1 (constant S_ .f32 0x00000000#32),
    StableHlo.unary main_cst_1 main_v4 (broadcastInDim S2304x8x1024 ![] bcast_S_S2304x8x1024 : (⟨S_, .f32⟩ : BufTy).Contents (Elt F) → (⟨S2304x8x1024, .f32⟩ : BufTy).Contents (Elt F)),
    StableHlo.nullary main_cst_2 (constant S_ .f32 0x00000000#32),
    StableHlo.unary main_cst_2 main_v5 (broadcastInDim S2304x8x1024 ![] bcast_S_S2304x8x1024 : (⟨S_, .f32⟩ : BufTy).Contents (Elt F) → (⟨S2304x8x1024, .f32⟩ : BufTy).Contents (Elt F)),
    StableHlo.nullary main_cst_3 (constant S_ .f32 0x00000000#32),
    StableHlo.unary main_cst_3 main_v6 (broadcastInDim S2304x8x1024 ![] bcast_S_S2304x8x1024 : (⟨S_, .f32⟩ : BufTy).Contents (Elt F) → (⟨S2304x8x1024, .f32⟩ : BufTy).Contents (Elt F)),
    StableHlo.nullary main_c (constantI S_ 32 0#32),
    StableHlo.unary main_v1 main_v7_0 id,
    StableHlo.unary main_arg3 main_v7_1 id,
    StableHlo.unary main_arg4 main_v7_2 id,
    StableHlo.unary main_c main_v7_3 id,
    StableHlo.unary main_v2 main_v7_4 id,
    StableHlo.unary main_v2 main_v7_5 id,
    StableHlo.unary main_v3 main_v7_6 id,
    StableHlo.unary main_v4 main_v7_7 id,
    StableHlo.unary main_v5 main_v7_8 id,
    StableHlo.unary main_v6 main_v7_9 id ]
theorem pre0_sub : (pre0 : List (HloOp τ sig (Elt F))).Forall fun op => op.bufs ⊆ StableHlo.tcRefs τ sig :=
  ⟨StableHlo.binary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem pre0_fresh : (pre0 : List (HloOp τ sig (Elt F))).Forall fun op => op.fresh = ∅ :=
  StableHlo.forall_fresh_of_map rfl

/-- Between the loops, first part: the states as one array, the output, the output weights' gradient, the states' gradient. -/
abbrev mid0 : List (HloOp τ sig (Elt F)) :=
  [ StableHlo.unary main_v7_6 main_v8 (broadcastInDim S2304x8x1x1024 ![0, 1, 3] bcast_S2304x8x1024_S2304x8x1x1024_0_1_3 : (⟨S2304x8x1024, .f32⟩ : BufTy).Contents (Elt F) → (⟨S2304x8x1x1024, .f32⟩ : BufTy).Contents (Elt F)),
    StableHlo.unary main_v7_7 main_v9 (broadcastInDim S2304x8x1x1024 ![0, 1, 3] bcast_S2304x8x1024_S2304x8x1x1024_0_1_3 : (⟨S2304x8x1024, .f32⟩ : BufTy).Contents (Elt F) → (⟨S2304x8x1x1024, .f32⟩ : BufTy).Contents (Elt F)),
    StableHlo.binary main_v8 main_v9 main_v10 ((fun a b => concatenate S2304x8x2x1024 2 [⟨S2304x8x1x1024, a⟩, ⟨S2304x8x1x1024, b⟩] concatenates_S2304x8x1x1024_S2304x8x1x1024_S2304x8x2x1024_d2) : (⟨S2304x8x1x1024, .f32⟩ : BufTy).Contents (Elt F) → (⟨S2304x8x1x1024, .f32⟩ : BufTy).Contents (Elt F) → (⟨S2304x8x2x1024, .f32⟩ : BufTy).Contents (Elt F)),
    StableHlo.reshape main_v10 main_v11 (rfl : (.f32 : EltTy) = .f32) shapeCasts_S2304x8x2x1024_S18432x2048,
    StableHlo.binary main_v11 main_arg2 main_v12 ((fun l r => Host.dotGeneral dot_S18432x2048_S2048x512_S18432x512_1_0_0_1_n_n none l r) : (⟨S18432x2048, .f32⟩ : BufTy).Contents (Elt F) → (⟨S2048x512, .f32⟩ : BufTy).Contents (Elt F) → (⟨S18432x512, .f32⟩ : BufTy).Contents (Elt F)),
    StableHlo.nullary main_cst_4 (constant S_ .f32 0x00000000#32),
    StableHlo.unary main_cst_4 main_v13 (broadcastInDim S8x1024 ![] bcast_S_S8x1024 : (⟨S_, .f32⟩ : BufTy).Contents (Elt F) → (⟨S8x1024, .f32⟩ : BufTy).Contents (Elt F)),
    StableHlo.nullary main_cst_5 (constant S_ .f32 0x00000000#32),
    StableHlo.unary main_cst_5 main_v14 (broadcastInDim S8x1024 ![] bcast_S_S8x1024 : (⟨S_, .f32⟩ : BufTy).Contents (Elt F) → (⟨S8x1024, .f32⟩ : BufTy).Contents (Elt F)),
    StableHlo.binary main_arg5 main_v11 main_v15 ((fun l r => Host.dotGeneral dot_S18432x512_S18432x2048_S512x2048_0_0_1_1_n_n none l r) : (⟨S18432x512, .f32⟩ : BufTy).Contents (Elt F) → (⟨S18432x2048, .f32⟩ : BufTy).Contents (Elt F) → (⟨S512x2048, .f32⟩ : BufTy).Contents (Elt F)),
    StableHlo.unary main_v15 main_v16 ((transpose S2048x512 [1, 0] · transposes_S512x2048_S2048x512_1_0) : (⟨S512x2048, .f32⟩ : BufTy).Contents (Elt F) → (⟨S2048x512, .f32⟩ : BufTy).Contents (Elt F)),
    StableHlo.binary main_arg5 main_arg2 main_v17 ((fun l r => Host.dotGeneral dot_S18432x512_S2048x512_S18432x2048_1_1_0_0_n_n none l r) : (⟨S18432x512, .f32⟩ : BufTy).Contents (Elt F) → (⟨S2048x512, .f32⟩ : BufTy).Contents (Elt F) → (⟨S18432x2048, .f32⟩ : BufTy).Contents (Elt F)),
    StableHlo.reshape main_v17 main_v18 (rfl : (.f32 : EltTy) = .f32) shapeCasts_S18432x2048_S2304x8x2x1024,
    StableHlo.unary main_v18 main_v19 ((extractStridedSlice S2304x8x1x1024 ![0, 0, 0, 0] · slices_S2304x8x2x1024_S2304x8x1x1024_0_0_0_0) : (⟨S2304x8x2x1024, .f32⟩ : BufTy).Contents (Elt F) → (⟨S2304x8x1x1024, .f32⟩ : BufTy).Contents (Elt F)),
    StableHlo.reshape main_v19 main_v20 (rfl : (.f32 : EltTy) = .f32) shapeCasts_S2304x8x1x1024_S2304x8x1024,
    StableHlo.unary main_v18 main_v21 ((extractStridedSlice S2304x8x1x1024 ![0, 0, 1, 0] · slices_S2304x8x2x1024_S2304x8x1x1024_0_0_1_0) : (⟨S2304x8x2x1024, .f32⟩ : BufTy).Contents (Elt F) → (⟨S2304x8x1x1024, .f32⟩ : BufTy).Contents (Elt F)),
    StableHlo.reshape main_v21 main_v22 (rfl : (.f32 : EltTy) = .f32) shapeCasts_S2304x8x1x1024_S2304x8x1024,
    StableHlo.nullary main_cst_6 (constant S_ .f32 0x00000000#32),
    StableHlo.unary main_cst_6 main_v23 (broadcastInDim S8x1024 ![] bcast_S_S8x1024 : (⟨S_, .f32⟩ : BufTy).Contents (Elt F) → (⟨S8x1024, .f32⟩ : BufTy).Contents (Elt F)),
    StableHlo.nullary main_cst_7 (constant S_ .f32 0x00000000#32),
    StableHlo.unary main_cst_7 main_v24 (broadcastInDim S8x1024 ![] bcast_S_S8x1024 : (⟨S_, .f32⟩ : BufTy).Contents (Elt F) → (⟨S8x1024, .f32⟩ : BufTy).Contents (Elt F)),
    StableHlo.nullary main_cst_8 (constant S_ .f32 0x00000000#32),
    StableHlo.unary main_cst_8 main_v25 (broadcastInDim S8x1024 ![] bcast_S_S8x1024 : (⟨S_, .f32⟩ : BufTy).Contents (Elt F) → (⟨S8x1024, .f32⟩ : BufTy).Contents (Elt F)),
    StableHlo.nullary main_cst_9 (constant S_ .f32 0x00000000#32),
    StableHlo.unary main_cst_9 main_v26 (broadcastInDim S8x1024 ![] bcast_S_S8x1024 : (⟨S_, .f32⟩ : BufTy).Contents (Elt F) → (⟨S8x1024, .f32⟩ : BufTy).Contents (Elt F)),
    StableHlo.nullary main_cst_10 (constant S_ .f32 0x00000000#32),
    StableHlo.unary main_cst_10 main_v27 (broadcastInDim S2304x8x2x1024 ![] bcast_S_S2304x8x2x1024 : (⟨S_, .f32⟩ : BufTy).Contents (Elt F) → (⟨S2304x8x2x1024, .f32⟩ : BufTy).Contents (Elt F)),
    StableHlo.nullary main_c_11 (constantI S_ 32 0#32),
    StableHlo.unary main_v20 main_v28_0 id,
    StableHlo.unary main_v22 main_v28_1 id,
    StableHlo.unary main_v7_8 main_v28_2 id,
    StableHlo.unary main_v7_9 main_v28_3 id,
    StableHlo.unary main_arg3 main_v28_4 id,
    StableHlo.unary main_arg4 main_v28_5 id,
    StableHlo.unary main_c_11 main_v28_6 id,
    StableHlo.unary main_v25 main_v28_7 id ]
theorem mid0_sub : (mid0 : List (HloOp τ sig (Elt F))).Forall fun op => op.bufs ⊆ StableHlo.tcRefs τ sig :=
  ⟨StableHlo.unary_bufs_sub .., StableHlo.unary_bufs_sub .., StableHlo.binary_bufs_sub .., StableHlo.reshape_bufs_sub .., StableHlo.binary_bufs_sub .., StableHlo.nullary_bufs_sub .., StableHlo.unary_bufs_sub .., StableHlo.nullary_bufs_sub .., StableHlo.unary_bufs_sub .., StableHlo.binary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem mid0_fresh : (mid0 : List (HloOp τ sig (Elt F))).Forall fun op => op.fresh = ∅ :=
  StableHlo.forall_fresh_of_map rfl

/-- Between the loops, second part: the last values carried into the second loop. -/
abbrev mid1 : List (HloOp τ sig (Elt F)) :=
  [ StableHlo.unary main_v26 main_v28_8 id,
    StableHlo.unary main_v23 main_v28_9 id,
    StableHlo.unary main_v24 main_v28_10 id,
    StableHlo.unary main_v27 main_v28_11 id ]
theorem mid1_sub : (mid1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub ..⟩
theorem mid1_fresh : (mid1 : List (HloOp τ sig (Elt F))).Forall fun op => op.fresh = ∅ :=
  StableHlo.forall_fresh_of_map rfl

/-- After the second loop: the remaining gradients. -/
abbrev post0 : List (HloOp τ sig (Elt F)) :=
  [ StableHlo.reshape main_v28_11 main_v29 (rfl : (.f32 : EltTy) = .f32) shapeCasts_S2304x8x2x1024_S18432x2048,
    StableHlo.binary main_v29 main_arg0 main_v30 ((fun l r => Host.dotGeneral dot_S18432x2048_S18432x512_S2048x512_0_0_1_1_n_n none l r) : (⟨S18432x2048, .f32⟩ : BufTy).Contents (Elt F) → (⟨S18432x512, .f32⟩ : BufTy).Contents (Elt F) → (⟨S2048x512, .f32⟩ : BufTy).Contents (Elt F)),
    StableHlo.unary main_v30 main_v31 ((transpose S512x2048 [1, 0] · transposes_S2048x512_S512x2048_1_0) : (⟨S2048x512, .f32⟩ : BufTy).Contents (Elt F) → (⟨S512x2048, .f32⟩ : BufTy).Contents (Elt F)),
    StableHlo.binary main_v29 main_arg1 main_v32 ((fun l r => Host.dotGeneral dot_S18432x2048_S512x2048_S18432x512_1_1_0_0_n_n none l r) : (⟨S18432x2048, .f32⟩ : BufTy).Contents (Elt F) → (⟨S512x2048, .f32⟩ : BufTy).Contents (Elt F) → (⟨S18432x512, .f32⟩ : BufTy).Contents (Elt F)) ]
theorem post0_sub : (post0 : List (HloOp τ sig (Elt F))).Forall fun op => op.bufs ⊆ StableHlo.tcRefs τ sig :=
  ⟨StableHlo.reshape_bufs_sub .., StableHlo.binary_bufs_sub .., StableHlo.unary_bufs_sub .., StableHlo.binary_bufs_sub ..⟩
theorem post0_fresh : (post0 : List (HloOp τ sig (Elt F))).Forall fun op => op.fresh = ∅ :=
  StableHlo.forall_fresh_of_map rfl

/-- The first loop's condition: the counter below 2304. -/
abbrev cond0 : List (HloOp τ sig (Elt F)) :=
  [ StableHlo.nullary main_while0c_c_21 (constantI S_ 32 2304#32),
    StableHlo.binary main_v7_3 main_while0c_c_21 main_while0c_v33 (cmpi .slt : (⟨S_, .i32⟩ : BufTy).Contents (Elt F) → (⟨S_, .i32⟩ : BufTy).Contents (Elt F) → (⟨S_, .i1⟩ : BufTy).Contents (Elt F)) ]
theorem cond0_sub : (cond0 : List (HloOp τ sig (Elt F))).Forall fun op => op.bufs ⊆ StableHlo.tcRefs τ sig :=
  ⟨StableHlo.nullary_bufs_sub .., StableHlo.binary_bufs_sub ..⟩
theorem cond0_fresh : (cond0 : List (HloOp τ sig (Elt F))).Forall fun op => op.fresh = ∅ :=
  StableHlo.forall_fresh_of_map rfl

/-- The second loop's condition: the counter below 2304. -/
abbrev cond1 : List (HloOp τ sig (Elt F)) :=
  [ StableHlo.nullary main_while1c_c_23 (constantI S_ 32 2304#32),
    StableHlo.binary main_v28_6 main_while1c_c_23 main_while1c_v33 (cmpi .slt : (⟨S_, .i32⟩ : BufTy).Contents (Elt F) → (⟨S_, .i32⟩ : BufTy).Contents (Elt F) → (⟨S_, .i1⟩ : BufTy).Contents (Elt F)) ]
theorem cond1_sub : (cond1 : List (HloOp τ sig (Elt F))).Forall fun op => op.bufs ⊆ StableHlo.tcRefs τ sig :=
  ⟨StableHlo.nullary_bufs_sub .., StableHlo.binary_bufs_sub ..⟩
theorem cond1_fresh : (cond1 : List (HloOp τ sig (Elt F))).Forall fun op => op.fresh = ∅ :=
  StableHlo.forall_fresh_of_map rfl

/-- Stretch 0 of the first loop's body. -/
abbrev fw0 : List (HloOp τ sig (Elt F)) :=
  [ StableHlo.TRef.nullary main_while0b_call0.c (constantI S_ 32 0#32),
    StableHlo.TRef.nullary main_while0b_call0.c_0 (constantI S_ 32 0#32),
    StableHlo.TRef.nullary main_while0b_call0.c_1 (constantI S_ 32 0#32),
    StableHlo.TRef.unaryIndexed (.of main_v7_0 : StableHlo.TRef sig ⟨S2304x8x2x1024, .f32⟩) ![(.of main_v7_3 : StableHlo.TRef sig ⟨S_, .i32⟩), main_while0b_call0.c, main_while0b_call0.c_0, main_while0b_call0.c_1] main_while0b_call0.v0 (fun x i => Host.dynamicSlice S1x8x2x1024 x (fun k => (i k (Shape.Idx.first h_S_)).toInt) sliceFits_S2304x8x2x1024_S1x8x2x1024),
    StableHlo.TRef.reshape main_while0b_call0.v0 main_while0b_call0.v1 (rfl : (.f32 : EltTy) = .f32) shapeCasts_S1x8x2x1024_S8x2x1024 ]
theorem fw0_sub : (fw0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem fw0_fresh : (fw0 : List (HloOp τ sig (Elt F))).Forall fun op => op.fresh = ∅ :=
  StableHlo.forall_fresh_of_map rfl

/-- Stretch 1 of the first loop's body. -/
abbrev fw1 : List (HloOp τ sig (Elt F)) :=
  [ StableHlo.binary main_v7_1 main_v7_4 main_while0b_v34 (mulf : (⟨S8x1024, .f32⟩ : BufTy).Contents (Elt F) → (⟨S8x1024, .f32⟩ : BufTy).Contents (Elt F) → (⟨S8x1024, .f32⟩ : BufTy).Contents (Elt F)),
    StableHlo.binary main_v7_2 main_v7_5 main_while0b_v35 (mulf : (⟨S8x1024, .f32⟩ : BufTy).Contents (Elt F) → (⟨S8x1024, .f32⟩ : BufTy).Contents (Elt F) → (⟨S8x1024, .f32⟩ : BufTy).Contents (Elt F)),
    StableHlo.binary main_while0b_v34 main_while0b_v35 main_while0b_v36 (subf : (⟨S8x1024, .f32⟩ : BufTy).Contents (Elt F) → (⟨S8x1024, .f32⟩ : BufTy).Contents (Elt F) → (⟨S8x1024, .f32⟩ : BufTy).Contents (Elt F)),
    StableHlo.unary main_while0b_v33 main_while0b_v37 ((extractStridedSlice S8x1x1024 ![0, 0, 0] · slices_S8x2x1024_S8x1x1024_0_0_0) : (⟨S8x2x1024, .f32⟩ : BufTy).Contents (Elt F) → (⟨S8x1x1024, .f32⟩ : BufTy).Contents (Elt F)),
    StableHlo.reshape main_while0b_v37 main_while0b_v38 (rfl : (.f32 : EltTy) = .f32) shapeCasts_S8x1x1024_S8x1024,
    StableHlo.binary main_while0b_v36 main_while0b_v38 main_while0b_v39 (addf : (⟨S8x1024, .f32⟩ : BufTy).Contents (Elt F) → (⟨S8x1024, .f32⟩ : BufTy).Contents (Elt F) → (⟨S8x1024, .f32⟩ : BufTy).Contents (Elt F)),
    StableHlo.binary main_v7_1 main_v7_5 main_while0b_v40 (mulf : (⟨S8x1024, .f32⟩ : BufTy).Contents (Elt F) → (⟨S8x1024, .f32⟩ : BufTy).Contents (Elt F) → (⟨S8x1024, .f32⟩ : BufTy).Contents (Elt F)),
    StableHlo.binary main_v7_2 main_v7_4 main_while0b_v41 (mulf : (⟨S8x1024, .f32⟩ : BufTy).Contents (Elt F) → (⟨S8x1024, .f32⟩ : BufTy).Contents (Elt F) → (⟨S8x1024, .f32⟩ : BufTy).Contents (Elt F)),
    StableHlo.binary main_while0b_v40 main_while0b_v41 main_while0b_v42 (addf : (⟨S8x1024, .f32⟩ : BufTy).Contents (Elt F) → (⟨S8x1024, .f32⟩ : BufTy).Contents (Elt F) → (⟨S8x1024, .f32⟩ : BufTy).Contents (Elt F)),
    StableHlo.unary main_while0b_v33 main_while0b_v43 ((extractStridedSlice S8x1x1024 ![0, 1, 0] · slices_S8x2x1024_S8x1x1024_0_1_0) : (⟨S8x2x1024, .f32⟩ : BufTy).Contents (Elt F) → (⟨S8x1x1024, .f32⟩ : BufTy).Contents (Elt F)),
    StableHlo.reshape main_while0b_v43 main_while0b_v44 (rfl : (.f32 : EltTy) = .f32) shapeCasts_S8x1x1024_S8x1024,
    StableHlo.binary main_while0b_v42 main_while0b_v44 main_while0b_v45 (addf : (⟨S8x1024, .f32⟩ : BufTy).Contents (Elt F) → (⟨S8x1024, .f32⟩ : BufTy).Contents (Elt F) → (⟨S8x1024, .f32⟩ : BufTy).Contents (Elt F)) ]
theorem fw1_sub : (fw1 : List (HloOp τ sig (Elt F))).Forall fun op => op.bufs ⊆ StableHlo.tcRefs τ sig :=
  ⟨StableHlo.binary_bufs_sub .., StableHlo.binary_bufs_sub .., StableHlo.binary_bufs_sub .., StableHlo.unary_bufs_sub .., StableHlo.reshape_bufs_sub .., StableHlo.binary_bufs_sub .., StableHlo.binary_bufs_sub .., StableHlo.binary_bufs_sub .., StableHlo.binary_bufs_sub .., StableHlo.unary_bufs_sub .., StableHlo.reshape_bufs_sub .., StableHlo.binary_bufs_sub ..⟩
theorem fw1_fresh : (fw1 : List (HloOp τ sig (Elt F))).Forall fun op => op.fresh = ∅ :=
  StableHlo.forall_fresh_of_map rfl

/-- Stretch 2 of the first loop's body. -/
abbrev fw2 : List (HloOp τ sig (Elt F)) :=
  [ StableHlo.TRef.unary (.of main_while0b_v39 : StableHlo.TRef sig ⟨S8x1024, .f32⟩) main_while0b_call1.v0 (broadcastInDim S1x8x1024 ![1, 2] bcast_S8x1024_S1x8x1024_1_2),
    StableHlo.TRef.nullary main_while0b_call1.c (constantI S_ 32 0#32),
    StableHlo.TRef.nullary main_while0b_call1.c_0 (constantI S_ 32 0#32),
    StableHlo.TRef.binaryIndexed (.of main_v7_6 : StableHlo.TRef sig ⟨S2304x8x1024, .f32⟩) main_while0b_call1.v0 ![(.of main_v7_3 : StableHlo.TRef sig ⟨S_, .i32⟩), main_while0b_call1.c, main_while0b_call1.c_0] main_while0b_call1.v1 (fun x u i => Host.dynamicUpdateSlice x u (fun k => (i k (Shape.Idx.first h_S_)).toInt) updateFits_S2304x8x1024_S1x8x1024) ]
theorem fw2_sub : (fw2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem fw2_fresh : (fw2 : List (HloOp τ sig (Elt F))).Forall fun op => op.fresh = ∅ :=
  StableHlo.forall_fresh_of_map rfl

/-- Stretch 3 of the first loop's body. -/
abbrev fw3 : List (HloOp τ sig (Elt F)) :=
  [ StableHlo.TRef.unary (.of main_while0b_v45 : StableHlo.TRef sig ⟨S8x1024, .f32⟩) main_while0b_call2.v0 (broadcastInDim S1x8x1024 ![1, 2] bcast_S8x1024_S1x8x1024_1_2),
    StableHlo.TRef.nullary main_while0b_call2.c (constantI S_ 32 0#32),
    StableHlo.TRef.nullary main_while0b_call2.c_0 (constantI S_ 32 0#32),
    StableHlo.TRef.binaryIndexed (.of main_v7_7 : StableHlo.TRef sig ⟨S2304x8x1024, .f32⟩) main_while0b_call2.v0 ![(.of main_v7_3 : StableHlo.TRef sig ⟨S_, .i32⟩), main_while0b_call2.c, main_while0b_call2.c_0] main_while0b_call2.v1 (fun x u i => Host.dynamicUpdateSlice x u (fun k => (i k (Shape.Idx.first h_S_)).toInt) updateFits_S2304x8x1024_S1x8x1024) ]
theorem fw3_sub : (fw3 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem fw3_fresh : (fw3 : List (HloOp τ sig (Elt F))).Forall fun op => op.fresh = ∅ :=
  StableHlo.forall_fresh_of_map rfl

/-- Stretch 4 of the first loop's body. -/
abbrev fw4 : List (HloOp τ sig (Elt F)) :=
  [ StableHlo.TRef.unary (.of main_v7_4 : StableHlo.TRef sig ⟨S8x1024, .f32⟩) main_while0b_call3.v0 (broadcastInDim S1x8x1024 ![1, 2] bcast_S8x1024_S1x8x1024_1_2),
    StableHlo.TRef.nullary main_while0b_call3.c (constantI S_ 32 0#32),
    StableHlo.TRef.nullary main_while0b_call3.c_0 (constantI S_ 32 0#32),
    StableHlo.TRef.binaryIndexed (.of main_v7_8 : StableHlo.TRef sig ⟨S2304x8x1024, .f32⟩) main_while0b_call3.v0 ![(.of main_v7_3 : StableHlo.TRef sig ⟨S_, .i32⟩), main_while0b_call3.c, main_while0b_call3.c_0] main_while0b_call3.v1 (fun x u i => Host.dynamicUpdateSlice x u (fun k => (i k (Shape.Idx.first h_S_)).toInt) updateFits_S2304x8x1024_S1x8x1024) ]
theorem fw4_sub : (fw4 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem fw4_fresh : (fw4 : List (HloOp τ sig (Elt F))).Forall fun op => op.fresh = ∅ :=
  StableHlo.forall_fresh_of_map rfl

/-- Stretch 5 of the first loop's body. -/
abbrev fw5 : List (HloOp τ sig (Elt F)) :=
  [ StableHlo.TRef.unary (.of main_v7_5 : StableHlo.TRef sig ⟨S8x1024, .f32⟩) main_while0b_call4.v0 (broadcastInDim S1x8x1024 ![1, 2] bcast_S8x1024_S1x8x1024_1_2),
    StableHlo.TRef.nullary main_while0b_call4.c (constantI S_ 32 0#32),
    StableHlo.TRef.nullary main_while0b_call4.c_0 (constantI S_ 32 0#32),
    StableHlo.TRef.binaryIndexed (.of main_v7_9 : StableHlo.TRef sig ⟨S2304x8x1024, .f32⟩) main_while0b_call4.v0 ![(.of main_v7_3 : StableHlo.TRef sig ⟨S_, .i32⟩), main_while0b_call4.c, main_while0b_call4.c_0] main_while0b_call4.v1 (fun x u i => Host.dynamicUpdateSlice x u (fun k => (i k (Shape.Idx.first h_S_)).toInt) updateFits_S2304x8x1024_S1x8x1024) ]
theorem fw5_sub : (fw5 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem fw5_fresh : (fw5 : List (HloOp τ sig (Elt F))).Forall fun op => op.fresh = ∅ :=
  StableHlo.forall_fresh_of_map rfl

/-- Stretch 6 of the first loop's body. -/
abbrev fw6 : List (HloOp τ sig (Elt F)) :=
  [ StableHlo.nullary main_while0b_c_21 (constantI S_ 32 1#32),
    StableHlo.binary main_v7_3 main_while0b_c_21 main_while0b_v50 (addi : (⟨S_, .i32⟩ : BufTy).Contents (Elt F) → (⟨S_, .i32⟩ : BufTy).Contents (Elt F) → (⟨S_, .i32⟩ : BufTy).Contents (Elt F)),
    StableHlo.unary main_while0b_v50 main_v7_3 id,
    StableHlo.unary main_while0b_v39 main_v7_4 id,
    StableHlo.unary main_while0b_v45 main_v7_5 id,
    StableHlo.unary main_while0b_v46 main_v7_6 id,
    StableHlo.unary main_while0b_v47 main_v7_7 id,
    StableHlo.unary main_while0b_v48 main_v7_8 id,
    StableHlo.unary main_while0b_v49 main_v7_9 id ]
theorem fw6_sub : (fw6 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem fw6_fresh : (fw6 : List (HloOp τ sig (Elt F))).Forall fun op => op.fresh = ∅ :=
  StableHlo.forall_fresh_of_map rfl

/-- Stretch 0 of the second loop's body. -/
abbrev bw0 : List (HloOp τ sig (Elt F)) :=
  [ StableHlo.nullary main_while1b_c_23 (constantI S_ 32 2304#32),
    StableHlo.binary main_while1b_c_23 main_v28_6 main_while1b_v33 (subi : (⟨S_, .i32⟩ : BufTy).Contents (Elt F) → (⟨S_, .i32⟩ : BufTy).Contents (Elt F) → (⟨S_, .i32⟩ : BufTy).Contents (Elt F)),
    StableHlo.nullary main_while1b_c_24 (constantI S_ 32 1#32),
    StableHlo.binary main_while1b_v33 main_while1b_c_24 main_while1b_v34 (subi : (⟨S_, .i32⟩ : BufTy).Contents (Elt F) → (⟨S_, .i32⟩ : BufTy).Contents (Elt F) → (⟨S_, .i32⟩ : BufTy).Contents (Elt F)) ]
theorem bw0_sub : (bw0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
theorem bw0_fresh : (bw0 : List (HloOp τ sig (Elt F))).Forall fun op => op.fresh = ∅ :=
  StableHlo.forall_fresh_of_map rfl

/-- Stretch 1 of the second loop's body. -/
abbrev bw1 : List (HloOp τ sig (Elt F)) :=
  [ StableHlo.TRef.nullary main_while1b_call5.c (constantI S_ 32 0#32),
    StableHlo.TRef.nullary main_while1b_call5.c_0 (constantI S_ 32 0#32),
    StableHlo.TRef.unaryIndexed (.of main_v28_0 : StableHlo.TRef sig ⟨S2304x8x1024, .f32⟩) ![(.of main_while1b_v34 : StableHlo.TRef sig ⟨S_, .i32⟩), main_while1b_call5.c, main_while1b_call5.c_0] main_while1b_call5.v0 (fun x i => Host.dynamicSlice S1x8x1024 x (fun k => (i k (Shape.Idx.first h_S_)).toInt) sliceFits_S2304x8x1024_S1x8x1024),
    StableHlo.TRef.reshape main_while1b_call5.v0 main_while1b_call5.v1 (rfl : (.f32 : EltTy) = .f32) shapeCasts_S1x8x1024_S8x1024 ]
theorem bw1_sub : (bw1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem bw1_fresh : (bw1 : List (HloOp τ sig (Elt F))).Forall fun op => op.fresh = ∅ :=
  StableHlo.forall_fresh_of_map rfl

/-- Stretch 2 of the second loop's body. -/
abbrev bw2 : List (HloOp τ sig (Elt F)) :=
  [ StableHlo.TRef.nullary main_while1b_call6.c (constantI S_ 32 0#32),
    StableHlo.TRef.nullary main_while1b_call6.c_0 (constantI S_ 32 0#32),
    StableHlo.TRef.unaryIndexed (.of main_v28_1 : StableHlo.TRef sig ⟨S2304x8x1024, .f32⟩) ![(.of main_while1b_v34 : StableHlo.TRef sig ⟨S_, .i32⟩), main_while1b_call6.c, main_while1b_call6.c_0] main_while1b_call6.v0 (fun x i => Host.dynamicSlice S1x8x1024 x (fun k => (i k (Shape.Idx.first h_S_)).toInt) sliceFits_S2304x8x1024_S1x8x1024),
    StableHlo.TRef.reshape main_while1b_call6.v0 main_while1b_call6.v1 (rfl : (.f32 : EltTy) = .f32) shapeCasts_S1x8x1024_S8x1024 ]
theorem bw2_sub : (bw2 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem bw2_fresh : (bw2 : List (HloOp τ sig (Elt F))).Forall fun op => op.fresh = ∅ :=
  StableHlo.forall_fresh_of_map rfl

/-- Stretch 3 of the second loop's body. -/
abbrev bw3 : List (HloOp τ sig (Elt F)) :=
  [ StableHlo.TRef.nullary main_while1b_call7.c (constantI S_ 32 0#32),
    StableHlo.TRef.nullary main_while1b_call7.c_0 (constantI S_ 32 0#32),
    StableHlo.TRef.unaryIndexed (.of main_v28_2 : StableHlo.TRef sig ⟨S2304x8x1024, .f32⟩) ![(.of main_while1b_v34 : StableHlo.TRef sig ⟨S_, .i32⟩), main_while1b_call7.c, main_while1b_call7.c_0] main_while1b_call7.v0 (fun x i => Host.dynamicSlice S1x8x1024 x (fun k => (i k (Shape.Idx.first h_S_)).toInt) sliceFits_S2304x8x1024_S1x8x1024),
    StableHlo.TRef.reshape main_while1b_call7.v0 main_while1b_call7.v1 (rfl : (.f32 : EltTy) = .f32) shapeCasts_S1x8x1024_S8x1024 ]
theorem bw3_sub : (bw3 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem bw3_fresh : (bw3 : List (HloOp τ sig (Elt F))).Forall fun op => op.fresh = ∅ :=
  StableHlo.forall_fresh_of_map rfl

/-- Stretch 4 of the second loop's body. -/
abbrev bw4 : List (HloOp τ sig (Elt F)) :=
  [ StableHlo.TRef.nullary main_while1b_call8.c (constantI S_ 32 0#32),
    StableHlo.TRef.nullary main_while1b_call8.c_0 (constantI S_ 32 0#32),
    StableHlo.TRef.unaryIndexed (.of main_v28_3 : StableHlo.TRef sig ⟨S2304x8x1024, .f32⟩) ![(.of main_while1b_v34 : StableHlo.TRef sig ⟨S_, .i32⟩), main_while1b_call8.c, main_while1b_call8.c_0] main_while1b_call8.v0 (fun x i => Host.dynamicSlice S1x8x1024 x (fun k => (i k (Shape.Idx.first h_S_)).toInt) sliceFits_S2304x8x1024_S1x8x1024),
    StableHlo.TRef.reshape main_while1b_call8.v0 main_while1b_call8.v1 (rfl : (.f32 : EltTy) = .f32) shapeCasts_S1x8x1024_S8x1024 ]
theorem bw4_sub : (bw4 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem bw4_fresh : (bw4 : List (HloOp τ sig (Elt F))).Forall fun op => op.fresh = ∅ :=
  StableHlo.forall_fresh_of_map rfl

/-- Stretch 5 of the second loop's body. -/
abbrev bw5 : List (HloOp τ sig (Elt F)) :=
  [ StableHlo.binary main_v28_9 main_while1b_v35 main_while1b_v39 (addf : (⟨S8x1024, .f32⟩ : BufTy).Contents (Elt F) → (⟨S8x1024, .f32⟩ : BufTy).Contents (Elt F) → (⟨S8x1024, .f32⟩ : BufTy).Contents (Elt F)),
    StableHlo.binary main_v28_10 main_while1b_v36 main_while1b_v40 (addf : (⟨S8x1024, .f32⟩ : BufTy).Contents (Elt F) → (⟨S8x1024, .f32⟩ : BufTy).Contents (Elt F) → (⟨S8x1024, .f32⟩ : BufTy).Contents (Elt F)),
    StableHlo.unary main_while1b_v40 main_while1b_v41 (broadcastInDim S8x1x1024 ![0, 2] bcast_S8x1024_S8x1x1024_0_2 : (⟨S8x1024, .f32⟩ : BufTy).Contents (Elt F) → (⟨S8x1x1024, .f32⟩ : BufTy).Contents (Elt F)),
    StableHlo.nullary main_while1b_cst_25 (constant S_ .f32 0x00000000#32),
    StableHlo.binary main_while1b_v41 main_while1b_cst_25 main_while1b_v42 ((fun x v => pad S8x2x1024 ![0, 1, 0] ![0, 0, 0] ![0, 0, 0] x v pads_S8x1x1024_S8x2x1024_000_100_000 h_S_) : (⟨S8x1x1024, .f32⟩ : BufTy).Contents (Elt F) → (⟨S_, .f32⟩ : BufTy).Contents (Elt F) → (⟨S8x2x1024, .f32⟩ : BufTy).Contents (Elt F)),
    StableHlo.binary main_v28_5 main_while1b_v40 main_while1b_v43 (mulf : (⟨S8x1024, .f32⟩ : BufTy).Contents (Elt F) → (⟨S8x1024, .f32⟩ : BufTy).Contents (Elt F) → (⟨S8x1024, .f32⟩ : BufTy).Contents (Elt F)),
    StableHlo.binary main_while1b_v40 main_while1b_v37 main_while1b_v44 (mulf : (⟨S8x1024, .f32⟩ : BufTy).Contents (Elt F) → (⟨S8x1024, .f32⟩ : BufTy).Contents (Elt F) → (⟨S8x1024, .f32⟩ : BufTy).Contents (Elt F)),
    StableHlo.binary main_v28_8 main_while1b_v44 main_while1b_v45 (addf : (⟨S8x1024, .f32⟩ : BufTy).Contents (Elt F) → (⟨S8x1024, .f32⟩ : BufTy).Contents (Elt F) → (⟨S8x1024, .f32⟩ : BufTy).Contents (Elt F)),
    StableHlo.binary main_v28_4 main_while1b_v40 main_while1b_v46 (mulf : (⟨S8x1024, .f32⟩ : BufTy).Contents (Elt F) → (⟨S8x1024, .f32⟩ : BufTy).Contents (Elt F) → (⟨S8x1024, .f32⟩ : BufTy).Contents (Elt F)),
    StableHlo.binary main_while1b_v40 main_while1b_v38 main_while1b_v47 (mulf : (⟨S8x1024, .f32⟩ : BufTy).Contents (Elt F) → (⟨S8x1024, .f32⟩ : BufTy).Contents (Elt F) → (⟨S8x1024, .f32⟩ : BufTy).Contents (Elt F)),
    StableHlo.binary main_v28_7 main_while1b_v47 main_while1b_v48 (addf : (⟨S8x1024, .f32⟩ : BufTy).Contents (Elt F) → (⟨S8x1024, .f32⟩ : BufTy).Contents (Elt F) → (⟨S8x1024, .f32⟩ : BufTy).Contents (Elt F)),
    StableHlo.unary main_while1b_v39 main_while1b_v49 (broadcastInDim S8x1x1024 ![0, 2] bcast_S8x1024_S8x1x1024_0_2 : (⟨S8x1024, .f32⟩ : BufTy).Contents (Elt F) → (⟨S8x1x1024, .f32⟩ : BufTy).Contents (Elt F)),
    StableHlo.nullary main_while1b_cst_26 (constant S_ .f32 0x00000000#32),
    StableHlo.binary main_while1b_v49 main_while1b_cst_26 main_while1b_v50 ((fun x v => pad S8x2x1024 ![0, 0, 0] ![0, 1, 0] ![0, 0, 0] x v pads_S8x1x1024_S8x2x1024_000_010_000 h_S_) : (⟨S8x1x1024, .f32⟩ : BufTy).Contents (Elt F) → (⟨S_, .f32⟩ : BufTy).Contents (Elt F) → (⟨S8x2x1024, .f32⟩ : BufTy).Contents (Elt F)),
    StableHlo.binary main_while1b_v42 main_while1b_v50 main_while1b_v51 (addf : (⟨S8x2x1024, .f32⟩ : BufTy).Contents (Elt F) → (⟨S8x2x1024, .f32⟩ : BufTy).Contents (Elt F) → (⟨S8x2x1024, .f32⟩ : BufTy).Contents (Elt F)),
    StableHlo.unary main_while1b_v39 main_while1b_v52 (Host.negf : (⟨S8x1024, .f32⟩ : BufTy).Contents (Elt F) → (⟨S8x1024, .f32⟩ : BufTy).Contents (Elt F)),
    StableHlo.binary main_v28_5 main_while1b_v52 main_while1b_v53 (mulf : (⟨S8x1024, .f32⟩ : BufTy).Contents (Elt F) → (⟨S8x1024, .f32⟩ : BufTy).Contents (Elt F) → (⟨S8x1024, .f32⟩ : BufTy).Contents (Elt F)),
    StableHlo.binary main_while1b_v46 main_while1b_v53 main_while1b_v54 (addf : (⟨S8x1024, .f32⟩ : BufTy).Contents (Elt F) → (⟨S8x1024, .f32⟩ : BufTy).Contents (Elt F) → (⟨S8x1024, .f32⟩ : BufTy).Contents (Elt F)),
    StableHlo.binary main_while1b_v52 main_while1b_v38 main_while1b_v55 (mulf : (⟨S8x1024, .f32⟩ : BufTy).Contents (Elt F) → (⟨S8x1024, .f32⟩ : BufTy).Contents (Elt F) → (⟨S8x1024, .f32⟩ : BufTy).Contents (Elt F)),
    StableHlo.binary main_while1b_v45 main_while1b_v55 main_while1b_v56 (addf : (⟨S8x1024, .f32⟩ : BufTy).Contents (Elt F) → (⟨S8x1024, .f32⟩ : BufTy).Contents (Elt F) → (⟨S8x1024, .f32⟩ : BufTy).Contents (Elt F)),
    StableHlo.binary main_v28_4 main_while1b_v39 main_while1b_v57 (mulf : (⟨S8x1024, .f32⟩ : BufTy).Contents (Elt F) → (⟨S8x1024, .f32⟩ : BufTy).Contents (Elt F) → (⟨S8x1024, .f32⟩ : BufTy).Contents (Elt F)),
    StableHlo.binary main_while1b_v43 main_while1b_v57 main_while1b_v58 (addf : (⟨S8x1024, .f32⟩ : BufTy).Contents (Elt F) → (⟨S8x1024, .f32⟩ : BufTy).Contents (Elt F) → (⟨S8x1024, .f32⟩ : BufTy).Contents (Elt F)),
    StableHlo.binary main_while1b_v39 main_while1b_v37 main_while1b_v59 (mulf : (⟨S8x1024, .f32⟩ : BufTy).Contents (Elt F) → (⟨S8x1024, .f32⟩ : BufTy).Contents (Elt F) → (⟨S8x1024, .f32⟩ : BufTy).Contents (Elt F)),
    StableHlo.binary main_while1b_v48 main_while1b_v59 main_while1b_v60 (addf : (⟨S8x1024, .f32⟩ : BufTy).Contents (Elt F) → (⟨S8x1024, .f32⟩ : BufTy).Contents (Elt F) → (⟨S8x1024, .f32⟩ : BufTy).Contents (Elt F)) ]
theorem bw5_sub : (bw5 : List (HloOp τ sig (Elt F))).Forall fun op => op.bufs ⊆ StableHlo.tcRefs τ sig :=
  ⟨StableHlo.binary_bufs_sub .., StableHlo.binary_bufs_sub .., StableHlo.unary_bufs_sub .., StableHlo.nullary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.nullary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩
theorem bw5_fresh : (bw5 : List (HloOp τ sig (Elt F))).Forall fun op => op.fresh = ∅ :=
  StableHlo.forall_fresh_of_map rfl

/-- Stretch 6 of the second loop's body. -/
abbrev bw6 : List (HloOp τ sig (Elt F)) :=
  [ StableHlo.TRef.unary (.of main_while1b_v51 : StableHlo.TRef sig ⟨S8x2x1024, .f32⟩) main_while1b_call9.v0 (broadcastInDim S1x8x2x1024 ![1, 2, 3] bcast_S8x2x1024_S1x8x2x1024_1_2_3),
    StableHlo.TRef.nullary main_while1b_call9.c (constantI S_ 32 0#32),
    StableHlo.TRef.nullary main_while1b_call9.c_0 (constantI S_ 32 0#32),
    StableHlo.TRef.nullary main_while1b_call9.c_1 (constantI S_ 32 0#32),
    StableHlo.TRef.binaryIndexed (.of main_v28_11 : StableHlo.TRef sig ⟨S2304x8x2x1024, .f32⟩) main_while1b_call9.v0 ![(.of main_while1b_v34 : StableHlo.TRef sig ⟨S_, .i32⟩), main_while1b_call9.c, main_while1b_call9.c_0, main_while1b_call9.c_1] main_while1b_call9.v1 (fun x u i => Host.dynamicUpdateSlice x u (fun k => (i k (Shape.Idx.first h_S_)).toInt) updateFits_S2304x8x2x1024_S1x8x2x1024) ]
theorem bw6_sub : (bw6 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem bw6_fresh : (bw6 : List (HloOp τ sig (Elt F))).Forall fun op => op.fresh = ∅ :=
  StableHlo.forall_fresh_of_map rfl

/-- Stretch 7 of the second loop's body. -/
abbrev bw7 : List (HloOp τ sig (Elt F)) :=
  [ StableHlo.nullary main_while1b_c_27 (constantI S_ 32 1#32),
    StableHlo.binary main_v28_6 main_while1b_c_27 main_while1b_v62 (addi : (⟨S_, .i32⟩ : BufTy).Contents (Elt F) → (⟨S_, .i32⟩ : BufTy).Contents (Elt F) → (⟨S_, .i32⟩ : BufTy).Contents (Elt F)),
    StableHlo.unary main_while1b_v62 main_v28_6 id,
    StableHlo.unary main_while1b_v60 main_v28_7 id,
    StableHlo.unary main_while1b_v56 main_v28_8 id,
    StableHlo.unary main_while1b_v58 main_v28_9 id,
    StableHlo.unary main_while1b_v54 main_v28_10 id,
    StableHlo.unary main_while1b_v61 main_v28_11 id ]
theorem bw7_sub : (bw7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
theorem bw7_fresh : (bw7 : List (HloOp τ sig (Elt F))).Forall fun op => op.fresh = ∅ :=
  StableHlo.forall_fresh_of_map rfl

/-- The stretches before the first loop. -/
abbrev preI : List (List (HloOp τ sig (Elt F))) := [pre0]
theorem preI_plain : Plain (preI (F := F)) := .cons pre0_sub (hf := List.forall_iff_forall_mem.mp pre0_fresh) (.nil)

/-- The stretches between the loops. -/
abbrev midI : List (List (HloOp τ sig (Elt F))) := [mid0, mid1]
theorem midI_plain : Plain (midI (F := F)) := .cons mid0_sub (hf := List.forall_iff_forall_mem.mp mid0_fresh) (.cons mid1_sub (hf := List.forall_iff_forall_mem.mp mid1_fresh) (.nil))

/-- The stretches after the second loop. -/
abbrev postI : List (List (HloOp τ sig (Elt F))) := [post0]
theorem postI_plain : Plain (postI (F := F)) := .cons post0_sub (hf := List.forall_iff_forall_mem.mp post0_fresh) (.nil)

/-- The first loop's body. -/
abbrev fwI : List (List (HloOp τ sig (Elt F))) := [fw0, fw1, fw2, fw3, fw4, fw5, fw6]
theorem fwI_plain : Plain (fwI (F := F)) := .cons fw0_sub (hf := List.forall_iff_forall_mem.mp fw0_fresh) (.cons fw1_sub (hf := List.forall_iff_forall_mem.mp fw1_fresh) (.cons fw2_sub (hf := List.forall_iff_forall_mem.mp fw2_fresh) (.cons fw3_sub (hf := List.forall_iff_forall_mem.mp fw3_fresh) (.cons fw4_sub (hf := List.forall_iff_forall_mem.mp fw4_fresh) (.cons fw5_sub (hf := List.forall_iff_forall_mem.mp fw5_fresh) (.cons fw6_sub (hf := List.forall_iff_forall_mem.mp fw6_fresh) (.nil)))))))

/-- The second loop's body. -/
abbrev bwI : List (List (HloOp τ sig (Elt F))) := [bw0, bw1, bw2, bw3, bw4, bw5, bw6, bw7]
theorem bwI_plain : Plain (bwI (F := F)) := .cons bw0_sub (hf := List.forall_iff_forall_mem.mp bw0_fresh) (.cons bw1_sub (hf := List.forall_iff_forall_mem.mp bw1_fresh) (.cons bw2_sub (hf := List.forall_iff_forall_mem.mp bw2_fresh) (.cons bw3_sub (hf := List.forall_iff_forall_mem.mp bw3_fresh) (.cons bw4_sub (hf := List.forall_iff_forall_mem.mp bw4_fresh) (.cons bw5_sub (hf := List.forall_iff_forall_mem.mp bw5_fresh) (.cons bw6_sub (hf := List.forall_iff_forall_mem.mp bw6_fresh) (.cons bw7_sub (hf := List.forall_iff_forall_mem.mp bw7_fresh) (.nil))))))))

/-- The body of loop 0 is its stretches in order. -/
theorem fw_body : main_while0_body (F := F) = Pipeline.chain ((fwI (F := F)).map fun ops => (seq ops : Prog _ PUnit)) := by
  show main_while0_body (F := F) = Pipeline.chain [seq fw0, seq fw1, seq fw2, seq fw3, seq fw4, seq fw5, seq fw6]
  rewrite [Pipeline.chain_cons, StableHlo.chain_seq_cons, Pipeline.chain_cons, Pipeline.chain_cons, Pipeline.chain_cons, Pipeline.chain_cons, StableHlo.chain_seq_cons]
  chain_rfl

/-- The body of loop 1 is its stretches in order. -/
theorem bw_body : main_while1_body (F := F) = Pipeline.chain ((bwI (F := F)).map fun ops => (seq ops : Prog _ PUnit)) := by
  show main_while1_body (F := F) = Pipeline.chain [seq bw0, seq bw1, seq bw2, seq bw3, seq bw4, seq bw5, seq bw6, seq bw7]
  rewrite [Pipeline.chain_cons, Pipeline.chain_cons, Pipeline.chain_cons, Pipeline.chain_cons, Pipeline.chain_cons, StableHlo.chain_seq_cons, Pipeline.chain_cons, StableHlo.chain_seq_cons]
  chain_rfl

/-- The program is its stretches and its two loops in order. -/
theorem main_items (c : Dev nD) : main (F := F) c = Pipeline.chain
    [seq pre0, HostLoop.enter 0, seq mid0, seq mid1, HostLoop.enter 1, seq post0] := by
  have h0 : main_part0 (F := F) c = Pipeline.chainK [seq pre0, HostLoop.enter 0] (seq mid0) := by
    rewrite [StableHlo.chainK_seq_cons, Pipeline.chainK_cons]
    chain_rfl
  have h1 : main_part1 (F := F) c = Pipeline.chain [seq mid1, HostLoop.enter 1, seq post0] := by
    rewrite [StableHlo.chain_seq_cons, Pipeline.chain_cons, StableHlo.chain_seq_cons]
    chain_rfl
  exact Pipeline.chain_of_window h0 h1

end Cert.ReferenceIdeal.S5
-- ==== Proof.S5RefTrip.lean ====
/-
  One trip of each loop of the reference, read at the values that the loop carries.
-/
module

public import proofs.«01_k».proof.Proof.S5RefOps
public import Idealize.ShloMosaic.Lib.StableHlo.RunClose

@[expose] public section

set_option maxRecDepth 16384

noncomputable section

open Idealize.ShloMosaic Idealize.ShloMosaic.TcCoe Idealize.SL.Sem
open Idealize.ShloMosaic.StableHlo

namespace Cert.ReferenceIdeal.S5

open Cert.ReferenceIdeal Cert.ReferenceIdeal.Gen

variable {F : FTy → Type} [FloatOps F]

/-- One trip of the first loop: its condition, then its body. -/
abbrev fwTrip (V : Valuation τ sig (Elt F)) : Valuation τ sig (Elt F) := afterL fwI (after cond0 V)
/-- One trip of the second loop. -/
abbrev bwTrip (V : Valuation τ sig (Elt F)) : Valuation τ sig (Elt F) := afterL bwI (after cond1 V)

/-- A host scalar index. -/
abbrev Word (F : FTy → Type) := (⟨S_, .i32⟩ : BufTy).Contents (Elt F)

/-- Entry `n` of the driven rows. -/
def cut4 (n : Word F) (x : Vec F S2304x8x2x1024 .f32) : Vec F S8x2x1024 .f32 :=
  shapeCast S8x2x1024 (Host.dynamicSlice S1x8x2x1024 x
    (fun k => ((![n, constantI S_ 32 0#32, constantI S_ 32 0#32, constantI S_ 32 0#32] : Fin 4 → Word F) k (Shape.Idx.first h_S_)).toInt)
    sliceFits_S2304x8x2x1024_S1x8x2x1024) shapeCasts_S1x8x2x1024_S8x2x1024
/-- Entry `n` of a stack of states. -/
def cut3 (n : Word F) (x : Vec F S2304x8x1024 .f32) : Vec F S8x1024 .f32 :=
  shapeCast S8x1024 (Host.dynamicSlice S1x8x1024 x
    (fun k => ((![n, constantI S_ 32 0#32, constantI S_ 32 0#32] : Fin 3 → Word F) k (Shape.Idx.first h_S_)).toInt)
    sliceFits_S2304x8x1024_S1x8x1024) shapeCasts_S1x8x1024_S8x1024
/-- A stack of states with entry `n` replaced. -/
def put3 (n : Word F) (x : Vec F S2304x8x1024 .f32) (y : Vec F S8x1024 .f32) : Vec F S2304x8x1024 .f32 :=
  Host.dynamicUpdateSlice x (broadcastInDim S1x8x1024 ![1, 2] bcast_S8x1024_S1x8x1024_1_2 y)
    (fun k => ((![n, constantI S_ 32 0#32, constantI S_ 32 0#32] : Fin 3 → Word F) k (Shape.Idx.first h_S_)).toInt)
    updateFits_S2304x8x1024_S1x8x1024
/-- The stack of both components with entry `n` replaced. -/
def put4 (n : Word F) (x : Vec F S2304x8x2x1024 .f32) (y : Vec F S8x2x1024 .f32) : Vec F S2304x8x2x1024 .f32 :=
  Host.dynamicUpdateSlice x (broadcastInDim S1x8x2x1024 ![1, 2, 3] bcast_S8x2x1024_S1x8x2x1024_1_2_3 y)
    (fun k => ((![n, constantI S_ 32 0#32, constantI S_ 32 0#32, constantI S_ 32 0#32] : Fin 4 → Word F) k (Shape.Idx.first h_S_)).toInt)
    updateFits_S2304x8x2x1024_S1x8x2x1024
/-- The first and the second component of a pair of rows. -/
def part0 (x : Vec F S8x2x1024 .f32) : Vec F S8x1024 .f32 :=
  shapeCast S8x1024 (extractStridedSlice S8x1x1024 ![0, 0, 0] x slices_S8x2x1024_S8x1x1024_0_0_0) shapeCasts_S8x1x1024_S8x1024
@[inherit_doc part0]
def part1 (x : Vec F S8x2x1024 .f32) : Vec F S8x1024 .f32 :=
  shapeCast S8x1024 (extractStridedSlice S8x1x1024 ![0, 1, 0] x slices_S8x2x1024_S8x1x1024_0_1_0) shapeCasts_S8x1x1024_S8x1024
/-- The two components side by side. -/
def pair (x y : Vec F S8x1024 .f32) : Vec F S8x2x1024 .f32 :=
  addf (pad S8x2x1024 ![0, 1, 0] ![0, 0, 0] ![0, 0, 0] (broadcastInDim S8x1x1024 ![0, 2] bcast_S8x1024_S8x1x1024_0_2 y)
      (constant S_ .f32 0x00000000#32) pads_S8x1x1024_S8x2x1024_000_100_000 h_S_)
    (pad S8x2x1024 ![0, 0, 0] ![0, 1, 0] ![0, 0, 0] (broadcastInDim S8x1x1024 ![0, 2] bcast_S8x1024_S8x1x1024_0_2 x)
      (constant S_ .f32 0x00000000#32) pads_S8x1x1024_S8x2x1024_000_010_000 h_S_)

section Forward

variable (V : Valuation τ sig (Elt F))

/-- The next state's real part. -/
def nextR : Vec F S8x1024 .f32 :=
  addf (subf (mulf (V (Proc.devRef .tc main_v7_1)) (V (Proc.devRef .tc main_v7_4)) : Vec F S8x1024 .f32) (mulf (V (Proc.devRef .tc main_v7_2)) (V (Proc.devRef .tc main_v7_5))))
    (part0 (cut4 (V (Proc.devRef .tc main_v7_3)) (V (Proc.devRef .tc main_v7_0))))
/-- The next state's imaginary part. -/
def nextI : Vec F S8x1024 .f32 :=
  addf (addf (mulf (V (Proc.devRef .tc main_v7_1)) (V (Proc.devRef .tc main_v7_5)) : Vec F S8x1024 .f32) (mulf (V (Proc.devRef .tc main_v7_2)) (V (Proc.devRef .tc main_v7_4))))
    (part1 (cut4 (V (Proc.devRef .tc main_v7_3)) (V (Proc.devRef .tc main_v7_0))))

theorem fw_counter : fwTrip V (Proc.devRef .tc main_v7_3) = addi (V (Proc.devRef .tc main_v7_3)) (constantI S_ 32 1#32) := by
  simp only [fwTrip, fwI, afterL_cons, afterL_nil]
  after_results
  rfl
theorem fw_r : fwTrip V (Proc.devRef .tc main_v7_4) = nextR V := by
  simp only [fwTrip, fwI, afterL_cons, afterL_nil]
  after_results_simp_entrywise
  rfl
theorem fw_i : fwTrip V (Proc.devRef .tc main_v7_5) = nextI V := by
  simp only [fwTrip, fwI, afterL_cons, afterL_nil]
  after_results_simp_entrywise
  rfl
theorem fw_stack_r : fwTrip V (Proc.devRef .tc main_v7_6) = put3 (V (Proc.devRef .tc main_v7_3)) (V (Proc.devRef .tc main_v7_6)) (nextR V) := by
  simp only [fwTrip, fwI, afterL_cons, afterL_nil]
  after_results_simp_entrywise
  rfl
theorem fw_stack_i : fwTrip V (Proc.devRef .tc main_v7_7) = put3 (V (Proc.devRef .tc main_v7_3)) (V (Proc.devRef .tc main_v7_7)) (nextI V) := by
  simp only [fwTrip, fwI, afterL_cons, afterL_nil]
  after_results_simp_entrywise
  rfl
theorem fw_prev_r : fwTrip V (Proc.devRef .tc main_v7_8)
    = put3 (V (Proc.devRef .tc main_v7_3)) (V (Proc.devRef .tc main_v7_8)) (V (Proc.devRef .tc main_v7_4)) := by
  simp only [fwTrip, fwI, afterL_cons, afterL_nil]
  after_results_simp_entrywise
  rfl
theorem fw_prev_i : fwTrip V (Proc.devRef .tc main_v7_9)
    = put3 (V (Proc.devRef .tc main_v7_3)) (V (Proc.devRef .tc main_v7_9)) (V (Proc.devRef .tc main_v7_5)) := by
  simp only [fwTrip, fwI, afterL_cons, afterL_nil]
  after_results_simp_entrywise
  rfl

/-- The first loop leaves the arguments, its own fixed inputs and what follows it alone. -/
theorem fw_keep : fwTrip V (Proc.devRef .tc main_v7_0) = V (Proc.devRef .tc main_v7_0)
    ∧ fwTrip V (Proc.devRef .tc main_v7_1) = V (Proc.devRef .tc main_v7_1)
    ∧ fwTrip V (Proc.devRef .tc main_v7_2) = V (Proc.devRef .tc main_v7_2)
    ∧ fwTrip V (Proc.devRef .tc main_arg0) = V (Proc.devRef .tc main_arg0)
    ∧ fwTrip V (Proc.devRef .tc main_arg1) = V (Proc.devRef .tc main_arg1)
    ∧ fwTrip V (Proc.devRef .tc main_arg2) = V (Proc.devRef .tc main_arg2)
    ∧ fwTrip V (Proc.devRef .tc main_arg3) = V (Proc.devRef .tc main_arg3)
    ∧ fwTrip V (Proc.devRef .tc main_arg4) = V (Proc.devRef .tc main_arg4)
    ∧ fwTrip V (Proc.devRef .tc main_arg5) = V (Proc.devRef .tc main_arg5) := by
  simp only [fwTrip, fwI, afterL_cons, afterL_nil]
  refine ⟨?_, ?_, ?_, ?_, ?_, ?_, ?_, ?_, ?_⟩ <;> after_reads_simp

end Forward

section Backward

variable (V : Valuation τ sig (Elt F))

/-- The row that a trip of the second loop takes. -/
def rowOf (n : Word F) : Word F := subi (subi (constantI S_ 32 2304#32) n) (constantI S_ 32 1#32)
/-- The state's gradient at that row. -/
def gradR : Vec F S8x1024 .f32 := addf (V (Proc.devRef .tc main_v28_9)) (cut3 (rowOf (V (Proc.devRef .tc main_v28_6))) (V (Proc.devRef .tc main_v28_0)))
@[inherit_doc gradR]
def gradI : Vec F S8x1024 .f32 := addf (V (Proc.devRef .tc main_v28_10)) (cut3 (rowOf (V (Proc.devRef .tc main_v28_6))) (V (Proc.devRef .tc main_v28_1)))

theorem bw_counter : bwTrip V (Proc.devRef .tc main_v28_6) = addi (V (Proc.devRef .tc main_v28_6)) (constantI S_ 32 1#32) := by
  simp only [bwTrip, bwI, afterL_cons, afterL_nil]
  after_results
  rfl
theorem bw_dar : bwTrip V (Proc.devRef .tc main_v28_7)
    = addf (addf (V (Proc.devRef .tc main_v28_7)) (mulf (gradI V) (cut3 (rowOf (V (Proc.devRef .tc main_v28_6))) (V (Proc.devRef .tc main_v28_3)))))
        (mulf (gradR V) (cut3 (rowOf (V (Proc.devRef .tc main_v28_6))) (V (Proc.devRef .tc main_v28_2)))) := by
  simp only [bwTrip, bwI, afterL_cons, afterL_nil]
  after_results_simp_entrywise
  rfl
theorem bw_dai : bwTrip V (Proc.devRef .tc main_v28_8)
    = addf (addf (V (Proc.devRef .tc main_v28_8)) (mulf (gradI V) (cut3 (rowOf (V (Proc.devRef .tc main_v28_6))) (V (Proc.devRef .tc main_v28_2)))))
        (mulf (Host.negf (gradR V)) (cut3 (rowOf (V (Proc.devRef .tc main_v28_6))) (V (Proc.devRef .tc main_v28_3)))) := by
  simp only [bwTrip, bwI, afterL_cons, afterL_nil]
  after_results_simp_entrywise
  rfl
theorem bw_r : bwTrip V (Proc.devRef .tc main_v28_9)
    = addf (mulf (V (Proc.devRef .tc main_v28_5)) (gradI V) : Vec F S8x1024 .f32) (mulf (V (Proc.devRef .tc main_v28_4)) (gradR V)) := by
  simp only [bwTrip, bwI, afterL_cons, afterL_nil]
  after_results_simp_entrywise
  rfl
theorem bw_i : bwTrip V (Proc.devRef .tc main_v28_10)
    = addf (mulf (V (Proc.devRef .tc main_v28_4)) (gradI V) : Vec F S8x1024 .f32) (mulf (V (Proc.devRef .tc main_v28_5)) (Host.negf (gradR V))) := by
  simp only [bwTrip, bwI, afterL_cons, afterL_nil]
  after_results_simp_entrywise
  rfl
theorem bw_stack : bwTrip V (Proc.devRef .tc main_v28_11)
    = put4 (rowOf (V (Proc.devRef .tc main_v28_6))) (V (Proc.devRef .tc main_v28_11)) (pair (gradR V) (gradI V)) := by
  simp only [bwTrip, bwI, afterL_cons, afterL_nil]
  after_results_simp_entrywise
  simp only [TRef.toBuf, TRef.ofBuf, cast_cast, cast_eq, id]
  unfold put4 pair gradR gradI
  rfl

/-- The second loop leaves the arguments, its fixed inputs and the results made before it alone. -/
theorem bw_keep : bwTrip V (Proc.devRef .tc main_v28_0) = V (Proc.devRef .tc main_v28_0)
    ∧ bwTrip V (Proc.devRef .tc main_v28_1) = V (Proc.devRef .tc main_v28_1)
    ∧ bwTrip V (Proc.devRef .tc main_v28_2) = V (Proc.devRef .tc main_v28_2)
    ∧ bwTrip V (Proc.devRef .tc main_v28_3) = V (Proc.devRef .tc main_v28_3)
    ∧ bwTrip V (Proc.devRef .tc main_v28_4) = V (Proc.devRef .tc main_v28_4)
    ∧ bwTrip V (Proc.devRef .tc main_v28_5) = V (Proc.devRef .tc main_v28_5)
    ∧ bwTrip V (Proc.devRef .tc main_v12) = V (Proc.devRef .tc main_v12)
    ∧ bwTrip V (Proc.devRef .tc main_v16) = V (Proc.devRef .tc main_v16)
    ∧ bwTrip V (Proc.devRef .tc main_arg0) = V (Proc.devRef .tc main_arg0)
    ∧ bwTrip V (Proc.devRef .tc main_arg1) = V (Proc.devRef .tc main_arg1)
    ∧ bwTrip V (Proc.devRef .tc main_arg2) = V (Proc.devRef .tc main_arg2)
    ∧ bwTrip V (Proc.devRef .tc main_arg3) = V (Proc.devRef .tc main_arg3)
    ∧ bwTrip V (Proc.devRef .tc main_arg4) = V (Proc.devRef .tc main_arg4)
    ∧ bwTrip V (Proc.devRef .tc main_arg5) = V (Proc.devRef .tc main_arg5) := by
  simp only [bwTrip, bwI, afterL_cons, afterL_nil]
  refine ⟨?_, ?_, ?_, ?_, ?_, ?_, ?_, ?_, ?_, ?_, ?_, ?_, ?_, ?_⟩ <;> after_reads_simp

end Backward

end Cert.ReferenceIdeal.S5
-- ==== Proof.S5RefRows.lean ====
/-
  The rows that the reference's loops read and write, entry by entry.
-/
module

public import proofs.«01_k».proof.Proof.S5RefTrip
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Idealize.ShloMosaic.WordCmp

namespace Cert.ReferenceIdeal.S5

open Cert.ReferenceIdeal Cert.ReferenceIdeal.Gen

variable {F : FTy → Type} [FloatOps F]

/-- The word of a row number. -/
abbrev word (F : FTy → Type) (n : ℕ) : Word F := fun _ => BitVec.ofNat 32 n

theorem word_toInt {n : ℕ} (h : n < 2304) : (BitVec.ofNat 32 n).toInt = (n : Int) := toInt_ofNat_of_lt (by omega)

theorem starts3 {n : ℕ} (h : n < 2304) (k : Fin 3) : ((![word F n, constantI S_ 32 0#32, constantI S_ 32 0#32] : Fin 3 → Word F) k (Shape.Idx.first h_S_)).toInt
    = ((![n, 0, 0] : Fin 3 → ℕ) k : Int) := by
  match k with
  | 0 => exact word_toInt h
  | 1 => rfl
  | 2 => rfl
theorem starts4 {n : ℕ} (h : n < 2304) (k : Fin 4) :
    ((![word F n, constantI S_ 32 0#32, constantI S_ 32 0#32, constantI S_ 32 0#32] : Fin 4 → Word F) k (Shape.Idx.first h_S_)).toInt
    = ((![n, 0, 0, 0] : Fin 4 → ℕ) k : Int) := by
  match k with
  | 0 => exact word_toInt h
  | 1 => rfl
  | 2 => rfl
  | 3 => rfl

theorem slices3 {n : ℕ} (h : n < 2304) : S2304x8x1024.Slices ![n, 0, 0] S1x8x1024 :=
  ⟨rfl, fun a => by
    match a with
    | 0 => show n + 1 ≤ 2304; omega
    | 1 => exact le_rfl
    | 2 => exact le_rfl⟩
theorem slices4 {n : ℕ} (h : n < 2304) : S2304x8x2x1024.Slices ![n, 0, 0, 0] S1x8x2x1024 :=
  ⟨rfl, fun a => by
    match a with
    | 0 => show n + 1 ≤ 2304; omega
    | 1 => exact le_rfl
    | 2 => exact le_rfl
    | 3 => exact le_rfl⟩

theorem cut4_apply {n : ℕ} (h : n < 2304) (x : Vec F S2304x8x2x1024 .f32) (b : Fin 8) (p : Fin 2) (j : Fin 1024) :
    cut4 (word F n) x (ix3 b p j) = x (ix4 ⟨n, h⟩ b p j) := by
  unfold cut4
  rw [dynamicSlice_eq_extract _ _ _ _ _ (slices4 h) (starts4 h)]
  pointwise

theorem cut3_apply {n : ℕ} (h : n < 2304) (x : Vec F S2304x8x1024 .f32) (b : Fin 8) (j : Fin 1024) :
    cut3 (word F n) x (ix2 b j) = x (ix3 ⟨n, h⟩ b j) := by
  unfold cut3
  rw [dynamicSlice_eq_extract _ _ _ _ _ (slices3 h) (starts3 h)]
  pointwise

theorem put3_apply {n : ℕ} (h : n < 2304) (x : Vec F S2304x8x1024 .f32) (y : Vec F S8x1024 .f32) (s : Fin 2304) (b : Fin 8) (j : Fin 1024) :
    put3 (word F n) x y (ix3 s b j) = if s.val = n then y (ix2 b j) else x (ix3 s b j) := by
  unfold put3
  rw [dynamicUpdateSlice_eq_update _ _ _ _ _ (slices3 h) (starts3 h)]
  have hs := s.isLt
  by_cases e : s.val = n
  · rw [if_pos e]
    pointwise
    rw [dif_pos ⟨by omega, by omega⟩]
  · rw [if_neg e]
    pointwise
    rw [dif_neg (by omega)]

theorem put4_apply {n : ℕ} (h : n < 2304) (x : Vec F S2304x8x2x1024 .f32) (y : Vec F S8x2x1024 .f32) (s : Fin 2304) (b : Fin 8) (p : Fin 2) (j : Fin 1024) :
    put4 (word F n) x y (ix4 s b p j) = if s.val = n then y (ix3 b p j) else x (ix4 s b p j) := by
  unfold put4
  rw [dynamicUpdateSlice_eq_update _ _ _ _ _ (slices4 h) (starts4 h)]
  have hs := s.isLt
  by_cases e : s.val = n
  · rw [if_pos e]
    pointwise
    rw [dif_pos ⟨by omega, by omega⟩]
  · rw [if_neg e]
    pointwise
    rw [dif_neg (by omega)]

theorem part0_apply (x : Vec F S8x2x1024 .f32) (b : Fin 8) (j : Fin 1024) : part0 x (ix2 b j) = x (ix3 b 0 j) := by
  unfold part0
  pointwise
theorem part1_apply (x : Vec F S8x2x1024 .f32) (b : Fin 8) (j : Fin 1024) : part1 x (ix2 b j) = x (ix3 b 1 j) := by
  unfold part1
  pointwise
theorem pair0_apply (x y : Vec Ideal S8x1024 .f32) (b : Fin 8) (j : Fin 1024) : pair x y (ix3 b 0 j) = x (ix2 b j) := by
  unfold pair
  pointwise
theorem pair1_apply (x y : Vec Ideal S8x1024 .f32) (b : Fin 8) (j : Fin 1024) : pair x y (ix3 b 1 j) = y (ix2 b j) := by
  unfold pair
  pointwise

end Cert.ReferenceIdeal.S5
-- ==== Proof.S5RefRun.lean ====
/-
  The run of the reference: its stretches and its two counted loops as the segments of one chain, each buffer read at
  the end.
-/
module

public import proofs.«01_k».proof.Proof.S5RefTrip
public import Idealize.ShloMosaic.Lib.Quiescent
public import Idealize.ShloMosaic.Lib.Scf.ExitTest

@[expose] public section

set_option maxRecDepth 16384

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs sub_ucRefs)

namespace Cert.ReferenceIdeal.S5

open Cert.ReferenceIdeal Cert.ReferenceIdeal.Gen

variable {F : FTy → Type} [FloatOps F]

-- the ghost algebra is not used: the program has no kernel
local notation "𝕄" => MT nD τ sig Unit (Elt F) ℕ (Option PUnit) ℕ

/-- There is no pipeline to admit, no ticket and no level. -/
abbrev adm : (p : Fin 0) → (pcfgs (F := F) p).Adm := fun p => p.elim0
@[inherit_doc adm]
abbrev tk : Fin 0 → Ticket (Ix := Unit) (Name := ℕ) (U := Option PUnit) (Lvl := ℕ) (nD := nD) (τ := τ) (pcfgs (F := F)) adm := fun j => j.elim0
@[inherit_doc adm]
abbrev lvSet : GSem nD τ sig → Finset Unit := fun _ => ∅
@[inherit_doc adm]
abbrev lvOf : GSem nD τ sig → Unit → ℕ := fun _ _ => 0

/-- What rides beside the buffers: the core owes nothing. -/
abbrev Rest (c : Dev nD) : sProp 𝕄 := iprop(∃ W, owes (c : Thread nD τ) (0 : CellTallies nD τ sig Unit) W)

section Loop

variable (W₀ : Dev nD → Valuation τ sig (Elt F))

/-- The first loop's counter before its `k`-th condition. -/
theorem fw_counter_at (h : ∀ c, W₀ c (Proc.devRef .tc main_v7_3) = constantI S_ 32 0#32) (c : Dev nD) :
    ∀ k, atTrip cond0 fwI W₀ k c (Proc.devRef .tc main_v7_3) = (fun _ => Scf.iv 0#32 1#32 k : Word F)
  | 0 => h c
  | k + 1 => by
    rw [atTrip_succ]
    refine (fw_counter _).trans ?_
    rw [fw_counter_at h c k]
    funext j
    exact (Scf.iv_succ _ _ _).symm

/-- The second loop's counter before its `k`-th condition. -/
theorem bw_counter_at (h : ∀ c, W₀ c (Proc.devRef .tc main_v28_6) = constantI S_ 32 0#32) (c : Dev nD) :
    ∀ k, atTrip cond1 bwI W₀ k c (Proc.devRef .tc main_v28_6) = (fun _ => Scf.iv 0#32 1#32 k : Word F)
  | 0 => h c
  | k + 1 => by
    rw [atTrip_succ]
    refine (bw_counter _).trans ?_
    rw [bw_counter_at h c k]
    funext j
    exact (Scf.iv_succ _ _ _).symm

set_option backward.isDefEq.respectTransparency.types false in
/-- The first loop's condition holds before the first 2304 trips and not after. -/
theorem fw_cond (h : ∀ c, W₀ c (Proc.devRef .tc main_v7_3) = constantI S_ 32 0#32) :
    LoopCond (Ix := Unit) (Name := ℕ) (U := Option PUnit) (Lvl := ℕ) (pcfgs (F := F)) defs₀ Variants.none loops Rest main_while0_cond cond0 fwI W₀ 2304 := by
  intro k hk c bd
  have hctr := fw_counter_at W₀ h c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]
  imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]
  imodintro
  isplitr
  · ipureintro
    show Iff (IntOp.cmpi .slt (HloOp.result _ (atTrip cond0 fwI W₀ k c) (Proc.devRef .tc main_v7_3) HostLoop.idx0)
      (HloOp.result _ (atTrip cond0 fwI W₀ k c) (Proc.devRef .tc main_while0c_c_21) HostLoop.idx0) = 1#1) (k < 2304)
    rw [nullary_result_ne _ _ _ _ (by decide), nullary_result, hctr]
    exact Scf.cmpi_slt_iv_ub_iff (lb := 0#32) (ub := 2304#32) (st := 1#32) (by decide) (show k ≤ Scf.trips 0#32 2304#32 1#32 from hk)
  isplitl [Hb]; · iexact Hb
  rw [after_cons, after_cons, after_nil]
  isplitl [Hh]; · iexact Hh
  iexact HR

set_option backward.isDefEq.respectTransparency.types false in
/-- The second loop's condition holds before the first 2304 trips and not after. -/
theorem bw_cond (h : ∀ c, W₀ c (Proc.devRef .tc main_v28_6) = constantI S_ 32 0#32) :
    LoopCond (Ix := Unit) (Name := ℕ) (U := Option PUnit) (Lvl := ℕ) (pcfgs (F := F)) defs₀ Variants.none loops Rest main_while1_cond cond1 bwI W₀ 2304 := by
  intro k hk c bd
  have hctr := bw_counter_at W₀ h c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]
  imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]
  imodintro
  isplitr
  · ipureintro
    show Iff (IntOp.cmpi .slt (HloOp.result _ (atTrip cond1 bwI W₀ k c) (Proc.devRef .tc main_v28_6) HostLoop.idx0)
      (HloOp.result _ (atTrip cond1 bwI W₀ k c) (Proc.devRef .tc main_while1c_c_23) HostLoop.idx0) = 1#1) (k < 2304)
    rw [nullary_result_ne _ _ _ _ (by decide), nullary_result, hctr]
    exact Scf.cmpi_slt_iv_ub_iff (lb := 0#32) (ub := 2304#32) (st := 1#32) (by decide) (show k ≤ Scf.trips 0#32 2304#32 1#32 from hk)
  isplitl [Hb]; · iexact Hb
  rw [after_cons, after_cons, after_nil]
  isplitl [Hh]; · iexact Hh
  iexact HR

end Loop

variable (m : (ℓ : Loc nD τ sig) → Buf (Elt F) ℓ)

/-- The buffers entering the first loop. -/
abbrev entry0 : Dev nD → Valuation τ sig (Elt F) := entryContents preI m
/-- The buffers leaving the first loop. -/
abbrev exit0 (c : Dev nD) : Valuation τ sig (Elt F) := after cond0 (atTrip cond0 fwI (entry0 m) 2304 c)
/-- The buffers entering the second loop. -/
abbrev entry1 (c : Dev nD) : Valuation τ sig (Elt F) := afterL midI (exit0 m c)
/-- The buffers leaving the second loop. -/
abbrev exit1 (c : Dev nD) : Valuation τ sig (Elt F) := after cond1 (atTrip cond1 bwI (entry1 m) 2304 c)
/-- The buffers at the end. -/
abbrev final (c : Dev nD) : Valuation τ sig (Elt F) := afterL postI (exit1 m c)

theorem entry0_counter (c : Dev nD) : entry0 m c (Proc.devRef .tc main_v7_3) = constantI S_ 32 0#32 := by
  simp only [entry0, entryContents, preI, afterL_cons, afterL_nil]
  after_results
  rfl
theorem entry1_counter (c : Dev nD) : entry1 m c (Proc.devRef .tc main_v28_6) = constantI S_ 32 0#32 := by
  simp only [entry1, midI, afterL_cons, afterL_nil]
  generalize exit0 m c = V
  after_results
  rfl

/-- The program's segments. -/
def segs : List (CSeg (pcfgs (F := F)) adm defs₀ Variants.none lvSet lvOf loops tk) :=
  segsOf _ _ _ _ _ _ _ _ Rest preI preI_plain (launchContents m)
    ++ loopSeg _ _ _ _ _ _ _ _ 0 main_while0_cond main_while0_body rfl cond0 fwI fwI_plain fw_body 2304 (entry0 m) Rest (fw_cond _ (entry0_counter m))
      :: (segsOf _ _ _ _ _ _ _ _ Rest midI midI_plain (exit0 m)
        ++ loopSeg _ _ _ _ _ _ _ _ 1 main_while1_cond main_while1_body rfl cond1 bwI bwI_plain bw_body 2304 (entry1 m) Rest (bw_cond _ (entry1_counter m))
          :: segsOf _ _ _ _ _ _ _ _ Rest postI postI_plain (exit1 m))

theorem segs_prog : (segs m).map CSeg.prog = [seq pre0, HostLoop.enter 0, seq mid0, seq mid1, HostLoop.enter 1, seq post0] := by
  unfold segs
  rw [List.map_append, List.map_cons, List.map_append, List.map_cons, segsOf_prog, segsOf_prog, segsOf_prog]
  rfl

theorem segs_chains : CSeg.Chains (fun c => iprop(held (c : Thread nD τ) (ucRefs τ sig) (launchContents m c) ∗ Rest c)) (segs m)
    (fun c => iprop(iprop(held (c : Thread nD τ) (ucRefs τ sig) (final m c)) ∗ ∃ W, owes (c : Thread nD τ) (0 : CellTallies nD τ sig Unit) W)) := by
  unfold segs
  exact CSeg.Chains.append (segsOf_chains _ _ _ _ _ _ _ _ Rest preI preI_plain _)
    ⟨fun _ => .rfl, CSeg.Chains.append (segsOf_chains _ _ _ _ _ _ _ _ Rest midI midI_plain _)
      ⟨fun _ => .rfl, segsOf_chains _ _ _ _ _ _ _ _ Rest postI postI_plain _⟩⟩

/-- Every fair execution of the reference ends with each buffer at `final`. -/
theorem run_final (ρ : Dev nD → PrngReg) : θ_run defs (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = final m c (Proc.devRef .tc b)) :=
  Pipeline.θ_run_regions_loop_kit (Ix := Unit) (Name := ℕ) (U := Option PUnit) (Lvl := ℕ) (J := Fin 0) (P := Fin 0) (Val := Elt F)
    pcfgs adm (fun k => k.1.elim0) defs₀ Variants.none lvSet lvOf loops tk m ρ main (segs m)
    (fun c Q => by
      rw [main_items c]
      show wp _ _ _ (Pipeline.chain ((segs m).map CSeg.prog)) Q ⊢ _
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rest c))
    (Tₙ := fun c => iprop(held (c : Thread nD τ) (ucRefs τ sig) (final m c)))
    (hch := segs_chains m)
    (hinit := by
      refine Pipeline.initEach lvSet lvOf fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.ReferenceIdeal.S5
-- ==== Proof.S5RefLoops.lean ====
/-
  The values that the reference's two loops carry: after `n` trips of the first, the state after `n` steps and the
  stacks of states so far; after `n` trips of the second, the state gradient `n` steps back and the sums so far.
-/
module

public import proofs.«01_k».proof.Proof.S5RefRows
public import proofs.«01_k».proof.Proof.S5RefRun
public import proofs.«01_k».proof.Proof.S5Model

@[expose] public section

set_option maxRecDepth 16384

noncomputable section

open Idealize.ShloMosaic Idealize.ShloMosaic.TcCoe Idealize.SL.Sem
open Idealize.ShloMosaic.StableHlo

namespace Cert.ReferenceIdeal.S5

open Cert.ReferenceIdeal Cert.ReferenceIdeal.Gen Cert.S5Model

/-- A valuation of the reference's buffers. -/
abbrev Vals := Valuation τ sig (Elt Ideal)

/-- A buffer read as rows of lanes, a stack of them, or a stack of both components. -/
def rd2 (x : Vec Ideal S8x1024 .f32) (b : Fin 8) (j : Fin 1024) : EReal := x (ix2 b j)
@[inherit_doc rd2]
def rd3 (x : Vec Ideal S2304x8x1024 .f32) (s : Fin 2304) (b : Fin 8) (j : Fin 1024) : EReal := x (ix3 s b j)
@[inherit_doc rd2]
def rd4 (x : Vec Ideal S2304x8x2x1024 .f32) (s : Fin 2304) (b : Fin 8) (p : Fin 2) (j : Fin 1024) : EReal := x (ix4 s b p j)

section Reads

variable (x y : FVec Ideal S8x1024 .f32) (b : Fin 8) (j : Fin 1024)

theorem rd2_addf : rd2 (addf x y) b j = rd2 x b j + rd2 y b j := rfl
theorem rd2_subf : rd2 (subf x y) b j = rd2 x b j - rd2 y b j := rfl
theorem rd2_mulf : rd2 (mulf x y) b j = rd2 x b j * rd2 y b j := rfl
theorem rd2_negf : rd2 (Host.negf x) b j = -rd2 x b j := rfl
theorem rd2_part0 {n : ℕ} (h : n < 2304) (z : Vec Ideal S2304x8x2x1024 .f32) : rd2 (part0 (cut4 (word Ideal n) z)) b j = rd4 z ⟨n, h⟩ b 0 j :=
  (part0_apply _ b j).trans (cut4_apply h z b 0 j)
theorem rd2_part1 {n : ℕ} (h : n < 2304) (z : Vec Ideal S2304x8x2x1024 .f32) : rd2 (part1 (cut4 (word Ideal n) z)) b j = rd4 z ⟨n, h⟩ b 1 j :=
  (part1_apply _ b j).trans (cut4_apply h z b 1 j)
theorem rd2_cut3 {n : ℕ} (h : n < 2304) (z : Vec Ideal S2304x8x1024 .f32) : rd2 (cut3 (word Ideal n) z) b j = rd3 z ⟨n, h⟩ b j :=
  cut3_apply h z b j

end Reads

theorem rowOf_word {n : ℕ} (h : n < 2304) : rowOf (word Ideal n) = word Ideal (2303 - n) := by
  funext j
  show (2304#32 - BitVec.ofNat 32 n) - 1#32 = BitVec.ofNat 32 (2303 - n)
  apply BitVec.eq_of_toNat_eq
  simp only [BitVec.toNat_sub, BitVec.toNat_ofNat]
  omega

section Forward

variable (V₀ : Vals) (ar ai : Fin 8 → Fin 1024 → EReal) (vr vi : Fin 8 → Fin 1024 → ℕ → EReal)

/-- The first loop's state after `n` trips from `V₀`. -/
structure FwAt (n : ℕ) (V : Vals) : Prop where
  counter : V (Proc.devRef .tc main_v7_3) = word Ideal n
  har : ∀ b j, rd2 (V (Proc.devRef .tc main_v7_1)) b j = ar b j
  hai : ∀ b j, rd2 (V (Proc.devRef .tc main_v7_2)) b j = ai b j
  hvr : ∀ s b j, rd4 (V (Proc.devRef .tc main_v7_0)) s b 0 j = vr b j s.val
  hvi : ∀ s b j, rd4 (V (Proc.devRef .tc main_v7_0)) s b 1 j = vi b j s.val
  re : ∀ b j, rd2 (V (Proc.devRef .tc main_v7_4)) b j = (state (ar b j) (ai b j) (vr b j) (vi b j) n).1
  im : ∀ b j, rd2 (V (Proc.devRef .tc main_v7_5)) b j = (state (ar b j) (ai b j) (vr b j) (vi b j) n).2
  outRe : ∀ s b j, s.val < n → rd3 (V (Proc.devRef .tc main_v7_6)) s b j = (state (ar b j) (ai b j) (vr b j) (vi b j) (s.val + 1)).1
  outIm : ∀ s b j, s.val < n → rd3 (V (Proc.devRef .tc main_v7_7)) s b j = (state (ar b j) (ai b j) (vr b j) (vi b j) (s.val + 1)).2
  prevRe : ∀ s b j, s.val < n → rd3 (V (Proc.devRef .tc main_v7_8)) s b j = (state (ar b j) (ai b j) (vr b j) (vi b j) s.val).1
  prevIm : ∀ s b j, s.val < n → rd3 (V (Proc.devRef .tc main_v7_9)) s b j = (state (ar b j) (ai b j) (vr b j) (vi b j) s.val).2
  arg0 : V (Proc.devRef .tc main_arg0) = V₀ (Proc.devRef .tc main_arg0)
  arg1 : V (Proc.devRef .tc main_arg1) = V₀ (Proc.devRef .tc main_arg1)
  arg2 : V (Proc.devRef .tc main_arg2) = V₀ (Proc.devRef .tc main_arg2)
  arg3 : V (Proc.devRef .tc main_arg3) = V₀ (Proc.devRef .tc main_arg3)
  arg4 : V (Proc.devRef .tc main_arg4) = V₀ (Proc.devRef .tc main_arg4)
  arg5 : V (Proc.devRef .tc main_arg5) = V₀ (Proc.devRef .tc main_arg5)

variable {V₀ ar ai vr vi}

theorem put3_word {n : ℕ} (h : n < 2304) (x : Vec Ideal S2304x8x1024 .f32) (y : Vec Ideal S8x1024 .f32) (f : Fin 8 → Fin 1024 → ℕ → EReal)
    (hx : ∀ s b j, s.val < n → rd3 x s b j = f b j s.val) (hy : ∀ b j, rd2 y b j = f b j n) (s : Fin 2304) (b : Fin 8) (j : Fin 1024) (hs : s.val < n + 1) :
    rd3 (put3 (word Ideal n) x y) s b j = f b j s.val := by
  refine (put3_apply h x y s b j).trans ?_
  split
  · rename_i e
    rw [e]; exact hy b j
  · exact hx s b j (by omega)

theorem FwAt.next {n : ℕ} (h : n < 2304) {V : Vals} (H : FwAt V₀ ar ai vr vi n V) : FwAt V₀ ar ai vr vi (n + 1) (fwTrip V) := by
  have hre : ∀ b j, rd2 (nextR V) b j = (state (ar b j) (ai b j) (vr b j) (vi b j) (n + 1)).1 := fun b j => by
    unfold nextR
    rw [H.counter, rd2_addf, rd2_subf, rd2_mulf, rd2_mulf, rd2_part0 _ _ h, H.har, H.hai, H.re, H.im, H.hvr]
    rfl
  have him : ∀ b j, rd2 (nextI V) b j = (state (ar b j) (ai b j) (vr b j) (vi b j) (n + 1)).2 := fun b j => by
    unfold nextI
    rw [H.counter, rd2_addf, rd2_addf, rd2_mulf, rd2_mulf, rd2_part1 _ _ h, H.har, H.hai, H.re, H.im, H.hvi]
    rfl
  obtain ⟨k0, k1, k2, a0, a1, a2, a3, a4, a5⟩ := fw_keep V
  constructor
  · rw [fw_counter, H.counter]
    funext j
    show BitVec.ofNat 32 n + 1#32 = BitVec.ofNat 32 (n + 1)
    exact (BitVec.ofNat_add n 1).symm
  · rw [k1]; exact H.har
  · rw [k2]; exact H.hai
  · rw [k0]; exact H.hvr
  · rw [k0]; exact H.hvi
  · rw [fw_r]; exact hre
  · rw [fw_i]; exact him
  · rw [fw_stack_r, H.counter]
    exact put3_word h _ _ (fun b j s => (state (ar b j) (ai b j) (vr b j) (vi b j) (s + 1)).1) H.outRe hre
  · rw [fw_stack_i, H.counter]
    exact put3_word h _ _ (fun b j s => (state (ar b j) (ai b j) (vr b j) (vi b j) (s + 1)).2) H.outIm him
  · rw [fw_prev_r, H.counter]
    exact put3_word h _ _ (fun b j s => (state (ar b j) (ai b j) (vr b j) (vi b j) s).1) H.prevRe H.re
  · rw [fw_prev_i, H.counter]
    exact put3_word h _ _ (fun b j s => (state (ar b j) (ai b j) (vr b j) (vi b j) s).2) H.prevIm H.im
  · rw [a0]; exact H.arg0
  · rw [a1]; exact H.arg1
  · rw [a2]; exact H.arg2
  · rw [a3]; exact H.arg3
  · rw [a4]; exact H.arg4
  · rw [a5]; exact H.arg5

end Forward

section Backward

variable (V₀ : Vals) (ar ai : Fin 8 → Fin 1024 → EReal) (gr gi pr pi : Fin 8 → Fin 1024 → ℕ → EReal)

/-- The second loop's state after `n` trips from `V₀`. -/
structure BwAt (n : ℕ) (V : Vals) : Prop where
  counter : V (Proc.devRef .tc main_v28_6) = word Ideal n
  har : ∀ b j, rd2 (V (Proc.devRef .tc main_v28_4)) b j = ar b j
  hai : ∀ b j, rd2 (V (Proc.devRef .tc main_v28_5)) b j = ai b j
  hgr : ∀ s b j, rd3 (V (Proc.devRef .tc main_v28_0)) s b j = gr b j s.val
  hgi : ∀ s b j, rd3 (V (Proc.devRef .tc main_v28_1)) s b j = gi b j s.val
  hpr : ∀ s b j, rd3 (V (Proc.devRef .tc main_v28_2)) s b j = pr b j s.val
  hpi : ∀ s b j, rd3 (V (Proc.devRef .tc main_v28_3)) s b j = pi b j s.val
  re : ∀ b j, rd2 (V (Proc.devRef .tc main_v28_9)) b j
    = ar b j * (adj (ar b j) (ai b j) (gr b j) (gi b j) n).1 + ai b j * (adj (ar b j) (ai b j) (gr b j) (gi b j) n).2
  im : ∀ b j, rd2 (V (Proc.devRef .tc main_v28_10)) b j
    = ar b j * (adj (ar b j) (ai b j) (gr b j) (gi b j) n).2 - ai b j * (adj (ar b j) (ai b j) (gr b j) (gi b j) n).1
  sumRe : ∀ b j, rd2 (V (Proc.devRef .tc main_v28_7)) b j = ∑ k ∈ Finset.range n,
    ((adj (ar b j) (ai b j) (gr b j) (gi b j) (k + 1)).1 * pr b j (2303 - k) + (adj (ar b j) (ai b j) (gr b j) (gi b j) (k + 1)).2 * pi b j (2303 - k))
  sumIm : ∀ b j, rd2 (V (Proc.devRef .tc main_v28_8)) b j = ∑ k ∈ Finset.range n,
    ((adj (ar b j) (ai b j) (gr b j) (gi b j) (k + 1)).2 * pr b j (2303 - k) - (adj (ar b j) (ai b j) (gr b j) (gi b j) (k + 1)).1 * pi b j (2303 - k))
  outRe : ∀ s b j, 2304 - n ≤ s.val → rd4 (V (Proc.devRef .tc main_v28_11)) s b 0 j = (adj (ar b j) (ai b j) (gr b j) (gi b j) (2304 - s.val)).1
  outIm : ∀ s b j, 2304 - n ≤ s.val → rd4 (V (Proc.devRef .tc main_v28_11)) s b 1 j = (adj (ar b j) (ai b j) (gr b j) (gi b j) (2304 - s.val)).2
  v12 : V (Proc.devRef .tc main_v12) = V₀ (Proc.devRef .tc main_v12)
  v16 : V (Proc.devRef .tc main_v16) = V₀ (Proc.devRef .tc main_v16)
  arg0 : V (Proc.devRef .tc main_arg0) = V₀ (Proc.devRef .tc main_arg0)
  arg1 : V (Proc.devRef .tc main_arg1) = V₀ (Proc.devRef .tc main_arg1)
  arg2 : V (Proc.devRef .tc main_arg2) = V₀ (Proc.devRef .tc main_arg2)
  arg3 : V (Proc.devRef .tc main_arg3) = V₀ (Proc.devRef .tc main_arg3)
  arg4 : V (Proc.devRef .tc main_arg4) = V₀ (Proc.devRef .tc main_arg4)
  arg5 : V (Proc.devRef .tc main_arg5) = V₀ (Proc.devRef .tc main_arg5)

variable {V₀ ar ai gr gi pr pi}

theorem BwAt.next {n : ℕ} (h : n < 2304) {V : Vals} (H : BwAt V₀ ar ai gr gi pr pi n V) : BwAt V₀ ar ai gr gi pr pi (n + 1) (bwTrip V) := by
  have hc : rowOf (V (Proc.devRef .tc main_v28_6)) = word Ideal (2303 - n) := by rw [H.counter]; exact rowOf_word h
  have hl : 2303 - n < 2304 := by omega
  have hre : ∀ b j, rd2 (gradR V) b j = (adj (ar b j) (ai b j) (gr b j) (gi b j) (n + 1)).1 := fun b j => by
    unfold gradR
    rw [hc, rd2_addf, rd2_cut3 _ _ hl, H.re, H.hgr]
    rfl
  have him : ∀ b j, rd2 (gradI V) b j = (adj (ar b j) (ai b j) (gr b j) (gi b j) (n + 1)).2 := fun b j => by
    unfold gradI
    rw [hc, rd2_addf, rd2_cut3 _ _ hl, H.im, H.hgi]
    rfl
  have hp : ∀ b j, rd2 (cut3 (word Ideal (2303 - n)) (V (Proc.devRef .tc main_v28_2))) b j = pr b j (2303 - n) := fun b j => by
    rw [rd2_cut3 _ _ hl]; exact H.hpr _ b j
  have hq : ∀ b j, rd2 (cut3 (word Ideal (2303 - n)) (V (Proc.devRef .tc main_v28_3))) b j = pi b j (2303 - n) := fun b j => by
    rw [rd2_cut3 _ _ hl]; exact H.hpi _ b j
  obtain ⟨k0, k1, k2, k3, k4, k5, k12, k16, a0, a1, a2, a3, a4, a5⟩ := bw_keep V
  constructor
  · rw [bw_counter, H.counter]
    funext j
    show BitVec.ofNat 32 n + 1#32 = BitVec.ofNat 32 (n + 1)
    exact (BitVec.ofNat_add n 1).symm
  · rw [k4]; exact H.har
  · rw [k5]; exact H.hai
  · rw [k0]; exact H.hgr
  · rw [k1]; exact H.hgi
  · rw [k2]; exact H.hpr
  · rw [k3]; exact H.hpi
  · intro b j
    rw [bw_r, rd2_addf, rd2_mulf, rd2_mulf, H.har, H.hai, hre, him, add_comm]
  · intro b j
    rw [bw_i, rd2_addf, rd2_mulf, rd2_mulf, rd2_negf, H.har, H.hai, hre, him, mul_comm (ai b j) (-_), EReal.neg_mul, mul_comm _ (ai b j), ← sub_eq_add_neg]
  · intro b j
    rw [bw_dar, hc, Finset.sum_range_succ, rd2_addf, rd2_addf, rd2_mulf, rd2_mulf, H.sumRe, hre, him, hp, hq, add_assoc]
    congr 1
    exact add_comm _ _
  · intro b j
    rw [bw_dai, hc, Finset.sum_range_succ, rd2_addf, rd2_addf, rd2_mulf, rd2_mulf, rd2_negf, H.sumIm, hre, him, hp, hq, add_assoc, EReal.neg_mul, ← sub_eq_add_neg]
  · intro s b j hs
    rw [bw_stack, hc]
    refine (put4_apply hl _ _ s b 0 j).trans ?_
    split
    · rename_i e
      rw [pair0_apply, show 2304 - s.val = n + 1 by omega]
      exact hre b j
    · exact H.outRe s b j (by omega)
  · intro s b j hs
    rw [bw_stack, hc]
    refine (put4_apply hl _ _ s b 1 j).trans ?_
    split
    · rename_i e
      rw [pair1_apply, show 2304 - s.val = n + 1 by omega]
      exact him b j
    · exact H.outIm s b j (by omega)
  · rw [k12]; exact H.v12
  · rw [k16]; exact H.v16
  · rw [a0]; exact H.arg0
  · rw [a1]; exact H.arg1
  · rw [a2]; exact H.arg2
  · rw [a3]; exact H.arg3
  · rw [a4]; exact H.arg4
  · rw [a5]; exact H.arg5

end Backward

end Cert.ReferenceIdeal.S5
-- ==== Proof.S5RefValue.lean ====
/-
  The reference's six results: the output and the five gradients of the S5 recurrence.
-/
module

public import proofs.«01_k».proof.Proof.S5RefLoops

@[expose] public section

set_option maxRecDepth 16384

noncomputable section

open Idealize.ShloMosaic Idealize.ShloMosaic.TcCoe Idealize.SL.Sem
open Idealize.ShloMosaic.StableHlo

namespace Cert.ReferenceIdeal.S5

open Cert.ReferenceIdeal Cert.ReferenceIdeal.Gen Cert.S5Model

/-! ## The arrays between the loops -/

/-- The driven rows. -/
def driven (u : FVec Ideal S18432x512 .f32) (bd : FVec Ideal S512x2048 .f32) : Vec Ideal S2304x8x2x1024 .f32 :=
  shapeCast S2304x8x2x1024 (Host.dotGeneral (φ₁ := .f32) (φ₂ := .f32) dot_S18432x512_S512x2048_S18432x2048_1_0_0_1_n_n none u bd : FVec Ideal S18432x2048 .f32) shapeCasts_S18432x2048_S2304x8x2x1024
/-- The states as one array. -/
def states (re im : Vec Ideal S2304x8x1024 .f32) : Vec Ideal S18432x2048 .f32 :=
  shapeCast S18432x2048 (concatenate S2304x8x2x1024 2 [⟨S2304x8x1x1024, broadcastInDim S2304x8x1x1024 ![0, 1, 3] bcast_S2304x8x1024_S2304x8x1x1024_0_1_3 re⟩,
    ⟨S2304x8x1x1024, broadcastInDim S2304x8x1x1024 ![0, 1, 3] bcast_S2304x8x1024_S2304x8x1x1024_0_1_3 im⟩] concatenates_S2304x8x1x1024_S2304x8x1x1024_S2304x8x2x1024_d2)
    shapeCasts_S2304x8x2x1024_S18432x2048
/-- The states' gradient, both components. -/
def seen (dy : FVec Ideal S18432x512 .f32) (cd : FVec Ideal S2048x512 .f32) : Vec Ideal S2304x8x2x1024 .f32 :=
  shapeCast S2304x8x2x1024 (Host.dotGeneral (φ₁ := .f32) (φ₂ := .f32) dot_S18432x512_S2048x512_S18432x2048_1_1_0_0_n_n none dy cd : FVec Ideal S18432x2048 .f32) shapeCasts_S18432x2048_S2304x8x2x1024
/-- Its real and its imaginary part. -/
def seenRe (dy : FVec Ideal S18432x512 .f32) (cd : FVec Ideal S2048x512 .f32) : Vec Ideal S2304x8x1024 .f32 :=
  shapeCast S2304x8x1024 (extractStridedSlice S2304x8x1x1024 ![0, 0, 0, 0] (seen dy cd) slices_S2304x8x2x1024_S2304x8x1x1024_0_0_0_0) shapeCasts_S2304x8x1x1024_S2304x8x1024
@[inherit_doc seenRe]
def seenIm (dy : FVec Ideal S18432x512 .f32) (cd : FVec Ideal S2048x512 .f32) : Vec Ideal S2304x8x1024 .f32 :=
  shapeCast S2304x8x1024 (extractStridedSlice S2304x8x1x1024 ![0, 0, 1, 0] (seen dy cd) slices_S2304x8x2x1024_S2304x8x1x1024_0_0_1_0) shapeCasts_S2304x8x1x1024_S2304x8x1024
/-- The state gradients as one array. -/
def grads (g : Vec Ideal S2304x8x2x1024 .f32) : Vec Ideal S18432x2048 .f32 := shapeCast S18432x2048 g shapeCasts_S2304x8x2x1024_S18432x2048

theorem driven0 (u : FVec Ideal S18432x512 .f32) (bd : FVec Ideal S512x2048 .f32) (s : Fin 2304) (b : Fin 8) (j : Fin 1024) :
    rd4 (driven u bd) s b 0 j = drive (of2 u) (of2 bd) (8 * s.val + b.val) j.val := by
  have hs := s.isLt; have hb := b.isLt; have hj := j.isLt
  refine Eq.trans ?_ (drive_eq (of2 u) (of2 bd) ⟨8 * s.val + b.val, by omega⟩ ⟨j.val, by omega⟩).symm
  unfold rd4 driven of2
  pointwise
  simp only [Nat.mul_comm s.val 8]
theorem driven1 (u : FVec Ideal S18432x512 .f32) (bd : FVec Ideal S512x2048 .f32) (s : Fin 2304) (b : Fin 8) (j : Fin 1024) :
    rd4 (driven u bd) s b 1 j = drive (of2 u) (of2 bd) (8 * s.val + b.val) (1024 + j.val) := by
  have hs := s.isLt; have hb := b.isLt; have hj := j.isLt
  refine Eq.trans ?_ (drive_eq (of2 u) (of2 bd) ⟨8 * s.val + b.val, by omega⟩ ⟨1024 + j.val, by omega⟩).symm
  unfold rd4 driven of2
  pointwise
  simp only [Nat.mul_comm s.val 8]
theorem seenRe_eq (dy : FVec Ideal S18432x512 .f32) (cd : FVec Ideal S2048x512 .f32) (s : Fin 2304) (b : Fin 8) (j : Fin 1024) :
    rd3 (seenRe dy cd) s b j = grad (of2 dy) (of2 cd) (8 * s.val + b.val) j.val := by
  have hs := s.isLt; have hb := b.isLt; have hj := j.isLt
  refine Eq.trans ?_ (grad_eq (of2 dy) (of2 cd) ⟨8 * s.val + b.val, by omega⟩ ⟨j.val, by omega⟩).symm
  unfold rd3 seenRe seen of2
  pointwise
  simp only [Nat.mul_comm s.val 8]
theorem seenIm_eq (dy : FVec Ideal S18432x512 .f32) (cd : FVec Ideal S2048x512 .f32) (s : Fin 2304) (b : Fin 8) (j : Fin 1024) :
    rd3 (seenIm dy cd) s b j = grad (of2 dy) (of2 cd) (8 * s.val + b.val) (1024 + j.val) := by
  have hs := s.isLt; have hb := b.isLt; have hj := j.isLt
  refine Eq.trans ?_ (grad_eq (of2 dy) (of2 cd) ⟨8 * s.val + b.val, by omega⟩ ⟨1024 + j.val, by omega⟩).symm
  unfold rd3 seenIm seen of2
  pointwise
  simp only [Nat.mul_comm s.val 8]
theorem states_eq (re im : Vec Ideal S2304x8x1024 .f32) (r : Fin 18432) (c : Fin 2048) :
    of2 (states re im) r c = if c.val < 1024 then rd3 re ⟨r.val / 8, by omega⟩ (laneOf r.val) (colOf c.val) else rd3 im ⟨r.val / 8, by omega⟩ (laneOf r.val) (colOf c.val) := by
  unfold of2 states rd3 laneOf colOf
  pointwise
  by_cases h : c.val < 1024
  · rw [if_pos h, dif_pos (by omega)]
  · rw [if_neg h, dif_neg (by omega)]
theorem grads_eq (g : Vec Ideal S2304x8x2x1024 .f32) (r : Fin 18432) (c : Fin 2048) :
    of2 (grads g) r c = if c.val < 1024 then rd4 g ⟨r.val / 8, by omega⟩ (laneOf r.val) 0 (colOf c.val) else rd4 g ⟨r.val / 8, by omega⟩ (laneOf r.val) 1 (colOf c.val) := by
  unfold of2 grads rd4 laneOf colOf
  pointwise
  have hc := c.isLt
  by_cases h : c.val < 1024
  · rw [if_pos h]
    congr 2
    exact Fin.ext (by show c.val / 1024 = 0; omega)
  · rw [if_neg h]
    congr 2
    exact Fin.ext (by show c.val / 1024 = 1; omega)

/-- The products of the whole arrays, entry by entry. -/
theorem dot_y (x : FVec Ideal S18432x2048 .f32) (w : FVec Ideal S2048x512 .f32) :
    (Host.dotGeneral (φ₁ := .f32) (φ₂ := .f32) dot_S18432x2048_S2048x512_S18432x512_1_0_0_1_n_n none x w : FVec Ideal S18432x512 .f32)
      = to2 fun r d => ∑ c, of2 x r c * of2 w c d := by
  funext i
  unfold to2 of2
  pointwise
@[inherit_doc dot_y]
theorem dot_dcd (x : FVec Ideal S18432x2048 .f32) (g : FVec Ideal S18432x512 .f32) :
    transpose S2048x512 [1, 0] (Host.dotGeneral (φ₁ := .f32) (φ₂ := .f32) dot_S18432x512_S18432x2048_S512x2048_0_0_1_1_n_n none g x : FVec Ideal S512x2048 .f32)
      transposes_S512x2048_S2048x512_1_0 = to2 fun c d => ∑ r, of2 x r c * of2 g r d := by
  funext i
  unfold to2 of2
  pointwise
  exact Finset.sum_congr rfl fun _ _ => mul_comm (G := EReal) _ _
@[inherit_doc dot_y]
theorem dot_du (x : FVec Ideal S18432x2048 .f32) (w : FVec Ideal S512x2048 .f32) :
    (Host.dotGeneral (φ₁ := .f32) (φ₂ := .f32) dot_S18432x2048_S512x2048_S18432x512_1_1_0_0_n_n none x w : FVec Ideal S18432x512 .f32)
      = to2 fun r k => ∑ c, of2 x r c * of2 w k c := by
  funext i
  unfold to2 of2
  pointwise
@[inherit_doc dot_y]
theorem dot_dbd (x : FVec Ideal S18432x2048 .f32) (u : FVec Ideal S18432x512 .f32) :
    transpose S512x2048 [1, 0] (Host.dotGeneral (φ₁ := .f32) (φ₂ := .f32) dot_S18432x2048_S18432x512_S2048x512_0_0_1_1_n_n none x u : FVec Ideal S2048x512 .f32)
      transposes_S2048x512_S512x2048_1_0 = to2 fun k c => ∑ r, of2 u r k * of2 x r c := by
  funext i
  unfold to2 of2
  pointwise
  exact Finset.sum_congr rfl fun _ _ => mul_comm (G := EReal) _ _

/-! ## The stretches, read -/

section Stretches

variable (V : Vals)

/-- A buffer that a loop's condition does not write. -/
theorem cond0_keep (r : Ref sig .tc) (h : r ≠ main_while0c_c_21) (h' : r ≠ main_while0c_v33) :
    after cond0 V (Proc.devRef .tc r) = V (Proc.devRef .tc r) := by
  rw [after_cons, after_cons, after_nil]
  rw [binary_result_ne _ _ _ _ _ _ _ _ h', nullary_result_ne _ _ _ _ h]
@[inherit_doc cond0_keep]
theorem cond1_keep (r : Ref sig .tc) (h : r ≠ main_while1c_c_23) (h' : r ≠ main_while1c_v33) :
    after cond1 V (Proc.devRef .tc r) = V (Proc.devRef .tc r) := by
  rw [after_cons, after_cons, after_nil]
  rw [binary_result_ne _ _ _ _ _ _ _ _ h', nullary_result_ne _ _ _ _ h]

theorem pre_0 : afterL preI V (Proc.devRef .tc main_v7_0) = driven (V (Proc.devRef .tc main_arg0)) (V (Proc.devRef .tc main_arg1)) := by
  simp only [preI, afterL_cons, afterL_nil]
  after_results_simp_entrywise
  rfl
theorem pre_1 : afterL preI V (Proc.devRef .tc main_v7_1) = V (Proc.devRef .tc main_arg3) := by
  simp only [preI, afterL_cons, afterL_nil]
  after_results_simp_entrywise
  rfl
theorem pre_2 : afterL preI V (Proc.devRef .tc main_v7_2) = V (Proc.devRef .tc main_arg4) := by
  simp only [preI, afterL_cons, afterL_nil]
  after_results_simp_entrywise
  rfl
/-- The zero array is zero at each lane. -/
theorem zero_rd2 (b : Fin 8) (j : Fin 1024) : rd2 (broadcastInDim S8x1024 ![] bcast_S_S8x1024 (constant S_ .f32 0x00000000#32 : FVec Ideal S_ .f32)) b j = 0 := by
  unfold rd2
  pointwise
theorem pre_zero : (∀ b j, rd2 (afterL preI V (Proc.devRef .tc main_v7_4)) b j = 0) ∧ (∀ b j, rd2 (afterL preI V (Proc.devRef .tc main_v7_5)) b j = 0) := by
  simp only [preI, afterL_cons, afterL_nil]
  constructor
  · intro b j
    after_results_simp_entrywise
    exact zero_rd2 b j
  · intro b j
    after_results_simp_entrywise
    exact zero_rd2 b j
theorem pre_keep : afterL preI V (Proc.devRef .tc main_arg0) = V (Proc.devRef .tc main_arg0)
    ∧ afterL preI V (Proc.devRef .tc main_arg1) = V (Proc.devRef .tc main_arg1)
    ∧ afterL preI V (Proc.devRef .tc main_arg2) = V (Proc.devRef .tc main_arg2)
    ∧ afterL preI V (Proc.devRef .tc main_arg3) = V (Proc.devRef .tc main_arg3)
    ∧ afterL preI V (Proc.devRef .tc main_arg4) = V (Proc.devRef .tc main_arg4)
    ∧ afterL preI V (Proc.devRef .tc main_arg5) = V (Proc.devRef .tc main_arg5) := by
  simp only [preI, afterL_cons, afterL_nil]
  refine ⟨?_, ?_, ?_, ?_, ?_, ?_⟩ <;> after_reads_simp

/-- The output and the output weights' gradient, made between the loops. -/
theorem mid_y : afterL midI V (Proc.devRef .tc main_v12)
    = (Host.dotGeneral (φ₁ := .f32) (φ₂ := .f32) dot_S18432x2048_S2048x512_S18432x512_1_0_0_1_n_n none
        (states (V (Proc.devRef .tc main_v7_6)) (V (Proc.devRef .tc main_v7_7))) (V (Proc.devRef .tc main_arg2)) : FVec Ideal S18432x512 .f32) := by
  simp only [midI, afterL_cons, afterL_nil]
  after_results_simp_entrywise
  rfl
@[inherit_doc mid_y]
theorem mid_dcd : afterL midI V (Proc.devRef .tc main_v16)
    = transpose S2048x512 [1, 0] (Host.dotGeneral (φ₁ := .f32) (φ₂ := .f32) dot_S18432x512_S18432x2048_S512x2048_0_0_1_1_n_n none (V (Proc.devRef .tc main_arg5))
        (states (V (Proc.devRef .tc main_v7_6)) (V (Proc.devRef .tc main_v7_7))) : FVec Ideal S512x2048 .f32) transposes_S512x2048_S2048x512_1_0 := by
  simp only [midI, afterL_cons, afterL_nil]
  after_results_simp_entrywise
  rfl
theorem mid_re : afterL midI V (Proc.devRef .tc main_v28_0) = seenRe (V (Proc.devRef .tc main_arg5)) (V (Proc.devRef .tc main_arg2)) := by
  simp only [midI, afterL_cons, afterL_nil]
  after_results_simp_entrywise
  rfl
theorem mid_im : afterL midI V (Proc.devRef .tc main_v28_1) = seenIm (V (Proc.devRef .tc main_arg5)) (V (Proc.devRef .tc main_arg2)) := by
  simp only [midI, afterL_cons, afterL_nil]
  after_results_simp_entrywise
  rfl
theorem mid_in : afterL midI V (Proc.devRef .tc main_v28_2) = V (Proc.devRef .tc main_v7_8)
    ∧ afterL midI V (Proc.devRef .tc main_v28_3) = V (Proc.devRef .tc main_v7_9)
    ∧ afterL midI V (Proc.devRef .tc main_v28_4) = V (Proc.devRef .tc main_arg3)
    ∧ afterL midI V (Proc.devRef .tc main_v28_5) = V (Proc.devRef .tc main_arg4) := by
  simp only [midI, afterL_cons, afterL_nil]
  refine ⟨?_, ?_, ?_, ?_⟩ <;> (after_results_simp_entrywise; rfl)
theorem mid_zero (b : Fin 8) (j : Fin 1024) : rd2 (afterL midI V (Proc.devRef .tc main_v28_7)) b j = 0
    ∧ rd2 (afterL midI V (Proc.devRef .tc main_v28_8)) b j = 0
    ∧ rd2 (afterL midI V (Proc.devRef .tc main_v28_9)) b j = 0
    ∧ rd2 (afterL midI V (Proc.devRef .tc main_v28_10)) b j = 0 := by
  simp only [midI, afterL_cons, afterL_nil]
  refine ⟨?_, ?_, ?_, ?_⟩ <;> (after_results_simp_entrywise; exact zero_rd2 b j)
theorem mid_keep : afterL midI V (Proc.devRef .tc main_arg0) = V (Proc.devRef .tc main_arg0)
    ∧ afterL midI V (Proc.devRef .tc main_arg1) = V (Proc.devRef .tc main_arg1)
    ∧ afterL midI V (Proc.devRef .tc main_arg2) = V (Proc.devRef .tc main_arg2)
    ∧ afterL midI V (Proc.devRef .tc main_arg3) = V (Proc.devRef .tc main_arg3)
    ∧ afterL midI V (Proc.devRef .tc main_arg4) = V (Proc.devRef .tc main_arg4)
    ∧ afterL midI V (Proc.devRef .tc main_arg5) = V (Proc.devRef .tc main_arg5) := by
  simp only [midI, afterL_cons, afterL_nil]
  refine ⟨?_, ?_, ?_, ?_, ?_, ?_⟩ <;> after_reads_simp

/-- The input's and the input weights' gradient, made after the loops. -/
theorem post_du : afterL postI V (Proc.devRef .tc main_v32)
    = (Host.dotGeneral (φ₁ := .f32) (φ₂ := .f32) dot_S18432x2048_S512x2048_S18432x512_1_1_0_0_n_n none
        (grads (V (Proc.devRef .tc main_v28_11))) (V (Proc.devRef .tc main_arg1)) : FVec Ideal S18432x512 .f32) := by
  simp only [postI, afterL_cons, afterL_nil]
  after_results_simp_entrywise
  rfl
@[inherit_doc post_du]
theorem post_dbd : afterL postI V (Proc.devRef .tc main_v31)
    = transpose S512x2048 [1, 0] (Host.dotGeneral (φ₁ := .f32) (φ₂ := .f32) dot_S18432x2048_S18432x512_S2048x512_0_0_1_1_n_n none
        (grads (V (Proc.devRef .tc main_v28_11))) (V (Proc.devRef .tc main_arg0)) : FVec Ideal S2048x512 .f32) transposes_S2048x512_S512x2048_1_0 := by
  simp only [postI, afterL_cons, afterL_nil]
  after_results_simp_entrywise
  rfl
theorem post_keep : afterL postI V (Proc.devRef .tc main_v12) = V (Proc.devRef .tc main_v12)
    ∧ afterL postI V (Proc.devRef .tc main_v16) = V (Proc.devRef .tc main_v16)
    ∧ afterL postI V (Proc.devRef .tc main_v28_7) = V (Proc.devRef .tc main_v28_7)
    ∧ afterL postI V (Proc.devRef .tc main_v28_8) = V (Proc.devRef .tc main_v28_8)
    ∧ afterL postI V (Proc.devRef .tc main_arg0) = V (Proc.devRef .tc main_arg0)
    ∧ afterL postI V (Proc.devRef .tc main_arg1) = V (Proc.devRef .tc main_arg1)
    ∧ afterL postI V (Proc.devRef .tc main_arg2) = V (Proc.devRef .tc main_arg2)
    ∧ afterL postI V (Proc.devRef .tc main_arg3) = V (Proc.devRef .tc main_arg3)
    ∧ afterL postI V (Proc.devRef .tc main_arg4) = V (Proc.devRef .tc main_arg4)
    ∧ afterL postI V (Proc.devRef .tc main_arg5) = V (Proc.devRef .tc main_arg5) := by
  simp only [postI, afterL_cons, afterL_nil]
  refine ⟨?_, ?_, ?_, ?_, ?_, ?_, ?_, ?_, ?_, ?_⟩ <;> after_reads_simp

end Stretches

/-! ## The loops from their entries -/

section Run

theorem FwAt.cond {V₀ : Vals} {ar ai : Fin 8 → Fin 1024 → EReal} {vr vi : Fin 8 → Fin 1024 → ℕ → EReal} {n : ℕ} {V : Vals}
    (H : FwAt V₀ ar ai vr vi n V) : FwAt V₀ ar ai vr vi n (after cond0 V) := by
  obtain ⟨h1, h2, h3, h4, h5, h6, h7, h8, h9, h10, h11, a0, a1, a2, a3, a4, a5⟩ := H
  constructor <;> rw [cond0_keep _ _ (by decide) (by decide)] <;> assumption

theorem BwAt.cond {V₀ : Vals} {ar ai : Fin 8 → Fin 1024 → EReal} {gr gi pr pi : Fin 8 → Fin 1024 → ℕ → EReal} {n : ℕ} {V : Vals}
    (H : BwAt V₀ ar ai gr gi pr pi n V) : BwAt V₀ ar ai gr gi pr pi n (after cond1 V) := by
  obtain ⟨h1, h2, h3, h4, h5, h6, h7, h8, h9, h10, h11, h12, h13, v12, v16, a0, a1, a2, a3, a4, a5⟩ := H
  constructor <;> rw [cond1_keep _ _ (by decide) (by decide)] <;> assumption

variable (m : (ℓ : Loc nD τ sig) → Buf (Elt Ideal) ℓ) (c : Dev nD)

/-- The arguments as arrays by coordinates. -/
abbrev au : Fin 18432 → Fin 512 → EReal := of2 (m ((c.tc : Thread nD τ).loc main_arg0))
@[inherit_doc au] abbrev abd : Fin 512 → Fin 2048 → EReal := of2 (m ((c.tc : Thread nD τ).loc main_arg1))
@[inherit_doc au] abbrev acd : Fin 2048 → Fin 512 → EReal := of2 (m ((c.tc : Thread nD τ).loc main_arg2))
@[inherit_doc au] abbrev aar : Fin 8 → Fin 1024 → EReal := of2 (m ((c.tc : Thread nD τ).loc main_arg3))
@[inherit_doc au] abbrev aai : Fin 8 → Fin 1024 → EReal := of2 (m ((c.tc : Thread nD τ).loc main_arg4))
@[inherit_doc au] abbrev ady : Fin 18432 → Fin 512 → EReal := of2 (m ((c.tc : Thread nD τ).loc main_arg5))

/-- The first loop's state after `n` trips, on the program's arguments. -/
abbrev FwHere (n : ℕ) (V : Vals) : Prop := FwAt (launchContents m c) (aar m c) (aai m c)
  (fun b j t => drive (au m c) (abd m c) (8 * t + b.val) j.val) (fun b j t => drive (au m c) (abd m c) (8 * t + b.val) (1024 + j.val)) n V

theorem fw_entry : FwHere m c 0 (entry0 m c) := by
  obtain ⟨a0, a1, a2, a3, a4, a5⟩ := pre_keep (launchContents m c)
  show FwHere m c 0 (afterL preI (launchContents m c))
  constructor
  · exact entry0_counter m c
  · rw [pre_1]; exact fun b j => rfl
  · rw [pre_2]; exact fun b j => rfl
  · rw [pre_0]; exact driven0 _ _
  · rw [pre_0]; exact driven1 _ _
  · exact (pre_zero _).1
  · exact (pre_zero _).2
  · exact fun s b j h => absurd h (Nat.not_lt_zero _)
  · exact fun s b j h => absurd h (Nat.not_lt_zero _)
  · exact fun s b j h => absurd h (Nat.not_lt_zero _)
  · exact fun s b j h => absurd h (Nat.not_lt_zero _)
  all_goals assumption

theorem fw_at : ∀ n ≤ 2304, FwHere m c n (atTrip cond0 fwI (entry0 m) n c)
  | 0, _ => fw_entry m c
  | n + 1, h => (fw_at n (by omega)).next (by omega)

theorem fw_exit : FwHere m c 2304 (exit0 m c) := (fw_at m c 2304 le_rfl).cond

/-- The second loop's state after `n` trips, on the program's arguments. -/
abbrev BwHere (n : ℕ) (V : Vals) : Prop := BwAt (entry1 m c) (aar m c) (aai m c)
  (fun b j t => grad (ady m c) (acd m c) (8 * t + b.val) j.val) (fun b j t => grad (ady m c) (acd m c) (8 * t + b.val) (1024 + j.val))
  (fun b j t => (st (au m c) (abd m c) (aar m c) (aai m c) b j t).1) (fun b j t => (st (au m c) (abd m c) (aar m c) (aai m c) b j t).2) n V

theorem bw_entry : BwHere m c 0 (entry1 m c) := by
  have H := fw_exit m c
  obtain ⟨i2, i3, i4, i5⟩ := mid_in (exit0 m c)
  have hz := mid_zero (exit0 m c)
  have e2 : exit0 m c (Proc.devRef .tc main_arg2) = m ((c.tc : Thread nD τ).loc main_arg2) := H.arg2
  have e3 : exit0 m c (Proc.devRef .tc main_arg3) = m ((c.tc : Thread nD τ).loc main_arg3) := H.arg3
  have e4 : exit0 m c (Proc.devRef .tc main_arg4) = m ((c.tc : Thread nD τ).loc main_arg4) := H.arg4
  have e5 : exit0 m c (Proc.devRef .tc main_arg5) = m ((c.tc : Thread nD τ).loc main_arg5) := H.arg5
  show BwHere m c 0 (afterL midI (exit0 m c))
  constructor
  · exact entry1_counter m c
  · rw [i4, e3]; exact fun b j => rfl
  · rw [i5, e4]; exact fun b j => rfl
  · rw [mid_re, e5, e2]; exact seenRe_eq _ _
  · rw [mid_im, e5, e2]; exact seenIm_eq _ _
  · rw [i2]; exact fun s b j => H.prevRe s b j s.isLt
  · rw [i3]; exact fun s b j => H.prevIm s b j s.isLt
  · intro b j; rw [(hz b j).2.2.1]; simp [adj]
  · intro b j; rw [(hz b j).2.2.2]; simp [adj]
  · intro b j; rw [(hz b j).1]; simp
  · intro b j; rw [(hz b j).2.1]; simp
  · exact fun s b j h => absurd s.isLt (by omega)
  · exact fun s b j h => absurd s.isLt (by omega)
  all_goals rfl

theorem bw_at : ∀ n ≤ 2304, BwHere m c n (atTrip cond1 bwI (entry1 m) n c)
  | 0, _ => bw_entry m c
  | n + 1, h => (bw_at n (by omega)).next (by omega)

theorem bw_exit : BwHere m c 2304 (exit1 m c) := (bw_at m c 2304 le_rfl).cond

/-- The stacks of states are the states. -/
theorem states_here : of2 (states (exit0 m c (Proc.devRef .tc main_v7_6)) (exit0 m c (Proc.devRef .tc main_v7_7)))
    = X (au m c) (abd m c) (aar m c) (aai m c) := by
  funext r k
  have H := fw_exit m c
  have hr := r.isLt
  rw [states_eq, H.outRe _ _ _ (by show r.val / 8 < 2304; omega), H.outIm _ _ _ (by show r.val / 8 < 2304; omega)]
  rfl
/-- The stack of state gradients is the state gradients. -/
theorem grads_here : of2 (grads (exit1 m c (Proc.devRef .tc main_v28_11))) = A (ady m c) (acd m c) (aar m c) (aai m c) := by
  funext r k
  have H := bw_exit m c
  rw [grads_eq, H.outRe _ _ _ (Nat.zero_le _), H.outIm _ _ _ (Nat.zero_le _)]
  rfl

/-- A buffer written nowhere. -/
theorem final_arg (m) (c) : final (F := Ideal) m c (Proc.devRef .tc main_arg0) = m ((c.tc : Thread nD τ).loc main_arg0)
    ∧ final m c (Proc.devRef .tc main_arg1) = m ((c.tc : Thread nD τ).loc main_arg1)
    ∧ final m c (Proc.devRef .tc main_arg2) = m ((c.tc : Thread nD τ).loc main_arg2)
    ∧ final m c (Proc.devRef .tc main_arg3) = m ((c.tc : Thread nD τ).loc main_arg3)
    ∧ final m c (Proc.devRef .tc main_arg4) = m ((c.tc : Thread nD τ).loc main_arg4)
    ∧ final m c (Proc.devRef .tc main_arg5) = m ((c.tc : Thread nD τ).loc main_arg5) := by
  obtain ⟨-, -, -, -, p0, p1, p2, p3, p4, p5⟩ := post_keep (exit1 m c)
  obtain ⟨k0, k1, k2, k3, k4, k5⟩ := mid_keep (exit0 m c)
  have H := fw_exit m c
  have G := bw_exit m c
  exact ⟨(p0.trans G.arg0).trans (k0.trans H.arg0), (p1.trans G.arg1).trans (k1.trans H.arg1), (p2.trans G.arg2).trans (k2.trans H.arg2),
    (p3.trans G.arg3).trans (k3.trans H.arg3), (p4.trans G.arg4).trans (k4.trans H.arg4), (p5.trans G.arg5).trans (k5.trans H.arg5)⟩

/-- The six results. -/
theorem final_y : final m c (Proc.devRef .tc main_v12) = to2 (y (au m c) (abd m c) (acd m c) (aar m c) (aai m c)) := by
  have e2 : exit0 m c (Proc.devRef .tc main_arg2) = m ((c.tc : Thread nD τ).loc main_arg2) := (fw_exit m c).arg2
  refine (((post_keep _).1.trans (bw_exit m c).v12).trans (mid_y _)).trans ?_
  rw [e2, dot_y, states_here]
  rfl
@[inherit_doc final_y]
theorem final_dcd : final m c (Proc.devRef .tc main_v16) = to2 (dcd (au m c) (ady m c) (abd m c) (aar m c) (aai m c)) := by
  have e5 : exit0 m c (Proc.devRef .tc main_arg5) = m ((c.tc : Thread nD τ).loc main_arg5) := (fw_exit m c).arg5
  refine (((post_keep _).2.1.trans (bw_exit m c).v16).trans (mid_dcd _)).trans ?_
  rw [e5, dot_dcd, states_here]
  rfl
@[inherit_doc final_y]
theorem final_du : final m c (Proc.devRef .tc main_v32) = to2 (du (ady m c) (abd m c) (acd m c) (aar m c) (aai m c)) := by
  have e1 : exit1 m c (Proc.devRef .tc main_arg1) = m ((c.tc : Thread nD τ).loc main_arg1) :=
    (bw_exit m c).arg1.trans ((mid_keep _).2.1.trans (fw_exit m c).arg1)
  refine (post_du _).trans ?_
  rw [e1, dot_du, grads_here]
  rfl
@[inherit_doc final_y]
theorem final_dbd : final m c (Proc.devRef .tc main_v31) = to2 (dbd (au m c) (ady m c) (acd m c) (aar m c) (aai m c)) := by
  have e0 : exit1 m c (Proc.devRef .tc main_arg0) = m ((c.tc : Thread nD τ).loc main_arg0) :=
    (bw_exit m c).arg0.trans ((mid_keep _).1.trans (fw_exit m c).arg0)
  refine (post_dbd _).trans ?_
  rw [e0, dot_dbd, grads_here]
  rfl
@[inherit_doc final_y]
theorem final_dar : final m c (Proc.devRef .tc main_v28_7) = to2 (dar (au m c) (ady m c) (abd m c) (acd m c) (aar m c) (aai m c)) := by
  refine (post_keep _).2.2.1.trans ?_
  funext i
  idx_vars i
  exact (bw_exit m c).sumRe _ _
@[inherit_doc final_y]
theorem final_dai : final m c (Proc.devRef .tc main_v28_8) = to2 (dai (au m c) (ady m c) (abd m c) (acd m c) (aar m c) (aai m c)) := by
  refine (post_keep _).2.2.2.1.trans ?_
  funext i
  idx_vars i
  exact (bw_exit m c).sumIm _ _

end Run

end Cert.ReferenceIdeal.S5
-- ==== Proof.S5Value.lean ====
/-
  The scan pair and its reference end with equal results: both are the same sums of the launched arguments.
-/
module

public import proofs.«01_k».proof.Proof.S5KerOut1
public import proofs.«01_k».proof.Proof.S5RefValue

@[expose] public section

set_option maxRecDepth 16384

noncomputable section

namespace Cert.Proof

open Idealize.ShloMosaic Idealize.ShloMosaic.TcCoe
open Idealize.SL Idealize.SL.Sem
open Cert.S5Model

/-- The reference's arguments end as launched. -/
theorem frame_referenceIdeal : Cert.quiescent_ReferenceIdeal := fun m ρ _ =>
  (θ_run Cert.ReferenceIdeal.defs _ _).mono (fun r h => ⟨fun c => by
    obtain ⟨e0, e1, e2, e3, e4, e5⟩ := Cert.ReferenceIdeal.S5.final_arg m c
    exact ⟨(h c Cert.ReferenceIdeal.main_arg0 (by decide)).trans e0, (h c Cert.ReferenceIdeal.main_arg1 (by decide)).trans e1,
      (h c Cert.ReferenceIdeal.main_arg2 (by decide)).trans e2, (h c Cert.ReferenceIdeal.main_arg3 (by decide)).trans e3,
      (h c Cert.ReferenceIdeal.main_arg4 (by decide)).trans e4, (h c Cert.ReferenceIdeal.main_arg5 (by decide)).trans e5⟩,
    sem_eq_zero_of_no_sems (by decide) r.2⟩)
    (Cert.ReferenceIdeal.S5.run_final m ρ)

/-- The scan's output and the five gradients agree, whatever the arguments. -/
theorem algebraic : Cert.algebraic_KernelIdeal_ReferenceIdeal := by
  intro m g m' g' _ hargs
  refine ⟨fun c => to2 (y (Cert.KernelIdeal.S5.ku m c) (Cert.KernelIdeal.S5.kbd m c) (Cert.KernelIdeal.S5.kcd m c) (Cert.KernelIdeal.S5.kar m c) (Cert.KernelIdeal.S5.kai m c)),
    fun c => to2 (du (Cert.KernelIdeal.S5.kdy m c) (Cert.KernelIdeal.S5.kbd m c) (Cert.KernelIdeal.S5.kcd m c) (Cert.KernelIdeal.S5.kar m c) (Cert.KernelIdeal.S5.kai m c)),
    fun c => to2 (dbd (Cert.KernelIdeal.S5.ku m c) (Cert.KernelIdeal.S5.kdy m c) (Cert.KernelIdeal.S5.kcd m c) (Cert.KernelIdeal.S5.kar m c) (Cert.KernelIdeal.S5.kai m c)),
    fun c => to2 (dcd (Cert.KernelIdeal.S5.ku m c) (Cert.KernelIdeal.S5.kdy m c) (Cert.KernelIdeal.S5.kbd m c) (Cert.KernelIdeal.S5.kar m c) (Cert.KernelIdeal.S5.kai m c)),
    fun c => to2 (dar (Cert.KernelIdeal.S5.ku m c) (Cert.KernelIdeal.S5.kdy m c) (Cert.KernelIdeal.S5.kbd m c) (Cert.KernelIdeal.S5.kcd m c) (Cert.KernelIdeal.S5.kar m c) (Cert.KernelIdeal.S5.kai m c)),
    fun c => to2 (dai (Cert.KernelIdeal.S5.ku m c) (Cert.KernelIdeal.S5.kdy m c) (Cert.KernelIdeal.S5.kbd m c) (Cert.KernelIdeal.S5.kcd m c) (Cert.KernelIdeal.S5.kar m c) (Cert.KernelIdeal.S5.kai m c)), ?_, ?_⟩
  · refine (θ_run Cert.KernelIdeal.defs _ _).mono (fun r h c => ?_) (Cert.KernelIdeal.S5.run_main (F := Ideal) m g)
    have k (b) (hb) := h.1 c b hb
    exact ⟨(k Cert.KernelIdeal.main_v2_0 (by decide)).trans (Cert.KernelIdeal.S5.Wc_y m c),
      (k Cert.KernelIdeal.main_v3_0 (by decide)).trans ((Cert.KernelIdeal.S5.Wc_out m c 8).trans (Cert.KernelIdeal.S5.out_du m c)),
      (k Cert.KernelIdeal.main_v3_1 (by decide)).trans ((Cert.KernelIdeal.S5.Wc_out m c 9).trans (Cert.KernelIdeal.S5.out_dbd m c)),
      (k Cert.KernelIdeal.main_v3_2 (by decide)).trans ((Cert.KernelIdeal.S5.Wc_out m c 10).trans (Cert.KernelIdeal.S5.out_dcd m c)),
      (k Cert.KernelIdeal.main_v3_3 (by decide)).trans ((Cert.KernelIdeal.S5.Wc_out m c 11).trans (Cert.KernelIdeal.S5.out_dar m c)),
      (k Cert.KernelIdeal.main_v3_4 (by decide)).trans ((Cert.KernelIdeal.S5.Wc_out m c 12).trans (Cert.KernelIdeal.S5.out_dai m c)),
      (k Cert.KernelIdeal.main_arg0 (by decide)).trans (Cert.KernelIdeal.S5.Wc_arg m c _ (by decide)),
      (k Cert.KernelIdeal.main_arg1 (by decide)).trans (Cert.KernelIdeal.S5.Wc_arg m c _ (by decide)),
      (k Cert.KernelIdeal.main_arg2 (by decide)).trans (Cert.KernelIdeal.S5.Wc_arg m c _ (by decide)),
      (k Cert.KernelIdeal.main_arg3 (by decide)).trans (Cert.KernelIdeal.S5.Wc_arg m c _ (by decide)),
      (k Cert.KernelIdeal.main_arg4 (by decide)).trans (Cert.KernelIdeal.S5.Wc_arg m c _ (by decide)),
      (k Cert.KernelIdeal.main_arg5 (by decide)).trans (Cert.KernelIdeal.S5.Wc_arg m c _ (by decide))⟩
  · refine (θ_run Cert.ReferenceIdeal.defs _ _).mono (fun r h c => ?_) (Cert.ReferenceIdeal.S5.run_final (F := Ideal) m' g')
    obtain ⟨h0, h1, h2, h3, h4, h5⟩ := hargs c
    have a0 : Cert.ReferenceIdeal.S5.au m' c = Cert.KernelIdeal.S5.ku m c := congrArg of2 h0
    have a1 : Cert.ReferenceIdeal.S5.abd m' c = Cert.KernelIdeal.S5.kbd m c := congrArg of2 h1
    have a2 : Cert.ReferenceIdeal.S5.acd m' c = Cert.KernelIdeal.S5.kcd m c := congrArg of2 h2
    have a3 : Cert.ReferenceIdeal.S5.aar m' c = Cert.KernelIdeal.S5.kar m c := congrArg of2 h3
    have a4 : Cert.ReferenceIdeal.S5.aai m' c = Cert.KernelIdeal.S5.kai m c := congrArg of2 h4
    have a5 : Cert.ReferenceIdeal.S5.ady m' c = Cert.KernelIdeal.S5.kdy m c := congrArg of2 h5
    obtain ⟨e0, e1, e2, e3, e4, e5⟩ := Cert.ReferenceIdeal.S5.final_arg m' c
    refine ⟨(h c Cert.ReferenceIdeal.main_v12 (by decide)).trans ((Cert.ReferenceIdeal.S5.final_y m' c).trans ?_),
      (h c Cert.ReferenceIdeal.main_v32 (by decide)).trans ((Cert.ReferenceIdeal.S5.final_du m' c).trans ?_),
      (h c Cert.ReferenceIdeal.main_v31 (by decide)).trans ((Cert.ReferenceIdeal.S5.final_dbd m' c).trans ?_),
      (h c Cert.ReferenceIdeal.main_v16 (by decide)).trans ((Cert.ReferenceIdeal.S5.final_dcd m' c).trans ?_),
      (h c Cert.ReferenceIdeal.main_v28_7 (by decide)).trans ((Cert.ReferenceIdeal.S5.final_dar m' c).trans ?_),
      (h c Cert.ReferenceIdeal.main_v28_8 (by decide)).trans ((Cert.ReferenceIdeal.S5.final_dai m' c).trans ?_),
      (h c Cert.ReferenceIdeal.main_arg0 (by decide)).trans e0, (h c Cert.ReferenceIdeal.main_arg1 (by decide)).trans e1,
      (h c Cert.ReferenceIdeal.main_arg2 (by decide)).trans e2, (h c Cert.ReferenceIdeal.main_arg3 (by decide)).trans e3,
      (h c Cert.ReferenceIdeal.main_arg4 (by decide)).trans e4, (h c Cert.ReferenceIdeal.main_arg5 (by decide)).trans e5⟩
    · rw [a0, a1, a2, a3, a4]
    · rw [a1, a2, a3, a4, a5]
    · rw [a0, a2, a3, a4, a5]
    · rw [a0, a1, a3, a4, a5]
    · rw [a0, a1, a2, a3, a4, a5]
    · rw [a0, a1, a2, a3, a4, a5]

end Cert.Proof
end
-- ==== Proof.Contract.lean ====
/-
  Matrix products, in the three arrangements that a product and its gradients take, and a contraction kept in a carried
  accumulator: where every point of a run adds the contraction over its own part, the run's last point holds the whole.
-/
module

public import Idealize.ShloMosaic.Lib.Pipeline.ValueKit
public import Idealize.ShloMosaic.Lib.Pointwise

@[expose] public section

noncomputable section

open Idealize.ShloMosaic

namespace Cert.Contract

/-- A matrix of extended reals. -/
abbrev Mat (m n : ℕ) : Type := (⟨2, ![m, n]⟩ : Shape).Idx → EReal

/-- The terms of the product of two matrices. -/
abbrev termNN {m k n : ℕ} (a : Mat m k) (b : Mat k n) (i : (⟨2, ![m, n]⟩ : Shape).Idx) (l : Fin k) : EReal :=
  a (ix2 (i 0) l) * b (ix2 l (i 1))

/-- The terms of the product with the second matrix transposed. -/
abbrev termNT {m k n : ℕ} (a : Mat m k) (b : Mat n k) (i : (⟨2, ![m, n]⟩ : Shape).Idx) (l : Fin k) : EReal :=
  a (ix2 (i 0) l) * b (ix2 (i 1) l)

/-- The terms of the product with the first matrix transposed. -/
abbrev termTN {m k n : ℕ} (a : Mat k m) (b : Mat k n) (i : (⟨2, ![m, n]⟩ : Shape).Idx) (l : Fin k) : EReal :=
  a (ix2 l (i 0)) * b (ix2 l (i 1))

/-- The products themselves. -/
abbrev prodNN {m k n : ℕ} (a : Mat m k) (b : Mat k n) : Mat m n := fun i => ∑ l, termNN a b i l
abbrev prodNT {m k n : ℕ} (a : Mat m k) (b : Mat n k) : Mat m n := fun i => ∑ l, termNT a b i l
abbrev prodTN {m k n : ℕ} (a : Mat k m) (b : Mat k n) : Mat m n := fun i => ∑ l, termTN a b i l

/-- Runs of `S` points, the first of which starts from `z = 0`, each adding `n` terms: the last point of a run holds the
    sum of all `L = S * n` terms, the terms of point `p` standing from `n` times its place in the run. -/
theorem contracted {ι M : Type*} [AddCommMonoid M] {N S n L : ℕ} [NeZero S] (f : (k : ℕ) → k < N → ι → M) (z : ι → M)
    (term : Fin N → ι → Fin n → M)
    (h0 : ∀ t : Fin N, t.val % S = 0 → ∀ j, f t.val t.isLt j = z j + ∑ k, term t j k)
    (hs : ∀ t : Fin N, ¬t.val % S = 0 → ∀ j,
      f t.val t.isLt j = f (t.val - 1) (Nat.lt_of_le_of_lt (Nat.sub_le _ _) t.isLt) j + ∑ k, term t j k)
    (hz : ∀ j, z j = 0) (hL : L = S * n) (t : Fin N) (ht : t.val % S = S - 1) (j : ι) (g : Fin L → M)
    (hg : ∀ (p : Fin N) (k : Fin n) (hl : p.val % S * n + k.val < L), p.val / S = t.val / S →
      term p j k = g ⟨p.val % S * n + k.val, hl⟩) :
    f t.val t.isLt j = ∑ l, g l := by
  rw [Pipeline.eq_sum_fin_of_reset_step_apply_of_flush f S z (fun t j => ∑ k, term t j k) h0 hs t ht j, hz, zero_add]
  refine Fin.sum_mul_add_congr (S := S) (n := n) (fun s k hl => ?_) hL
  generalize hp : (⟨S * (t.val / S) + s.val, Pipeline.run_point_lt_of_flush t ht s⟩ : Fin N) = p
  have hp' : p.val = s.val + S * (t.val / S) := by rw [← hp]; exact Nat.add_comm _ _
  have hm : p.val % S = s.val := by rw [hp', Nat.add_mul_mod_self_left, Nat.mod_eq_of_lt s.isLt]
  have hd : p.val / S = t.val / S := by
    rw [hp', Nat.add_mul_div_left _ _ (Nat.pos_of_ne_zero (NeZero.ne S)), Nat.div_eq_of_lt s.isLt, Nat.zero_add]
  rw [hg p k (by rw [hm]; exact hl) hd]
  exact congrArg g (Fin.ext (by show p.val % S * n + k.val = s.val * n + k.val; rw [hm]))

end Cert.Contract
-- ==== Proof.MmDx.lean ====
/-
  The input gradient of the second feed-forward product, `dy · wᵀ`: the kernel's nine by two blocks, each one
  whole contraction, tile the product, so the result array is the reference's product, index by index.
-/
module

public import proofs.«01_k».proof.Defs
public import proofs.«01_k».proof.Proof.Contract
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel2Ideal.Mm

open Cert.Kernel2Ideal Cert.Kernel2Ideal.Gen

variable (m : (ℓ : Loc nD τ sig) → Buf (Elt Ideal) ℓ)

/-- The product of the second argument with the transposed first. -/
abbrev prod (c : Dev nD) : Buf (Elt Ideal) ((c : Thread nD τ).loc main_v0) :=
  Contract.prodNT (m ((c : Thread nD τ).loc main_arg1)) (m ((c : Thread nD τ).loc main_arg0))

theorem index_facts : ∀ t : Fin cfg0.N, win0_0.index t = ![t.val / 2, 0] ∧ win0_1.index t = ![t.val % 2, 0]
    ∧ win0_2.index t = ![t.val / 2, t.val % 2] :=
  (by decide +kernel : ∀ t : Fin grid0.N, _)

theorem final (c : Dev nD) : (dats m 0 c).arrAt 2 cfg0.N = prod m c := by
  refine (dats m 0 c).arrAt_eq_of_covers 2 _ (by decide +kernel) fun t hf y => ?_
  obtain ⟨e0, e1, e2⟩ := index_facts t
  blk_simp
  rw [after0_2]
  frame_out
  unfold k0_pay1
  pointwise
  show @Eq EReal _ _
  refine Finset.sum_congr rfl fun k _ => ?_
  congr 1 <;> blk_ext [iblk, V, e0, e1, e2]

end Cert.Kernel2Ideal.Mm

namespace Cert.Proof

theorem frame_kernel2 : Cert.quiescent_Kernel2 := fun m ρ _ => Cert.Kernel2.Gen.frame m ρ
theorem frame_kernel2Ideal : Cert.quiescent_Kernel2Ideal := fun m ρ _ => Cert.Kernel2Ideal.Gen.frame m ρ
theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)
theorem preserves2 : Cert.preserves_Kernel2_Kernel2Ideal := trivial

theorem algebraic2 : Cert.algebraic_Kernel2Ideal_Reference2Ideal := by
  intro m g m' g' _ hargs
  refine ⟨fun c => Cert.Kernel2Ideal.Mm.prod m c, ?_, ?_⟩
  · refine (θ_run Cert.Kernel2Ideal.defs _ _).mono (fun r h c => ?_) (Cert.Kernel2Ideal.Value.run_blocks m g)
    exact ⟨(h c).1.trans (Cert.Kernel2Ideal.Mm.final m c), (h c).2⟩
  · refine (θ_run Cert.Reference2Ideal.defs _ _).mono (fun r h c => ?_) (Cert.Reference2Ideal.Value.run m' g')
    refine ⟨(h c).1.trans ?_, (h c).2⟩
    rw [(hargs c).1, (hargs c).2]
    funext i
    pointwise

end Cert.Proof
-- ==== Proof.MmDw.lean ====
/-
  The weight gradient of the second feed-forward product, `xᵀ · dy`: each block of the result is a sum of nine
  partial contractions kept in a carried accumulator, and the nine make up the whole contraction over the rows.
-/
module

public import proofs.«01_k».proof.Defs
public import proofs.«01_k».proof.Proof.Contract
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel3Ideal.Mm

open Cert.Kernel3Ideal Cert.Kernel3Ideal.Gen

variable (m : (ℓ : Loc nD τ sig) → Buf (Elt Ideal) ℓ)

theorem pay_apply (acc : Vec Ideal S256x1024 .f32) (x : Vec Ideal S1024x256 .bf16) (dy : Vec Ideal S1024x1024 .f32)
    (j : S256x1024.Idx) : k0_pay2 acc x dy j = acc j + Contract.prodTN x dy j := by
  unfold k0_pay2
  pointwise

/-- The product of the transposed first argument with the second. -/
abbrev prod (c : Dev nD) : Buf (Elt Ideal) ((c : Thread nD τ).loc main_v0) :=
  Contract.prodTN (m ((c : Thread nD τ).loc main_arg0)) (m ((c : Thread nD τ).loc main_arg1))

theorem index_facts : ∀ t : Fin cfg0.N, win0_0.index t = ![t.val % 9, t.val / 9] ∧ win0_1.index t = ![t.val % 9, 0]
    ∧ win0_2.index t = ![t.val / 9, 0] :=
  (by decide +kernel : ∀ t : Fin grid0.N, _)

theorem last (c : Dev nD) (t : Fin cfg0.N) (h : t.val % 9 = 8) (j : S256x1024.Idx) :
    (outsAt0 m c t.val t.isLt).1 j = (outsAt0 m c t.val t.isLt).2 j := by
  rw [outsAt0_C m c t (by omega) h]
  frame_out
  unfold k0_pay3
  pointwise

theorem final (c : Dev nD) : (dats m 0 c).arrAt 2 cfg0.N = prod m c := by
  refine (dats m 0 c).arrAt_eq_of_covers 2 _ (by decide +kernel) fun t hf y => ?_
  have h8 : t.val % 9 = 8 := (flush0_2 t).mp hf
  have e2 := (index_facts t).2.2
  blk_simp
  rw [after0_2]
  refine (last m c t h8 y).trans (Contract.contracted (fun n h => (outsAt0 m c n h).2) (k0_pay1 (F := Ideal))
    (fun t => Contract.termTN (iblk m c 0 t) (iblk m c 1 t)) (fun t h j => ?_) (fun t h j => ?_) (fun j => ?_)
    (L := 9216) rfl t h8 y _ fun p k hl hp => ?_)
  · rw [outsAt0_A m c t h (by omega)]
    frame_out
    exact pay_apply _ _ _ j
  · by_cases h' : t.val % 9 = 8
    on_goal 1 => rw [outsAt0_C m c t h h']
    on_goal 2 => rw [outsAt0_B m c t h h']
    all_goals
      frame_out
      rw [Memref.IsWhole.read_unread (Memref.isWhole_whole cc0_scratch0)]
      exact pay_apply _ _ _ j
  · unfold k0_pay1
    pointwise
  obtain ⟨d0, d1, -⟩ := index_facts p
  unfold Contract.termTN
  show @Eq EReal _ (_ * _)
  congr 1 <;> blk_ext [iblk, V, d0, d1, e2, hp]

end Cert.Kernel3Ideal.Mm

namespace Cert.Proof

theorem frame_kernel3 : Cert.quiescent_Kernel3 := fun m ρ _ => Cert.Kernel3.Gen.frame m ρ
theorem frame_kernel3Ideal : Cert.quiescent_Kernel3Ideal := fun m ρ _ => Cert.Kernel3Ideal.Gen.frame m ρ
theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
theorem preserves3 : Cert.preserves_Kernel3_Kernel3Ideal := trivial

theorem algebraic3 : Cert.algebraic_Kernel3Ideal_Reference3Ideal := by
  intro m g m' g' _ hargs
  refine ⟨fun c => Cert.Kernel3Ideal.Mm.prod m c, ?_, ?_⟩
  · refine (θ_run Cert.Kernel3Ideal.defs _ _).mono (fun r h c => ?_) (Cert.Kernel3Ideal.Value.run_blocks m g)
    exact ⟨(h c).1.trans (Cert.Kernel3Ideal.Mm.final m c), (h c).2⟩
  · refine (θ_run Cert.Reference3Ideal.defs _ _).mono (fun r h c => ?_) (Cert.Reference3Ideal.Value.run m' g')
    refine ⟨(h c).1.trans ?_, (h c).2⟩
    rw [(hargs c).1, (hargs c).2]
    funext i
    pointwise
    exact Finset.sum_congr rfl fun k _ => mul_comm (G := EReal) _ _

end Cert.Proof
-- ==== Proof.MmUpDx.lean ====
/-
  The input gradient of the first feed-forward product, `dy · wᵀ`: each block of rows of the result is a sum of four
  partial contractions kept in a carried accumulator, which make up the whole contraction over the columns.
-/
module

public import proofs.«01_k».proof.Defs
public import proofs.«01_k».proof.Proof.Contract
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel4Ideal.Mm

open Cert.Kernel4Ideal Cert.Kernel4Ideal.Gen

variable (m : (ℓ : Loc nD τ sig) → Buf (Elt Ideal) ℓ)

theorem pay_apply (acc : Vec Ideal S1024x1024 .f32) (dy w : Vec Ideal S1024x1408 .bf16) (j : S1024x1024.Idx) :
    k0_pay2 acc dy w j = acc j + Contract.prodNT dy w j := by
  unfold k0_pay2
  pointwise

/-- The product of the second argument with the transposed first. -/
abbrev prod (c : Dev nD) : Buf (Elt Ideal) ((c : Thread nD τ).loc main_v0) :=
  Contract.prodNT (m ((c : Thread nD τ).loc main_arg1)) (m ((c : Thread nD τ).loc main_arg0))

theorem index_facts : ∀ t : Fin cfg0.N, win0_0.index t = ![t.val / 4, t.val % 4] ∧ win0_1.index t = ![0, t.val % 4]
    ∧ win0_2.index t = ![t.val / 4, 0] :=
  (by decide +kernel : ∀ t : Fin grid0.N, _)

theorem last (c : Dev nD) (t : Fin cfg0.N) (h : t.val % 4 = 3) (j : S1024x1024.Idx) :
    (outsAt0 m c t.val t.isLt).1 j = (outsAt0 m c t.val t.isLt).2 j := by
  rw [outsAt0_C m c t (by omega) h]
  frame_out

theorem final (c : Dev nD) : (dats m 0 c).arrAt 2 cfg0.N = prod m c := by
  refine (dats m 0 c).arrAt_eq_of_covers 2 _ (by decide +kernel) fun t hf y => ?_
  have h3 : t.val % 4 = 3 := (flush0_2 t).mp hf
  have e2 := (index_facts t).2.2
  blk_simp
  rw [after0_2]
  refine (last m c t h3 y).trans (Contract.contracted (fun n h => (outsAt0 m c n h).2) (k0_pay1 (F := Ideal))
    (fun t => Contract.termNT (iblk m c 0 t) (iblk m c 1 t)) (fun t h j => ?_) (fun t h j => ?_) (fun j => ?_)
    (L := 5632) rfl t h3 y _ fun p k hl hp => ?_)
  · rw [outsAt0_A m c t h (by omega)]
    frame_out
    exact pay_apply _ _ _ j
  · by_cases h' : t.val % 4 = 3
    on_goal 1 => rw [outsAt0_C m c t h h']
    on_goal 2 => rw [outsAt0_B m c t h h']
    all_goals
      frame_out
      rw [Memref.IsWhole.read_unread (Memref.isWhole_whole cc0_scratch0)]
      exact pay_apply _ _ _ j
  · unfold k0_pay1
    pointwise
  obtain ⟨d0, d1, -⟩ := index_facts p
  unfold Contract.termNT
  show @Eq EReal _ (_ * _)
  congr 1 <;> blk_ext [iblk, V, d0, d1, e2, hp]

end Cert.Kernel4Ideal.Mm

namespace Cert.Proof

theorem frame_kernel4 : Cert.quiescent_Kernel4 := fun m ρ _ => Cert.Kernel4.Gen.frame m ρ
theorem frame_kernel4Ideal : Cert.quiescent_Kernel4Ideal := fun m ρ _ => Cert.Kernel4Ideal.Gen.frame m ρ
theorem frame_reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)
theorem preserves4 : Cert.preserves_Kernel4_Kernel4Ideal := trivial

theorem algebraic4 : Cert.algebraic_Kernel4Ideal_Reference4Ideal := by
  intro m g m' g' _ hargs
  refine ⟨fun c => Cert.Kernel4Ideal.Mm.prod m c, ?_, ?_⟩
  · refine (θ_run Cert.Kernel4Ideal.defs _ _).mono (fun r h c => ?_) (Cert.Kernel4Ideal.Value.run_blocks m g)
    exact ⟨(h c).1.trans (Cert.Kernel4Ideal.Mm.final m c), (h c).2⟩
  · refine (θ_run Cert.Reference4Ideal.defs _ _).mono (fun r h c => ?_) (Cert.Reference4Ideal.Value.run m' g')
    refine ⟨(h c).1.trans ?_, (h c).2⟩
    rw [(hargs c).1, (hargs c).2]
    funext i
    pointwise

end Cert.Proof
-- ==== Proof.MmUpDw.lean ====
/-
  The weight gradient of the first feed-forward product, `uᵀ · dy`: each block of columns of the result is a sum of
  nine partial contractions kept in a carried accumulator, which make up the whole contraction over the rows.
-/
module

public import proofs.«01_k».proof.Defs
public import proofs.«01_k».proof.Proof.Contract
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel5Ideal.Mm

open Cert.Kernel5Ideal Cert.Kernel5Ideal.Gen

variable (m : (ℓ : Loc nD τ sig) → Buf (Elt Ideal) ℓ)

theorem pay_apply (acc : Vec Ideal S1024x1408 .f32) (u : Vec Ideal S1024x1024 .bf16) (dy : Vec Ideal S1024x1408 .bf16)
    (j : S1024x1408.Idx) : k0_pay2 acc u dy j = acc j + Contract.prodTN u dy j := by
  unfold k0_pay2
  pointwise

/-- The product of the transposed first argument with the second. -/
abbrev prod (c : Dev nD) : Buf (Elt Ideal) ((c : Thread nD τ).loc main_v0) :=
  Contract.prodTN (m ((c : Thread nD τ).loc main_arg0)) (m ((c : Thread nD τ).loc main_arg1))

theorem index_facts : ∀ t : Fin cfg0.N, win0_0.index t = ![t.val % 9, 0] ∧ win0_1.index t = ![t.val % 9, t.val / 9]
    ∧ win0_2.index t = ![0, t.val / 9] :=
  (by decide +kernel : ∀ t : Fin grid0.N, _)

theorem last (c : Dev nD) (t : Fin cfg0.N) (h : t.val % 9 = 8) (j : S1024x1408.Idx) :
    (outsAt0 m c t.val t.isLt).1 j = (outsAt0 m c t.val t.isLt).2 j := by
  rw [outsAt0_C m c t (by omega) h]
  frame_out
  unfold k0_pay3
  pointwise

theorem final (c : Dev nD) : (dats m 0 c).arrAt 2 cfg0.N = prod m c := by
  refine (dats m 0 c).arrAt_eq_of_covers 2 _ (by decide +kernel) fun t hf y => ?_
  have h8 : t.val % 9 = 8 := (flush0_2 t).mp hf
  have e2 := (index_facts t).2.2
  blk_simp
  rw [after0_2]
  refine (last m c t h8 y).trans (Contract.contracted (fun n h => (outsAt0 m c n h).2) (k0_pay1 (F := Ideal))
    (fun t => Contract.termTN (iblk m c 0 t) (iblk m c 1 t)) (fun t h j => ?_) (fun t h j => ?_) (fun j => ?_)
    (L := 9216) rfl t h8 y _ fun p k hl hp => ?_)
  · rw [outsAt0_A m c t h (by omega)]
    frame_out
    exact pay_apply _ _ _ j
  · by_cases h' : t.val % 9 = 8
    on_goal 1 => rw [outsAt0_C m c t h h']
    on_goal 2 => rw [outsAt0_B m c t h h']
    all_goals
      frame_out
      rw [Memref.IsWhole.read_unread (Memref.isWhole_whole cc0_scratch0)]
      exact pay_apply _ _ _ j
  · unfold k0_pay1
    pointwise
  obtain ⟨d0, d1, -⟩ := index_facts p
  unfold Contract.termTN
  show @Eq EReal _ (_ * _)
  congr 1 <;> blk_ext [iblk, V, d0, d1, e2, hp]

end Cert.Kernel5Ideal.Mm

namespace Cert.Proof

theorem frame_kernel5 : Cert.quiescent_Kernel5 := fun m ρ _ => Cert.Kernel5.Gen.frame m ρ
theorem frame_kernel5Ideal : Cert.quiescent_Kernel5Ideal := fun m ρ _ => Cert.Kernel5Ideal.Gen.frame m ρ
theorem frame_reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)
theorem preserves5 : Cert.preserves_Kernel5_Kernel5Ideal := trivial

theorem algebraic5 : Cert.algebraic_Kernel5Ideal_Reference5Ideal := by
  intro m g m' g' _ hargs
  refine ⟨fun c => Cert.Kernel5Ideal.Mm.prod m c, ?_, ?_⟩
  · refine (θ_run Cert.Kernel5Ideal.defs _ _).mono (fun r h c => ?_) (Cert.Kernel5Ideal.Value.run_blocks m g)
    exact ⟨(h c).1.trans (Cert.Kernel5Ideal.Mm.final m c), (h c).2⟩
  · refine (θ_run Cert.Reference5Ideal.defs _ _).mono (fun r h c => ?_) (Cert.Reference5Ideal.Value.run m' g')
    refine ⟨(h c).1.trans ?_, (h c).2⟩
    rw [(hargs c).1, (hargs c).2]
    funext i
    pointwise
    exact Finset.sum_congr rfl fun k _ => mul_comm (G := EReal) _ _

end Cert.Proof
-- ==== Proof.MmFwd.lean ====
/-
  The second feed-forward product, `x · w`: each block of rows of the result is a sum of two partial contractions
  kept in a carried accumulator, which make up the whole contraction over the hidden columns.
-/
module

public import proofs.«01_k».proof.Defs
public import proofs.«01_k».proof.Proof.Contract
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel6Ideal.Mm

open Cert.Kernel6Ideal Cert.Kernel6Ideal.Gen

variable (m : (ℓ : Loc nD τ sig) → Buf (Elt Ideal) ℓ)

theorem pay_apply (acc : Vec Ideal S1024x1024 .f32) (x : Vec Ideal S1024x1408 .bf16) (w : Vec Ideal S1408x1024 .bf16)
    (j : S1024x1024.Idx) : k0_pay2 acc x w j = acc j + Contract.prodNN x w j := by
  unfold k0_pay2
  pointwise

/-- The product of the two arguments. -/
abbrev prod (c : Dev nD) : Buf (Elt Ideal) ((c : Thread nD τ).loc main_v0) :=
  Contract.prodNN (m ((c : Thread nD τ).loc main_arg0)) (m ((c : Thread nD τ).loc main_arg1))

theorem index_facts : ∀ t : Fin cfg0.N, win0_0.index t = ![t.val / 2, t.val % 2] ∧ win0_1.index t = ![t.val % 2, 0]
    ∧ win0_2.index t = ![t.val / 2, 0] :=
  (by decide +kernel : ∀ t : Fin grid0.N, _)

theorem last (c : Dev nD) (t : Fin cfg0.N) (h : t.val % 2 = 1) (j : S1024x1024.Idx) :
    (outsAt0 m c t.val t.isLt).1 j = (outsAt0 m c t.val t.isLt).2 j := by
  rw [outsAt0_B m c t (by omega) h]
  frame_out

theorem final (c : Dev nD) : (dats m 0 c).arrAt 2 cfg0.N = prod m c := by
  refine (dats m 0 c).arrAt_eq_of_covers 2 _ (by decide +kernel) fun t hf y => ?_
  have h1 : t.val % 2 = 1 := (flush0_2 t).mp hf
  have e2 := (index_facts t).2.2
  blk_simp
  rw [after0_2]
  refine (last m c t h1 y).trans (Contract.contracted (fun n h => (outsAt0 m c n h).2) (k0_pay1 (F := Ideal))
    (fun t => Contract.termNN (iblk m c 0 t) (iblk m c 1 t)) (fun t h j => ?_) (fun t h j => ?_) (fun j => ?_)
    (L := 2816) rfl t h1 y _ fun p k hl hp => ?_)
  · rw [outsAt0_A m c t h (by omega)]
    frame_out
    exact pay_apply _ _ _ j
  · rw [outsAt0_B m c t h (by omega)]
    frame_out
    rw [Memref.IsWhole.read_unread (Memref.isWhole_whole cc0_scratch0)]
    exact pay_apply _ _ _ j
  · unfold k0_pay1
    pointwise
  obtain ⟨d0, d1, -⟩ := index_facts p
  unfold Contract.termNN
  show @Eq EReal _ (_ * _)
  congr 1 <;> blk_ext [iblk, V, d0, d1, e2, hp]

end Cert.Kernel6Ideal.Mm

namespace Cert.Proof

theorem frame_kernel6 : Cert.quiescent_Kernel6 := fun m ρ _ => Cert.Kernel6.Gen.frame m ρ
theorem frame_kernel6Ideal : Cert.quiescent_Kernel6Ideal := fun m ρ _ => Cert.Kernel6Ideal.Gen.frame m ρ
theorem frame_reference6Ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)
theorem preserves6 : Cert.preserves_Kernel6_Kernel6Ideal := trivial

theorem algebraic6 : Cert.algebraic_Kernel6Ideal_Reference6Ideal := by
  intro m g m' g' _ hargs
  refine ⟨fun c => Cert.Kernel6Ideal.Mm.prod m c, ?_, ?_⟩
  · refine (θ_run Cert.Kernel6Ideal.defs _ _).mono (fun r h c => ?_) (Cert.Kernel6Ideal.Value.run_blocks m g)
    exact ⟨(h c).1.trans (Cert.Kernel6Ideal.Mm.final m c), (h c).2⟩
  · refine (θ_run Cert.Reference6Ideal.defs _ _).mono (fun r h c => ?_) (Cert.Reference6Ideal.Value.run m' g')
    refine ⟨(h c).1.trans ?_, (h c).2⟩
    rw [(hargs c).1, (hargs c).2]
    funext i
    pointwise

end Cert.Proof
-- ==== Proof.MmUpFwd.lean ====
/-
  The first feed-forward product, `u · w`: the kernel's nine by four blocks, each one whole contraction, tile the
  product, so the result array is the reference's product, index by index.
-/
module

public import proofs.«01_k».proof.Defs
public import proofs.«01_k».proof.Proof.Contract
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel7Ideal.Mm

open Cert.Kernel7Ideal Cert.Kernel7Ideal.Gen

variable (m : (ℓ : Loc nD τ sig) → Buf (Elt Ideal) ℓ)

/-- The product of the two arguments. -/
abbrev prod (c : Dev nD) : Buf (Elt Ideal) ((c : Thread nD τ).loc main_v0) :=
  Contract.prodNN (m ((c : Thread nD τ).loc main_arg0)) (m ((c : Thread nD τ).loc main_arg1))

theorem index_facts : ∀ t : Fin cfg0.N, win0_0.index t = ![t.val / 4, 0] ∧ win0_1.index t = ![0, t.val % 4]
    ∧ win0_2.index t = ![t.val / 4, t.val % 4] :=
  (by decide +kernel : ∀ t : Fin grid0.N, _)

theorem final (c : Dev nD) : (dats m 0 c).arrAt 2 cfg0.N = prod m c := by
  refine (dats m 0 c).arrAt_eq_of_covers 2 _ (by decide +kernel) fun t hf y => ?_
  obtain ⟨e0, e1, e2⟩ := index_facts t
  blk_simp
  rw [after0_2]
  frame_out
  unfold k0_pay1
  pointwise
  show @Eq EReal _ _
  refine Finset.sum_congr rfl fun k _ => ?_
  congr 1 <;> blk_ext [iblk, V, e0, e1, e2]

end Cert.Kernel7Ideal.Mm

namespace Cert.Proof

theorem frame_kernel7 : Cert.quiescent_Kernel7 := fun m ρ _ => Cert.Kernel7.Gen.frame m ρ
theorem frame_kernel7Ideal : Cert.quiescent_Kernel7Ideal := fun m ρ _ => Cert.Kernel7Ideal.Gen.frame m ρ
theorem frame_reference7Ideal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)
theorem preserves7 : Cert.preserves_Kernel7_Kernel7Ideal := trivial

theorem algebraic7 : Cert.algebraic_Kernel7Ideal_Reference7Ideal := by
  intro m g m' g' _ hargs
  refine ⟨fun c => Cert.Kernel7Ideal.Mm.prod m c, ?_, ?_⟩
  · refine (θ_run Cert.Kernel7Ideal.defs _ _).mono (fun r h c => ?_) (Cert.Kernel7Ideal.Value.run_blocks m g)
    exact ⟨(h c).1.trans (Cert.Kernel7Ideal.Mm.final m c), (h c).2⟩
  · refine (θ_run Cert.Reference7Ideal.defs _ _).mono (fun r h c => ?_) (Cert.Reference7Ideal.Value.run m' g')
    refine ⟨(h c).1.trans ?_, (h c).2⟩
    rw [(hargs c).1, (hargs c).2]
    funext i
    pointwise

end Cert.Proof
-- ==== Proof.GateBwd.lean ====
/-
  The gradient of a gated branch, `h + ½·gate·y`: the gradient of `y` block by block, and the gradient of the gate as
  a sum over the rows of a group, which the kernel makes up from two tiles of rows. The kernel puts the constant
  inside the sum and the reference puts it outside; a positive finite constant distributes over any sum.
-/
module

public import proofs.«01_k».proof.Defs
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import Idealize.ShloMosaic.Lib.Pipeline.ValueKit.Acc
public import Idealize.ShloMosaic.Lib.Quiescent
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel8Ideal.Gate

open Cert.Kernel8Ideal Cert.Kernel8Ideal.Gen

variable (m : (ℓ : Loc nD τ sig) → Buf (Elt Ideal) ℓ)

/-- The step's coefficient of a gated branch. -/
abbrev half : EReal := Ideal.ofBits .f32 0x3F000000#32

theorem half_eq : half = (((1 : ℝ) / 2 : ℝ) : EReal) := by
  simp [half, Ideal.ofBits, Ideal.ieee]
  rw [← EReal.coe_mul]
  norm_num

theorem half_mul_sum {n : ℕ} (f : Fin n → EReal) (s : Finset (Fin n)) : half * ∑ k ∈ s, f k = ∑ k ∈ s, half * f k := by
  have h0 : (0 : EReal) ≤ half := by rw [half_eq]; exact_mod_cast (by norm_num : (0 : ℝ) ≤ 1 / 2)
  have h1 : half ≠ ⊤ := by rw [half_eq]; exact EReal.coe_ne_top _
  classical
  induction s using Finset.induction_on with
  | empty => simp
  | insert a s ha ih => rw [Finset.sum_insert ha, Finset.sum_insert ha, EReal.left_distrib_of_nonneg_of_ne_top h0 h1, ih]

theorem dy_apply (d : Vec Ideal S1x512x1024 .f32) (g : Vec Ideal S1x1x1024 .f32) (j : S1x512x1024.Idx) :
    k0_pay2 d g j = half * g (ix3 0 0 (j 2)) * d (ix3 0 (j 1) (j 2)) := by
  idx_vars j
  unfold k0_pay2 k0_pay1
  pointwise

/-- What one tile of rows adds to the gradient of the gate. -/
def part (d y : Vec Ideal S1x512x1024 .f32) : Vec Ideal S1x1x1024 .f32 := fun j =>
  ∑ k : Fin 512, half * d (ix3 0 k (j 2)) * y (ix3 0 k (j 2))

theorem dg_apply (d y : Vec Ideal S1x512x1024 .f32) (acc : Vec Ideal S1x1x1024 .f32) (j : S1x1x1024.Idx) :
    k0_pay4 d y acc j = acc j + part d y j := by
  idx_vars j
  obtain rfl : j0 = 0 := Subsingleton.elim _ _
  obtain rfl : j1 = 0 := Subsingleton.elim _ _
  unfold k0_pay4 k0_pay1 part
  pointwise

theorem zero_apply (j : S1x1x1024.Idx) : k0_pay3 (F := Ideal) j = 0 := by
  unfold k0_pay3
  pointwise

theorem out_dy (c : Dev nD) (t : Fin cfg0.N) : (outsAt0 m c t.val t.isLt).1 = k0_pay2 (iblk m c 2 t) (iblk m c 1 t) := by
  by_cases h0 : t.val % 2 = 0
  · rw [outsAt0_A m c t h0]
    frame_out
  · rw [outsAt0_B m c t h0]
    frame_out

theorem step_A (c : Dev nD) (t : Fin cfg0.N) (h0 : t.val % 2 = 0) (j : S1x1x1024.Idx) :
    (outsAt0 m c t.val t.isLt).2 j = k0_pay3 (F := Ideal) j + part (iblk m c 2 t) (iblk m c 0 t) j := by
  rw [outsAt0_A m c t h0]
  frame_out
  exact dg_apply _ _ _ j

theorem step_B (c : Dev nD) (t : Fin cfg0.N) (h0 : ¬t.val % 2 = 0) (j : S1x1x1024.Idx) :
    (outsAt0 m c t.val t.isLt).2 j = (outsAt0 m c (t.val - 1) (Nat.lt_of_le_of_lt (Nat.sub_le _ _) t.isLt)).2 j
      + part (iblk m c 2 t) (iblk m c 0 t) j := by
  rw [outsAt0_B m c t h0]
  frame_out
  exact dg_apply _ _ _ j

/-- The gradient of the branch. -/
def dyOf (g : Vec Ideal S9x1x1024 .f32) (d : Vec Ideal S9x1024x1024 .f32) : Vec Ideal S9x1024x1024 .f32 := fun i =>
  half * g (ix3 (i 0) 0 (i 2)) * d (ix3 (i 0) (i 1) (i 2))

/-- The gradient of the gate. -/
def dgOf (y d : Vec Ideal S9x1024x1024 .f32) : Vec Ideal S9x1x1024 .f32 := fun i =>
  ∑ k : Fin 1024, half * d (ix3 (i 0) k (i 2)) * y (ix3 (i 0) k (i 2))

abbrev dy (c : Dev nD) : Buf (Elt Ideal) ((c : Thread nD τ).loc main_v0_0) :=
  dyOf (m ((c : Thread nD τ).loc main_arg1)) (m ((c : Thread nD τ).loc main_arg2))

abbrev dg (c : Dev nD) : Buf (Elt Ideal) ((c : Thread nD τ).loc main_v0_1) :=
  dgOf (m ((c : Thread nD τ).loc main_arg0)) (m ((c : Thread nD τ).loc main_arg2))

theorem index_facts : ∀ t : Fin cfg0.N, win0_0.index t = ![t.val / 2, t.val % 2, 0] ∧ win0_1.index t = ![t.val / 2, 0, 0]
    ∧ win0_2.index t = ![t.val / 2, t.val % 2, 0] ∧ win0_3.index t = ![t.val / 2, t.val % 2, 0] ∧ win0_4.index t = ![t.val / 2, 0, 0] :=
  (by decide +kernel : ∀ t : Fin grid0.N, _)

/-- A tile of the branch, entry by entry. -/
theorem iblk0_apply (c : Dev nD) (t : Fin cfg0.N) (k : Fin 512) (q : Fin 1024) (i : S9x1024x1024.Idx) (h0 : (i 0).val = t.val / 2)
    (h1 : (i 1).val = t.val % 2 * 512 + k.val) (h2 : (i 2).val = q.val) : iblk m c 0 t (ix3 0 k q) = V m c main_arg0 i := by
  refine congrArg (V m c main_arg0) (funext fun a => Fin.ext ?_)
  have e := (index_facts t).1
  match a with
  | ⟨0, _⟩ => show win0_0.index t (0 : Fin 3) * 1 + 1 * 0 = (i 0).val; rw [e, h0]; show t.val / 2 * 1 + 1 * 0 = _; omega
  | ⟨1, _⟩ => show win0_0.index t (1 : Fin 3) * 512 + 1 * k.val = (i 1).val; rw [e, h1]; show t.val % 2 * 512 + 1 * k.val = _; omega
  | ⟨2, _⟩ => show win0_0.index t (2 : Fin 3) * 1024 + 1 * q.val = (i 2).val; rw [e, h2]; show 0 * 1024 + 1 * q.val = _; omega

/-- A tile of the incoming gradient, entry by entry. -/
theorem iblk2_apply (c : Dev nD) (t : Fin cfg0.N) (k : Fin 512) (q : Fin 1024) (i : S9x1024x1024.Idx) (h0 : (i 0).val = t.val / 2)
    (h1 : (i 1).val = t.val % 2 * 512 + k.val) (h2 : (i 2).val = q.val) : iblk m c 2 t (ix3 0 k q) = V m c main_arg2 i := by
  refine congrArg (V m c main_arg2) (funext fun a => Fin.ext ?_)
  have e := (index_facts t).2.2.1
  match a with
  | ⟨0, _⟩ => show win0_2.index t (0 : Fin 3) * 1 + 1 * 0 = (i 0).val; rw [e, h0]; show t.val / 2 * 1 + 1 * 0 = _; omega
  | ⟨1, _⟩ => show win0_2.index t (1 : Fin 3) * 512 + 1 * k.val = (i 1).val; rw [e, h1]; show t.val % 2 * 512 + 1 * k.val = _; omega
  | ⟨2, _⟩ => show win0_2.index t (2 : Fin 3) * 1024 + 1 * q.val = (i 2).val; rw [e, h2]; show 0 * 1024 + 1 * q.val = _; omega

/-- A group's gate, entry by entry. -/
theorem iblk1_apply (c : Dev nD) (t : Fin cfg0.N) (q : Fin 1024) (i : S9x1x1024.Idx) (h0 : (i 0).val = t.val / 2)
    (h2 : (i 2).val = q.val) : iblk m c 1 t (ix3 0 0 q) = V m c main_arg1 i := by
  refine congrArg (V m c main_arg1) (funext fun a => Fin.ext ?_)
  have e := (index_facts t).2.1
  match a with
  | ⟨0, _⟩ => show win0_1.index t (0 : Fin 3) * 1 + 1 * 0 = (i 0).val; rw [e, h0]; show t.val / 2 * 1 + 1 * 0 = _; omega
  | ⟨1, _⟩ => show win0_1.index t (1 : Fin 3) * 1 + 1 * 0 = (i 1).val; rw [e]; have := (i 1).isLt; show 0 * 1 + 1 * 0 = (i 1).val; change (i 1).val < 1 at this; omega
  | ⟨2, _⟩ => show win0_1.index t (2 : Fin 3) * 1024 + 1 * q.val = (i 2).val; rw [e, h2]; show 0 * 1024 + 1 * q.val = _; omega

theorem flushed_dy (c : Dev nD) (t : Fin cfg0.N) (_hf : (cfg0.win 3).flush t = true) :
    (dats m 0 c).flushed 3 t = ((cfg0.win 3).blk t).view.read (Elt Ideal) (dy m c) := by
  rw [Value.flushed3, out_dy]
  have e := (index_facts t).2.2.2.1
  funext y
  have hb0 : (((cfg0.win 3).blk t).view.emb y 0).val = win0_3.index t (0 : Fin 3) * 1 + 1 * (y 0).val := rfl
  have hb1 : (((cfg0.win 3).blk t).view.emb y 1).val = win0_3.index t (1 : Fin 3) * 512 + 1 * (y 1).val := rfl
  have hb2 : (((cfg0.win 3).blk t).view.emb y 2).val = win0_3.index t (2 : Fin 3) * 1024 + 1 * (y 2).val := rfl
  rw [e] at hb0 hb1 hb2
  show k0_pay2 (iblk m c 2 t) (iblk m c 1 t) y = dy m c (((cfg0.win 3).blk t).view.emb y)
  generalize ((cfg0.win 3).blk t).view.emb y = z at hb0 hb1 hb2 ⊢
  have hy : (y 0).val < 1 := (y 0).isLt
  replace hb0 : (z 0).val = t.val / 2 * 1 + 1 * (y 0).val := hb0
  replace hb1 : (z 1).val = t.val % 2 * 512 + 1 * (y 1).val := hb1
  replace hb2 : (z 2).val = 0 * 1024 + 1 * (y 2).val := hb2
  rw [dy_apply, iblk1_apply m c t (y 2) (ix3 (z 0) 0 (z 2)) (by show (z 0).val = _; omega) (by show (z 2).val = _; omega),
    iblk2_apply m c t (y 1) (y 2) (ix3 (z 0) (z 1) (z 2)) (by show (z 0).val = _; omega) (by show (z 1).val = _; omega)
      (by show (z 2).val = _; omega)]
  rfl

theorem flushed_dg (c : Dev nD) (t : Fin cfg0.N) (hf : (cfg0.win 4).flush t = true) :
    (dats m 0 c).flushed 4 t = ((cfg0.win 4).blk t).view.read (Elt Ideal) (dg m c) := by
  have h8 : t.val % 2 = 1 := (flush0_4 t).mp hf
  rw [Value.flushed4]
  have e := (index_facts t).2.2.2.2
  funext y
  have hb0 : (((cfg0.win 4).blk t).view.emb y 0).val = win0_4.index t (0 : Fin 3) * 1 + 1 * (y 0).val := rfl
  have hb2 : (((cfg0.win 4).blk t).view.emb y 2).val = win0_4.index t (2 : Fin 3) * 1024 + 1 * (y 2).val := rfl
  rw [e] at hb0 hb2
  show (outsAt0 m c t.val t.isLt).2 y = dg m c (((cfg0.win 4).blk t).view.emb y)
  generalize ((cfg0.win 4).blk t).view.emb y = z at hb0 hb2 ⊢
  have hy : (y 0).val < 1 := (y 0).isLt
  replace hb0 : (z 0).val = t.val / 2 * 1 + 1 * (y 0).val := hb0
  replace hb2 : (z 2).val = 0 * 1024 + 1 * (y 2).val := hb2
  rw [Pipeline.eq_sum_fin_of_reset_step_apply_of_flush (fun n h => (outsAt0 m c n h).2) 2 (k0_pay3 (F := Ideal))
    (fun t => part (iblk m c 2 t) (iblk m c 0 t)) (step_A m c) (step_B m c) t h8 y, zero_apply, zero_add]
  unfold part dg dgOf
  refine Fin.sum_mul_add_congr (S := 2) (n := 512) (L := 1024) fun s k hl => ?_
  have hs := s.isLt
  generalize hp : (⟨2 * (t.val / 2) + s.val, Pipeline.run_point_lt_of_flush t h8 s⟩ : Fin cfg0.N) = p
  have hp' : p.val = 2 * (t.val / 2) + s.val := by rw [← hp]
  rw [iblk2_apply m c p k (y 2) (ix3 (z 0) ⟨s.val * 512 + k.val, hl⟩ (z 2)) (by show (z 0).val = _; omega)
      (by show s.val * 512 + k.val = _; omega) (by show (z 2).val = _; omega),
    iblk0_apply m c p k (y 2) (ix3 (z 0) ⟨s.val * 512 + k.val, hl⟩ (z 2)) (by show (z 0).val = _; omega)
      (by show s.val * 512 + k.val = _; omega) (by show (z 2).val = _; omega)]

theorem onto3 : ∀ (q0 : Fin 9) (q1 : Fin 2), ∃ t : Fin grid0.N, win0_3.flush t = true ∧ win0_3.index t = ![q0.val, q1.val, 0] := by
  decide +kernel

theorem onto4 : ∀ q0 : Fin 9, ∃ t : Fin grid0.N, win0_4.flush t = true ∧ win0_4.index t = ![q0.val, 0, 0] := by
  decide +kernel

theorem covered3 (i : S9x1024x1024.Idx) : ∃ t : Fin cfg0.N, (cfg0.win 3).flush t = true ∧ i ∈ ((cfg0.win 3).blk t).view.set := by
  have h0 : (i 0).val < 9 := (i 0).isLt
  have h1 : (i 1).val < 1024 := (i 1).isLt
  have h2 : (i 2).val < 1024 := (i 2).isLt
  obtain ⟨t, hf, ht⟩ := onto3 ⟨(i 0).val, h0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, hf, ?_⟩
  show i ∈ ((View.whole main_v0_0).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

theorem covered4 (i : S9x1x1024.Idx) : ∃ t : Fin cfg0.N, (cfg0.win 4).flush t = true ∧ i ∈ ((cfg0.win 4).blk t).view.set := by
  have h0 : (i 0).val < 9 := (i 0).isLt
  have h1 : (i 1).val < 1 := (i 1).isLt
  have h2 : (i 2).val < 1024 := (i 2).isLt
  obtain ⟨t, hf, ht⟩ := onto4 ⟨(i 0).val, h0⟩
  have q0 : win0_4.index t (0 : Fin 3) = (i 0).val := congrFun ht 0
  have q1 : win0_4.index t (1 : Fin 3) = 0 := congrFun ht 1
  have q2 : win0_4.index t (2 : Fin 3) = 0 := congrFun ht 2
  refine ⟨t, hf, ?_⟩
  show i ∈ ((View.whole main_v0_1).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 1024 ≤ (i 2).val ∧ (i 2).val < win0_4.index t (2 : Fin 3) * 1024 + 1024; omega

theorem final3 (c : Dev nD) : (dats m 0 c).arrAt 3 cfg0.N = dy m c :=
  (dats m 0 c).arrAt_eq_of_cover 3 _ (flushed_dy m c) covered3

theorem final4 (c : Dev nD) : (dats m 0 c).arrAt 4 cfg0.N = dg m c :=
  (dats m 0 c).arrAt_eq_of_cover 4 _ (flushed_dg m c) covered4

end Cert.Kernel8Ideal.Gate

namespace Cert.Proof

open Cert.Kernel8Ideal.Gate

theorem frame_kernel8 : Cert.quiescent_Kernel8 := fun m ρ _ => Cert.Kernel8.Gen.frame m ρ
theorem frame_kernel8Ideal : Cert.quiescent_Kernel8Ideal := fun m ρ _ => Cert.Kernel8Ideal.Gen.frame m ρ
theorem frame_reference8Ideal : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)
theorem preserves8 : Cert.preserves_Kernel8_Kernel8Ideal := trivial

theorem algebraic8 : Cert.algebraic_Kernel8Ideal_Reference8Ideal := by
  intro m g m' g' _ hargs
  refine ⟨fun c => dy m c, fun c => dg m c, ?_, ?_⟩
  · refine (θ_run Cert.Kernel8Ideal.defs _ _).mono (fun r h c => ?_) (Cert.Kernel8Ideal.Value.run_blocks m g)
    exact ⟨(h c).1.trans (final3 m c), (h c).2.1.trans (final4 m c), (h c).2.2⟩
  · refine (θ_run Cert.Reference8Ideal.defs _ _).mono (fun r h c => ?_) (Cert.Reference8Ideal.Value.run m' g')
    refine ⟨(h c).1.trans ?_, (h c).2.1.trans ?_, (h c).2.2⟩
    · rw [(hargs c).2.1, (hargs c).2.2]
      funext i
      idx_vars i
      unfold dy dyOf
      pointwise
    · rw [(hargs c).1, (hargs c).2.2]
      funext i
      idx_vars i
      unfold dg dgOf
      pointwise
      refine (half_mul_sum _ _).trans (Finset.sum_congr rfl fun k _ => ?_)
      exact (mul_assoc (G := EReal) _ _ _).symm

end Cert.Proof
-- ==== Proof.Finite.lean ====
/-
  What a precondition `all(abs(x) < inf)` says over the extended reals: every entry of `x` is a real number. And the
  few facts that carry an extended-real computation on real entries over to the real numbers.
-/
module

public import Idealize.ShloMosaic.Lib.ReduceAll
public import Idealize.ShloMosaic.Lib.Affine
public import Idealize.ShloMosaic.Lib.Pointwise

@[expose] public section

noncomputable section

open Idealize.ShloMosaic

namespace Cert.Finite

theorem ofBits_inf : Ideal.ofBits .f32 0x7F800000#32 = ⊤ := by
  simp [Ideal.ofBits, Ideal.ieee]

/-- An extended real whose magnitude is below the infinity is a real number. -/
theorem exists_real {x : EReal} (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_inf] at h
  change Ideal.cmp .olt (max x (-x)) ⊤ = 1#1 at h
  induction x using EReal.rec with
  | bot => simp [Ideal.cmp] at h
  | top => simp [Ideal.cmp] at h
  | coe r => exact ⟨r, rfl⟩

/-- A finite sum of real numbers is the same sum over the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

end Cert.Finite

end
-- ==== Proof.SwigluBwd.lean ====
/-
  The gradient of the gated unit `silu(gate)·up` by its two halves, tile of rows by tile of rows. The kernel writes the
  derivative of `silu` as one product, `s·(1 + gate·(1 - s))`, and the reference as the sum `s + gate·s·(1 - s)` with
  the incoming gradient multiplied in; with finite entries the two agree.
-/
module

public import proofs.«01_k».proof.Defs
public import proofs.«01_k».proof.Proof.Finite
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import Idealize.ShloMosaic.Lib.Pipeline.ValueKit.Basic
public import Idealize.ShloMosaic.Lib.IdealHost
public import Idealize.ShloMosaic.Lib.Quiescent
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Pre_finite9

theorem facts : Cert.Pre_finite9.Facts where
  bitsLt_bf16_f32 := by decide
  bcast_S_S9x1024x5632 := by decide
  reducesTo_S9x1024x5632_S_d0_1_2 := by decide
  h_S_ := by decide
  bcast_S_S9x1024x2816 := by decide
  reducesTo_S9x1024x2816_S_d0_1_2 := by decide

/-- The precondition, entry by entry: both arguments hold real numbers. -/
theorem real_of_pre [Cert.Pre_finite9.Facts] (hid : FVec Ideal S9x1024x5632 .bf16) (da : FVec Ideal S9x1024x2816 .f32)
    (h : fn hid da = fun _ => 1#1) : (∀ i, ∃ r : ℝ, hid i = (r : EReal)) ∧ ∀ i, ∃ r : ℝ, da i = (r : EReal) := by
  haveI : Subsingleton S_.Idx := ⟨fun a b => funext fun k => k.elim0⟩
  have e : fn hid da (fun k => k.elim0) = 1#1 := by rw [h]
  obtain ⟨e0, e1⟩ := IntOp.andi_eq_one.1 e
  exact ⟨fun i => Cert.Finite.exists_real (Host.reduce_andi_all _ _ _ _ _ e0 i),
    fun i => Cert.Finite.exists_real (Host.reduce_andi_all _ _ _ _ _ e1 i)⟩

end Cert.Pre_finite9

namespace Cert.Kernel9Ideal.Swiglu

open Cert.Kernel9Ideal Cert.Kernel9Ideal.Gen

variable (m : (ℓ : Loc nD τ sig) → Buf (Elt Ideal) ℓ)

/-- The constant one, as the programs print it. -/
abbrev one : EReal := Ideal.ofBits .f32 0x3F800000#32

/-- The gradient of the gate half, as the kernel spells it. -/
def gateTerm (g u d : EReal) : EReal := d * u * (Ideal.logistic g * (one + g * (one - Ideal.logistic g)))

/-- The gradient of the other half. -/
def upTerm (g d : EReal) : EReal := d * (g * Ideal.logistic g)

theorem gate_apply (x u : Vec Ideal S1x128x2816 .bf16) (d : Vec Ideal S1x128x2816 .f32) (j : S1x128x2816.Idx) :
    k0_pay4 x u d j = gateTerm (x j) (u j) (d j) := by
  idx_vars j
  obtain rfl : j0 = 0 := Subsingleton.elim _ _
  unfold k0_pay4 k0_pay3 k0_pay2 k0_pay1 gateTerm
  pointwise

theorem up_apply (x : Vec Ideal S1x128x2816 .bf16) (d : Vec Ideal S1x128x2816 .f32) (j : S1x128x2816.Idx) :
    k0_pay5 x d j = upTerm (x j) (d j) := by
  idx_vars j
  obtain rfl : j0 = 0 := Subsingleton.elim _ _
  unfold k0_pay5 k0_pay3 k0_pay2 k0_pay1 upTerm
  pointwise

/-- One entry of the result, from the two halves and the incoming gradient at the same place of the half. -/
def entry (lo : Prop) [Decidable lo] (g u d : EReal) : EReal := if lo then gateTerm g u d else upTerm g d

/-- The column of a half an entry of the whole belongs to. -/
def col (c : Fin 5632) : Fin 2816 := ⟨c.val % 2816, Nat.mod_lt _ (by decide)⟩
def loCol (c : Fin 5632) : Fin 5632 := ⟨c.val % 2816, by omega⟩
def hiCol (c : Fin 5632) : Fin 5632 := ⟨2816 + c.val % 2816, by omega⟩

theorem ld_lo (x : Vec Ideal S1x128x5632 .bf16) (a : Fin 1) (b : Fin 128) (c : Fin 5632) :
    View.ld x r0_0 (ix3 a b (col c)) = x (ix3 a b (loCol c)) := by
  refine congrArg x (funext fun k => Fin.ext ?_)
  match k with
  | ⟨0, _⟩ => show 0 + 1 * a.val = a.val; omega
  | ⟨1, _⟩ => show 0 + 1 * b.val = b.val; omega
  | ⟨2, _⟩ => show 0 + 1 * (c.val % 2816) = c.val % 2816; omega

theorem ld_hi (x : Vec Ideal S1x128x5632 .bf16) (a : Fin 1) (b : Fin 128) (c : Fin 5632) :
    View.ld x r0_1 (ix3 a b (col c)) = x (ix3 a b (hiCol c)) := by
  refine congrArg x (funext fun k => Fin.ext ?_)
  match k with
  | ⟨0, _⟩ => show 0 + 1 * a.val = a.val; omega
  | ⟨1, _⟩ => show 0 + 1 * b.val = b.val; omega
  | ⟨2, _⟩ => show 2816 + 1 * (c.val % 2816) = 2816 + c.val % 2816; omega

theorem ld_da (x : Vec Ideal S1x128x2816 .f32) : View.ld x r0_2 = x :=
  View.ld_unit_lit _ x fun a => by match a with | ⟨0, _⟩ => rfl | ⟨1, _⟩ => rfl | ⟨2, _⟩ => rfl

theorem out_apply (x0 : Vec Ideal S1x128x5632 .bf16) (x1 : Vec Ideal S1x128x2816 .f32) (a : Fin 1) (b : Fin 128) (c : Fin 5632) :
    out0_2 x0 x1 (ix3 a b c) = entry (c.val < 2816) (x0 (ix3 a b (loCol c))) (x0 (ix3 a b (hiCol c))) (x1 (ix3 a b (col c))) := by
  have hc := c.isLt
  unfold out0_2 entry
  rw [ld_da]
  by_cases h : c.val < 2816
  · have hn : (ix3 a b c : S1x128x5632.Idx) ∉ r0_1.set := by
      rw [Rect.mem_set_unit]
      intro hm
      have := (hm 2).1
      change 2816 ≤ c.val at this
      omega
    have hq : (ix3 a b c : S1x128x5632.Idx) = r0_0.emb (ix3 a b (col c)) := by
      refine funext fun k => Fin.ext ?_
      match k with
      | ⟨0, _⟩ => show a.val = 0 + 1 * a.val; omega
      | ⟨1, _⟩ => show b.val = 0 + 1 * b.val; omega
      | ⟨2, _⟩ => show c.val = 0 + 1 * (c.val % 2816); omega
    rw [if_pos h, ← ld_lo x0, ← ld_hi x0, ← gate_apply]
    refine (View.canon_cons_of_not_mem (⟨r0_1, _⟩ : View.Piece (Elt Ideal) S1x128x5632 .bf16) _ hn).trans ?_
    exact (congrArg _ hq).trans (View.canon_cons_emb _ _ _ _)
  · have hq : (ix3 a b c : S1x128x5632.Idx) = r0_1.emb (ix3 a b (col c)) := by
      refine funext fun k => Fin.ext ?_
      match k with
      | ⟨0, _⟩ => show a.val = 0 + 1 * a.val; omega
      | ⟨1, _⟩ => show b.val = 0 + 1 * b.val; omega
      | ⟨2, _⟩ => show c.val = 2816 + 1 * (c.val % 2816); omega
    rw [if_neg h, ← ld_lo x0, ← up_apply]
    exact (congrArg _ hq).trans (View.canon_cons_emb _ _ _ _)

/-- The gradient of the unit. -/
def gradOf (hid : Vec Ideal S9x1024x5632 .bf16) (da : Vec Ideal S9x1024x2816 .f32) : Vec Ideal S9x1024x5632 .bf16 := fun i =>
  entry ((i 2).val < 2816) (hid (ix3 (i 0) (i 1) (loCol (i 2)))) (hid (ix3 (i 0) (i 1) (hiCol (i 2)))) (da (ix3 (i 0) (i 1) (col (i 2))))

abbrev grad (c : Dev nD) : Buf (Elt Ideal) ((c : Thread nD τ).loc main_v0) :=
  gradOf (m ((c : Thread nD τ).loc main_arg0)) (m ((c : Thread nD τ).loc main_arg1))

theorem index_facts : ∀ t : Fin cfg0.N, win0_0.index t = ![t.val / 8, t.val % 8, 0] ∧ win0_1.index t = ![t.val / 8, t.val % 8, 0]
    ∧ win0_2.index t = ![t.val / 8, t.val % 8, 0] :=
  (by decide +kernel : ∀ t : Fin grid0.N, _)

theorem iblk0_apply (c : Dev nD) (t : Fin cfg0.N) (a : Fin 1) (b : Fin 128) (q : Fin 5632) (i : S9x1024x5632.Idx) (h0 : (i 0).val = t.val / 8)
    (h1 : (i 1).val = t.val % 8 * 128 + b.val) (h2 : (i 2).val = q.val) : iblk m c 0 t (ix3 a b q) = V m c main_arg0 i := by
  refine congrArg (V m c main_arg0) (funext fun k => Fin.ext ?_)
  have e := (index_facts t).1
  match k with
  | ⟨0, _⟩ => show win0_0.index t (0 : Fin 3) * 1 + 1 * a.val = (i 0).val; rw [e, h0]; show t.val / 8 * 1 + 1 * a.val = _; omega
  | ⟨1, _⟩ => show win0_0.index t (1 : Fin 3) * 128 + 1 * b.val = (i 1).val; rw [e, h1]; show t.val % 8 * 128 + 1 * b.val = _; omega
  | ⟨2, _⟩ => show win0_0.index t (2 : Fin 3) * 5632 + 1 * q.val = (i 2).val; rw [e, h2]; show 0 * 5632 + 1 * q.val = _; omega

theorem iblk1_apply (c : Dev nD) (t : Fin cfg0.N) (a : Fin 1) (b : Fin 128) (q : Fin 2816) (i : S9x1024x2816.Idx) (h0 : (i 0).val = t.val / 8)
    (h1 : (i 1).val = t.val % 8 * 128 + b.val) (h2 : (i 2).val = q.val) : iblk m c 1 t (ix3 a b q) = V m c main_arg1 i := by
  refine congrArg (V m c main_arg1) (funext fun k => Fin.ext ?_)
  have e := (index_facts t).2.1
  match k with
  | ⟨0, _⟩ => show win0_1.index t (0 : Fin 3) * 1 + 1 * a.val = (i 0).val; rw [e, h0]; show t.val / 8 * 1 + 1 * a.val = _; omega
  | ⟨1, _⟩ => show win0_1.index t (1 : Fin 3) * 128 + 1 * b.val = (i 1).val; rw [e, h1]; show t.val % 8 * 128 + 1 * b.val = _; omega
  | ⟨2, _⟩ => show win0_1.index t (2 : Fin 3) * 2816 + 1 * q.val = (i 2).val; rw [e, h2]; show 0 * 2816 + 1 * q.val = _; omega

theorem flushed_eq (c : Dev nD) (t : Fin cfg0.N) (_hf : (cfg0.win 2).flush t = true) :
    (dats m 0 c).flushed 2 t = ((cfg0.win 2).blk t).view.read (Elt Ideal) (grad m c) := by
  rw [Value.flushed2]
  have e := (index_facts t).2.2
  funext y
  have hb0 : (((cfg0.win 2).blk t).view.emb y 0).val = win0_2.index t (0 : Fin 3) * 1 + 1 * (y 0).val := rfl
  have hb1 : (((cfg0.win 2).blk t).view.emb y 1).val = win0_2.index t (1 : Fin 3) * 128 + 1 * (y 1).val := rfl
  have hb2 : (((cfg0.win 2).blk t).view.emb y 2).val = win0_2.index t (2 : Fin 3) * 5632 + 1 * (y 2).val := rfl
  rw [e] at hb0 hb1 hb2
  show out0_2 (iblk m c 0 t) (iblk m c 1 t) y = grad m c (((cfg0.win 2).blk t).view.emb y)
  generalize ((cfg0.win 2).blk t).view.emb y = z at hb0 hb1 hb2 ⊢
  idx_vars y
  have hy := y0.isLt
  replace hb0 : (z 0).val = t.val / 8 * 1 + 1 * y0.val := hb0
  replace hb1 : (z 1).val = t.val % 8 * 128 + 1 * y1.val := hb1
  replace hb2 : (z 2).val = 0 * 5632 + 1 * y2.val := hb2
  have hz : y2.val = (z 2).val := by omega
  rw [out_apply,
    iblk0_apply m c t y0 y1 (loCol y2) (ix3 (z 0) (z 1) (loCol (z 2))) (by show (z 0).val = _; omega) (by show (z 1).val = _; omega)
      (by show (z 2).val % 2816 = y2.val % 2816; omega),
    iblk0_apply m c t y0 y1 (hiCol y2) (ix3 (z 0) (z 1) (hiCol (z 2))) (by show (z 0).val = _; omega) (by show (z 1).val = _; omega)
      (by show 2816 + (z 2).val % 2816 = 2816 + y2.val % 2816; omega),
    iblk1_apply m c t y0 y1 (col y2) (ix3 (z 0) (z 1) (col (z 2))) (by show (z 0).val = _; omega) (by show (z 1).val = _; omega)
      (by show (z 2).val % 2816 = y2.val % 2816; omega)]
  unfold grad gradOf entry
  simp only [hz]

theorem onto2 : ∀ (q0 : Fin 9) (q1 : Fin 8), ∃ t : Fin grid0.N, win0_2.flush t = true ∧ win0_2.index t = ![q0.val, q1.val, 0] := by
  decide +kernel

theorem covered (i : S9x1024x5632.Idx) : ∃ t : Fin cfg0.N, (cfg0.win 2).flush t = true ∧ i ∈ ((cfg0.win 2).blk t).view.set := by
  have h0 : (i 0).val < 9 := (i 0).isLt
  have h1 : (i 1).val < 1024 := (i 1).isLt
  have h2 : (i 2).val < 5632 := (i 2).isLt
  obtain ⟨t, hf, ht⟩ := onto2 ⟨(i 0).val, h0⟩ ⟨(i 1).val / 128, by omega⟩
  have q0 : win0_2.index t (0 : Fin 3) = (i 0).val := congrFun ht 0
  have q1 : win0_2.index t (1 : Fin 3) = (i 1).val / 128 := congrFun ht 1
  have q2 : win0_2.index t (2 : Fin 3) = 0 := congrFun ht 2
  refine ⟨t, hf, ?_⟩
  show i ∈ ((View.whole main_v0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 5632 ≤ (i 2).val ∧ (i 2).val < win0_2.index t (2 : Fin 3) * 5632 + 5632; omega

theorem final (c : Dev nD) : (dats m 0 c).arrAt 2 cfg0.N = grad m c :=
  (dats m 0 c).arrAt_eq_of_cover 2 _ (flushed_eq m c) covered

/-- The two spellings of the gradient of the gate half agree on real numbers. -/
theorem gateTerm_eq (g u d : ℝ) :
    (d : EReal) * u * Ideal.logistic g + g * (d * u) * (Ideal.logistic g * (one - Ideal.logistic g)) = gateTerm g u d := by
  unfold gateTerm one
  rw [Ideal.logistic_coe, Ideal.ofBits_one_f32, ← EReal.coe_one]
  simp only [← EReal.coe_mul, ← EReal.coe_sub, ← EReal.coe_add]
  congr 1
  ring

end Cert.Kernel9Ideal.Swiglu

namespace Cert.Proof

open Cert.Kernel9Ideal.Swiglu

theorem frame_kernel9 : Cert.quiescent_Kernel9 := fun m ρ _ => Cert.Kernel9.Gen.frame m ρ
theorem frame_kernel9Ideal : Cert.quiescent_Kernel9Ideal := fun m ρ _ => Cert.Kernel9Ideal.Gen.frame m ρ
theorem frame_reference9Ideal : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)
theorem preserves9 : Cert.preserves_Kernel9_Kernel9Ideal := trivial

theorem algebraic9 [Cert.Pre_finite9.Facts] : Cert.algebraic_Kernel9Ideal_Reference9Ideal_pre_finite9 := by
  intro m g m' g' hpre hargs
  refine ⟨fun c => grad m c, ?_, ?_⟩
  · refine (θ_run Cert.Kernel9Ideal.defs _ _).mono (fun r h c => ?_) (Cert.Kernel9Ideal.Value.run_blocks m g)
    exact ⟨(h c).1.trans (final m c), (h c).2⟩
  · refine (θ_run Cert.Reference9Ideal.defs _ _).mono (fun r h c => ?_) (Cert.Reference9Ideal.Value.run m' g')
    refine ⟨(h c).1.trans ?_, (h c).2⟩
    obtain ⟨hh, hd⟩ := Cert.Pre_finite9.real_of_pre _ _ (hpre c)
    rw [(hargs c).1, (hargs c).2]
    funext i
    idx_vars i
    unfold grad gradOf
    pointwise
    have hi := i2.isLt
    unfold entry
    by_cases hc : i2.val < 2816
    · have hm : i2.val % 2816 = i2.val := Nat.mod_eq_of_lt hc
      have e0 : loCol i2 = i2 := Fin.ext hm
      have e1 : hiCol i2 = ⟨2816 + i2.val, by omega⟩ := Fin.ext (congrArg (2816 + ·) hm)
      have e2 : col i2 = ⟨i2.val, hc⟩ := Fin.ext hm
      rw [dif_pos hc]
      refine Eq.trans ?_ (if_pos hc).symm
      rw [e0, e1, e2]
      obtain ⟨a, ha⟩ := hh (ix3 i0 i1 i2)
      obtain ⟨b, hb⟩ := hh (ix3 i0 i1 ⟨2816 + i2.val, by omega⟩)
      obtain ⟨d, hd⟩ := hd (ix3 i0 i1 ⟨i2.val, hc⟩)
      rw [ha, hb, hd]
      refine Eq.trans ?_ (gateTerm_eq a b d)
      unfold one Ideal.logistic
      rw [Ideal.ofBits_one_f32]
    · have hm : i2.val % 2816 = i2.val - 2816 := by omega
      have e0 : loCol i2 = ⟨i2.val - 2816, by omega⟩ := Fin.ext hm
      have e2 : col i2 = ⟨i2.val - 2816, by omega⟩ := Fin.ext hm
      rw [dif_neg hc]
      refine Eq.trans ?_ (if_neg hc).symm
      rw [e0, e2]
      exact mul_comm (G := EReal) _ _

end Cert.Proof
-- ==== Proof.NormBwd.lean ====
/-
  The gradient of a modulated norm, `rms_norm(h)·(1 + scale) + shift`: the gradient of `h` row by row, and those of the
  shift and the scale as sums over the rows of a group, made up from two tiles of rows. The kernel projects the
  incoming gradient off the normalised row; the reference differentiates the root of the mean square, and on real
  numbers the two agree.
-/
module

public import proofs.«01_k».proof.Defs
public import proofs.«01_k».proof.Proof.Finite
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import Idealize.ShloMosaic.Lib.Pipeline.ValueKit.Acc
public import Idealize.ShloMosaic.Lib.IdealHost
public import Idealize.ShloMosaic.Lib.Quiescent
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Pre_finite10

theorem facts : Cert.Pre_finite10.Facts where
  bcast_S_S9x1024x1024 := by decide
  reducesTo_S9x1024x1024_S_d0_1_2 := by decide
  h_S_ := by decide
  bcast_S_S9x1x1024 := by decide
  reducesTo_S9x1x1024_S_d0_1_2 := by decide

/-- The precondition, entry by entry: the three arguments hold real numbers. -/
theorem real_of_pre [Cert.Pre_finite10.Facts] (h : FVec Ideal S9x1024x1024 .f32) (s : FVec Ideal S9x1x1024 .f32) (d : FVec Ideal S9x1024x1024 .f32)
    (hp : fn h s d = fun _ => 1#1) :
    (∀ i, ∃ r : ℝ, h i = (r : EReal)) ∧ (∀ i, ∃ r : ℝ, s i = (r : EReal)) ∧ ∀ i, ∃ r : ℝ, d i = (r : EReal) := by
  haveI : Subsingleton S_.Idx := ⟨fun a b => funext fun k => k.elim0⟩
  have e : fn h s d (fun k => k.elim0) = 1#1 := by rw [hp]
  obtain ⟨e, e2⟩ := IntOp.andi_eq_one.1 e
  obtain ⟨e0, e1⟩ := IntOp.andi_eq_one.1 e
  exact ⟨fun i => Cert.Finite.exists_real (Host.reduce_andi_all _ _ _ _ _ e0 i),
    fun i => Cert.Finite.exists_real (Host.reduce_andi_all _ _ _ _ _ e1 i),
    fun i => Cert.Finite.exists_real (Host.reduce_andi_all _ _ _ _ _ e2 i)⟩

end Cert.Pre_finite10

namespace Cert.Kernel10Ideal.Norm

open Cert.Kernel10Ideal Cert.Kernel10Ideal.Gen

variable (m : (ℓ : Loc nD τ sig) → Buf (Elt Ideal) ℓ)

/-- The programs' constants: the length of a row, the guard under the root, and one. -/
abbrev len : EReal := Ideal.ofBits .f32 0x44800000#32
abbrev eps : EReal := Ideal.ofBits .f32 0x358637BD#32
abbrev one : EReal := Ideal.ofBits .f32 0x3F800000#32

/-- The reciprocal root of a row's mean square. -/
def rinv (h : Fin 1024 → EReal) : EReal := Ideal.rsqrt (Ideal.div (∑ k, h k * h k) len + eps)

/-- One entry of the gradient of a row, as the kernel spells it. -/
def dhTerm (h s d : Fin 1024 → EReal) (q : Fin 1024) : EReal :=
  rinv h * (d q * (one + s q) - h q * rinv h * Ideal.div (∑ k, d k * (one + s k) * (h k * rinv h)) len)

theorem dh_apply (h d : Vec Ideal S1x512x1024 .f32) (s : Vec Ideal S1x1x1024 .f32) (a : Fin 1) (b : Fin 512) (q : Fin 1024) :
    k0_pay8 h d s (ix3 a b q) = dhTerm (fun k => h (ix3 a b k)) (fun k => s (ix3 0 0 k)) (fun k => d (ix3 a b k)) q := by
  obtain rfl : a = 0 := Subsingleton.elim _ _
  unfold k0_pay8 k0_pay7 k0_pay6 k0_pay5 k0_pay4 dhTerm rinv
  pointwise

/-- What one tile of rows adds to the gradient of the shift. -/
def partSh (d : Vec Ideal S1x512x1024 .f32) : Vec Ideal S1x1x1024 .f32 := fun j => ∑ k : Fin 512, d (ix3 0 k (j 2))

/-- What one tile of rows adds to the gradient of the scale. -/
def partSc (h d : Vec Ideal S1x512x1024 .f32) : Vec Ideal S1x1x1024 .f32 := fun j =>
  ∑ k : Fin 512, d (ix3 0 k (j 2)) * (h (ix3 0 k (j 2)) * rinv fun q => h (ix3 0 k q))

theorem sh_apply (d : Vec Ideal S1x512x1024 .f32) (acc : Vec Ideal S1x1x1024 .f32) (j : S1x1x1024.Idx) :
    k0_pay1 (k0_pay5 d) acc j = acc j + partSh d j := by
  idx_vars j
  obtain rfl : j0 = 0 := Subsingleton.elim _ _
  obtain rfl : j1 = 0 := Subsingleton.elim _ _
  unfold k0_pay1 k0_pay5 partSh
  pointwise

theorem sc_apply (h d : Vec Ideal S1x512x1024 .f32) (acc : Vec Ideal S1x1x1024 .f32) (j : S1x1x1024.Idx) :
    k0_pay3 (k0_pay5 d) (k0_pay7 h) acc j = acc j + partSc h d j := by
  idx_vars j
  obtain rfl : j0 = 0 := Subsingleton.elim _ _
  obtain rfl : j1 = 0 := Subsingleton.elim _ _
  unfold k0_pay3 k0_pay7 k0_pay6 k0_pay5 k0_pay4 partSc rinv
  pointwise

theorem zero_sh (j : S1x1x1024.Idx) : k0_pay2 (F := Ideal) j = 0 := by
  unfold k0_pay2
  pointwise

theorem zero_sc (j : S1x1x1024.Idx) : k0_pay9 (F := Ideal) j = 0 := by
  unfold k0_pay9
  pointwise

theorem out_dh (c : Dev nD) (t : Fin cfg0.N) : (outsAt0 m c t.val t.isLt).1 = k0_pay8 (iblk m c 0 t) (iblk m c 2 t) (iblk m c 1 t) := by
  by_cases h0 : t.val % 2 = 0
  · rw [outsAt0_A m c t h0]
    frame_out
    exact h0
  · rw [outsAt0_B m c t h0]
    frame_out
    exact h0

theorem stepSh_A (c : Dev nD) (t : Fin cfg0.N) (h0 : t.val % 2 = 0) (j : S1x1x1024.Idx) :
    (outsAt0 m c t.val t.isLt).2.1 j = k0_pay2 (F := Ideal) j + partSh (iblk m c 2 t) j := by
  rw [outsAt0_A m c t h0]
  frame_out
  · exact sh_apply _ _ j
  · exact h0

theorem stepSh_B (c : Dev nD) (t : Fin cfg0.N) (h0 : ¬t.val % 2 = 0) (j : S1x1x1024.Idx) :
    (outsAt0 m c t.val t.isLt).2.1 j = (outsAt0 m c (t.val - 1) (Nat.lt_of_le_of_lt (Nat.sub_le _ _) t.isLt)).2.1 j + partSh (iblk m c 2 t) j := by
  rw [outsAt0_B m c t h0]
  frame_out
  · exact sh_apply _ _ j
  · exact h0

theorem stepSc_A (c : Dev nD) (t : Fin cfg0.N) (h0 : t.val % 2 = 0) (j : S1x1x1024.Idx) :
    (outsAt0 m c t.val t.isLt).2.2 j = k0_pay9 (F := Ideal) j + partSc (iblk m c 0 t) (iblk m c 2 t) j := by
  rw [outsAt0_A m c t h0]
  frame_out
  · exact sc_apply _ _ _ j
  · exact h0

theorem stepSc_B (c : Dev nD) (t : Fin cfg0.N) (h0 : ¬t.val % 2 = 0) (j : S1x1x1024.Idx) :
    (outsAt0 m c t.val t.isLt).2.2 j = (outsAt0 m c (t.val - 1) (Nat.lt_of_le_of_lt (Nat.sub_le _ _) t.isLt)).2.2 j
      + partSc (iblk m c 0 t) (iblk m c 2 t) j := by
  rw [outsAt0_B m c t h0]
  frame_out
  · exact sc_apply _ _ _ j
  · exact h0

/-- The gradient of `h`. -/
def dhOf (h : Vec Ideal S9x1024x1024 .f32) (s : Vec Ideal S9x1x1024 .f32) (d : Vec Ideal S9x1024x1024 .f32) : Vec Ideal S9x1024x1024 .f32 := fun i =>
  dhTerm (fun k => h (ix3 (i 0) (i 1) k)) (fun k => s (ix3 (i 0) 0 k)) (fun k => d (ix3 (i 0) (i 1) k)) (i 2)

/-- The gradient of the shift. -/
def dshOf (d : Vec Ideal S9x1024x1024 .f32) : Vec Ideal S9x1x1024 .f32 := fun i => ∑ k : Fin 1024, d (ix3 (i 0) k (i 2))

/-- The gradient of the scale. -/
def dscOf (h d : Vec Ideal S9x1024x1024 .f32) : Vec Ideal S9x1x1024 .f32 := fun i =>
  ∑ k : Fin 1024, d (ix3 (i 0) k (i 2)) * (h (ix3 (i 0) k (i 2)) * rinv fun q => h (ix3 (i 0) k q))

abbrev dh (c : Dev nD) : Buf (Elt Ideal) ((c : Thread nD τ).loc main_v0_0) :=
  dhOf (m ((c : Thread nD τ).loc main_arg0)) (m ((c : Thread nD τ).loc main_arg1)) (m ((c : Thread nD τ).loc main_arg2))

abbrev dsh (c : Dev nD) : Buf (Elt Ideal) ((c : Thread nD τ).loc main_v0_1) := dshOf (m ((c : Thread nD τ).loc main_arg2))

abbrev dsc (c : Dev nD) : Buf (Elt Ideal) ((c : Thread nD τ).loc main_v0_2) :=
  dscOf (m ((c : Thread nD τ).loc main_arg0)) (m ((c : Thread nD τ).loc main_arg2))

theorem index_facts : ∀ t : Fin cfg0.N, win0_0.index t = ![t.val / 2, t.val % 2, 0] ∧ win0_1.index t = ![t.val / 2, 0, 0]
    ∧ win0_2.index t = ![t.val / 2, t.val % 2, 0] ∧ win0_3.index t = ![t.val / 2, t.val % 2, 0]
    ∧ win0_4.index t = ![t.val / 2, 0, 0] ∧ win0_5.index t = ![t.val / 2, 0, 0] :=
  (by decide +kernel : ∀ t : Fin grid0.N, _)

/-- A tile of `h`, entry by entry. -/
theorem iblk0_apply (c : Dev nD) (t : Fin cfg0.N) (k : Fin 512) (q : Fin 1024) (i : S9x1024x1024.Idx) (h0 : (i 0).val = t.val / 2)
    (h1 : (i 1).val = t.val % 2 * 512 + k.val) (h2 : (i 2).val = q.val) : iblk m c 0 t (ix3 0 k q) = V m c main_arg0 i := by
  refine congrArg (V m c main_arg0) (funext fun a => Fin.ext ?_)
  have e := (index_facts t).1
  match a with
  | ⟨0, _⟩ => show win0_0.index t (0 : Fin 3) * 1 + 1 * 0 = (i 0).val; rw [e, h0]; show t.val / 2 * 1 + 1 * 0 = _; omega
  | ⟨1, _⟩ => show win0_0.index t (1 : Fin 3) * 512 + 1 * k.val = (i 1).val; rw [e, h1]; show t.val % 2 * 512 + 1 * k.val = _; omega
  | ⟨2, _⟩ => show win0_0.index t (2 : Fin 3) * 1024 + 1 * q.val = (i 2).val; rw [e, h2]; show 0 * 1024 + 1 * q.val = _; omega

/-- A tile of the incoming gradient, entry by entry. -/
theorem iblk2_apply (c : Dev nD) (t : Fin cfg0.N) (k : Fin 512) (q : Fin 1024) (i : S9x1024x1024.Idx) (h0 : (i 0).val = t.val / 2)
    (h1 : (i 1).val = t.val % 2 * 512 + k.val) (h2 : (i 2).val = q.val) : iblk m c 2 t (ix3 0 k q) = V m c main_arg2 i := by
  refine congrArg (V m c main_arg2) (funext fun a => Fin.ext ?_)
  have e := (index_facts t).2.2.1
  match a with
  | ⟨0, _⟩ => show win0_2.index t (0 : Fin 3) * 1 + 1 * 0 = (i 0).val; rw [e, h0]; show t.val / 2 * 1 + 1 * 0 = _; omega
  | ⟨1, _⟩ => show win0_2.index t (1 : Fin 3) * 512 + 1 * k.val = (i 1).val; rw [e, h1]; show t.val % 2 * 512 + 1 * k.val = _; omega
  | ⟨2, _⟩ => show win0_2.index t (2 : Fin 3) * 1024 + 1 * q.val = (i 2).val; rw [e, h2]; show 0 * 1024 + 1 * q.val = _; omega

/-- A group's scale, entry by entry. -/
theorem iblk1_apply (c : Dev nD) (t : Fin cfg0.N) (q : Fin 1024) (i : S9x1x1024.Idx) (h0 : (i 0).val = t.val / 2)
    (h2 : (i 2).val = q.val) : iblk m c 1 t (ix3 0 0 q) = V m c main_arg1 i := by
  refine congrArg (V m c main_arg1) (funext fun a => Fin.ext ?_)
  have e := (index_facts t).2.1
  match a with
  | ⟨0, _⟩ => show win0_1.index t (0 : Fin 3) * 1 + 1 * 0 = (i 0).val; rw [e, h0]; show t.val / 2 * 1 + 1 * 0 = _; omega
  | ⟨1, _⟩ => show win0_1.index t (1 : Fin 3) * 1 + 1 * 0 = (i 1).val; rw [e]; have := (i 1).isLt; show 0 * 1 + 1 * 0 = (i 1).val; change (i 1).val < 1 at this; omega
  | ⟨2, _⟩ => show win0_1.index t (2 : Fin 3) * 1024 + 1 * q.val = (i 2).val; rw [e, h2]; show 0 * 1024 + 1 * q.val = _; omega

theorem flushed_dh (c : Dev nD) (t : Fin cfg0.N) (_hf : (cfg0.win 3).flush t = true) :
    (dats m 0 c).flushed 3 t = ((cfg0.win 3).blk t).view.read (Elt Ideal) (dh m c) := by
  rw [Value.flushed3, out_dh]
  have e := (index_facts t).2.2.2.1
  funext y
  have hb0 : (((cfg0.win 3).blk t).view.emb y 0).val = win0_3.index t (0 : Fin 3) * 1 + 1 * (y 0).val := rfl
  have hb1 : (((cfg0.win 3).blk t).view.emb y 1).val = win0_3.index t (1 : Fin 3) * 512 + 1 * (y 1).val := rfl
  have hb2 : (((cfg0.win 3).blk t).view.emb y 2).val = win0_3.index t (2 : Fin 3) * 1024 + 1 * (y 2).val := rfl
  rw [e] at hb0 hb1 hb2
  show k0_pay8 (iblk m c 0 t) (iblk m c 2 t) (iblk m c 1 t) y = dh m c (((cfg0.win 3).blk t).view.emb y)
  generalize ((cfg0.win 3).blk t).view.emb y = z at hb0 hb1 hb2 ⊢
  idx_vars y
  obtain rfl : y0 = 0 := Subsingleton.elim _ _
  replace hb0 : (z 0).val = t.val / 2 * 1 + 1 * 0 := hb0
  replace hb1 : (z 1).val = t.val % 2 * 512 + 1 * y1.val := hb1
  replace hb2 : (z 2).val = 0 * 1024 + 1 * y2.val := hb2
  have hq : y2 = z 2 := Fin.ext (by omega)
  rw [dh_apply]
  unfold dh dhOf
  congr 1
  · funext k
    exact iblk0_apply m c t y1 k (ix3 (z 0) (z 1) k) (by show (z 0).val = _; omega) (by show (z 1).val = _; omega) rfl
  · funext k
    exact iblk1_apply m c t k (ix3 (z 0) 0 k) (by show (z 0).val = _; omega) rfl
  · funext k
    exact iblk2_apply m c t y1 k (ix3 (z 0) (z 1) k) (by show (z 0).val = _; omega) (by show (z 1).val = _; omega) rfl

theorem flushed_dsh (c : Dev nD) (t : Fin cfg0.N) (hf : (cfg0.win 4).flush t = true) :
    (dats m 0 c).flushed 4 t = ((cfg0.win 4).blk t).view.read (Elt Ideal) (dsh m c) := by
  have h8 : t.val % 2 = 1 := (flush0_4 t).mp hf
  rw [Value.flushed4]
  have e := (index_facts t).2.2.2.2.1
  funext y
  have hb0 : (((cfg0.win 4).blk t).view.emb y 0).val = win0_4.index t (0 : Fin 3) * 1 + 1 * (y 0).val := rfl
  have hb2 : (((cfg0.win 4).blk t).view.emb y 2).val = win0_4.index t (2 : Fin 3) * 1024 + 1 * (y 2).val := rfl
  rw [e] at hb0 hb2
  show (outsAt0 m c t.val t.isLt).2.1 y = dsh m c (((cfg0.win 4).blk t).view.emb y)
  generalize ((cfg0.win 4).blk t).view.emb y = z at hb0 hb2 ⊢
  have hy : (y 0).val < 1 := (y 0).isLt
  replace hb0 : (z 0).val = t.val / 2 * 1 + 1 * (y 0).val := hb0
  replace hb2 : (z 2).val = 0 * 1024 + 1 * (y 2).val := hb2
  rw [Pipeline.eq_sum_fin_of_reset_step_apply_of_flush (fun n h => (outsAt0 m c n h).2.1) 2 (k0_pay2 (F := Ideal))
    (fun t => partSh (iblk m c 2 t)) (stepSh_A m c) (stepSh_B m c) t h8 y, zero_sh, zero_add]
  unfold partSh dsh dshOf
  refine Fin.sum_mul_add_congr (S := 2) (n := 512) (L := 1024) fun s k hl => ?_
  have hs := s.isLt
  generalize hp : (⟨2 * (t.val / 2) + s.val, Pipeline.run_point_lt_of_flush t h8 s⟩ : Fin cfg0.N) = p
  have hp' : p.val = 2 * (t.val / 2) + s.val := by rw [← hp]
  exact iblk2_apply m c p k (y 2) (ix3 (z 0) ⟨s.val * 512 + k.val, hl⟩ (z 2)) (by show (z 0).val = _; omega)
    (by show s.val * 512 + k.val = _; omega) (by show (z 2).val = _; omega)

theorem flushed_dsc (c : Dev nD) (t : Fin cfg0.N) (hf : (cfg0.win 5).flush t = true) :
    (dats m 0 c).flushed 5 t = ((cfg0.win 5).blk t).view.read (Elt Ideal) (dsc m c) := by
  have h8 : t.val % 2 = 1 := (flush0_5 t).mp hf
  rw [Value.flushed5]
  have e := (index_facts t).2.2.2.2.2
  funext y
  have hb0 : (((cfg0.win 5).blk t).view.emb y 0).val = win0_5.index t (0 : Fin 3) * 1 + 1 * (y 0).val := rfl
  have hb2 : (((cfg0.win 5).blk t).view.emb y 2).val = win0_5.index t (2 : Fin 3) * 1024 + 1 * (y 2).val := rfl
  rw [e] at hb0 hb2
  show (outsAt0 m c t.val t.isLt).2.2 y = dsc m c (((cfg0.win 5).blk t).view.emb y)
  generalize ((cfg0.win 5).blk t).view.emb y = z at hb0 hb2 ⊢
  have hy : (y 0).val < 1 := (y 0).isLt
  replace hb0 : (z 0).val = t.val / 2 * 1 + 1 * (y 0).val := hb0
  replace hb2 : (z 2).val = 0 * 1024 + 1 * (y 2).val := hb2
  rw [Pipeline.eq_sum_fin_of_reset_step_apply_of_flush (fun n h => (outsAt0 m c n h).2.2) 2 (k0_pay9 (F := Ideal))
    (fun t => partSc (iblk m c 0 t) (iblk m c 2 t)) (stepSc_A m c) (stepSc_B m c) t h8 y, zero_sc, zero_add]
  unfold partSc dsc dscOf
  refine Fin.sum_mul_add_congr (S := 2) (n := 512) (L := 1024) fun s k hl => ?_
  have hs := s.isLt
  generalize hp : (⟨2 * (t.val / 2) + s.val, Pipeline.run_point_lt_of_flush t h8 s⟩ : Fin cfg0.N) = p
  have hp' : p.val = 2 * (t.val / 2) + s.val := by rw [← hp]
  have ed := iblk2_apply m c p k (y 2) (ix3 (z 0) ⟨s.val * 512 + k.val, hl⟩ (z 2)) (by show (z 0).val = _; omega)
    (by show s.val * 512 + k.val = _; omega) (by show (z 2).val = _; omega)
  have eh := iblk0_apply m c p k (y 2) (ix3 (z 0) ⟨s.val * 512 + k.val, hl⟩ (z 2)) (by show (z 0).val = _; omega)
    (by show s.val * 512 + k.val = _; omega) (by show (z 2).val = _; omega)
  have er : (fun q => iblk m c 0 p (ix3 0 k q)) = fun q => V m c main_arg0 (ix3 (z 0) ⟨s.val * 512 + k.val, hl⟩ q) := by
    funext q
    exact iblk0_apply m c p k q _ (by show (z 0).val = _; omega) (by show s.val * 512 + k.val = _; omega) rfl
  rw [ed, eh, er]

theorem onto3 : ∀ (q0 : Fin 9) (q1 : Fin 2), ∃ t : Fin grid0.N, win0_3.flush t = true ∧ win0_3.index t = ![q0.val, q1.val, 0] := by
  decide +kernel

theorem onto4 : ∀ q0 : Fin 9, ∃ t : Fin grid0.N, win0_4.flush t = true ∧ win0_4.index t = ![q0.val, 0, 0] := by
  decide +kernel

theorem covered3 (i : S9x1024x1024.Idx) : ∃ t : Fin cfg0.N, (cfg0.win 3).flush t = true ∧ i ∈ ((cfg0.win 3).blk t).view.set := by
  have h0 : (i 0).val < 9 := (i 0).isLt
  have h1 : (i 1).val < 1024 := (i 1).isLt
  have h2 : (i 2).val < 1024 := (i 2).isLt
  obtain ⟨t, hf, ht⟩ := onto3 ⟨(i 0).val, h0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, hf, ?_⟩
  show i ∈ ((View.whole main_v0_0).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

theorem covered4 (i : S9x1x1024.Idx) : ∃ t : Fin cfg0.N, (cfg0.win 4).flush t = true ∧ i ∈ ((cfg0.win 4).blk t).view.set := by
  have h0 : (i 0).val < 9 := (i 0).isLt
  have h1 : (i 1).val < 1 := (i 1).isLt
  have h2 : (i 2).val < 1024 := (i 2).isLt
  obtain ⟨t, hf, ht⟩ := onto4 ⟨(i 0).val, h0⟩
  have q0 : win0_4.index t (0 : Fin 3) = (i 0).val := congrFun ht 0
  have q1 : win0_4.index t (1 : Fin 3) = 0 := congrFun ht 1
  have q2 : win0_4.index t (2 : Fin 3) = 0 := congrFun ht 2
  refine ⟨t, hf, ?_⟩
  show i ∈ ((View.whole main_v0_1).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 1024 ≤ (i 2).val ∧ (i 2).val < win0_4.index t (2 : Fin 3) * 1024 + 1024; omega

theorem onto5 : ∀ q0 : Fin 9, ∃ t : Fin grid0.N, win0_5.flush t = true ∧ win0_5.index t = ![q0.val, 0, 0] := by
  decide +kernel

theorem covered5 (i : S9x1x1024.Idx) : ∃ t : Fin cfg0.N, (cfg0.win 5).flush t = true ∧ i ∈ ((cfg0.win 5).blk t).view.set := by
  have h0 : (i 0).val < 9 := (i 0).isLt
  have h1 : (i 1).val < 1 := (i 1).isLt
  have h2 : (i 2).val < 1024 := (i 2).isLt
  obtain ⟨t, hf, ht⟩ := onto5 ⟨(i 0).val, h0⟩
  have q0 : win0_5.index t (0 : Fin 3) = (i 0).val := congrFun ht 0
  have q1 : win0_5.index t (1 : Fin 3) = 0 := congrFun ht 1
  have q2 : win0_5.index t (2 : Fin 3) = 0 := congrFun ht 2
  refine ⟨t, hf, ?_⟩
  show i ∈ ((View.whole main_v0_2).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 1024 ≤ (i 2).val ∧ (i 2).val < win0_5.index t (2 : Fin 3) * 1024 + 1024; omega

theorem final3 (c : Dev nD) : (dats m 0 c).arrAt 3 cfg0.N = dh m c :=
  (dats m 0 c).arrAt_eq_of_cover 3 _ (flushed_dh m c) covered3

theorem final4 (c : Dev nD) : (dats m 0 c).arrAt 4 cfg0.N = dsh m c :=
  (dats m 0 c).arrAt_eq_of_cover 4 _ (flushed_dsh m c) covered4

theorem final5 (c : Dev nD) : (dats m 0 c).arrAt 5 cfg0.N = dsc m c :=
  (dats m 0 c).arrAt_eq_of_cover 5 _ (flushed_dsc m c) covered5

abbrev mhalf : EReal := Ideal.ofBits .f32 0xBF000000#32

theorem len_eq : len = ((1024 : ℝ) : EReal) := by
  simp [len, Ideal.ofBits, Ideal.ieee]
  rw [← EReal.coe_mul]
  norm_num

theorem mhalf_eq : mhalf = ((-(1 / 2) : ℝ) : EReal) := by
  simp [mhalf, Ideal.ofBits, Ideal.ieee]
  rw [← EReal.coe_mul]
  norm_num

theorem eps_pos : ∃ e : ℝ, 0 < e ∧ eps = (e : EReal) := by
  simp [eps, Ideal.ofBits, Ideal.ieee]
  exact ⟨8796093 * (2 ^ 43)⁻¹, by positivity, (EReal.coe_mul _ _).symm⟩

/-- A row's mean square with the guard is a positive real number. -/
theorem meansq_real (h : Fin 1024 → ℝ) :
    ∃ a : ℝ, 0 < a ∧ Ideal.div (∑ k, (h k : EReal) * (h k : EReal)) len + eps = (a : EReal) := by
  obtain ⟨e, he, heps⟩ := eps_pos
  refine ⟨(∑ k, h k * h k) * (1 / 1024) + e, ?_, ?_⟩
  · have := Finset.sum_nonneg fun k (_ : k ∈ Finset.univ) => mul_self_nonneg (h k)
    positivity
  · rw [heps, len_eq, Ideal.div_coe (by norm_num)]
    simp only [← EReal.coe_mul]
    rw [← Cert.Finite.coe_sum]
    norm_cast

/-- On real numbers the derivative through the root of the mean square is the projection off the normalised row. -/
theorem dh_real (h s d : Fin 1024 → ℝ) (q : Fin 1024) (w : EReal)
    (hw : w = Ideal.div ((∑ k, (h k : EReal) * ((d k : EReal) * (1 + (s k : EReal))))
      * (mhalf * Ideal.div (rinv fun k => (h k : EReal)) (Ideal.div (∑ k, (h k : EReal) * (h k : EReal)) len + eps))) len) :
    (d q : EReal) * (1 + (s q : EReal)) * (rinv fun k => (h k : EReal)) + (h q : EReal) * w + w * (h q : EReal)
      = dhTerm (fun k => (h k : EReal)) (fun k => (s k : EReal)) (fun k => (d k : EReal)) q := by
  obtain ⟨a, ha, hms⟩ := meansq_real h
  have hr : (rinv fun k => (h k : EReal)) = (((√a)⁻¹ : ℝ) : EReal) := by
    unfold rinv
    rw [hms, Ideal.rsqrt_coe, if_neg ha.not_gt, if_neg ha.ne']
  have hsq : 1 / a = (√a)⁻¹ * (√a)⁻¹ := by
    rw [← mul_inv, Real.mul_self_sqrt ha.le, one_div]
  have h1 : (1 : EReal) = ((1 : ℝ) : EReal) := rfl
  unfold dhTerm one
  rw [Ideal.ofBits_one_f32, hw, hms, hr, mhalf_eq, len_eq, Ideal.div_coe ha.ne', Ideal.div_coe (by norm_num), Ideal.div_coe (by norm_num), h1]
  simp only [← EReal.coe_mul, ← EReal.coe_add]
  rw [← Cert.Finite.coe_sum, ← Cert.Finite.coe_sum]
  simp only [← EReal.coe_mul, ← EReal.coe_add, ← EReal.coe_sub]
  congr 1
  have ht : ∑ k, d k * (1 + s k) * (h k * (√a)⁻¹) = (∑ k, h k * (d k * (1 + s k))) * (√a)⁻¹ := by
    rw [Finset.sum_mul]
    exact Finset.sum_congr rfl fun k _ => by ring
  rw [ht, hsq]
  ring

end Cert.Kernel10Ideal.Norm

namespace Cert.Proof

open Cert.Kernel10Ideal.Norm

theorem frame_kernel10 : Cert.quiescent_Kernel10 := fun m ρ _ => Cert.Kernel10.Gen.frame m ρ
theorem frame_kernel10Ideal : Cert.quiescent_Kernel10Ideal := fun m ρ _ => Cert.Kernel10Ideal.Gen.frame m ρ
theorem frame_reference10Ideal : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)
theorem preserves10 : Cert.preserves_Kernel10_Kernel10Ideal := trivial

theorem algebraic10 [Cert.Pre_finite10.Facts] : Cert.algebraic_Kernel10Ideal_Reference10Ideal_pre_finite10 := by
  intro m g m' g' hpre hargs
  refine ⟨fun c => dh m c, fun c => dsh m c, fun c => dsc m c, ?_, ?_⟩
  · refine (θ_run Cert.Kernel10Ideal.defs _ _).mono (fun r h c => ?_) (Cert.Kernel10Ideal.Value.run_blocks m g)
    exact ⟨(h c).1.trans (final3 m c), (h c).2.1.trans (final4 m c), (h c).2.2.1.trans (final5 m c), (h c).2.2.2⟩
  · refine (θ_run Cert.Reference10Ideal.defs _ _).mono (fun r h c => ?_) (Cert.Reference10Ideal.Value.run m' g')
    refine ⟨(h c).1.trans ?_, (h c).2.1.trans ?_, (h c).2.2.1.trans ?_, (h c).2.2.2⟩
    · clear h
      obtain ⟨hh, hs, hd⟩ := Cert.Pre_finite10.real_of_pre _ _ _ (hpre c)
      unfold Cert.Reference10Ideal.Value.res_main_v41
      rw [(hargs c).1, (hargs c).2.1, (hargs c).2.2]
      funext i
      idx_vars i
      unfold dh dhOf
      pointwise
      obtain ⟨rh, erh⟩ : ∃ f : Fin 1024 → ℝ, ∀ k, m ((c : Thread Cert.Kernel10Ideal.nD Cert.Kernel10Ideal.τ).loc Cert.Kernel10Ideal.main_arg0) (ix3 i0 i1 k) = (f k : EReal) :=
        ⟨fun k => (hh (ix3 i0 i1 k)).choose, fun k => (hh (ix3 i0 i1 k)).choose_spec⟩
      obtain ⟨rs, ers⟩ : ∃ f : Fin 1024 → ℝ, ∀ k, m ((c : Thread Cert.Kernel10Ideal.nD Cert.Kernel10Ideal.τ).loc Cert.Kernel10Ideal.main_arg1) (ix3 i0 0 k) = (f k : EReal) :=
        ⟨fun k => (hs (ix3 i0 0 k)).choose, fun k => (hs (ix3 i0 0 k)).choose_spec⟩
      obtain ⟨rd, erd⟩ : ∃ f : Fin 1024 → ℝ, ∀ k, m ((c : Thread Cert.Kernel10Ideal.nD Cert.Kernel10Ideal.τ).loc Cert.Kernel10Ideal.main_arg2) (ix3 i0 i1 k) = (f k : EReal) :=
        ⟨fun k => (hd (ix3 i0 i1 k)).choose, fun k => (hd (ix3 i0 i1 k)).choose_spec⟩
      simp only [erh, ers, erd, Finset.univ_unique, Finset.sum_singleton]
      exact dh_real rh rs rd i2 _ rfl
    · clear h
      rw [(hargs c).2.2]
      funext i
      idx_vars i
      unfold dsh dshOf
      pointwise
    · clear h
      rw [(hargs c).1, (hargs c).2.2]
      funext i
      idx_vars i
      unfold dsc dscOf rinv
      pointwise
      exact Finset.sum_congr rfl fun k _ => mul_comm (G := EReal) _ _

end Cert.Proof
-- ==== Proof.GateFwd.lean ====
/-
  The gated residual sum, `h + 0.5·gate·y`, tile by tile of rows.
-/
module

public import proofs.«01_k».proof.Defs
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import Idealize.ShloMosaic.Lib.Pipeline.ValueKit
public import Idealize.ShloMosaic.Lib.IdealHost
public import Idealize.ShloMosaic.Lib.Quiescent
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel12Ideal.Gate

open Cert.Kernel12Ideal Cert.Kernel12Ideal.Gen

variable (m : (ℓ : Loc nD τ sig) → Buf (Elt Ideal) ℓ)

/-- One entry of the gated sum. -/
def entry (h y g : EReal) : EReal := h + Ideal.ofBits .f32 0x3F000000#32 * g * y

theorem ld_tile {φ : EltTy} (x : Vec Ideal S1x512x1024 φ) : View.ld x r0_0 = x :=
  View.ld_unit_lit _ x fun a => by match a with | ⟨0, _⟩ => rfl | ⟨1, _⟩ => rfl | ⟨2, _⟩ => rfl

theorem ld_row {φ : EltTy} (x : Vec Ideal S1x1x1024 φ) : View.ld x r0_1 = x :=
  View.ld_unit_lit _ x fun a => by match a with | ⟨0, _⟩ => rfl | ⟨1, _⟩ => rfl | ⟨2, _⟩ => rfl

theorem out_apply (h y : Vec Ideal S1x512x1024 .f32) (g : Vec Ideal S1x1x1024 .f32) (b : Fin 512) (q : Fin 1024) :
    out0_3 h y g (ix3 0 b q) = entry (h (ix3 0 b q)) (y (ix3 0 b q)) (g (ix3 0 0 q)) := by
  unfold out0_3
  rw [ld_tile, ld_tile, ld_row]
  frame_out
  unfold k0_pay1 entry
  pointwise

/-- The gated sum. -/
def sumOf (h y : Vec Ideal S9x1024x1024 .f32) (g : Vec Ideal S9x1x1024 .f32) : Vec Ideal S9x1024x1024 .f32 := fun i =>
  entry (h i) (y i) (g (ix3 (i 0) 0 (i 2)))

abbrev res (c : Dev nD) : Buf (Elt Ideal) ((c : Thread nD τ).loc main_v0) :=
  sumOf (m ((c : Thread nD τ).loc main_arg0)) (m ((c : Thread nD τ).loc main_arg1)) (m ((c : Thread nD τ).loc main_arg2))

theorem index_facts : ∀ t : Fin cfg0.N, win0_0.index t = ![t.val / 2, t.val % 2, 0] ∧ win0_1.index t = ![t.val / 2, t.val % 2, 0]
    ∧ win0_2.index t = ![t.val / 2, 0, 0] ∧ win0_3.index t = ![t.val / 2, t.val % 2, 0] :=
  (by decide +kernel : ∀ t : Fin grid0.N, _)

theorem final (c : Dev nD) : (dats m 0 c).arrAt 3 cfg0.N = res m c := by
  refine (dats m 0 c).arrAt_eq_of_covers 3 _ (by decide +kernel) fun t _ y => ?_
  obtain ⟨e0, e1, e2, e3⟩ := index_facts t
  idx_vars y
  obtain rfl : y0 = 0 := Subsingleton.elim _ _
  blk_simp
  rw [after0_3]
  refine (out_apply _ _ _ y1 y2).trans ?_
  show entry _ _ _ = entry _ _ _
  congr 1 <;> blk_ext [iblk, V, e0, e1, e2, e3]

end Cert.Kernel12Ideal.Gate

namespace Cert.Proof

open Cert.Kernel12Ideal.Gate

theorem frame_kernel12 : Cert.quiescent_Kernel12 := fun m ρ _ => Cert.Kernel12.Gen.frame m ρ
theorem frame_kernel12Ideal : Cert.quiescent_Kernel12Ideal := fun m ρ _ => Cert.Kernel12Ideal.Gen.frame m ρ
theorem frame_reference12Ideal : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)
theorem preserves12 : Cert.preserves_Kernel12_Kernel12Ideal := trivial

theorem algebraic12 : Cert.algebraic_Kernel12Ideal_Reference12Ideal := by
  intro m g m' g' _ hargs
  refine ⟨fun c => res m c, ?_, ?_⟩
  · refine (θ_run Cert.Kernel12Ideal.defs _ _).mono (fun r h c => ?_) (Cert.Kernel12Ideal.Value.run_blocks m g)
    exact ⟨(h c).1.trans (final m c), (h c).2⟩
  · refine (θ_run Cert.Reference12Ideal.defs _ _).mono (fun r h c => ?_) (Cert.Reference12Ideal.Value.run m' g')
    refine ⟨(h c).1.trans ?_, (h c).2⟩
    rw [(hargs c).1, (hargs c).2.1, (hargs c).2.2]
    funext i
    idx_vars i
    unfold res sumOf entry
    pointwise

end Cert.Proof
-- ==== Proof.SwigluFwd.lean ====
/-
  The gated unit, `silu(gate)·up` of the two halves of the hidden columns, tile by tile of rows.
-/
module

public import proofs.«01_k».proof.Defs
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import Idealize.ShloMosaic.Lib.Pipeline.ValueKit
public import Idealize.ShloMosaic.Lib.IdealHost
public import Idealize.ShloMosaic.Lib.Quiescent
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel13Ideal.Swiglu

open Cert.Kernel13Ideal Cert.Kernel13Ideal.Gen

variable (m : (ℓ : Loc nD τ sig) → Buf (Elt Ideal) ℓ)

/-- One entry of the unit. -/
def entry (g u : EReal) : EReal := g * Ideal.logistic g * u

/-- The columns of the two halves. -/
def loCol (c : Fin 2816) : Fin 5632 := ⟨c.val, by omega⟩
def hiCol (c : Fin 2816) : Fin 5632 := ⟨2816 + c.val, by omega⟩

theorem ld_lo (x : Vec Ideal S1x128x5632 .bf16) (a : Fin 1) (b : Fin 128) (c : Fin 2816) :
    View.ld x r0_0 (ix3 a b c) = x (ix3 a b (loCol c)) := by
  refine congrArg x (funext fun k => Fin.ext ?_)
  match k with
  | ⟨0, _⟩ => show 0 + 1 * a.val = a.val; omega
  | ⟨1, _⟩ => show 0 + 1 * b.val = b.val; omega
  | ⟨2, _⟩ => show 0 + 1 * (c.val) = c.val; omega

theorem ld_hi (x : Vec Ideal S1x128x5632 .bf16) (a : Fin 1) (b : Fin 128) (c : Fin 2816) :
    View.ld x r0_1 (ix3 a b c) = x (ix3 a b (hiCol c)) := by
  refine congrArg x (funext fun k => Fin.ext ?_)
  match k with
  | ⟨0, _⟩ => show 0 + 1 * a.val = a.val; omega
  | ⟨1, _⟩ => show 0 + 1 * b.val = b.val; omega
  | ⟨2, _⟩ => show 2816 + 1 * (c.val) = 2816 + c.val; omega

theorem pay_apply (x u : Vec Ideal S1x128x2816 .bf16) (j : S1x128x2816.Idx) : k0_pay1 x u j = entry (x j) (u j) := by
  idx_vars j
  obtain rfl : j0 = 0 := Subsingleton.elim _ _
  unfold k0_pay1 entry
  pointwise

theorem out_apply (x : Vec Ideal S1x128x5632 .bf16) (a : Fin 1) (b : Fin 128) (c : Fin 2816) :
    out0_1 x (ix3 a b c) = entry (x (ix3 a b (loCol c))) (x (ix3 a b (hiCol c))) := by
  unfold out0_1
  frame_out
  rw [pay_apply, ld_lo, ld_hi]

/-- The unit. -/
def unitOf (hid : Vec Ideal S9x1024x5632 .bf16) : Vec Ideal S9x1024x2816 .bf16 := fun i =>
  entry (hid (ix3 (i 0) (i 1) (loCol (i 2)))) (hid (ix3 (i 0) (i 1) (hiCol (i 2))))

abbrev res (c : Dev nD) : Buf (Elt Ideal) ((c : Thread nD τ).loc main_v0) := unitOf (m ((c : Thread nD τ).loc main_arg0))

theorem index_facts : ∀ t : Fin cfg0.N, win0_0.index t = ![t.val / 8, t.val % 8, 0] ∧ win0_1.index t = ![t.val / 8, t.val % 8, 0] :=
  (by decide +kernel : ∀ t : Fin grid0.N, _)

theorem final (c : Dev nD) : (dats m 0 c).arrAt 1 cfg0.N = res m c := by
  refine (dats m 0 c).arrAt_eq_of_covers 1 _ (by decide +kernel) fun t _ y => ?_
  obtain ⟨e0, e1⟩ := index_facts t
  idx_vars y
  blk_simp
  rw [after0_1]
  refine (out_apply _ y0 y1 y2).trans ?_
  show entry _ _ = entry _ _
  congr 1 <;> blk_ext [iblk, V, e0, e1, loCol, hiCol]

end Cert.Kernel13Ideal.Swiglu

namespace Cert.Proof

open Cert.Kernel13Ideal.Swiglu

theorem frame_kernel13 : Cert.quiescent_Kernel13 := fun m ρ _ => Cert.Kernel13.Gen.frame m ρ
theorem frame_kernel13Ideal : Cert.quiescent_Kernel13Ideal := fun m ρ _ => Cert.Kernel13Ideal.Gen.frame m ρ
theorem frame_reference13Ideal : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)
theorem preserves13 : Cert.preserves_Kernel13_Kernel13Ideal := trivial

theorem algebraic13 : Cert.algebraic_Kernel13Ideal_Reference13Ideal := by
  intro m g m' g' _ hargs
  refine ⟨fun c => res m c, ?_, ?_⟩
  · refine (θ_run Cert.Kernel13Ideal.defs _ _).mono (fun r h c => ?_) (Cert.Kernel13Ideal.Value.run_blocks m g)
    exact ⟨(h c).1.trans (final m c), (h c).2⟩
  · refine (θ_run Cert.Reference13Ideal.defs _ _).mono (fun r h c => ?_) (Cert.Reference13Ideal.Value.run m' g')
    refine ⟨(h c).1.trans ?_, (h c).2⟩
    rw [hargs c]
    funext i
    idx_vars i
    unfold res unitOf entry
    pointwise
    rfl

end Cert.Proof
-- ==== Proof.ProjFwd.lean ====
/-
  The mixers' input projection, `u · w`: every block of the result is one whole contraction, and the blocks tile it.
-/
module

public import proofs.«01_k».proof.Defs
public import proofs.«01_k».proof.Proof.Contract
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import Idealize.ShloMosaic.Lib.Pipeline.ValueKit
public import Idealize.ShloMosaic.Lib.Quiescent
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel14Ideal.Mm

open Cert.Kernel14Ideal Cert.Kernel14Ideal.Gen

variable (m : (ℓ : Loc nD τ sig) → Buf (Elt Ideal) ℓ)

/-- The product of the two arguments. -/
abbrev prod (c : Dev nD) : Buf (Elt Ideal) ((c : Thread nD τ).loc main_v0) :=
  Contract.prodNN (m ((c : Thread nD τ).loc main_arg0)) (m ((c : Thread nD τ).loc main_arg1))

theorem index_facts : ∀ t : Fin cfg0.N, win0_0.index t = ![t.val / 3, 0] ∧ win0_1.index t = ![0, t.val % 3]
    ∧ win0_2.index t = ![t.val / 3, t.val % 3] :=
  (by decide +kernel : ∀ t : Fin grid0.N, _)

theorem final (c : Dev nD) : (dats m 0 c).arrAt 2 cfg0.N = prod m c := by
  refine (dats m 0 c).arrAt_eq_of_covers 2 _ (by decide +kernel) fun t hf y => ?_
  obtain ⟨e0, e1, e2⟩ := index_facts t
  blk_simp
  rw [after0_2]
  frame_out
  unfold k0_pay1
  pointwise
  show @Eq EReal _ _
  refine Finset.sum_congr rfl fun k _ => ?_
  congr 1 <;> blk_ext [iblk, V, e0, e1, e2]

end Cert.Kernel14Ideal.Mm

namespace Cert.Proof

theorem frame_kernel14 : Cert.quiescent_Kernel14 := fun m ρ _ => Cert.Kernel14.Gen.frame m ρ
theorem frame_kernel14Ideal : Cert.quiescent_Kernel14Ideal := fun m ρ _ => Cert.Kernel14Ideal.Gen.frame m ρ
theorem frame_reference14Ideal : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)
theorem preserves14 : Cert.preserves_Kernel14_Kernel14Ideal := trivial

theorem algebraic14 : Cert.algebraic_Kernel14Ideal_Reference14Ideal := by
  intro m g m' g' _ hargs
  refine ⟨fun c => Cert.Kernel14Ideal.Mm.prod m c, ?_, ?_⟩
  · refine (θ_run Cert.Kernel14Ideal.defs _ _).mono (fun r h c => ?_) (Cert.Kernel14Ideal.Value.run_blocks m g)
    exact ⟨(h c).1.trans (Cert.Kernel14Ideal.Mm.final m c), (h c).2⟩
  · refine (θ_run Cert.Reference14Ideal.defs _ _).mono (fun r h c => ?_) (Cert.Reference14Ideal.Value.run m' g')
    refine ⟨(h c).1.trans ?_, (h c).2⟩
    rw [(hargs c).1, (hargs c).2]
    funext i
    pointwise

end Cert.Proof
-- ==== Proof.ProjDx.lean ====
/-
  The input gradient of the mixers' input projection, `dy · wᵀ`: three partial contractions over the columns, kept in a
  carried accumulator, make up each block of rows.
-/
module

public import proofs.«01_k».proof.Defs
public import proofs.«01_k».proof.Proof.Contract
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import Idealize.ShloMosaic.Lib.Pipeline.ValueKit
public import Idealize.ShloMosaic.Lib.Quiescent
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel15Ideal.Mm

open Cert.Kernel15Ideal Cert.Kernel15Ideal.Gen

variable (m : (ℓ : Loc nD τ sig) → Buf (Elt Ideal) ℓ)

theorem pay_apply (acc x : Vec Ideal S1024x1024 .f32) (w : Vec Ideal S1024x1024 .bf16) (j : S1024x1024.Idx) :
    k0_pay2 acc x w j = acc j + Contract.prodNT x w j := by
  unfold k0_pay2
  pointwise

theorem first (c : Dev nD) (t : Fin cfg0.N) (h0 : t.val % 3 = 0) (j : S1024x1024.Idx) :
    (outsAt0 m c t.val t.isLt).2 j = k0_pay1 (F := Ideal) j + Contract.prodNT (iblk m c 0 t) (iblk m c 1 t) j := by
  rw [outsAt0_A m c t h0 (by omega)]
  frame_out
  exact pay_apply _ _ _ j

theorem next (c : Dev nD) (t : Fin cfg0.N) (h0 : ¬t.val % 3 = 0) (j : S1024x1024.Idx) :
    (outsAt0 m c t.val t.isLt).2 j = (outsAt0 m c (t.val - 1) (Nat.lt_of_le_of_lt (Nat.sub_le _ _) t.isLt)).2 j
      + Contract.prodNT (iblk m c 0 t) (iblk m c 1 t) j := by
  by_cases h1 : t.val % 3 = 2
  on_goal 1 => rw [outsAt0_C m c t h0 h1]
  on_goal 2 => rw [outsAt0_B m c t h0 h1]
  all_goals
    frame_out
    rw [Memref.IsWhole.read_unread (Memref.isWhole_whole cc0_scratch0)]
    exact pay_apply _ _ _ j

theorem last (c : Dev nD) (t : Fin cfg0.N) (h : t.val % 3 = 2) :
    (outsAt0 m c t.val t.isLt).1 = (outsAt0 m c t.val t.isLt).2 := by
  rw [outsAt0_C m c t (by omega) h]
  frame_out

/-- The product of the second argument with the transposed first. -/
abbrev prod (c : Dev nD) : Buf (Elt Ideal) ((c : Thread nD τ).loc main_v0) :=
  Contract.prodNT (m ((c : Thread nD τ).loc main_arg1)) (m ((c : Thread nD τ).loc main_arg0))

theorem index_facts : ∀ t : Fin cfg0.N, win0_0.index t = ![t.val / 3, t.val % 3] ∧ win0_1.index t = ![0, t.val % 3]
    ∧ win0_2.index t = ![t.val / 3, 0] :=
  (by decide +kernel : ∀ t : Fin grid0.N, _)

theorem final (c : Dev nD) : (dats m 0 c).arrAt 2 cfg0.N = prod m c := by
  refine (dats m 0 c).arrAt_eq_of_covers 2 _ (by decide +kernel) fun t hf y => ?_
  have h2 : t.val % 3 = 2 := (flush0_2 t).mp hf
  have e2 := (index_facts t).2.2
  blk_simp
  rw [after0_2, last m c t h2]
  refine Contract.contracted (fun n h => (outsAt0 m c n h).2) (k0_pay1 (F := Ideal)) (fun t => Contract.termNT (iblk m c 0 t) (iblk m c 1 t))
    (first m c) (next m c) (fun j => ?_) (L := 3072) rfl t h2 y _ fun p k hl hp => ?_
  · unfold k0_pay1
    pointwise
  obtain ⟨d0, d1, -⟩ := index_facts p
  unfold Contract.termNT
  show @Eq EReal _ (_ * _)
  congr 1 <;> blk_ext [iblk, V, d0, d1, e2, hp]

end Cert.Kernel15Ideal.Mm

namespace Cert.Proof

theorem frame_kernel15 : Cert.quiescent_Kernel15 := fun m ρ _ => Cert.Kernel15.Gen.frame m ρ
theorem frame_kernel15Ideal : Cert.quiescent_Kernel15Ideal := fun m ρ _ => Cert.Kernel15Ideal.Gen.frame m ρ
theorem frame_reference15Ideal : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)
theorem preserves15 : Cert.preserves_Kernel15_Kernel15Ideal := trivial

theorem algebraic15 : Cert.algebraic_Kernel15Ideal_Reference15Ideal := by
  intro m g m' g' _ hargs
  refine ⟨fun c => Cert.Kernel15Ideal.Mm.prod m c, ?_, ?_⟩
  · refine (θ_run Cert.Kernel15Ideal.defs _ _).mono (fun r h c => ?_) (Cert.Kernel15Ideal.Value.run_blocks m g)
    exact ⟨(h c).1.trans (Cert.Kernel15Ideal.Mm.final m c), (h c).2⟩
  · refine (θ_run Cert.Reference15Ideal.defs _ _).mono (fun r h c => ?_) (Cert.Reference15Ideal.Value.run m' g')
    refine ⟨(h c).1.trans ?_, (h c).2⟩
    rw [(hargs c).1, (hargs c).2]
    funext i
    pointwise

end Cert.Proof
-- ==== Proof.ProjDw.lean ====
/-
  The weight gradient of the mixers' input projection, `uᵀ · dy`: nine partial contractions over the rows, kept in a carried
  accumulator, make up each block of columns.
-/
module

public import proofs.«01_k».proof.Defs
public import proofs.«01_k».proof.Proof.Contract
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import Idealize.ShloMosaic.Lib.Pipeline.ValueKit
public import Idealize.ShloMosaic.Lib.Quiescent
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel16Ideal.Mm

open Cert.Kernel16Ideal Cert.Kernel16Ideal.Gen

variable (m : (ℓ : Loc nD τ sig) → Buf (Elt Ideal) ℓ)

theorem pay_apply (acc : Vec Ideal S1024x1024 .f32) (u : Vec Ideal S1024x1024 .bf16) (dy : Vec Ideal S1024x1024 .f32)
    (j : S1024x1024.Idx) : k0_pay2 acc u dy j = acc j + Contract.prodTN u dy j := by
  unfold k0_pay2
  pointwise

theorem first (c : Dev nD) (t : Fin cfg0.N) (h0 : t.val % 9 = 0) (j : S1024x1024.Idx) :
    (outsAt0 m c t.val t.isLt).2 j = k0_pay1 (F := Ideal) j + Contract.prodTN (iblk m c 0 t) (iblk m c 1 t) j := by
  rw [outsAt0_A m c t h0 (by omega)]
  frame_out
  exact pay_apply _ _ _ j

theorem next (c : Dev nD) (t : Fin cfg0.N) (h0 : ¬t.val % 9 = 0) (j : S1024x1024.Idx) :
    (outsAt0 m c t.val t.isLt).2 j = (outsAt0 m c (t.val - 1) (Nat.lt_of_le_of_lt (Nat.sub_le _ _) t.isLt)).2 j
      + Contract.prodTN (iblk m c 0 t) (iblk m c 1 t) j := by
  by_cases h1 : t.val % 9 = 8
  on_goal 1 => rw [outsAt0_C m c t h0 h1]
  on_goal 2 => rw [outsAt0_B m c t h0 h1]
  all_goals
    frame_out
    rw [Memref.IsWhole.read_unread (Memref.isWhole_whole cc0_scratch0)]
    exact pay_apply _ _ _ j

theorem last (c : Dev nD) (t : Fin cfg0.N) (h : t.val % 9 = 8) (j : S1024x1024.Idx) :
    (outsAt0 m c t.val t.isLt).1 j = (outsAt0 m c t.val t.isLt).2 j := by
  rw [outsAt0_C m c t (by omega) h]
  frame_out
  unfold k0_pay3
  pointwise

/-- The product of the transposed first argument with the second. -/
abbrev prod (c : Dev nD) : Buf (Elt Ideal) ((c : Thread nD τ).loc main_v0) :=
  Contract.prodTN (m ((c : Thread nD τ).loc main_arg0)) (m ((c : Thread nD τ).loc main_arg1))

theorem index_facts : ∀ t : Fin cfg0.N, win0_0.index t = ![t.val % 9, 0] ∧ win0_1.index t = ![t.val % 9, t.val / 9]
    ∧ win0_2.index t = ![0, t.val / 9] :=
  (by decide +kernel : ∀ t : Fin grid0.N, _)

theorem final (c : Dev nD) : (dats m 0 c).arrAt 2 cfg0.N = prod m c := by
  refine (dats m 0 c).arrAt_eq_of_covers 2 _ (by decide +kernel) fun t hf y => ?_
  have h8 : t.val % 9 = 8 := (flush0_2 t).mp hf
  have e2 := (index_facts t).2.2
  blk_simp
  rw [after0_2]
  refine (last m c t h8 y).trans (Contract.contracted (fun n h => (outsAt0 m c n h).2) (k0_pay1 (F := Ideal))
    (fun t => Contract.termTN (iblk m c 0 t) (iblk m c 1 t)) (first m c) (next m c) (fun j => ?_) (L := 9216) rfl t h8 y _
    fun p k hl hp => ?_)
  · unfold k0_pay1
    pointwise
  obtain ⟨d0, d1, -⟩ := index_facts p
  unfold Contract.termTN
  show @Eq EReal _ (_ * _)
  congr 1 <;> blk_ext [iblk, V, d0, d1, e2, hp]

end Cert.Kernel16Ideal.Mm

namespace Cert.Proof

theorem frame_kernel16 : Cert.quiescent_Kernel16 := fun m ρ _ => Cert.Kernel16.Gen.frame m ρ
theorem frame_kernel16Ideal : Cert.quiescent_Kernel16Ideal := fun m ρ _ => Cert.Kernel16Ideal.Gen.frame m ρ
theorem frame_reference16Ideal : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)
theorem preserves16 : Cert.preserves_Kernel16_Kernel16Ideal := trivial

theorem algebraic16 : Cert.algebraic_Kernel16Ideal_Reference16Ideal := by
  intro m g m' g' _ hargs
  refine ⟨fun c => Cert.Kernel16Ideal.Mm.prod m c, ?_, ?_⟩
  · refine (θ_run Cert.Kernel16Ideal.defs _ _).mono (fun r h c => ?_) (Cert.Kernel16Ideal.Value.run_blocks m g)
    exact ⟨(h c).1.trans (Cert.Kernel16Ideal.Mm.final m c), (h c).2⟩
  · refine (θ_run Cert.Reference16Ideal.defs _ _).mono (fun r h c => ?_) (Cert.Reference16Ideal.Value.run m' g')
    refine ⟨(h c).1.trans ?_, (h c).2⟩
    rw [(hargs c).1, (hargs c).2]
    funext i
    pointwise
    exact Finset.sum_congr rfl fun k _ => mul_comm (G := EReal) _ _

end Cert.Proof
-- ==== Proof.OutProj.lean ====
/-
  The mixers' output projection and its two gradients. The product and the input gradient are one contraction to a block of
  rows; the weight gradient is a sum of nine contractions, kept in a carried accumulator.
-/
module

public import proofs.«01_k».proof.Defs
public import proofs.«01_k».proof.Proof.Contract
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel17Ideal.Mm

open Cert.Kernel17Ideal Cert.Kernel17Ideal.Gen

variable (m : (ℓ : Loc nD τ sig) → Buf (Elt Ideal) ℓ)

/-- The product of the two arguments. -/
abbrev prod (c : Dev nD) : Buf (Elt Ideal) ((c : Thread nD τ).loc main_v0) :=
  Contract.prodNN (m ((c : Thread nD τ).loc main_arg0)) (m ((c : Thread nD τ).loc main_arg1))

theorem index_facts : ∀ t : Fin cfg0.N, win0_0.index t = ![t.val, 0] ∧ win0_1.index t = ![0, 0] ∧ win0_2.index t = ![t.val, 0] :=
  (by decide +kernel : ∀ t : Fin grid0.N, _)

theorem final (c : Dev nD) : (dats m 0 c).arrAt 2 cfg0.N = prod m c := by
  refine (dats m 0 c).arrAt_eq_of_covers 2 _ (by decide +kernel) fun t hf y => ?_
  obtain ⟨e0, e1, e2⟩ := index_facts t
  blk_simp
  rw [after0_2]
  frame_out
  unfold k0_pay1
  pointwise
  show @Eq EReal _ _
  refine Finset.sum_congr rfl fun k _ => ?_
  congr 1 <;> blk_ext [iblk, V, e0, e1, e2]

end Cert.Kernel17Ideal.Mm

namespace Cert.Kernel18Ideal.Mm

open Cert.Kernel18Ideal Cert.Kernel18Ideal.Gen

variable (m : (ℓ : Loc nD τ sig) → Buf (Elt Ideal) ℓ)

/-- The product of the second argument with the transposed first. -/
abbrev prod (c : Dev nD) : Buf (Elt Ideal) ((c : Thread nD τ).loc main_v0) :=
  Contract.prodNT (m ((c : Thread nD τ).loc main_arg1)) (m ((c : Thread nD τ).loc main_arg0))

theorem index_facts : ∀ t : Fin cfg0.N, win0_0.index t = ![t.val, 0] ∧ win0_1.index t = ![0, 0] ∧ win0_2.index t = ![t.val, 0] :=
  (by decide +kernel : ∀ t : Fin grid0.N, _)

theorem final (c : Dev nD) : (dats m 0 c).arrAt 2 cfg0.N = prod m c := by
  refine (dats m 0 c).arrAt_eq_of_covers 2 _ (by decide +kernel) fun t hf y => ?_
  obtain ⟨e0, e1, e2⟩ := index_facts t
  blk_simp
  rw [after0_2]
  frame_out
  unfold k0_pay1
  pointwise
  show @Eq EReal _ _
  refine Finset.sum_congr rfl fun k _ => ?_
  congr 1 <;> blk_ext [iblk, V, e0, e1, e2]

end Cert.Kernel18Ideal.Mm

namespace Cert.Kernel19Ideal.Mm

open Cert.Kernel19Ideal Cert.Kernel19Ideal.Gen

variable (m : (ℓ : Loc nD τ sig) → Buf (Elt Ideal) ℓ)

theorem pay_apply (acc x dy : Vec Ideal S1024x1024 .f32) (j : S1024x1024.Idx) :
    k0_pay2 acc x dy j = acc j + Contract.prodTN x dy j := by
  unfold k0_pay2
  pointwise

theorem first (c : Dev nD) (t : Fin cfg0.N) (h0 : t.val % 9 = 0) (j : S1024x1024.Idx) :
    (outsAt0 m c t.val t.isLt).2 j = k0_pay1 (F := Ideal) j + Contract.prodTN (iblk m c 0 t) (iblk m c 1 t) j := by
  rw [outsAt0_A m c t h0 (by omega)]
  frame_out
  exact pay_apply _ _ _ j

theorem next (c : Dev nD) (t : Fin cfg0.N) (h0 : ¬t.val % 9 = 0) (j : S1024x1024.Idx) :
    (outsAt0 m c t.val t.isLt).2 j = (outsAt0 m c (t.val - 1) (Nat.lt_of_le_of_lt (Nat.sub_le _ _) t.isLt)).2 j
      + Contract.prodTN (iblk m c 0 t) (iblk m c 1 t) j := by
  by_cases h1 : t.val % 9 = 8
  on_goal 1 => rw [outsAt0_C m c t h0 h1]
  on_goal 2 => rw [outsAt0_B m c t h0 h1]
  all_goals
    frame_out
    rw [Memref.IsWhole.read_unread (Memref.isWhole_whole cc0_scratch0)]
    exact pay_apply _ _ _ j

theorem last (c : Dev nD) (t : Fin cfg0.N) (h : t.val % 9 = 8) (j : S1024x1024.Idx) :
    (outsAt0 m c t.val t.isLt).1 j = (outsAt0 m c t.val t.isLt).2 j := by
  rw [outsAt0_C m c t (by omega) h]
  frame_out
  unfold k0_pay3
  pointwise

/-- The product of the transposed first argument with the second. -/
abbrev prod (c : Dev nD) : Buf (Elt Ideal) ((c : Thread nD τ).loc main_v0) :=
  Contract.prodTN (m ((c : Thread nD τ).loc main_arg0)) (m ((c : Thread nD τ).loc main_arg1))

theorem index_facts : ∀ t : Fin cfg0.N, win0_0.index t = ![t.val, 0] ∧ win0_1.index t = ![t.val, 0] ∧ win0_2.index t = ![0, 0] :=
  (by decide +kernel : ∀ t : Fin grid0.N, _)

theorem final (c : Dev nD) : (dats m 0 c).arrAt 2 cfg0.N = prod m c := by
  refine (dats m 0 c).arrAt_eq_of_covers 2 _ (by decide +kernel) fun t hf y => ?_
  have h8 : t.val % 9 = 8 := (flush0_2 t).mp hf
  have e2 := (index_facts t).2.2
  blk_simp
  rw [after0_2]
  refine (last m c t h8 y).trans (Contract.contracted (fun n h => (outsAt0 m c n h).2) (k0_pay1 (F := Ideal))
    (fun t => Contract.termTN (iblk m c 0 t) (iblk m c 1 t)) (first m c) (next m c) (fun j => ?_) (L := 9216) rfl t h8 y _
    fun p k hl hp => ?_)
  · unfold k0_pay1
    pointwise
  obtain ⟨d0, d1, -⟩ := index_facts p
  have hp9 : p.val < 9 := p.isLt
  unfold Contract.termTN
  show @Eq EReal _ (_ * _)
  congr 1 <;> blk_ext [iblk, V, d0, d1, e2]

end Cert.Kernel19Ideal.Mm

namespace Cert.Proof

theorem frame_kernel17 : Cert.quiescent_Kernel17 := fun m ρ _ => Cert.Kernel17.Gen.frame m ρ
theorem frame_kernel17Ideal : Cert.quiescent_Kernel17Ideal := fun m ρ _ => Cert.Kernel17Ideal.Gen.frame m ρ
theorem frame_reference17Ideal : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)
theorem preserves17 : Cert.preserves_Kernel17_Kernel17Ideal := trivial

theorem algebraic17 : Cert.algebraic_Kernel17Ideal_Reference17Ideal := by
  intro m g m' g' _ hargs
  refine ⟨fun c => Cert.Kernel17Ideal.Mm.prod m c, ?_, ?_⟩
  · refine (θ_run Cert.Kernel17Ideal.defs _ _).mono (fun r h c => ?_) (Cert.Kernel17Ideal.Value.run_blocks m g)
    exact ⟨(h c).1.trans (Cert.Kernel17Ideal.Mm.final m c), (h c).2⟩
  · refine (θ_run Cert.Reference17Ideal.defs _ _).mono (fun r h c => ?_) (Cert.Reference17Ideal.Value.run m' g')
    refine ⟨(h c).1.trans ?_, (h c).2⟩
    rw [(hargs c).1, (hargs c).2]
    funext i
    pointwise

theorem frame_kernel18 : Cert.quiescent_Kernel18 := fun m ρ _ => Cert.Kernel18.Gen.frame m ρ
theorem frame_kernel18Ideal : Cert.quiescent_Kernel18Ideal := fun m ρ _ => Cert.Kernel18Ideal.Gen.frame m ρ
theorem frame_reference18Ideal : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)
theorem preserves18 : Cert.preserves_Kernel18_Kernel18Ideal := trivial

theorem algebraic18 : Cert.algebraic_Kernel18Ideal_Reference18Ideal := by
  intro m g m' g' _ hargs
  refine ⟨fun c => Cert.Kernel18Ideal.Mm.prod m c, ?_, ?_⟩
  · refine (θ_run Cert.Kernel18Ideal.defs _ _).mono (fun r h c => ?_) (Cert.Kernel18Ideal.Value.run_blocks m g)
    exact ⟨(h c).1.trans (Cert.Kernel18Ideal.Mm.final m c), (h c).2⟩
  · refine (θ_run Cert.Reference18Ideal.defs _ _).mono (fun r h c => ?_) (Cert.Reference18Ideal.Value.run m' g')
    refine ⟨(h c).1.trans ?_, (h c).2⟩
    rw [(hargs c).1, (hargs c).2]
    funext i
    pointwise

theorem frame_kernel19 : Cert.quiescent_Kernel19 := fun m ρ _ => Cert.Kernel19.Gen.frame m ρ
theorem frame_kernel19Ideal : Cert.quiescent_Kernel19Ideal := fun m ρ _ => Cert.Kernel19Ideal.Gen.frame m ρ
theorem frame_reference19Ideal : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)
theorem preserves19 : Cert.preserves_Kernel19_Kernel19Ideal := trivial

theorem algebraic19 : Cert.algebraic_Kernel19Ideal_Reference19Ideal := by
  intro m g m' g' _ hargs
  refine ⟨fun c => Cert.Kernel19Ideal.Mm.prod m c, ?_, ?_⟩
  · refine (θ_run Cert.Kernel19Ideal.defs _ _).mono (fun r h c => ?_) (Cert.Kernel19Ideal.Value.run_blocks m g)
    exact ⟨(h c).1.trans (Cert.Kernel19Ideal.Mm.final m c), (h c).2⟩
  · refine (θ_run Cert.Reference19Ideal.defs _ _).mono (fun r h c => ?_) (Cert.Reference19Ideal.Value.run m' g')
    refine ⟨(h c).1.trans ?_, (h c).2⟩
    rw [(hargs c).1, (hargs c).2]
    funext i
    pointwise
    exact Finset.sum_congr rfl fun k _ => mul_comm (G := EReal) _ _

end Cert.Proof
-- ==== Proof.LastUp.lean ====
/-
  The first feed-forward product and its two gradients on the last layer's 8192 rows.
-/
module

public import proofs.«01_k».proof.Defs
public import proofs.«01_k».proof.Proof.Contract
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Value
public import proofs.«01_k».proof.Proof.Gen.Reference25Ideal
public import proofs.«01_k».proof.Proof.Gen.Reference25Ideal.Run
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel20Ideal.Mm

open Cert.Kernel20Ideal Cert.Kernel20Ideal.Gen

variable (m : (ℓ : Loc nD τ sig) → Buf (Elt Ideal) ℓ)

/-- The product of the two arguments. -/
abbrev prod (c : Dev nD) : Buf (Elt Ideal) ((c : Thread nD τ).loc main_v0) :=
  Contract.prodNN (m ((c : Thread nD τ).loc main_arg0)) (m ((c : Thread nD τ).loc main_arg1))

theorem index_facts : ∀ t : Fin cfg0.N, win0_0.index t = ![t.val / 4, 0] ∧ win0_1.index t = ![0, t.val % 4]
    ∧ win0_2.index t = ![t.val / 4, t.val % 4] :=
  (by decide +kernel : ∀ t : Fin grid0.N, _)

theorem final (c : Dev nD) : (dats m 0 c).arrAt 2 cfg0.N = prod m c := by
  refine (dats m 0 c).arrAt_eq_of_covers 2 _ (by decide +kernel) fun t hf y => ?_
  obtain ⟨e0, e1, e2⟩ := index_facts t
  blk_simp
  rw [after0_2]
  frame_out
  unfold k0_pay1
  pointwise
  show @Eq EReal _ _
  refine Finset.sum_congr rfl fun k _ => ?_
  congr 1 <;> blk_ext [iblk, V, e0, e1, e2]

end Cert.Kernel20Ideal.Mm

namespace Cert.Kernel24Ideal.Mm

open Cert.Kernel24Ideal Cert.Kernel24Ideal.Gen

variable (m : (ℓ : Loc nD τ sig) → Buf (Elt Ideal) ℓ)

theorem pay_apply (acc : Vec Ideal S1024x1024 .f32) (dy w : Vec Ideal S1024x1408 .bf16) (j : S1024x1024.Idx) :
    k0_pay2 acc dy w j = acc j + Contract.prodNT dy w j := by
  unfold k0_pay2
  pointwise

/-- The product of the second argument with the transposed first. -/
abbrev prod (c : Dev nD) : Buf (Elt Ideal) ((c : Thread nD τ).loc main_v0) :=
  Contract.prodNT (m ((c : Thread nD τ).loc main_arg1)) (m ((c : Thread nD τ).loc main_arg0))

theorem index_facts : ∀ t : Fin cfg0.N, win0_0.index t = ![t.val / 4, t.val % 4] ∧ win0_1.index t = ![0, t.val % 4]
    ∧ win0_2.index t = ![t.val / 4, 0] :=
  (by decide +kernel : ∀ t : Fin grid0.N, _)

theorem last (c : Dev nD) (t : Fin cfg0.N) (h : t.val % 4 = 3) (j : S1024x1024.Idx) :
    (outsAt0 m c t.val t.isLt).1 j = (outsAt0 m c t.val t.isLt).2 j := by
  rw [outsAt0_C m c t (by omega) h]
  frame_out

theorem final (c : Dev nD) : (dats m 0 c).arrAt 2 cfg0.N = prod m c := by
  refine (dats m 0 c).arrAt_eq_of_covers 2 _ (by decide +kernel) fun t hf y => ?_
  have h3 : t.val % 4 = 3 := (flush0_2 t).mp hf
  have e2 := (index_facts t).2.2
  blk_simp
  rw [after0_2]
  refine (last m c t h3 y).trans (Contract.contracted (fun n h => (outsAt0 m c n h).2) (k0_pay1 (F := Ideal))
    (fun t => Contract.termNT (iblk m c 0 t) (iblk m c 1 t)) (fun t h j => ?_) (fun t h j => ?_) (fun j => ?_)
    (L := 5632) rfl t h3 y _ fun p k hl hp => ?_)
  · rw [outsAt0_A m c t h (by omega)]
    frame_out
    exact pay_apply _ _ _ j
  · by_cases h' : t.val % 4 = 3
    on_goal 1 => rw [outsAt0_C m c t h h']
    on_goal 2 => rw [outsAt0_B m c t h h']
    all_goals
      frame_out
      rw [Memref.IsWhole.read_unread (Memref.isWhole_whole cc0_scratch0)]
      exact pay_apply _ _ _ j
  · unfold k0_pay1
    pointwise
  obtain ⟨d0, d1, -⟩ := index_facts p
  unfold Contract.termNT
  show @Eq EReal _ (_ * _)
  congr 1 <;> blk_ext [iblk, V, d0, d1, e2, hp]

end Cert.Kernel24Ideal.Mm

namespace Cert.Kernel25Ideal.Mm

open Cert.Kernel25Ideal Cert.Kernel25Ideal.Gen

variable (m : (ℓ : Loc nD τ sig) → Buf (Elt Ideal) ℓ)

theorem pay_apply (acc : Vec Ideal S1024x1408 .f32) (u : Vec Ideal S1024x1024 .bf16) (dy : Vec Ideal S1024x1408 .bf16)
    (j : S1024x1408.Idx) : k0_pay2 acc u dy j = acc j + Contract.prodTN u dy j := by
  unfold k0_pay2
  pointwise

/-- The product of the transposed first argument with the second. -/
abbrev prod (c : Dev nD) : Buf (Elt Ideal) ((c : Thread nD τ).loc main_v0) :=
  Contract.prodTN (m ((c : Thread nD τ).loc main_arg0)) (m ((c : Thread nD τ).loc main_arg1))

theorem index_facts : ∀ t : Fin cfg0.N, win0_0.index t = ![t.val % 8, 0] ∧ win0_1.index t = ![t.val % 8, t.val / 8]
    ∧ win0_2.index t = ![0, t.val / 8] :=
  (by decide +kernel : ∀ t : Fin grid0.N, _)

theorem last (c : Dev nD) (t : Fin cfg0.N) (h : t.val % 8 = 7) (j : S1024x1408.Idx) :
    (outsAt0 m c t.val t.isLt).1 j = (outsAt0 m c t.val t.isLt).2 j := by
  rw [outsAt0_C m c t (by omega) h]
  frame_out
  unfold k0_pay3
  pointwise

theorem final (c : Dev nD) : (dats m 0 c).arrAt 2 cfg0.N = prod m c := by
  refine (dats m 0 c).arrAt_eq_of_covers 2 _ (by decide +kernel) fun t hf y => ?_
  have h7 : t.val % 8 = 7 := (flush0_2 t).mp hf
  have e2 := (index_facts t).2.2
  blk_simp
  rw [after0_2]
  refine (last m c t h7 y).trans (Contract.contracted (fun n h => (outsAt0 m c n h).2) (k0_pay1 (F := Ideal))
    (fun t => Contract.termTN (iblk m c 0 t) (iblk m c 1 t)) (fun t h j => ?_) (fun t h j => ?_) (fun j => ?_)
    (L := 8192) rfl t h7 y _ fun p k hl hp => ?_)
  · rw [outsAt0_A m c t h (by omega)]
    frame_out
    exact pay_apply _ _ _ j
  · by_cases h' : t.val % 8 = 7
    on_goal 1 => rw [outsAt0_C m c t h h']
    on_goal 2 => rw [outsAt0_B m c t h h']
    all_goals
      frame_out
      rw [Memref.IsWhole.read_unread (Memref.isWhole_whole cc0_scratch0)]
      exact pay_apply _ _ _ j
  · unfold k0_pay1
    pointwise
  obtain ⟨d0, d1, -⟩ := index_facts p
  unfold Contract.termTN
  show @Eq EReal _ (_ * _)
  congr 1 <;> blk_ext [iblk, V, d0, d1, e2, hp]

end Cert.Kernel25Ideal.Mm

namespace Cert.Proof

theorem frame_kernel20 : Cert.quiescent_Kernel20 := fun m ρ _ => Cert.Kernel20.Gen.frame m ρ
theorem frame_kernel20Ideal : Cert.quiescent_Kernel20Ideal := fun m ρ _ => Cert.Kernel20Ideal.Gen.frame m ρ
theorem frame_reference20Ideal : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)
theorem preserves20 : Cert.preserves_Kernel20_Kernel20Ideal := trivial

theorem algebraic20 : Cert.algebraic_Kernel20Ideal_Reference20Ideal := by
  intro m g m' g' _ hargs
  refine ⟨fun c => Cert.Kernel20Ideal.Mm.prod m c, ?_, ?_⟩
  · refine (θ_run Cert.Kernel20Ideal.defs _ _).mono (fun r h c => ?_) (Cert.Kernel20Ideal.Value.run_blocks m g)
    exact ⟨(h c).1.trans (Cert.Kernel20Ideal.Mm.final m c), (h c).2⟩
  · refine (θ_run Cert.Reference20Ideal.defs _ _).mono (fun r h c => ?_) (Cert.Reference20Ideal.Value.run m' g')
    refine ⟨(h c).1.trans ?_, (h c).2⟩
    rw [(hargs c).1, (hargs c).2]
    funext i
    pointwise

theorem frame_kernel24 : Cert.quiescent_Kernel24 := fun m ρ _ => Cert.Kernel24.Gen.frame m ρ
theorem frame_kernel24Ideal : Cert.quiescent_Kernel24Ideal := fun m ρ _ => Cert.Kernel24Ideal.Gen.frame m ρ
theorem frame_reference24Ideal : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)
theorem preserves24 : Cert.preserves_Kernel24_Kernel24Ideal := trivial

theorem algebraic24 : Cert.algebraic_Kernel24Ideal_Reference24Ideal := by
  intro m g m' g' _ hargs
  refine ⟨fun c => Cert.Kernel24Ideal.Mm.prod m c, ?_, ?_⟩
  · refine (θ_run Cert.Kernel24Ideal.defs _ _).mono (fun r h c => ?_) (Cert.Kernel24Ideal.Value.run_blocks m g)
    exact ⟨(h c).1.trans (Cert.Kernel24Ideal.Mm.final m c), (h c).2⟩
  · refine (θ_run Cert.Reference24Ideal.defs _ _).mono (fun r h c => ?_) (Cert.Reference24Ideal.Value.run m' g')
    refine ⟨(h c).1.trans ?_, (h c).2⟩
    rw [(hargs c).1, (hargs c).2]
    funext i
    pointwise

theorem frame_kernel25 : Cert.quiescent_Kernel25 := fun m ρ _ => Cert.Kernel25.Gen.frame m ρ
theorem frame_kernel25Ideal : Cert.quiescent_Kernel25Ideal := fun m ρ _ => Cert.Kernel25Ideal.Gen.frame m ρ
theorem frame_reference25Ideal : Cert.quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)
theorem preserves25 : Cert.preserves_Kernel25_Kernel25Ideal := trivial

theorem algebraic25 : Cert.algebraic_Kernel25Ideal_Reference25Ideal := by
  intro m g m' g' _ hargs
  refine ⟨fun c => Cert.Kernel25Ideal.Mm.prod m c, ?_, ?_⟩
  · refine (θ_run Cert.Kernel25Ideal.defs _ _).mono (fun r h c => ?_) (Cert.Kernel25Ideal.Value.run_blocks m g)
    exact ⟨(h c).1.trans (Cert.Kernel25Ideal.Mm.final m c), (h c).2⟩
  · refine (θ_run Cert.Reference25Ideal.defs _ _).mono (fun r h c => ?_) (Cert.Reference25Ideal.Value.run m' g')
    refine ⟨(h c).1.trans ?_, (h c).2⟩
    rw [(hargs c).1, (hargs c).2]
    funext i
    pointwise
    exact Finset.sum_congr rfl fun k _ => mul_comm (G := EReal) _ _

end Cert.Proof
-- ==== Proof.LastDown.lean ====
/-
  The second feed-forward product and its two gradients on the last layer's 8192 rows.
-/
module

public import proofs.«01_k».proof.Defs
public import proofs.«01_k».proof.Proof.Contract
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Value
public import proofs.«01_k».proof.Proof.Gen.Reference23Ideal
public import proofs.«01_k».proof.Proof.Gen.Reference23Ideal.Run
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel21Ideal.Mm

open Cert.Kernel21Ideal Cert.Kernel21Ideal.Gen

variable (m : (ℓ : Loc nD τ sig) → Buf (Elt Ideal) ℓ)

theorem pay_apply (acc : Vec Ideal S1024x1024 .f32) (x : Vec Ideal S1024x1408 .bf16) (w : Vec Ideal S1408x1024 .bf16)
    (j : S1024x1024.Idx) : k0_pay2 acc x w j = acc j + Contract.prodNN x w j := by
  unfold k0_pay2
  pointwise

/-- The product of the two arguments. -/
abbrev prod (c : Dev nD) : Buf (Elt Ideal) ((c : Thread nD τ).loc main_v0) :=
  Contract.prodNN (m ((c : Thread nD τ).loc main_arg0)) (m ((c : Thread nD τ).loc main_arg1))

theorem index_facts : ∀ t : Fin cfg0.N, win0_0.index t = ![t.val / 2, t.val % 2] ∧ win0_1.index t = ![t.val % 2, 0]
    ∧ win0_2.index t = ![t.val / 2, 0] :=
  (by decide +kernel : ∀ t : Fin grid0.N, _)

theorem last (c : Dev nD) (t : Fin cfg0.N) (h : t.val % 2 = 1) (j : S1024x1024.Idx) :
    (outsAt0 m c t.val t.isLt).1 j = (outsAt0 m c t.val t.isLt).2 j := by
  rw [outsAt0_B m c t (by omega) h]
  frame_out

theorem final (c : Dev nD) : (dats m 0 c).arrAt 2 cfg0.N = prod m c := by
  refine (dats m 0 c).arrAt_eq_of_covers 2 _ (by decide +kernel) fun t hf y => ?_
  have h1 : t.val % 2 = 1 := (flush0_2 t).mp hf
  have e2 := (index_facts t).2.2
  blk_simp
  rw [after0_2]
  refine (last m c t h1 y).trans (Contract.contracted (fun n h => (outsAt0 m c n h).2) (k0_pay1 (F := Ideal))
    (fun t => Contract.termNN (iblk m c 0 t) (iblk m c 1 t)) (fun t h j => ?_) (fun t h j => ?_) (fun j => ?_)
    (L := 2816) rfl t h1 y _ fun p k hl hp => ?_)
  · rw [outsAt0_A m c t h (by omega)]
    frame_out
    exact pay_apply _ _ _ j
  · rw [outsAt0_B m c t h (by omega)]
    frame_out
    rw [Memref.IsWhole.read_unread (Memref.isWhole_whole cc0_scratch0)]
    exact pay_apply _ _ _ j
  · unfold k0_pay1
    pointwise
  obtain ⟨d0, d1, -⟩ := index_facts p
  unfold Contract.termNN
  show @Eq EReal _ (_ * _)
  congr 1 <;> blk_ext [iblk, V, d0, d1, e2, hp]

end Cert.Kernel21Ideal.Mm

namespace Cert.Kernel22Ideal.Mm

open Cert.Kernel22Ideal Cert.Kernel22Ideal.Gen

variable (m : (ℓ : Loc nD τ sig) → Buf (Elt Ideal) ℓ)

/-- The product of the second argument with the transposed first. -/
abbrev prod (c : Dev nD) : Buf (Elt Ideal) ((c : Thread nD τ).loc main_v0) :=
  Contract.prodNT (m ((c : Thread nD τ).loc main_arg1)) (m ((c : Thread nD τ).loc main_arg0))

theorem index_facts : ∀ t : Fin cfg0.N, win0_0.index t = ![t.val / 2, 0] ∧ win0_1.index t = ![t.val % 2, 0]
    ∧ win0_2.index t = ![t.val / 2, t.val % 2] :=
  (by decide +kernel : ∀ t : Fin grid0.N, _)

theorem final (c : Dev nD) : (dats m 0 c).arrAt 2 cfg0.N = prod m c := by
  refine (dats m 0 c).arrAt_eq_of_covers 2 _ (by decide +kernel) fun t hf y => ?_
  obtain ⟨e0, e1, e2⟩ := index_facts t
  blk_simp
  rw [after0_2]
  frame_out
  unfold k0_pay1
  pointwise
  show @Eq EReal _ _
  refine Finset.sum_congr rfl fun k _ => ?_
  congr 1 <;> blk_ext [iblk, V, e0, e1, e2]

end Cert.Kernel22Ideal.Mm

namespace Cert.Kernel23Ideal.Mm

open Cert.Kernel23Ideal Cert.Kernel23Ideal.Gen

variable (m : (ℓ : Loc nD τ sig) → Buf (Elt Ideal) ℓ)

theorem pay_apply (acc : Vec Ideal S256x1024 .f32) (x : Vec Ideal S1024x256 .bf16) (dy : Vec Ideal S1024x1024 .f32)
    (j : S256x1024.Idx) : k0_pay2 acc x dy j = acc j + Contract.prodTN x dy j := by
  unfold k0_pay2
  pointwise

/-- The product of the transposed first argument with the second. -/
abbrev prod (c : Dev nD) : Buf (Elt Ideal) ((c : Thread nD τ).loc main_v0) :=
  Contract.prodTN (m ((c : Thread nD τ).loc main_arg0)) (m ((c : Thread nD τ).loc main_arg1))

theorem index_facts : ∀ t : Fin cfg0.N, win0_0.index t = ![t.val % 8, t.val / 8] ∧ win0_1.index t = ![t.val % 8, 0]
    ∧ win0_2.index t = ![t.val / 8, 0] :=
  (by decide +kernel : ∀ t : Fin grid0.N, _)

theorem last (c : Dev nD) (t : Fin cfg0.N) (h : t.val % 8 = 7) (j : S256x1024.Idx) :
    (outsAt0 m c t.val t.isLt).1 j = (outsAt0 m c t.val t.isLt).2 j := by
  rw [outsAt0_C m c t (by omega) h]
  frame_out
  unfold k0_pay3
  pointwise

theorem final (c : Dev nD) : (dats m 0 c).arrAt 2 cfg0.N = prod m c := by
  refine (dats m 0 c).arrAt_eq_of_covers 2 _ (by decide +kernel) fun t hf y => ?_
  have h7 : t.val % 8 = 7 := (flush0_2 t).mp hf
  have e2 := (index_facts t).2.2
  blk_simp
  rw [after0_2]
  refine (last m c t h7 y).trans (Contract.contracted (fun n h => (outsAt0 m c n h).2) (k0_pay1 (F := Ideal))
    (fun t => Contract.termTN (iblk m c 0 t) (iblk m c 1 t)) (fun t h j => ?_) (fun t h j => ?_) (fun j => ?_)
    (L := 8192) rfl t h7 y _ fun p k hl hp => ?_)
  · rw [outsAt0_A m c t h (by omega)]
    frame_out
    exact pay_apply _ _ _ j
  · by_cases h' : t.val % 8 = 7
    on_goal 1 => rw [outsAt0_C m c t h h']
    on_goal 2 => rw [outsAt0_B m c t h h']
    all_goals
      frame_out
      rw [Memref.IsWhole.read_unread (Memref.isWhole_whole cc0_scratch0)]
      exact pay_apply _ _ _ j
  · unfold k0_pay1
    pointwise
  obtain ⟨d0, d1, -⟩ := index_facts p
  unfold Contract.termTN
  show @Eq EReal _ (_ * _)
  congr 1 <;> blk_ext [iblk, V, d0, d1, e2, hp]

end Cert.Kernel23Ideal.Mm

namespace Cert.Proof

theorem frame_kernel21 : Cert.quiescent_Kernel21 := fun m ρ _ => Cert.Kernel21.Gen.frame m ρ
theorem frame_kernel21Ideal : Cert.quiescent_Kernel21Ideal := fun m ρ _ => Cert.Kernel21Ideal.Gen.frame m ρ
theorem frame_reference21Ideal : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)
theorem preserves21 : Cert.preserves_Kernel21_Kernel21Ideal := trivial

theorem algebraic21 : Cert.algebraic_Kernel21Ideal_Reference21Ideal := by
  intro m g m' g' _ hargs
  refine ⟨fun c => Cert.Kernel21Ideal.Mm.prod m c, ?_, ?_⟩
  · refine (θ_run Cert.Kernel21Ideal.defs _ _).mono (fun r h c => ?_) (Cert.Kernel21Ideal.Value.run_blocks m g)
    exact ⟨(h c).1.trans (Cert.Kernel21Ideal.Mm.final m c), (h c).2⟩
  · refine (θ_run Cert.Reference21Ideal.defs _ _).mono (fun r h c => ?_) (Cert.Reference21Ideal.Value.run m' g')
    refine ⟨(h c).1.trans ?_, (h c).2⟩
    rw [(hargs c).1, (hargs c).2]
    funext i
    pointwise

theorem frame_kernel22 : Cert.quiescent_Kernel22 := fun m ρ _ => Cert.Kernel22.Gen.frame m ρ
theorem frame_kernel22Ideal : Cert.quiescent_Kernel22Ideal := fun m ρ _ => Cert.Kernel22Ideal.Gen.frame m ρ
theorem frame_reference22Ideal : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)
theorem preserves22 : Cert.preserves_Kernel22_Kernel22Ideal := trivial

theorem algebraic22 : Cert.algebraic_Kernel22Ideal_Reference22Ideal := by
  intro m g m' g' _ hargs
  refine ⟨fun c => Cert.Kernel22Ideal.Mm.prod m c, ?_, ?_⟩
  · refine (θ_run Cert.Kernel22Ideal.defs _ _).mono (fun r h c => ?_) (Cert.Kernel22Ideal.Value.run_blocks m g)
    exact ⟨(h c).1.trans (Cert.Kernel22Ideal.Mm.final m c), (h c).2⟩
  · refine (θ_run Cert.Reference22Ideal.defs _ _).mono (fun r h c => ?_) (Cert.Reference22Ideal.Value.run m' g')
    refine ⟨(h c).1.trans ?_, (h c).2⟩
    rw [(hargs c).1, (hargs c).2]
    funext i
    pointwise

theorem frame_kernel23 : Cert.quiescent_Kernel23 := fun m ρ _ => Cert.Kernel23.Gen.frame m ρ
theorem frame_kernel23Ideal : Cert.quiescent_Kernel23Ideal := fun m ρ _ => Cert.Kernel23Ideal.Gen.frame m ρ
theorem frame_reference23Ideal : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)
theorem preserves23 : Cert.preserves_Kernel23_Kernel23Ideal := trivial

theorem algebraic23 : Cert.algebraic_Kernel23Ideal_Reference23Ideal := by
  intro m g m' g' _ hargs
  refine ⟨fun c => Cert.Kernel23Ideal.Mm.prod m c, ?_, ?_⟩
  · refine (θ_run Cert.Kernel23Ideal.defs _ _).mono (fun r h c => ?_) (Cert.Kernel23Ideal.Value.run_blocks m g)
    exact ⟨(h c).1.trans (Cert.Kernel23Ideal.Mm.final m c), (h c).2⟩
  · refine (θ_run Cert.Reference23Ideal.defs _ _).mono (fun r h c => ?_) (Cert.Reference23Ideal.Value.run m' g')
    refine ⟨(h c).1.trans ?_, (h c).2⟩
    rw [(hargs c).1, (hargs c).2]
    funext i
    pointwise
    exact Finset.sum_congr rfl fun k _ => mul_comm (G := EReal) _ _

end Cert.Proof
-- ==== Proof.LastOut.lean ====
/-
  The mixers' output projection and its two gradients on the last layer's 8192 rows.
-/
module

public import proofs.«01_k».proof.Defs
public import proofs.«01_k».proof.Proof.Contract
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Value
public import proofs.«01_k».proof.Proof.Gen.Reference28Ideal
public import proofs.«01_k».proof.Proof.Gen.Reference28Ideal.Run
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel26Ideal.Mm

open Cert.Kernel26Ideal Cert.Kernel26Ideal.Gen

variable (m : (ℓ : Loc nD τ sig) → Buf (Elt Ideal) ℓ)

/-- The product of the two arguments. -/
abbrev prod (c : Dev nD) : Buf (Elt Ideal) ((c : Thread nD τ).loc main_v0) :=
  Contract.prodNN (m ((c : Thread nD τ).loc main_arg0)) (m ((c : Thread nD τ).loc main_arg1))

theorem index_facts : ∀ t : Fin cfg0.N, win0_0.index t = ![t.val, 0] ∧ win0_1.index t = ![0, 0] ∧ win0_2.index t = ![t.val, 0] :=
  (by decide +kernel : ∀ t : Fin grid0.N, _)

theorem final (c : Dev nD) : (dats m 0 c).arrAt 2 cfg0.N = prod m c := by
  refine (dats m 0 c).arrAt_eq_of_covers 2 _ (by decide +kernel) fun t hf y => ?_
  obtain ⟨e0, e1, e2⟩ := index_facts t
  blk_simp
  rw [after0_2]
  frame_out
  unfold k0_pay1
  pointwise
  show @Eq EReal _ _
  refine Finset.sum_congr rfl fun k _ => ?_
  congr 1 <;> blk_ext [iblk, V, e0, e1, e2]

end Cert.Kernel26Ideal.Mm

namespace Cert.Kernel27Ideal.Mm

open Cert.Kernel27Ideal Cert.Kernel27Ideal.Gen

variable (m : (ℓ : Loc nD τ sig) → Buf (Elt Ideal) ℓ)

/-- The product of the second argument with the transposed first. -/
abbrev prod (c : Dev nD) : Buf (Elt Ideal) ((c : Thread nD τ).loc main_v0) :=
  Contract.prodNT (m ((c : Thread nD τ).loc main_arg1)) (m ((c : Thread nD τ).loc main_arg0))

theorem index_facts : ∀ t : Fin cfg0.N, win0_0.index t = ![t.val, 0] ∧ win0_1.index t = ![0, 0] ∧ win0_2.index t = ![t.val, 0] :=
  (by decide +kernel : ∀ t : Fin grid0.N, _)

theorem final (c : Dev nD) : (dats m 0 c).arrAt 2 cfg0.N = prod m c := by
  refine (dats m 0 c).arrAt_eq_of_covers 2 _ (by decide +kernel) fun t hf y => ?_
  obtain ⟨e0, e1, e2⟩ := index_facts t
  blk_simp
  rw [after0_2]
  frame_out
  unfold k0_pay1
  pointwise
  show @Eq EReal _ _
  refine Finset.sum_congr rfl fun k _ => ?_
  congr 1 <;> blk_ext [iblk, V, e0, e1, e2]

end Cert.Kernel27Ideal.Mm

namespace Cert.Kernel28Ideal.Mm

open Cert.Kernel28Ideal Cert.Kernel28Ideal.Gen

variable (m : (ℓ : Loc nD τ sig) → Buf (Elt Ideal) ℓ)

theorem pay_apply (acc x dy : Vec Ideal S1024x1024 .f32) (j : S1024x1024.Idx) :
    k0_pay2 acc x dy j = acc j + Contract.prodTN x dy j := by
  unfold k0_pay2
  pointwise

/-- The product of the transposed first argument with the second. -/
abbrev prod (c : Dev nD) : Buf (Elt Ideal) ((c : Thread nD τ).loc main_v0) :=
  Contract.prodTN (m ((c : Thread nD τ).loc main_arg0)) (m ((c : Thread nD τ).loc main_arg1))

theorem index_facts : ∀ t : Fin cfg0.N, win0_0.index t = ![t.val, 0] ∧ win0_1.index t = ![t.val, 0] ∧ win0_2.index t = ![0, 0] :=
  (by decide +kernel : ∀ t : Fin grid0.N, _)

theorem last (c : Dev nD) (t : Fin cfg0.N) (h : t.val % 8 = 7) (j : S1024x1024.Idx) :
    (outsAt0 m c t.val t.isLt).1 j = (outsAt0 m c t.val t.isLt).2 j := by
  rw [outsAt0_C m c t (by omega) h]
  frame_out
  unfold k0_pay3
  pointwise

theorem final (c : Dev nD) : (dats m 0 c).arrAt 2 cfg0.N = prod m c := by
  refine (dats m 0 c).arrAt_eq_of_covers 2 _ (by decide +kernel) fun t hf y => ?_
  have h7 : t.val % 8 = 7 := (flush0_2 t).mp hf
  have e2 := (index_facts t).2.2
  blk_simp
  rw [after0_2]
  refine (last m c t h7 y).trans (Contract.contracted (fun n h => (outsAt0 m c n h).2) (k0_pay1 (F := Ideal))
    (fun t => Contract.termTN (iblk m c 0 t) (iblk m c 1 t)) (fun t h j => ?_) (fun t h j => ?_) (fun j => ?_)
    (L := 8192) rfl t h7 y _ fun p k hl hp => ?_)
  · rw [outsAt0_A m c t h (by omega)]
    frame_out
    exact pay_apply _ _ _ j
  · by_cases h' : t.val % 8 = 7
    on_goal 1 => rw [outsAt0_C m c t h h']
    on_goal 2 => rw [outsAt0_B m c t h h']
    all_goals
      frame_out
      rw [Memref.IsWhole.read_unread (Memref.isWhole_whole cc0_scratch0)]
      exact pay_apply _ _ _ j
  · unfold k0_pay1
    pointwise
  obtain ⟨d0, d1, -⟩ := index_facts p
  have hp8 : p.val < 8 := p.isLt
  unfold Contract.termTN
  show @Eq EReal _ (_ * _)
  congr 1 <;> blk_ext [iblk, V, d0, d1, e2]

end Cert.Kernel28Ideal.Mm

namespace Cert.Proof

theorem frame_kernel26 : Cert.quiescent_Kernel26 := fun m ρ _ => Cert.Kernel26.Gen.frame m ρ
theorem frame_kernel26Ideal : Cert.quiescent_Kernel26Ideal := fun m ρ _ => Cert.Kernel26Ideal.Gen.frame m ρ
theorem frame_reference26Ideal : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)
theorem preserves26 : Cert.preserves_Kernel26_Kernel26Ideal := trivial

theorem algebraic26 : Cert.algebraic_Kernel26Ideal_Reference26Ideal := by
  intro m g m' g' _ hargs
  refine ⟨fun c => Cert.Kernel26Ideal.Mm.prod m c, ?_, ?_⟩
  · refine (θ_run Cert.Kernel26Ideal.defs _ _).mono (fun r h c => ?_) (Cert.Kernel26Ideal.Value.run_blocks m g)
    exact ⟨(h c).1.trans (Cert.Kernel26Ideal.Mm.final m c), (h c).2⟩
  · refine (θ_run Cert.Reference26Ideal.defs _ _).mono (fun r h c => ?_) (Cert.Reference26Ideal.Value.run m' g')
    refine ⟨(h c).1.trans ?_, (h c).2⟩
    rw [(hargs c).1, (hargs c).2]
    funext i
    pointwise

theorem frame_kernel27 : Cert.quiescent_Kernel27 := fun m ρ _ => Cert.Kernel27.Gen.frame m ρ
theorem frame_kernel27Ideal : Cert.quiescent_Kernel27Ideal := fun m ρ _ => Cert.Kernel27Ideal.Gen.frame m ρ
theorem frame_reference27Ideal : Cert.quiescent_Reference27Ideal := fun m ρ _ =>
  (θ_run Cert.Reference27Ideal.defs _ _).mono (fun r h => ⟨fun c => (h c).2, sem_eq_zero_of_no_sems (by decide) r.2⟩)
    (Cert.Reference27Ideal.Value.run (F := Ideal) m ρ)
theorem preserves27 : Cert.preserves_Kernel27_Kernel27Ideal := trivial

theorem algebraic27 : Cert.algebraic_Kernel27Ideal_Reference27Ideal := by
  intro m g m' g' _ hargs
  refine ⟨fun c => Cert.Kernel27Ideal.Mm.prod m c, ?_, ?_⟩
  · refine (θ_run Cert.Kernel27Ideal.defs _ _).mono (fun r h c => ?_) (Cert.Kernel27Ideal.Value.run_blocks m g)
    exact ⟨(h c).1.trans (Cert.Kernel27Ideal.Mm.final m c), (h c).2⟩
  · refine (θ_run Cert.Reference27Ideal.defs _ _).mono (fun r h c => ?_) (Cert.Reference27Ideal.Value.run m' g')
    refine ⟨(h c).1.trans ?_, (h c).2⟩
    rw [(hargs c).1, (hargs c).2]
    funext i
    pointwise

theorem frame_kernel28 : Cert.quiescent_Kernel28 := fun m ρ _ => Cert.Kernel28.Gen.frame m ρ
theorem frame_kernel28Ideal : Cert.quiescent_Kernel28Ideal := fun m ρ _ => Cert.Kernel28Ideal.Gen.frame m ρ
theorem frame_reference28Ideal : Cert.quiescent_Reference28Ideal := fun m ρ _ =>
  (θ_run Cert.Reference28Ideal.defs _ _).mono (fun r h => ⟨fun c => (h c).2, sem_eq_zero_of_no_sems (by decide) r.2⟩)
    (Cert.Reference28Ideal.Value.run (F := Ideal) m ρ)
theorem preserves28 : Cert.preserves_Kernel28_Kernel28Ideal := trivial

theorem algebraic28 : Cert.algebraic_Kernel28Ideal_Reference28Ideal := by
  intro m g m' g' _ hargs
  refine ⟨fun c => Cert.Kernel28Ideal.Mm.prod m c, ?_, ?_⟩
  · refine (θ_run Cert.Kernel28Ideal.defs _ _).mono (fun r h c => ?_) (Cert.Kernel28Ideal.Value.run_blocks m g)
    exact ⟨(h c).1.trans (Cert.Kernel28Ideal.Mm.final m c), (h c).2⟩
  · refine (θ_run Cert.Reference28Ideal.defs _ _).mono (fun r h c => ?_) (Cert.Reference28Ideal.Value.run m' g')
    refine ⟨(h c).1.trans ?_, (h c).2⟩
    rw [(hargs c).1, (hargs c).2]
    funext i
    pointwise
    exact Finset.sum_congr rfl fun k _ => mul_comm (G := EReal) _ _

end Cert.Proof
-- ==== Proof.NormFwd.lean ====
/-
  The modulated norm, `rms_norm(h)·(1 + scale) + shift`, tile by tile of rows.
-/
module

public import proofs.«01_k».proof.Defs
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import Idealize.ShloMosaic.Lib.Pipeline.ValueKit
public import Idealize.ShloMosaic.Lib.IdealHost
public import Idealize.ShloMosaic.Lib.Quiescent
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel11Ideal.Norm

open Cert.Kernel11Ideal Cert.Kernel11Ideal.Gen

variable (m : (ℓ : Loc nD τ sig) → Buf (Elt Ideal) ℓ)

/-- One entry of a modulated row. -/
def entry (h : Fin 1024 → EReal) (sh sc : EReal) (q : Fin 1024) : EReal :=
  h q * Ideal.rsqrt (Ideal.div (∑ k, h k * h k) (Ideal.ofBits .f32 0x44800000#32) + Ideal.ofBits .f32 0x358637BD#32)
    * (Ideal.ofBits .f32 0x3F800000#32 + sc) + sh

theorem ld_tile {φ : EltTy} (x : Vec Ideal S1x512x1024 φ) : View.ld x r0_0 = x :=
  View.ld_unit_lit _ x fun a => by match a with | ⟨0, _⟩ => rfl | ⟨1, _⟩ => rfl | ⟨2, _⟩ => rfl

theorem ld_row {φ : EltTy} (x : Vec Ideal S1x1x1024 φ) : View.ld x r0_1 = x :=
  View.ld_unit_lit _ x fun a => by match a with | ⟨0, _⟩ => rfl | ⟨1, _⟩ => rfl | ⟨2, _⟩ => rfl

theorem out_apply (h : Vec Ideal S1x512x1024 .f32) (sh sc : Vec Ideal S1x1x1024 .f32) (b : Fin 512) (q : Fin 1024) :
    out0_3 h sh sc (ix3 0 b q) = entry (fun k => h (ix3 0 b k)) (sh (ix3 0 0 q)) (sc (ix3 0 0 q)) q := by
  unfold out0_3
  rw [ld_tile, ld_row, ld_row]
  frame_out
  unfold k0_pay1 entry
  pointwise

/-- The modulated norm. -/
def normOf (h : Vec Ideal S9x1024x1024 .f32) (sh sc : Vec Ideal S9x1x1024 .f32) : Vec Ideal S9x1024x1024 .bf16 := fun i =>
  entry (fun k => h (ix3 (i 0) (i 1) k)) (sh (ix3 (i 0) 0 (i 2))) (sc (ix3 (i 0) 0 (i 2))) (i 2)

abbrev res (c : Dev nD) : Buf (Elt Ideal) ((c : Thread nD τ).loc main_v0) :=
  normOf (m ((c : Thread nD τ).loc main_arg0)) (m ((c : Thread nD τ).loc main_arg1)) (m ((c : Thread nD τ).loc main_arg2))

theorem index_facts : ∀ t : Fin cfg0.N, win0_0.index t = ![t.val / 2, t.val % 2, 0] ∧ win0_1.index t = ![t.val / 2, 0, 0]
    ∧ win0_2.index t = ![t.val / 2, 0, 0] ∧ win0_3.index t = ![t.val / 2, t.val % 2, 0] :=
  (by decide +kernel : ∀ t : Fin grid0.N, _)

theorem final (c : Dev nD) : (dats m 0 c).arrAt 3 cfg0.N = res m c := by
  refine (dats m 0 c).arrAt_eq_of_covers 3 _ (by decide +kernel) fun t _ y => ?_
  obtain ⟨e0, e1, e2, e3⟩ := index_facts t
  idx_vars y
  obtain rfl : y0 = 0 := Subsingleton.elim _ _
  blk_simp
  rw [after0_3]
  refine (out_apply _ _ _ y1 y2).trans ?_
  have e : ∀ f f' sh sh' sc sc' (q q' : Fin 1024), f = f' → sh = sh' → sc = sc' → q = q' → entry f sh sc q = entry f' sh' sc' q' := by
    rintro _ _ _ _ _ _ _ _ rfl rfl rfl rfl
    rfl
  refine e _ _ _ _ _ _ _ _ (funext fun k => ?_) ?_ ?_ (Fin.ext ?_)
  on_goal 4 =>
    show y2.val = win0_3.index t (2 : Fin 3) * 1024 + 1 * y2.val
    rw [e3]
    show _ = 0 * 1024 + 1 * y2.val
    omega
  all_goals blk_ext [iblk, V, e0, e1, e2, e3]

end Cert.Kernel11Ideal.Norm

namespace Cert.Proof

open Cert.Kernel11Ideal.Norm

theorem frame_kernel11 : Cert.quiescent_Kernel11 := fun m ρ _ => Cert.Kernel11.Gen.frame m ρ
theorem frame_kernel11Ideal : Cert.quiescent_Kernel11Ideal := fun m ρ _ => Cert.Kernel11Ideal.Gen.frame m ρ
theorem frame_reference11Ideal : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)
theorem preserves11 : Cert.preserves_Kernel11_Kernel11Ideal := trivial

theorem algebraic11 : Cert.algebraic_Kernel11Ideal_Reference11Ideal := by
  intro m g m' g' _ hargs
  refine ⟨fun c => res m c, ?_, ?_⟩
  · refine (θ_run Cert.Kernel11Ideal.defs _ _).mono (fun r h c => ?_) (Cert.Kernel11Ideal.Value.run_blocks m g)
    exact ⟨(h c).1.trans (final m c), (h c).2⟩
  · refine (θ_run Cert.Reference11Ideal.defs _ _).mono (fun r h c => ?_) (Cert.Reference11Ideal.Value.run m' g')
    refine ⟨(h c).1.trans ?_, (h c).2⟩
    rw [(hargs c).1, (hargs c).2.1, (hargs c).2.2]
    funext i
    idx_vars i
    unfold res normOf entry
    pointwise

end Cert.Proof
-- ==== Proof.lean ====
/-
  The claims of the certificate, assembled: the run of each program from its own module, and the values.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.S5Frame
public import proofs.«01_k».proof.Proof.S5Value
public import proofs.«01_k».proof.Proof.MmDx
public import proofs.«01_k».proof.Proof.MmDw
public import proofs.«01_k».proof.Proof.MmUpDx
public import proofs.«01_k».proof.Proof.MmUpDw
public import proofs.«01_k».proof.Proof.MmFwd
public import proofs.«01_k».proof.Proof.MmUpFwd
public import proofs.«01_k».proof.Proof.GateBwd
public import proofs.«01_k».proof.Proof.Finite
public import proofs.«01_k».proof.Proof.SwigluBwd
public import proofs.«01_k».proof.Proof.NormBwd
public import proofs.«01_k».proof.Proof.GateFwd
public import proofs.«01_k».proof.Proof.SwigluFwd
public import proofs.«01_k».proof.Proof.ProjFwd
public import proofs.«01_k».proof.Proof.ProjDx
public import proofs.«01_k».proof.Proof.ProjDw
public import proofs.«01_k».proof.Proof.OutProj
public import proofs.«01_k».proof.Proof.LastUp
public import proofs.«01_k».proof.Proof.LastDown
public import proofs.«01_k».proof.Proof.LastOut
public import proofs.«01_k».proof.Proof.NormFwd
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Pre_finite9.facts, Cert.Pre_finite10.facts,
   frame_kernel, frame_kernelIdeal, frame_referenceIdeal, frame_kernel2, frame_kernel2Ideal, frame_reference2Ideal, frame_kernel3, frame_kernel3Ideal, frame_reference3Ideal, frame_kernel4, frame_kernel4Ideal, frame_reference4Ideal, frame_kernel5, frame_kernel5Ideal, frame_reference5Ideal, frame_kernel6, frame_kernel6Ideal, frame_reference6Ideal, frame_kernel7, frame_kernel7Ideal, frame_reference7Ideal, frame_kernel8, frame_kernel8Ideal, frame_reference8Ideal, frame_kernel9, frame_kernel9Ideal, (fun m ρ _ => frame_kernel9Ideal m ρ trivial), frame_reference9Ideal, (fun m ρ _ => frame_reference9Ideal m ρ trivial), frame_kernel10, frame_kernel10Ideal, (fun m ρ _ => frame_kernel10Ideal m ρ trivial), frame_reference10Ideal, (fun m ρ _ => frame_reference10Ideal m ρ trivial), frame_kernel11, frame_kernel11Ideal, frame_reference11Ideal, frame_kernel12, frame_kernel12Ideal, frame_reference12Ideal, frame_kernel13, frame_kernel13Ideal, frame_reference13Ideal, frame_kernel14, frame_kernel14Ideal, frame_reference14Ideal, frame_kernel15, frame_kernel15Ideal, frame_reference15Ideal, frame_kernel16, frame_kernel16Ideal, frame_reference16Ideal, frame_kernel17, frame_kernel17Ideal, frame_reference17Ideal, frame_kernel18, frame_kernel18Ideal, frame_reference18Ideal, frame_kernel19, frame_kernel19Ideal, frame_reference19Ideal, frame_kernel20, frame_kernel20Ideal, frame_reference20Ideal, frame_kernel21, frame_kernel21Ideal, frame_reference21Ideal, frame_kernel22, frame_kernel22Ideal, frame_reference22Ideal, frame_kernel23, frame_kernel23Ideal, frame_reference23Ideal, frame_kernel24, frame_kernel24Ideal, frame_reference24Ideal, frame_kernel25, frame_kernel25Ideal, frame_reference25Ideal, frame_kernel26, frame_kernel26Ideal, frame_reference26Ideal, frame_kernel27, frame_kernel27Ideal, frame_reference27Ideal, frame_kernel28, frame_kernel28Ideal, frame_reference28Ideal, preserves, algebraic, preserves2, algebraic2, preserves3, algebraic3, preserves4, algebraic4, preserves5, algebraic5, preserves6, algebraic6, preserves7, algebraic7, preserves8, algebraic8, preserves9, @algebraic9 Cert.Pre_finite9.facts, preserves10, @algebraic10 Cert.Pre_finite10.facts, preserves11, algebraic11, preserves12, algebraic12, preserves13, algebraic13, preserves14, algebraic14, preserves15, algebraic15, preserves16, algebraic16, preserves17, algebraic17, preserves18, algebraic18, preserves19, algebraic19, preserves20, algebraic20, preserves21, algebraic21, preserves22, algebraic22, preserves23, algebraic23, preserves24, algebraic24, preserves25, algebraic25, preserves26, algebraic26, preserves27, algebraic27, preserves28, algebraic28⟩

end Cert.Proof

end
